-- ==== Defs.lean ====
def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_mem_gains_finite [hPre_mem_gains_finite : Cert.Pre_mem_gains_finite.Facts] (m : (ℓ : Loc Cert.MemIdeal.nD Cert.MemIdeal.τ Cert.MemIdeal.sig) → Buf (Elt Ideal) ℓ) : Prop :=
  ∀ c : Dev Cert.MemIdeal.nD,
    (Cert.Pre_mem_gains_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4)) (m ((c.tc : Thread Cert.MemIdeal.nD Cert.MemIdeal.τ).loc Cert.MemIdeal.main_arg5)) (m ((c.tc : Thread Cert.MemIdeal.nD Cert.MemIdeal.τ).loc Cert.MemIdeal.main_arg6))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_mem_gains_finite [hPre_mem_gains_finite : Cert.Pre_mem_gains_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_mem_gains_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4)) (m ((c.tc : Thread Cert.MemReferenceIdeal.nD Cert.MemReferenceIdeal.τ).loc Cert.MemReferenceIdeal.main_arg5)) (m ((c.tc : Thread Cert.MemReferenceIdeal.nD Cert.MemReferenceIdeal.τ).loc Cert.MemReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_gains_finite [hPre_fox_gains_finite : Cert.Pre_fox_gains_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_gains_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_gains_finite [hPre_fox_gains_finite : Cert.Pre_fox_gains_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_gains_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))) = (fun _ => 1#1)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3)
      ∧ r.2.mem ((c.tc : Thread Cert.Mem.nD Cert.Mem.τ).loc Cert.Mem.main_arg4) = m ((c.tc : Thread Cert.Mem.nD Cert.Mem.τ).loc Cert.Mem.main_arg4)
      ∧ r.2.mem ((c.tc : Thread Cert.Mem.nD Cert.Mem.τ).loc Cert.Mem.main_arg5) = m ((c.tc : Thread Cert.Mem.nD Cert.Mem.τ).loc Cert.Mem.main_arg5)
      ∧ r.2.mem ((c.tc : Thread Cert.Mem.nD Cert.Mem.τ).loc Cert.Mem.main_arg6) = m ((c.tc : Thread Cert.Mem.nD Cert.Mem.τ).loc Cert.Mem.main_arg6))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4)
      ∧ r.2.mem ((c.tc : Thread Cert.MemIdeal.nD Cert.MemIdeal.τ).loc Cert.MemIdeal.main_arg5) = m ((c.tc : Thread Cert.MemIdeal.nD Cert.MemIdeal.τ).loc Cert.MemIdeal.main_arg5)
      ∧ r.2.mem ((c.tc : Thread Cert.MemIdeal.nD Cert.MemIdeal.τ).loc Cert.MemIdeal.main_arg6) = m ((c.tc : Thread Cert.MemIdeal.nD Cert.MemIdeal.τ).loc Cert.MemIdeal.main_arg6))
      ∧ r.2.sem = fun _ => 0)

def quiescent_MemIdeal_pre_mem_gains_finite [hMemIdeal : Cert.MemIdeal.Facts] [hPre_mem_gains_finite : Cert.Pre_mem_gains_finite.Facts] : Prop :=
  ∀ (m : (ℓ : Loc Cert.MemIdeal.nD Cert.MemIdeal.τ Cert.MemIdeal.sig) → Buf (Elt Ideal) ℓ) (g : Dev Cert.MemIdeal.nD → PrngReg), Pre_MemIdeal_mem_gains_finite m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4)
      ∧ r.2.mem ((c.tc : Thread Cert.MemIdeal.nD Cert.MemIdeal.τ).loc Cert.MemIdeal.main_arg5) = m ((c.tc : Thread Cert.MemIdeal.nD Cert.MemIdeal.τ).loc Cert.MemIdeal.main_arg5)
      ∧ r.2.mem ((c.tc : Thread Cert.MemIdeal.nD Cert.MemIdeal.τ).loc Cert.MemIdeal.main_arg6) = m ((c.tc : Thread Cert.MemIdeal.nD Cert.MemIdeal.τ).loc Cert.MemIdeal.main_arg6))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6))
      ∧ r.2.sem = fun _ => 0)

def quiescent_MemReferenceIdeal_pre_mem_gains_finite [hMemReferenceIdeal : Cert.MemReferenceIdeal.Facts] [hPre_mem_gains_finite : Cert.Pre_mem_gains_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_mem_gains_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1)
      ∧ r.2.mem ((c.tc : Thread Cert.OddInReferenceIdeal.nD Cert.OddInReferenceIdeal.τ).loc Cert.OddInReferenceIdeal.main_arg2) = m ((c.tc : Thread Cert.OddInReferenceIdeal.nD Cert.OddInReferenceIdeal.τ).loc Cert.OddInReferenceIdeal.main_arg2))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_fox_gains_finite [hFoxIdeal : Cert.FoxIdeal.Facts] [hPre_fox_gains_finite : Cert.Pre_fox_gains_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_gains_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_fox_gains_finite [hFoxReferenceIdeal : Cert.FoxReferenceIdeal.Facts] [hPre_fox_gains_finite : Cert.Pre_fox_gains_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_gains_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def preserves_Mem_MemIdeal : Prop :=
  True

def algebraic_MemIdeal_MemReferenceIdeal_pre_mem_gains_finite [hMemIdeal : Cert.MemIdeal.Facts] [hMemReferenceIdeal : Cert.MemReferenceIdeal.Facts] [hPre_mem_gains_finite : Cert.Pre_mem_gains_finite.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal_mem_gains_finite m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)
      ∧ m' ((c.tc : Thread Cert.MemReferenceIdeal.nD Cert.MemReferenceIdeal.τ).loc Cert.MemReferenceIdeal.main_arg4) = m ((c.tc : Thread Cert.MemIdeal.nD Cert.MemIdeal.τ).loc Cert.MemIdeal.main_arg4)
      ∧ m' ((c.tc : Thread Cert.MemReferenceIdeal.nD Cert.MemReferenceIdeal.τ).loc Cert.MemReferenceIdeal.main_arg5) = m ((c.tc : Thread Cert.MemIdeal.nD Cert.MemIdeal.τ).loc Cert.MemIdeal.main_arg5)
      ∧ m' ((c.tc : Thread Cert.MemReferenceIdeal.nD Cert.MemReferenceIdeal.τ).loc Cert.MemReferenceIdeal.main_arg6) = m ((c.tc : Thread Cert.MemIdeal.nD Cert.MemIdeal.τ).loc Cert.MemIdeal.main_arg6)) →
    ∃ (v0 : (c : Dev Cert.MemIdeal.nD) → Buf (Elt Ideal) ((c.tc : Thread Cert.MemIdeal.nD Cert.MemIdeal.τ).loc Cert.MemIdeal.main_v11)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v11) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
          ∧ r.2.mem ((c.tc : Thread Cert.MemIdeal.nD Cert.MemIdeal.τ).loc Cert.MemIdeal.main_arg4) = m ((c.tc : Thread Cert.MemIdeal.nD Cert.MemIdeal.τ).loc Cert.MemIdeal.main_arg4)
          ∧ r.2.mem ((c.tc : Thread Cert.MemIdeal.nD Cert.MemIdeal.τ).loc Cert.MemIdeal.main_arg5) = m ((c.tc : Thread Cert.MemIdeal.nD Cert.MemIdeal.τ).loc Cert.MemIdeal.main_arg5)
          ∧ r.2.mem ((c.tc : Thread Cert.MemIdeal.nD Cert.MemIdeal.τ).loc Cert.MemIdeal.main_arg6) = m ((c.tc : Thread Cert.MemIdeal.nD Cert.MemIdeal.τ).loc Cert.MemIdeal.main_arg6))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v76) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4)
          ∧ r.2.mem ((c.tc : Thread Cert.MemReferenceIdeal.nD Cert.MemReferenceIdeal.τ).loc Cert.MemReferenceIdeal.main_arg5) = m' ((c.tc : Thread Cert.MemReferenceIdeal.nD Cert.MemReferenceIdeal.τ).loc Cert.MemReferenceIdeal.main_arg5)
          ∧ r.2.mem ((c.tc : Thread Cert.MemReferenceIdeal.nD Cert.MemReferenceIdeal.τ).loc Cert.MemReferenceIdeal.main_arg6) = m' ((c.tc : Thread Cert.MemReferenceIdeal.nD Cert.MemReferenceIdeal.τ).loc Cert.MemReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v27) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)
      ∧ m' ((c.tc : Thread Cert.EvenInReferenceIdeal.nD Cert.EvenInReferenceIdeal.τ).loc Cert.EvenInReferenceIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v11_0)) (v1 : (c : Dev Cert.EvenInIdeal.nD) → Buf (Elt Ideal) ((c.tc : Thread Cert.EvenInIdeal.nD Cert.EvenInIdeal.τ).loc Cert.EvenInIdeal.main_v11_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v11_0) = v0 c
          ∧ r.2.mem ((c.tc : Thread Cert.EvenInIdeal.nD Cert.EvenInIdeal.τ).loc Cert.EvenInIdeal.main_v11_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v23) = v0 c
          ∧ r.2.mem ((c.tc : Thread Cert.EvenInReferenceIdeal.nD Cert.EvenInReferenceIdeal.τ).loc Cert.EvenInReferenceIdeal.main_v24) = v1 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)
      ∧ m' ((c.tc : Thread Cert.EvenOutReferenceIdeal.nD Cert.EvenOutReferenceIdeal.τ).loc Cert.EvenOutReferenceIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v4)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v4) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v7) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)
      ∧ m' ((c.tc : Thread Cert.OddInReferenceIdeal.nD Cert.OddInReferenceIdeal.τ).loc Cert.OddInReferenceIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v12_0)) (v1 : (c : Dev Cert.OddInIdeal.nD) → Buf (Elt Ideal) ((c.tc : Thread Cert.OddInIdeal.nD Cert.OddInIdeal.τ).loc Cert.OddInIdeal.main_v12_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v12_0) = v0 c
          ∧ r.2.mem ((c.tc : Thread Cert.OddInIdeal.nD Cert.OddInIdeal.τ).loc Cert.OddInIdeal.main_v12_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v22) = v0 c
          ∧ r.2.mem ((c.tc : Thread Cert.OddInReferenceIdeal.nD Cert.OddInReferenceIdeal.τ).loc Cert.OddInReferenceIdeal.main_v23) = v1 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1)
          ∧ r.2.mem ((c.tc : Thread Cert.OddInReferenceIdeal.nD Cert.OddInReferenceIdeal.τ).loc Cert.OddInReferenceIdeal.main_arg2) = m' ((c.tc : Thread Cert.OddInReferenceIdeal.nD Cert.OddInReferenceIdeal.τ).loc Cert.OddInReferenceIdeal.main_arg2))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)
      ∧ m' ((c.tc : Thread Cert.OddOutReferenceIdeal.nD Cert.OddOutReferenceIdeal.τ).loc Cert.OddOutReferenceIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v3)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v3) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v5) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v5)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v18) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_Fox_FoxIdeal : Prop :=
  IdealRules.named_const.Statement Cert.FoxIdeal.κ "log2e" .f32 0x3FB8AA3B#32 (((Real.log 2)⁻¹ : ℝ) : EReal)
  ∧ IdealRules.named_const.Statement Cert.FoxIdeal.κ "scale2" .f32 0x3E0293EE#32 (((Real.sqrt 128)⁻¹ * (Real.log 2)⁻¹ : ℝ) : EReal)

def algebraic_FoxIdeal_FoxReferenceIdeal_pre_fox_gains_finite [hFoxIdeal : Cert.FoxIdeal.Facts] [hFoxReferenceIdeal : Cert.FoxReferenceIdeal.Facts] [hPre_fox_gains_finite : Cert.Pre_fox_gains_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_fox_gains_finite m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)
      ∧ m' ((c.tc : Thread Cert.FoxReferenceIdeal.nD Cert.FoxReferenceIdeal.τ).loc Cert.FoxReferenceIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v8)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v8) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v73) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def Claim : Prop :=
  ∃ (hMem : Cert.Mem.Facts) (hMemIdeal : Cert.MemIdeal.Facts) (hMemReferenceIdeal : Cert.MemReferenceIdeal.Facts) (hFfn : Cert.Ffn.Facts) (hFfnIdeal : Cert.FfnIdeal.Facts) (hFfnReferenceIdeal : Cert.FfnReferenceIdeal.Facts) (hEvenIn : Cert.EvenIn.Facts) (hEvenInIdeal : Cert.EvenInIdeal.Facts) (hEvenInReferenceIdeal : Cert.EvenInReferenceIdeal.Facts) (hEvenOut : Cert.EvenOut.Facts) (hEvenOutIdeal : Cert.EvenOutIdeal.Facts) (hEvenOutReferenceIdeal : Cert.EvenOutReferenceIdeal.Facts) (hOddIn : Cert.OddIn.Facts) (hOddInIdeal : Cert.OddInIdeal.Facts) (hOddInReferenceIdeal : Cert.OddInReferenceIdeal.Facts) (hOddOut : Cert.OddOut.Facts) (hOddOutIdeal : Cert.OddOutIdeal.Facts) (hOddOutReferenceIdeal : Cert.OddOutReferenceIdeal.Facts) (hMemKv : Cert.MemKv.Facts) (hMemKvIdeal : Cert.MemKvIdeal.Facts) (hMemKvReferenceIdeal : Cert.MemKvReferenceIdeal.Facts) (hFox : Cert.Fox.Facts) (hFoxIdeal : Cert.FoxIdeal.Facts) (hFoxReferenceIdeal : Cert.FoxReferenceIdeal.Facts) (hPre_mem_gains_finite : Cert.Pre_mem_gains_finite.Facts) (hPre_fox_gains_finite : Cert.Pre_fox_gains_finite.Facts),
    quiescent_Mem (hMem := hMem)
    ∧ quiescent_MemIdeal (hMemIdeal := hMemIdeal)
    ∧ quiescent_MemIdeal_pre_mem_gains_finite (hMemIdeal := hMemIdeal) (hPre_mem_gains_finite := hPre_mem_gains_finite)
    ∧ quiescent_MemReferenceIdeal (hMemReferenceIdeal := hMemReferenceIdeal)
    ∧ quiescent_MemReferenceIdeal_pre_mem_gains_finite (hMemReferenceIdeal := hMemReferenceIdeal) (hPre_mem_gains_finite := hPre_mem_gains_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Fox (hFox := hFox)
    ∧ quiescent_FoxIdeal (hFoxIdeal := hFoxIdeal)
    ∧ quiescent_FoxIdeal_pre_fox_gains_finite (hFoxIdeal := hFoxIdeal) (hPre_fox_gains_finite := hPre_fox_gains_finite)
    ∧ quiescent_FoxReferenceIdeal (hFoxReferenceIdeal := hFoxReferenceIdeal)
    ∧ quiescent_FoxReferenceIdeal_pre_fox_gains_finite (hFoxReferenceIdeal := hFoxReferenceIdeal) (hPre_fox_gains_finite := hPre_fox_gains_finite)
    ∧ preserves_Mem_MemIdeal
    ∧ algebraic_MemIdeal_MemReferenceIdeal_pre_mem_gains_finite (hMemIdeal := hMemIdeal) (hMemReferenceIdeal := hMemReferenceIdeal) (hPre_mem_gains_finite := hPre_mem_gains_finite)
    ∧ preserves_Ffn_FfnIdeal
    ∧ algebraic_FfnIdeal_FfnReferenceIdeal (hFfnIdeal := hFfnIdeal) (hFfnReferenceIdeal := hFfnReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_OddIn_OddInIdeal
    ∧ algebraic_OddInIdeal_OddInReferenceIdeal (hOddInIdeal := hOddInIdeal) (hOddInReferenceIdeal := hOddInReferenceIdeal)
    ∧ preserves_OddOut_OddOutIdeal
    ∧ algebraic_OddOutIdeal_OddOutReferenceIdeal (hOddOutIdeal := hOddOutIdeal) (hOddOutReferenceIdeal := hOddOutReferenceIdeal)
    ∧ preserves_MemKv_MemKvIdeal
    ∧ algebraic_MemKvIdeal_MemKvReferenceIdeal (hMemKvIdeal := hMemKvIdeal) (hMemKvReferenceIdeal := hMemKvReferenceIdeal)
    ∧ preserves_Fox_FoxIdeal
    ∧ algebraic_FoxIdeal_FoxReferenceIdeal_pre_fox_gains_finite (hFoxIdeal := hFoxIdeal) (hFoxReferenceIdeal := hFoxReferenceIdeal) (hPre_fox_gains_finite := hPre_fox_gains_finite)
-- ==== Pre_fox_gains_finite.lean ====
abbrev S2x4096x7168 : Shape := ⟨3, ![2, 4096, 7168]⟩
abbrev S2x4096x128 : Shape := ⟨3, ![2, 4096, 128]⟩
abbrev S8 : Shape := ⟨1, ![8]⟩
abbrev S128 : Shape := ⟨1, ![128]⟩
abbrev S_ : Shape := ⟨0, ![]⟩

class Facts : Prop where
  bcast_S_S2x4096x128 : S_.BroadcastsInDim S2x4096x128 (![] : Fin 0 → Fin S2x4096x128.rank)
  reducesTo_S2x4096x128_S_d0_1_2 : S2x4096x128.ReducesTo [0, 1, 2] S_
  h_S_ : 0 < S_.numel
  bcast_S_S8 : S_.BroadcastsInDim S8 (![] : Fin 0 → Fin S8.rank)
  reducesTo_S8_S_d0 : S8.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S2x4096x7168 .f32) (main_arg1 : FVec F S2x4096x128 .f32) (main_arg2 : FVec F S8 .f32) (main_arg3 : FVec F S128 .f32) (main_arg4 : FVec F S128 .f32) : IVec S_ 1 :=
  let main_v0 : FVec F S2x4096x128 .f32 := Host.absf main_arg1
  let main_cst : FVec F S_ .f32 := constant S_ .f32 0x7F800000#32
  let main_v1 : FVec F S2x4096x128 .f32 := broadcastInDim S2x4096x128 ![] bcast_S_S2x4096x128 main_cst
  let main_v2 : IVec S2x4096x128 1 := cmpf .olt main_v0 main_v1
  let main_c : IVec S_ 1 := constantI S_ 1 1#1
  let main_v3 : IVec S_ 1 := (fun x v => Host.reduce IntOp.andi x v reducesTo_S2x4096x128_S_d0_1_2 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Pre_mem_gains_finite.lean ====
abbrev S2x4096x2048 : Shape := ⟨3, ![2, 4096, 2048]⟩
abbrev S4x2048 : Shape := ⟨2, ![4, 2048]⟩
abbrev S4x2048x512 : Shape := ⟨3, ![4, 2048, 512]⟩
abbrev S2x256x1024 : Shape := ⟨3, ![2, 256, 1024]⟩
abbrev S4x128 : Shape := ⟨2, ![4, 128]⟩
abbrev S4x512x2048 : Shape := ⟨3, ![4, 512, 2048]⟩
abbrev S1x128 : Shape := ⟨2, ![1, 128]⟩
abbrev S128 : Shape := ⟨1, ![128]⟩
abbrev S_ : Shape := ⟨0, ![]⟩

class Facts : Prop where
  slices_S4x128_S1x128_3_0 : S4x128.Slices ![3, 0] S1x128
  shapeCasts_S1x128_S128 : S1x128.ShapeCasts S128
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S2x4096x2048 .f32) (main_arg1 : FVec F S4x2048 .f32) (main_arg2 : FVec F S4x2048x512 .f32) (main_arg3 : FVec F S2x256x1024 .f32) (main_arg4 : FVec F S4x128 .f32) (main_arg5 : FVec F S4x128 .f32) (main_arg6 : FVec F S4x512x2048 .f32) : IVec S_ 1 :=
  let main_v0 : FVec F S1x128 .f32 := (extractStridedSlice S1x128 ![3, 0] · slices_S4x128_S1x128_3_0) main_arg4
  let main_v1 : FVec F S128 .f32 := shapeCast S128 main_v0 shapeCasts_S1x128_S128
  let main_v2 : FVec F S128 .f32 := Host.absf main_v1
  let main_cst : FVec F S_ .f32 := constant S_ .f32 0x7F800000#32
  let main_v3 : FVec F S128 .f32 := broadcastInDim S128 ![] bcast_S_S128 main_cst
  let main_v4 : IVec S128 1 := cmpf .olt main_v2 main_v3
  let main_c : IVec S_ 1 := constantI S_ 1 1#1
  let main_v5 : IVec S_ 1 := (fun x v => Host.reduce IntOp.andi x v reducesTo_S128_S_d0 h_S_) main_v4 main_c
  let main_v6 : FVec F S1x128 .f32 := (extractStridedSlice S1x128 ![3, 0] · slices_S4x128_S1x128_3_0) main_arg5
  let main_v7 : FVec F S128 .f32 := shapeCast S128 main_v6 shapeCasts_S1x128_S128
  let main_v8 : FVec F S128 .f32 := Host.absf main_v7
  let main_cst_0 : FVec F S_ .f32 := constant S_ .f32 0x7F800000#32
  let main_v9 : FVec F S128 .f32 := broadcastInDim S128 ![] bcast_S_S128 main_cst_0
  let main_v10 : IVec S128 1 := cmpf .olt main_v8 main_v9
  let main_c_1 : IVec S_ 1 := constantI S_ 1 1#1
  let main_v11 : IVec S_ 1 := (fun x v => Host.reduce IntOp.andi x v reducesTo_S128_S_d0 h_S_) main_v10 main_c_1
  let main_v12 : IVec S_ 1 := andi main_v5 main_v11
  main_v12
-- ==== Mem.lean ====
abbrev S2x4096x2048 : Shape := ⟨3, ![2, 4096, 2048]⟩
abbrev S4x2048 : Shape := ⟨2, ![4, 2048]⟩
abbrev S4x2048x512 : Shape := ⟨3, ![4, 2048, 512]⟩
abbrev S2x256x1024 : Shape := ⟨3, ![2, 256, 1024]⟩
abbrev S4x128 : Shape := ⟨2, ![4, 128]⟩
abbrev S4x512x2048 : Shape := ⟨3, ![4, 512, 2048]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S1x1024x2048 : Shape := ⟨3, ![1, 1024, 2048]⟩
abbrev S1x2048x512 : Shape := ⟨3, ![1, 2048, 512]⟩
abbrev S1x256x1024 : Shape := ⟨3, ![1, 256, 1024]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S256x1024 : Shape := ⟨2, ![256, 1024]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S1024x256 : Shape := ⟨2, ![1024, 256]⟩
abbrev S512x2048 : Shape := ⟨2, ![512, 2048]⟩

abbrev nBuf : Space → Nat
  | .hbm => 19
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x512, .f32⟩
  | .hbm, ⟨3, _⟩ => ⟨S2x256x1024, .f32⟩
  | .hbm, ⟨4, _⟩ => ⟨S4x128, .f32⟩
  | .hbm, ⟨5, _⟩ => ⟨S4x128, .f32⟩
  | .hbm, ⟨6, _⟩ => ⟨S4x512x2048, .f32⟩
  | .hbm, ⟨7, _⟩ => ⟨S4x2048x512, .bf16⟩
  | .hbm, ⟨8, _⟩ => ⟨S4x512x2048, .bf16⟩
  | .hbm, ⟨9, _⟩ => ⟨S1x2048, .f32⟩
  | .hbm, ⟨10, _⟩ => ⟨S2048, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S1x2048, .f32⟩
  | .hbm, ⟨16, _⟩ => ⟨S1x128, .f32⟩
  | .hbm, ⟨17, _⟩ => ⟨S1x128, .f32⟩
  | .hbm, ⟨18, _⟩ => ⟨S2x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x128, .f32⟩
  | .local _ .vmem, ⟨7, _⟩ => ⟨S1x128, .f32⟩
  | .local _ .vmem, ⟨8, _⟩ => ⟨S1x512x2048, .bf16⟩
  | .local _ .vmem, ⟨9, _⟩ => ⟨S1x1024x2048, .f32⟩
  | .local _ .vmem, ⟨10, _⟩ => ⟨S1x1024x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MemReferenceIdeal.lean ====
abbrev S2x4096x2048 : Shape := ⟨3, ![2, 4096, 2048]⟩
abbrev S4x2048 : Shape := ⟨2, ![4, 2048]⟩
abbrev S4x2048x512 : Shape := ⟨3, ![4, 2048, 512]⟩
abbrev S2x256x1024 : Shape := ⟨3, ![2, 256, 1024]⟩
abbrev S4x128 : Shape := ⟨2, ![4, 128]⟩
abbrev S4x512x2048 : Shape := ⟨3, ![4, 512, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x512 : Shape := ⟨3, ![1, 2048, 512]⟩
abbrev S2048x512 : Shape := ⟨2, ![2048, 512]⟩
abbrev S2x4096x512 : Shape := ⟨3, ![2, 4096, 512]⟩
abbrev S2x4096x4x128 : Shape := ⟨4, ![2, 4096, 4, 128]⟩
abbrev S2x4x4096x128 : Shape := ⟨4, ![2, 4, 4096, 128]⟩
abbrev S1x128 : Shape := ⟨2, ![1, 128]⟩
abbrev S128 : Shape := ⟨1, ![128]⟩
abbrev S2x4x4096 : Shape := ⟨3, ![2, 4, 4096]⟩
abbrev S2x4x4096x1 : Shape := ⟨4, ![2, 4, 4096, 1]⟩
abbrev S1x1x1x128 : Shape := ⟨4, ![1, 1, 1, 128]⟩
abbrev S2x256x512 : Shape := ⟨3, ![2, 256, 512]⟩
abbrev S2x256x4x128 : Shape := ⟨4, ![2, 256, 4, 128]⟩
abbrev S2x4x256x128 : Shape := ⟨4, ![2, 4, 256, 128]⟩
abbrev S2x4x256 : Shape := ⟨3, ![2, 4, 256]⟩
abbrev S2x4x256x1 : Shape := ⟨4, ![2, 4, 256, 1]⟩
abbrev S2x4x4096x256 : Shape := ⟨4, ![2, 4, 4096, 256]⟩
abbrev S1x512x2048 : Shape := ⟨3, ![1, 512, 2048]⟩
abbrev S512x2048 : Shape := ⟨2, ![512, 2048]⟩

abbrev nBuf : Space → Nat
  | .hbm => 97
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x512, .f32⟩
  | .hbm, ⟨3, _⟩ => ⟨S2x256x1024, .f32⟩
  | .hbm, ⟨4, _⟩ => ⟨S4x128, .f32⟩
  | .hbm, ⟨5, _⟩ => ⟨S4x128, .f32⟩
  | .hbm, ⟨6, _⟩ => ⟨S4x512x2048, .f32⟩
  | .hbm, ⟨7, _⟩ => ⟨S1x2048, .f32⟩
  | .hbm, ⟨8, _⟩ => ⟨S2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x2048, .f32⟩
  | .hbm, ⟨21, _⟩ => ⟨S2x4096x2048, .f32⟩
  | .hbm, ⟨22, _⟩ => ⟨S1x1x2048, .f32⟩
  | .hbm, ⟨23, _⟩ => ⟨S2x4096x2048, .f32⟩
  | .hbm, ⟨24, _⟩ => ⟨S2x4096x2048, .f32⟩
  | .hbm, ⟨25, _⟩ => ⟨S1x2048x512, .f32⟩
  | .hbm, ⟨26, _⟩ => ⟨S2048x512, .f32⟩
  | .hbm, ⟨27, _⟩ => ⟨S2x4096x512, .f32⟩
  | .hbm, ⟨28, _⟩ => ⟨S2x4096x4x128, .f32⟩
  | .hbm, ⟨29, _⟩ => ⟨S2x4x4096x128, .f32⟩
  | .hbm, ⟨30, _⟩ => ⟨S1x128, .f32⟩
  | .hbm, ⟨31, _⟩ => ⟨S128, .f32⟩
  | .hbm, ⟨32, _⟩ => ⟨S2x4x4096x128, .f32⟩
  | .hbm, ⟨33, _⟩ => ⟨S_, .f32⟩
  | .hbm, ⟨34, _⟩ => ⟨S2x4x4096, .f32⟩
  | .hbm, ⟨35, _⟩ => ⟨S2x4x4096x1, .f32⟩
  | .hbm, ⟨36, _⟩ => ⟨S_, .f32⟩
  | .hbm, ⟨37, _⟩ => ⟨S2x4x4096x1, .f32⟩
  | .hbm, ⟨38, _⟩ => ⟨S2x4x4096x1, .f32⟩
  | .hbm, ⟨39, _⟩ => ⟨S_, .f32⟩
  | .hbm, ⟨40, _⟩ => ⟨S2x4x4096x1, .f32⟩
  | .hbm, ⟨41, _⟩ => ⟨S2x4x4096x1, .f32⟩
  | .hbm, ⟨42, _⟩ => ⟨S2x4x4096x1, .f32⟩
  | .hbm, ⟨43, _⟩ => ⟨S2x4x4096x128, .f32⟩
  | .hbm, ⟨44, _⟩ => ⟨S2x4x4096x128, .f32⟩
  | .hbm, ⟨45, _⟩ => ⟨S1x1x1x128, .f32⟩
  | .hbm, ⟨46, _⟩ => ⟨S2x4x4096x128, .f32⟩
  | .hbm, ⟨47, _⟩ => ⟨S2x4x4096x128, .f32⟩
  | .hbm, ⟨48, _⟩ => ⟨S2x256x512, .f32⟩
  | .hbm, ⟨49, _⟩ => ⟨S2x256x512, .f32⟩
  | .hbm, ⟨50, _⟩ => ⟨S2x256x4x128, .f32⟩
  | .hbm, ⟨51, _⟩ => ⟨S2x4x256x128, .f32⟩
  | .hbm, ⟨52, _⟩ => ⟨S1x128, .f32⟩
  | .hbm, ⟨53, _⟩ => ⟨S128, .f32⟩
  | .hbm, ⟨54, _⟩ => ⟨S2x4x256x128, .f32⟩
  | .hbm, ⟨55, _⟩ => ⟨S_, .f32⟩
  | .hbm, ⟨56, _⟩ => ⟨S2x4x256, .f32⟩
  | .hbm, ⟨57, _⟩ => ⟨S2x4x256x1, .f32⟩
  | .hbm, ⟨58, _⟩ => ⟨S_, .f32⟩
  | .hbm, ⟨59, _⟩ => ⟨S2x4x256x1, .f32⟩
  | .hbm, ⟨60, _⟩ => ⟨S2x4x256x1, .f32⟩
  | .hbm, ⟨61, _⟩ => ⟨S_, .f32⟩
  | .hbm, ⟨62, _⟩ => ⟨S2x4x256x1, .f32⟩
  | .hbm, ⟨63, _⟩ => ⟨S2x4x256x1, .f32⟩
  | .hbm, ⟨64, _⟩ => ⟨S2x4x256x1, .f32⟩
  | .hbm, ⟨65, _⟩ => ⟨S2x4x256x128, .f32⟩
  | .hbm, ⟨66, _⟩ => ⟨S2x4x256x128, .f32⟩
  | .hbm, ⟨67, _⟩ => ⟨S1x1x1x128, .f32⟩
  | .hbm, ⟨68, _⟩ => ⟨S2x4x256x128, .f32⟩
  | .hbm, ⟨69, _⟩ => ⟨S2x4x256x128, .f32⟩
  | .hbm, ⟨70, _⟩ => ⟨S2x256x4x128, .f32⟩
  | .hbm, ⟨71, _⟩ => ⟨S2x4x256x128, .f32⟩
  | .hbm, ⟨72, _⟩ => ⟨S2x4x4096x256, .f32⟩
  | .hbm, ⟨73, _⟩ => ⟨S_, .f32⟩
  | .hbm, ⟨74, _⟩ => ⟨S2x4x4096x256, .f32⟩
  | .hbm, ⟨75, _⟩ => ⟨S2x4x4096x256, .f32⟩
  | .hbm, ⟨76, _⟩ => ⟨S_, .f32⟩
  | .hbm, ⟨77, _⟩ => ⟨S2x4x4096, .f32⟩
  | .hbm, ⟨78, _⟩ => ⟨S_, .f32⟩
  | .hbm, ⟨79, _⟩ => ⟨S2x4x4096, .f32⟩
  | .hbm, ⟨80, _⟩ => ⟨S2x4x4096, .f32⟩
  | .hbm, ⟨81, _⟩ => ⟨S2x4x4096x1, .f32⟩
  | .hbm, ⟨82, _⟩ => ⟨S2x4x4096x256, .f32⟩
  | .hbm, ⟨83, _⟩ => ⟨S2x4x4096x256, .f32⟩
  | .hbm, ⟨84, _⟩ => ⟨S2x4x4096x256, .f32⟩
  | .hbm, ⟨85, _⟩ => ⟨S_, .f32⟩
  | .hbm, ⟨86, _⟩ => ⟨S2x4x4096, .f32⟩
  | .hbm, ⟨87, _⟩ => ⟨S2x4x4096x1, .f32⟩
  | .hbm, ⟨88, _⟩ => ⟨S2x4x4096x256, .f32⟩
  | .hbm, ⟨89, _⟩ => ⟨S2x4x4096x256, .f32⟩
  | .hbm, ⟨90, _⟩ => ⟨S2x4x4096x128, .f32⟩
  | .hbm, ⟨91, _⟩ => ⟨S2x4096x4x128, .f32⟩
  | .hbm, ⟨92, _⟩ => ⟨S2x4096x512, .f32⟩
  | .hbm, ⟨93, _⟩ => ⟨S1x512x2048, .f32⟩
  | .hbm, ⟨94, _⟩ => ⟨S512x2048, .f32⟩
  | .hbm, ⟨95, _⟩ => ⟨S2x4096x2048, .f32⟩
  | .hbm, ⟨96, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Ffn.lean ====
abbrev S2x4096x2048 : Shape := ⟨3, ![2, 4096, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S8192x2048 : Shape := ⟨2, ![8192, 2048]⟩
abbrev S1x2048 : Shape := ⟨2, ![1, 2048]⟩
abbrev S2048 : Shape := ⟨1, ![2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 10
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S2x4096x2048 : Shape := ⟨3, ![2, 4096, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S2x4096x5632 : Shape := ⟨3, ![2, 4096, 5632]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S1x2048x5632, .f32⟩
  | .hbm, ⟨24, _⟩ => ⟨S2048x5632, .f32⟩
  | .hbm, ⟨25, _⟩ => ⟨S1x2048x5632, .f32⟩
  | .hbm, ⟨26, _⟩ => ⟨S2048x5632, .f32⟩
  | .hbm, ⟨27, _⟩ => ⟨S1x5632x2048, .f32⟩
  | .hbm, ⟨28, _⟩ => ⟨S5632x2048, .f32⟩
  | .hbm, ⟨29, _⟩ => ⟨S2x4096x5632, .f32⟩
  | .hbm, ⟨30, _⟩ => ⟨S2x4096x5632, .f32⟩
  | .hbm, ⟨31, _⟩ => ⟨S2x4096x5632, .f32⟩
  | .hbm, ⟨32, _⟩ => ⟨S_, .f32⟩
  | .hbm, ⟨33, _⟩ => ⟨S2x4096x5632, .f32⟩
  | .hbm, ⟨34, _⟩ => ⟨S2x4096x5632, .f32⟩
  | .hbm, ⟨35, _⟩ => ⟨S_, .f32⟩
  | .hbm, ⟨36, _⟩ => ⟨S2x4096x5632, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S2x4096x5632, .f32⟩
  | .hbm, ⟨41, _⟩ => ⟨S2x4096x2048, .f32⟩
  | .hbm, ⟨42, _⟩ => ⟨S2x4096x2048, .f32⟩
  | .hbm, ⟨43, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== EvenIn.lean ====
abbrev S2x4096x2048 : Shape := ⟨3, ![2, 4096, 2048]⟩
abbrev S4x2048 : Shape := ⟨2, ![4, 2048]⟩
abbrev S2x2048x7176 : Shape := ⟨3, ![2, 2048, 7176]⟩
abbrev S8192x2048 : Shape := ⟨2, ![8192, 2048]⟩
abbrev S2x2048x3072 : Shape := ⟨3, ![2, 2048, 3072]⟩
abbrev S2x2048x4096 : Shape := ⟨3, ![2, 2048, 4096]⟩
abbrev S2x2048x7168 : Shape := ⟨3, ![2, 2048, 7168]⟩
abbrev S2x2048x8 : Shape := ⟨3, ![2, 2048, 8]⟩
abbrev S_ : Shape := ⟨0, ![]⟩
abbrev S2x2048x128 : Shape := ⟨3, ![2, 2048, 128]⟩
abbrev S1x2048 : Shape := ⟨2, ![1, 2048]⟩
abbrev S2048 : Shape := ⟨1, ![2048]⟩
abbrev S8192x7168 : Shape := ⟨2, ![8192, 7168]⟩
abbrev S8192x128 : Shape := ⟨2, ![8192, 128]⟩
abbrev S1024x2048 : Shape := ⟨2, ![1024, 2048]⟩
abbrev S1x2048x1024 : Shape := ⟨3, ![1, 2048, 1024]⟩
abbrev S1x2048x128 : Shape := ⟨3, ![1, 2048, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S2048x128 : Shape := ⟨2, ![2048, 128]⟩
abbrev S2048x1024 : Shape := ⟨2, ![2048, 1024]⟩

abbrev nBuf : Space → Nat
  | .hbm => 18
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x7176, .f32⟩
  | .hbm, ⟨3, _⟩ => ⟨S8192x2048, .f32⟩
  | .hbm, ⟨4, _⟩ => ⟨S2x2048x3072, .f32⟩
  | .hbm, ⟨5, _⟩ => ⟨S2x2048x4096, .f32⟩
  | .hbm, ⟨6, _⟩ => ⟨S2x2048x7168, .f32⟩
  | .hbm, ⟨7, _⟩ => ⟨S2x2048x7168, .bf16⟩
  | .hbm, ⟨8, _⟩ => ⟨S2x2048x8, .f32⟩
  | .hbm, ⟨9, _⟩ => ⟨S_, .i32⟩
  | .hbm, ⟨10, _⟩ => ⟨S_, .f32⟩
  | .hbm, ⟨11, _⟩ => ⟨S2x2048x128, .f32⟩
  | .hbm, ⟨12, _⟩ => ⟨S1x2048, .f32⟩
  | .hbm, ⟨13, _⟩ => ⟨S2048, .f32⟩
  | .hbm, ⟨14, _⟩ => ⟨S2x2048x128, .bf16⟩
  | .hbm, ⟨15, _⟩ => ⟨S1x2048, .f32⟩
  | .hbm, ⟨16, _⟩ => ⟨S8192x7168, .f32⟩
  | .hbm, ⟨17, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== EvenInReferenceIdeal.lean ====
abbrev S2x4096x2048 : Shape := ⟨3, ![2, 4096, 2048]⟩
abbrev S4x2048 : Shape := ⟨2, ![4, 2048]⟩
abbrev S2x2048x7176 : Shape := ⟨3, ![2, 2048, 7176]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x7176 : Shape := ⟨3, ![1, 2048, 7176]⟩
abbrev S2048x7176 : Shape := ⟨2, ![2048, 7176]⟩
abbrev S2x4096x7176 : Shape := ⟨3, ![2, 4096, 7176]⟩
abbrev S2x4096x3072 : Shape := ⟨3, ![2, 4096, 3072]⟩
abbrev S2x4096x4096 : Shape := ⟨3, ![2, 4096, 4096]⟩
abbrev S2x4096x7168 : Shape := ⟨3, ![2, 4096, 7168]⟩
abbrev S2x4096x8 : Shape := ⟨3, ![2, 4096, 8]⟩
abbrev S2x4096x128 : Shape := ⟨3, ![2, 4096, 128]⟩
abbrev S8192x7168 : Shape := ⟨2, ![8192, 7168]⟩
abbrev S8192x128 : Shape := ⟨2, ![8192, 128]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x7176, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x7176, .f32⟩
  | .hbm, ⟨22, _⟩ => ⟨S2048x7176, .f32⟩
  | .hbm, ⟨23, _⟩ => ⟨S2x4096x7176, .f32⟩
  | .hbm, ⟨24, _⟩ => ⟨S2x4096x3072, .f32⟩
  | .hbm, ⟨25, _⟩ => ⟨S2x4096x4096, .f32⟩
  | .hbm, ⟨26, _⟩ => ⟨S2x4096x7168, .f32⟩
  | .hbm, ⟨27, _⟩ => ⟨S2x4096x8, .f32⟩
  | .hbm, ⟨28, _⟩ => ⟨S_, .i32⟩
  | .hbm, ⟨29, _⟩ => ⟨S_, .f32⟩
  | .hbm, ⟨30, _⟩ => ⟨S2x4096x128, .f32⟩
  | .hbm, ⟨31, _⟩ => ⟨S8192x7168, .f32⟩
  | .hbm, ⟨32, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== EvenOut.lean ====
abbrev S2x4096x1024 : Shape := ⟨3, ![2, 4096, 1024]⟩
abbrev S2x2048x2048 : Shape := ⟨3, ![2, 2048, 2048]⟩
abbrev S2x4096x2048 : Shape := ⟨3, ![2, 4096, 2048]⟩
abbrev S8192x2048 : Shape := ⟨2, ![8192, 2048]⟩
abbrev S8192x1024 : Shape := ⟨2, ![8192, 1024]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x2048x2048, .f32⟩
  | .hbm, ⟨3, _⟩ => ⟨S2x4096x2048, .f32⟩
  | .hbm, ⟨4, _⟩ => ⟨S8192x2048, .f32⟩
  | .hbm, ⟨5, _⟩ => ⟨S8192x1024, .bf16⟩
  | .hbm, ⟨6, _⟩ => ⟨S8192x1024, .bf16⟩
  | .hbm, ⟨7, _⟩ => ⟨S2x2048x2048, .bf16⟩
  | .hbm, ⟨8, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutReferenceIdeal.lean ====
abbrev S2x4096x1024 : Shape := ⟨3, ![2, 4096, 1024]⟩
abbrev S2x2048x2048 : Shape := ⟨3, ![2, 2048, 2048]⟩
abbrev S2x4096x2048 : Shape := ⟨3, ![2, 4096, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x2048x2048, .f32⟩
  | .hbm, ⟨3, _⟩ => ⟨S2x4096x2048, .f32⟩
  | .hbm, ⟨4, _⟩ => ⟨S2x4096x1024, .f32⟩
  | .hbm, ⟨5, _⟩ => ⟨S2x4096x1024, .f32⟩
  | .hbm, ⟨6, _⟩ => ⟨S2x4096x2048, .f32⟩
  | .hbm, ⟨7, _⟩ => ⟨S1x2048x2048, .f32⟩
  | .hbm, ⟨8, _⟩ => ⟨S2048x2048, .f32⟩
  | .hbm, ⟨9, _⟩ => ⟨S2x4096x2048, .f32⟩
  | .hbm, ⟨10, _⟩ => ⟨S2x4096x2048, .f32⟩
  | .hbm, ⟨11, _⟩ => ⟨S8192x2048, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OddIn.lean ====
abbrev S2x4096x2048 : Shape := ⟨3, ![2, 4096, 2048]⟩
abbrev S4x2048 : Shape := ⟨2, ![4, 2048]⟩
abbrev S2x2048x5168 : Shape := ⟨3, ![2, 2048, 5168]⟩
abbrev S8192x2048 : Shape := ⟨2, ![8192, 2048]⟩
abbrev S2x2048x48 : Shape := ⟨3, ![2, 2048, 48]⟩
abbrev S2x2048x4x12 : Shape := ⟨4, ![2, 2048, 4, 12]⟩
abbrev S_ : Shape := ⟨0, ![]⟩
abbrev S2x2048x4x128 : Shape := ⟨4, ![2, 2048, 4, 128]⟩
abbrev S2x2048x512 : Shape := ⟨3, ![2, 2048, 512]⟩
abbrev S2x2048x5120 : Shape := ⟨3, ![2, 2048, 5120]⟩
abbrev S2x5120x2048 : Shape := ⟨3, ![2, 5120, 2048]⟩
abbrev S1x2048 : Shape := ⟨2, ![1, 2048]⟩
abbrev S2048 : Shape := ⟨1, ![2048]⟩
abbrev S8192x5120 : Shape := ⟨2, ![8192, 5120]⟩
abbrev S8192x512 : Shape := ⟨2, ![8192, 512]⟩
abbrev S1024x2048 : Shape := ⟨2, ![1024, 2048]⟩
abbrev S1x1024x2048 : Shape := ⟨3, ![1, 1024, 2048]⟩
abbrev S1x2048x512 : Shape := ⟨3, ![1, 2048, 512]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 19
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x5168, .f32⟩
  | .hbm, ⟨3, _⟩ => ⟨S8192x2048, .f32⟩
  | .hbm, ⟨4, _⟩ => ⟨S2x2048x48, .f32⟩
  | .hbm, ⟨5, _⟩ => ⟨S2x2048x4x12, .f32⟩
  | .hbm, ⟨6, _⟩ => ⟨S_, .i32⟩
  | .hbm, ⟨7, _⟩ => ⟨S_, .f32⟩
  | .hbm, ⟨8, _⟩ => ⟨S2x2048x4x128, .f32⟩
  | .hbm, ⟨9, _⟩ => ⟨S2x2048x512, .f32⟩
  | .hbm, ⟨10, _⟩ => ⟨S2x2048x5120, .f32⟩
  | .hbm, ⟨11, _⟩ => ⟨S2x5120x2048, .f32⟩
  | .hbm, ⟨12, _⟩ => ⟨S2x5120x2048, .bf16⟩
  | .hbm, ⟨13, _⟩ => ⟨S1x2048, .f32⟩
  | .hbm, ⟨14, _⟩ => ⟨S2048, .f32⟩
  | .hbm, ⟨15, _⟩ => ⟨S2x2048x512, .bf16⟩
  | .hbm, ⟨16, _⟩ => ⟨S1x2048, .f32⟩
  | .hbm, ⟨17, _⟩ => ⟨S8192x5120, .f32⟩
  | .hbm, ⟨18, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .bf16⟩
  | .local _ .vmem, ⟨4, _⟩ => ⟨S1x1024x2048, .bf16⟩
  | .local _ .vmem, ⟨5, _⟩ => ⟨S1x2048x512, .bf16⟩
  | .local _ .vmem, ⟨6, _⟩ => ⟨S1024x1024, .f32⟩
  | .local _ .vmem, ⟨7, _⟩ => ⟨S1024x1024, .f32⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OddInReferenceIdeal.lean ====
abbrev S2x4096x2048 : Shape := ⟨3, ![2, 4096, 2048]⟩
abbrev S4x2048 : Shape := ⟨2, ![4, 2048]⟩
abbrev S2x2048x5168 : Shape := ⟨3, ![2, 2048, 5168]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x5168 : Shape := ⟨3, ![1, 2048, 5168]⟩
abbrev S2048x5168 : Shape := ⟨2, ![2048, 5168]⟩
abbrev S2x4096x5168 : Shape := ⟨3, ![2, 4096, 5168]⟩
abbrev S2x4096x48 : Shape := ⟨3, ![2, 4096, 48]⟩
abbrev S8192x4x12 : Shape := ⟨3, ![8192, 4, 12]⟩
abbrev S8192x4x128 : Shape := ⟨3, ![8192, 4, 128]⟩
abbrev S2x4096x5120 : Shape := ⟨3, ![2, 4096, 5120]⟩
abbrev S8192x5120 : Shape := ⟨2, ![8192, 5120]⟩
abbrev S8192x512 : Shape := ⟨2, ![8192, 512]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x5168, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x5168, .f32⟩
  | .hbm, ⟨22, _⟩ => ⟨S2048x5168, .f32⟩
  | .hbm, ⟨23, _⟩ => ⟨S2x4096x5168, .f32⟩
  | .hbm, ⟨24, _⟩ => ⟨S2x4096x48, .f32⟩
  | .hbm, ⟨25, _⟩ => ⟨S8192x4x12, .f32⟩
  | .hbm, ⟨26, _⟩ => ⟨S_, .i32⟩
  | .hbm, ⟨27, _⟩ => ⟨S_, .f32⟩
  | .hbm, ⟨28, _⟩ => ⟨S8192x4x128, .f32⟩
  | .hbm, ⟨29, _⟩ => ⟨S2x4096x5120, .f32⟩
  | .hbm, ⟨30, _⟩ => ⟨S8192x5120, .f32⟩
  | .hbm, ⟨31, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== OddOut.lean ====
abbrev S2x4096x2048 : Shape := ⟨3, ![2, 4096, 2048]⟩
abbrev S2x2048x2048 : Shape := ⟨3, ![2, 2048, 2048]⟩
abbrev S8192x2048 : Shape := ⟨2, ![8192, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x2048, .f32⟩
  | .hbm, ⟨2, _⟩ => ⟨S2x4096x2048, .f32⟩
  | .hbm, ⟨3, _⟩ => ⟨S8192x2048, .f32⟩
  | .hbm, ⟨4, _⟩ => ⟨S8192x2048, .bf16⟩
  | .hbm, ⟨5, _⟩ => ⟨S2x2048x2048, .bf16⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddOutReferenceIdeal.lean ====
abbrev S2x4096x2048 : Shape := ⟨3, ![2, 4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x2048, .f32⟩
  | .hbm, ⟨2, _⟩ => ⟨S2x4096x2048, .f32⟩
  | .hbm, ⟨3, _⟩ => ⟨S2x4096x2048, .f32⟩
  | .hbm, ⟨4, _⟩ => ⟨S1x2048x2048, .f32⟩
  | .hbm, ⟨5, _⟩ => ⟨S2048x2048, .f32⟩
  | .hbm, ⟨6, _⟩ => ⟨S2x4096x2048, .f32⟩
  | .hbm, ⟨7, _⟩ => ⟨S2x4096x2048, .f32⟩
  | .hbm, ⟨8, _⟩ => ⟨S8192x2048, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemKv.lean ====
abbrev S2x256x2048 : Shape := ⟨3, ![2, 256, 2048]⟩
abbrev S4x2048 : Shape := ⟨2, ![4, 2048]⟩
abbrev S4x2048x1024 : Shape := ⟨3, ![4, 2048, 1024]⟩
abbrev S512x2048 : Shape := ⟨2, ![512, 2048]⟩
abbrev S1x2048 : Shape := ⟨2, ![1, 2048]⟩
abbrev S2048 : Shape := ⟨1, ![2048]⟩
abbrev S512x1024 : Shape := ⟨2, ![512, 1024]⟩
abbrev S256x2048 : Shape := ⟨2, ![256, 2048]⟩
abbrev S1x2048x1024 : Shape := ⟨3, ![1, 2048, 1024]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S4x2048, .f32⟩
  | .hbm, ⟨2, _⟩ => ⟨S4x2048x1024, .f32⟩
  | .hbm, ⟨3, _⟩ => ⟨S512x2048, .f32⟩
  | .hbm, ⟨4, _⟩ => ⟨S1x2048, .f32⟩
  | .hbm, ⟨5, _⟩ => ⟨S2048, .f32⟩
  | .hbm, ⟨6, _⟩ => ⟨S4x2048x1024, .bf16⟩
  | .hbm, ⟨7, _⟩ => ⟨S1x2048, .f32⟩
  | .hbm, ⟨8, _⟩ => ⟨S512x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x1024, .bf16⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvReferenceIdeal.lean ====
abbrev S2x256x2048 : Shape := ⟨3, ![2, 256, 2048]⟩
abbrev S4x2048 : Shape := ⟨2, ![4, 2048]⟩
abbrev S4x2048x1024 : Shape := ⟨3, ![4, 2048, 1024]⟩
abbrev S1x2048 : Shape := ⟨2, ![1, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S2x256x1024 : Shape := ⟨3, ![2, 256, 1024]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x2048, .f32⟩
  | .hbm, ⟨2, _⟩ => ⟨S4x2048x1024, .f32⟩
  | .hbm, ⟨3, _⟩ => ⟨S1x2048, .f32⟩
  | .hbm, ⟨4, _⟩ => ⟨S2048, .f32⟩
  | .hbm, ⟨5, _⟩ => ⟨S2x256x2048, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x2048, .f32⟩
  | .hbm, ⟨17, _⟩ => ⟨S2x256x2048, .f32⟩
  | .hbm, ⟨18, _⟩ => ⟨S1x1x2048, .f32⟩
  | .hbm, ⟨19, _⟩ => ⟨S2x256x2048, .f32⟩
  | .hbm, ⟨20, _⟩ => ⟨S2x256x2048, .f32⟩
  | .hbm, ⟨21, _⟩ => ⟨S1x2048x1024, .f32⟩
  | .hbm, ⟨22, _⟩ => ⟨S2048x1024, .f32⟩
  | .hbm, ⟨23, _⟩ => ⟨S2x256x1024, .f32⟩
  | .hbm, ⟨24, _⟩ => ⟨S512x1024, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Fox.lean ====
abbrev S2x4096x7168 : Shape := ⟨3, ![2, 4096, 7168]⟩
abbrev S2x4096x128 : Shape := ⟨3, ![2, 4096, 128]⟩
abbrev S8 : Shape := ⟨1, ![8]⟩
abbrev S128 : Shape := ⟨1, ![128]⟩
abbrev S1x8 : Shape := ⟨2, ![1, 8]⟩
abbrev S_ : Shape := ⟨0, ![]⟩
abbrev S1x128 : Shape := ⟨2, ![1, 128]⟩
abbrev S2x8x4096x128 : Shape := ⟨4, ![2, 8, 4096, 128]⟩
abbrev S1x4096x128 : Shape := ⟨3, ![1, 4096, 128]⟩
abbrev S1x8x4096x128 : Shape := ⟨4, ![1, 8, 4096, 128]⟩
abbrev S512x512 : Shape := ⟨2, ![512, 512]⟩
abbrev S512x128 : Shape := ⟨2, ![512, 128]⟩
abbrev S1x512x128 : Shape := ⟨3, ![1, 512, 128]⟩
abbrev S512x1 : Shape := ⟨2, ![512, 1]⟩
abbrev S1x1x512x128 : Shape := ⟨4, ![1, 1, 512, 128]⟩
abbrev S2x4096x8 : Shape := ⟨3, ![2, 4096, 8]⟩
abbrev S2x8x4096 : Shape := ⟨3, ![2, 8, 4096]⟩
abbrev S16x1x4096 : Shape := ⟨3, ![16, 1, 4096]⟩
abbrev S2x4096x1024 : Shape := ⟨3, ![2, 4096, 1024]⟩
abbrev S1x1024x128 : Shape := ⟨3, ![1, 1024, 128]⟩
abbrev S1x1x4096x128 : Shape := ⟨4, ![1, 1, 4096, 128]⟩
abbrev S1x1x4096 : Shape := ⟨3, ![1, 1, 4096]⟩
abbrev S4096x256 : Shape := ⟨2, ![4096, 256]⟩
abbrev S144x4096 : Shape := ⟨2, ![144, 4096]⟩
abbrev S128x128 : Shape := ⟨2, ![128, 128]⟩
abbrev S4096x128 : Shape := ⟨2, ![4096, 128]⟩
abbrev S4096 : Shape := ⟨1, ![4096]⟩
abbrev S4096x1 : Shape := ⟨2, ![4096, 1]⟩
abbrev S128x4096 : Shape := ⟨2, ![128, 4096]⟩
abbrev S16x4096 : Shape := ⟨2, ![16, 4096]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1x1x1024 : Shape := ⟨3, ![1, 1, 1024]⟩
abbrev S1x1024 : Shape := ⟨2, ![1, 1024]⟩
abbrev S16x1024 : Shape := ⟨2, ![16, 1024]⟩
abbrev S112x1024 : Shape := ⟨2, ![112, 1024]⟩
abbrev S256x1024 : Shape := ⟨2, ![256, 1024]⟩
abbrev S1x1x128 : Shape := ⟨3, ![1, 1, 128]⟩
abbrev S1 : Shape := ⟨1, ![1]⟩
abbrev S1x1x1 : Shape := ⟨3, ![1, 1, 1]⟩
abbrev S512x256 : Shape := ⟨2, ![512, 256]⟩
abbrev S144x512 : Shape := ⟨2, ![144, 512]⟩
abbrev S144x1024 : Shape := ⟨2, ![144, 1024]⟩
abbrev S512x1024 : Shape := ⟨2, ![512, 1024]⟩
abbrev S256x512 : Shape := ⟨2, ![256, 512]⟩
abbrev S1x512 : Shape := ⟨2, ![1, 512]⟩
abbrev S1024x256 : Shape := ⟨2, ![1024, 256]⟩
abbrev S1024x1024 : Shape := ⟨2, ![1024, 1024]⟩
abbrev S1x128x128 : Shape := ⟨3, ![1, 128, 128]⟩
abbrev S512 : Shape := ⟨1, ![512]⟩

abbrev nBuf : Space → Nat
  | .hbm => 17
  | .vmem => 23
  | .smem => 0
  | _ => 0

abbrev bufTy : (tb : Table) → Fin (tcTables nBuf tb) → BufTy
  | .hbm, ⟨0, _⟩ => ⟨S2x4096x7168, .f32⟩
  | .hbm, ⟨1, _⟩ => ⟨S2x4096x128, .f32⟩
  | .hbm, ⟨2, _⟩ => ⟨S8, .f32⟩
  | .hbm, ⟨3, _⟩ => ⟨S128, .f32⟩
  | .hbm, ⟨4, _⟩ => ⟨S128, .f32⟩
  | .hbm, ⟨5, _⟩ => ⟨S1x8, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S2x4096x128, .f32⟩
  | .hbm, ⟨10, _⟩ => ⟨S2x8x4096x128, .bf16⟩
  | .hbm, ⟨11, _⟩ => ⟨S2x4096x8, .f32⟩
  | .hbm, ⟨12, _⟩ => ⟨S2x8x4096, .f32⟩
  | .hbm, ⟨13, _⟩ => ⟨S16x1x4096, .f32⟩
  | .hbm, ⟨14, _⟩ => ⟨S1x128, .f32⟩
  | .hbm, ⟨15, _⟩ => ⟨S1x128, .f32⟩
  | .hbm, ⟨16, _⟩ => ⟨S2x4096x1024, .bf16⟩
  | .local _ .vmem, ⟨0, _⟩ => ⟨S1x4096x128, .f32⟩
  | .local _ .vmem, ⟨1, _⟩ => ⟨S1x4096x128, .f32⟩
  | .local _ .vmem, ⟨2, _⟩ => ⟨S1x128, .f32⟩
  | .local _ .vmem, ⟨3, _⟩ => ⟨S1x4096x128, .f32⟩
  | .local _ .vmem, ⟨4, _⟩ => ⟨S1x4096x128, .f32⟩
  | .local _ .vmem, ⟨5, _⟩ => ⟨S1x8x4096x128, .bf16⟩
  | .local _ .vmem, ⟨6, _⟩ => ⟨S1x8x4096x128, .bf16⟩
  | .local _ .vmem, ⟨7, _⟩ => ⟨S1x1024x128, .f32⟩
  | .local _ .vmem, ⟨8, _⟩ => ⟨S1x1024x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x1x4096x128, .bf16⟩
  | .local _ .vmem, ⟨14, _⟩ => ⟨S1x1x4096x128, .bf16⟩
  | .local _ .vmem, ⟨15, _⟩ => ⟨S1x1x4096, .f32⟩
  | .local _ .vmem, ⟨16, _⟩ => ⟨S1x1x4096, .f32⟩
  | .local _ .vmem, ⟨17, _⟩ => ⟨S1x128, .f32⟩
  | .local _ .vmem, ⟨18, _⟩ => ⟨S1x128, .f32⟩
  | .local _ .vmem, ⟨19, _⟩ => ⟨S1x1024x128, .bf16⟩
  | .local _ .vmem, ⟨20, _⟩ => ⟨S1x1024x128, .bf16⟩
  | .local _ .vmem, ⟨21, _⟩ => ⟨S4096x256, .bf16⟩
  | .local _ .vmem, ⟨22, _⟩ => ⟨S144x4096, .bf16⟩
  | _, _ => ⟨S2x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  v10
def k0_off1 (k0_t1 : Fin k0_t1_loop.trips) : Fin 3 → Nat :=
  let c0 : Index := 0#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v12 : Index := Scalar.indexCast v11
  let c0_1 : Index := 0#32
  ![0, v12.toNat, 0]
def k0_off2 (k0_t1 : Fin k0_t1_loop.trips) : Fin 4 → Nat :=
  let c0_18 : Index := 0#32
  let c0_19 : Index := 0#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v85 : Index := Scalar.indexCast v11
  let c0_20 : Index := 0#32
  ![0, 0, v85.toNat, 0]
def k0_off3 (k0_t1 : Fin k0_t1_loop.trips) : Fin 4 → Nat :=
  let c0_30 : Index := 0#32
  let c1 : Index := 1#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v127 : Index := Scalar.indexCast v11
  let c0_31 : Index := 0#32
  ![0, 1, v127.toNat, 0]
def k0_off4 (k0_t1 : Fin k0_t1_loop.trips) : Fin 4 → Nat :=
  let c0_41 : Index := 0#32
  let c2 : Index := 2#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v169 : Index := Scalar.indexCast v11
  let c0_42 : Index := 0#32
  ![0, 2, v169.toNat, 0]
def k0_off5 (k0_t1 : Fin k0_t1_loop.trips) : Fin 4 → Nat :=
  let c0_52 : Index := 0#32
  let c3 : Index := 3#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v211 : Index := Scalar.indexCast v11
  let c0_53 : Index := 0#32
  ![0, 3, v211.toNat, 0]
def k0_off6 (k0_t1 : Fin k0_t1_loop.trips) : Fin 4 → Nat :=
  let c0_63 : Index := 0#32
  let c4 : Index := 4#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v253 : Index := Scalar.indexCast v11
  let c0_64 : Index := 0#32
  ![0, 4, v253.toNat, 0]
def k0_off7 (k0_t1 : Fin k0_t1_loop.trips) : Fin 4 → Nat :=
  let c0_74 : Index := 0#32
  let c5 : Index := 5#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v295 : Index := Scalar.indexCast v11
  let c0_75 : Index := 0#32
  ![0, 5, v295.toNat, 0]
def k0_off8 (k0_t1 : Fin k0_t1_loop.trips) : Fin 4 → Nat :=
  let c0_85 : Index := 0#32
  let c6 : Index := 6#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v337 : Index := Scalar.indexCast v11
  let c0_86 : Index := 0#32
  ![0, 6, v337.toNat, 0]
def k0_off9 (k0_t1 : Fin k0_t1_loop.trips) : Fin 4 → Nat :=
  let c0_96 : Index := 0#32
  let c7 : Index := 7#32
  let c0_i32 : BitVec 32 := 0#32
  let c1_i32 : BitVec 32 := 1#32
  let arg5 : BitVec 32 := Scf.iv c0_i32 c1_i32 k0_t1
  let c512_i32 : BitVec 32 := 512#32
  let v10 : BitVec 32 := Scalar.muli arg5 c512_i32
  let v11 : BitVec 32 := v10
  let v379 : Index := Scalar.indexCast v11
  let c0_97 : Index := 0#32
  ![0, 7, v379.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 8, 4], ![false, false, false]⟩

def k1_mult1 (i : grid1.Coords) : BitVec 32 :=
  let arg2 : BitVec 32 := BitVec.ofNat 32 (i 2).val
  let c1024_i32 : BitVec 32 := 1024#32
  let v9 : BitVec 32 := Scalar.muli arg2 c1024_i32
  v9
def k1_off1 (i : grid1.Coords) : Fin 3 → Nat :=
  let c0_9 : Index := 0#32
  let c0_10 : Index := 0#32
  let arg2 : BitVec 32 := BitVec.ofNat 32 (i 2).val
  let c1024_i32 : BitVec 32 := 1024#32
  let v9 : BitVec 32 := Scalar.muli arg2 c1024_i32
  let v10 : BitVec 32 := v9
  let v32 : Index := Scalar.indexCast v10
  ![0, 0, v32.toNat]
def k1_off2 (i : grid1.Coords) : Fin 2 → Nat :=
  let arg2 : BitVec 32 := BitVec.ofNat 32 (i 2).val
  let c1024_i32 : BitVec 32 := 1024#32
  let v9 : BitVec 32 := Scalar.muli arg2 c1024_i32
  let v10 : BitVec 32 := v9
  let v93 : Index := Scalar.indexCast v10
  let c0_26 : Index := 0#32
  ![v93.toNat, 0]
def k1_off3 (i : grid1.Coords) : Fin 2 → Nat :=
  let c0_27 : Index := 0#32
  let arg2 : BitVec 32 := BitVec.ofNat 32 (i 2).val
  let c1024_i32 : BitVec 32 := 1024#32
  let v9 : BitVec 32 := Scalar.muli arg2 c1024_i32
  let v10 : BitVec 32 := v9
  let v95 : Index := Scalar.indexCast v10
  ![0, v95.toNat]
def k1_off4 (i : grid1.Coords) : Fin 2 → Nat :=
  let arg2 : BitVec 32 := BitVec.ofNat 32 (i 2).val
  let c1024_i32 : BitVec 32 := 1024#32
  let v9 : BitVec 32 := Scalar.muli arg2 c1024_i32
  let v10 : BitVec 32 := v9
  let c512_i32 : BitVec 32 := 512#32
  let v112 : BitVec 32 := Scalar.addi v10 c512_i32
  let v113 : Index := Scalar.indexCast v112
  let c0_33 : Index := 0#32
  ![v113.toNat, 0]
def k1_off5 (i : grid1.Coords) : Fin 2 → Nat :=
  let c0_35 : Index := 0#32
  let arg2 : BitVec 32 := BitVec.ofNat 32 (i 2).val
  let c1024_i32 : BitVec 32 := 1024#32
  let v9 : BitVec 32 := Scalar.muli arg2 c1024_i32
  let v10 : BitVec 32 := v9
  let c512_i32_34 : BitVec 32 := 512#32
  let v115 : BitVec 32 := Scalar.addi v10 c512_i32_34
  let v116 : Index := Scalar.indexCast v115
  ![0, v116.toNat]
@[reducible] def k1_t1_loop (i : grid1.Coords) : Scf.Loop 32 :=
  let c0_i32_39 : BitVec 32 := 0#32
  let arg2 : BitVec 32 := BitVec.ofNat 32 (i 2).val
  let v139 : BitVec 32 := Scalar.subi arg2 c0_i32_39
  let c1_i32_40 : BitVec 32 := 1#32
  let v141 : BitVec 32 := Scalar.divsi v139 c1_i32_40
  let v142 : BitVec 32 := Scalar.muli v141 c1_i32_40
  let v143 : BitVec 32 := Scalar.addi c0_i32_39 v142
  let c1_i32_41 : BitVec 32 := 1#32
  ⟨c0_i32_39, v143, c1_i32_41⟩
def k1_mult2 (i : grid1.Coords) (k1_t1 : Fin (k1_t1_loop i).trips) : BitVec 32 :=
  let c0_i32_39 : BitVec 32 := 0#32
  let c1_i32_41 : BitVec 32 := 1#32
  let arg13 : BitVec 32 := Scf.iv c0_i32_39 c1_i32_41 k1_t1
  let c1024_i32_68 : BitVec 32 := 1024#32
  let v199 : BitVec 32 := Scalar.muli arg13 c1024_i32_68
  v199
def k1_off6 (i : grid1.Coords) (k1_t1 : Fin (k1_t1_loop i).trips) : Fin 2 → Nat :=
  let c0_i32_39 : BitVec 32 := 0#32
  let c1_i32_41 : BitVec 32 := 1#32
  let arg13 : BitVec 32 := Scf.iv c0_i32_39 c1_i32_41 k1_t1
  let c1024_i32_68 : BitVec 32 := 1024#32
  let v199 : BitVec 32 := Scalar.muli arg13 c1024_i32_68
  let v200 : BitVec 32 := v199
  let v201 : Index := Scalar.indexCast v200
  let c0_69 : Index := 0#32
  ![v201.toNat, 0]
def k1_off7 (i : grid1.Coords) (k1_t1 : Fin (k1_t1_loop i).trips) : Fin 2 → Nat :=
  let c0_70 : Index := 0#32
  let c0_i32_39 : BitVec 32 := 0#32
  let c1_i32_41 : BitVec 32 := 1#32
  let arg13 : BitVec 32 := Scf.iv c0_i32_39 c1_i32_41 k1_t1
  let c1024_i32_68 : BitVec 32 := 1024#32
  let v199 : BitVec 32 := Scalar.muli arg13 c1024_i32_68
  let v200 : BitVec 32 := v199
  let v203 : Index := Scalar.indexCast v200
  ![0, v203.toNat]
@[reducible] def k1_t2_loop (i : grid1.Coords) : Scf.Loop 32 :=
  let c0_i32_39 : BitVec 32 := 0#32
  let arg2 : BitVec 32 := BitVec.ofNat 32 (i 2).val
  let v139 : BitVec 32 := Scalar.subi arg2 c0_i32_39
  let c1_i32_40 : BitVec 32 := 1#32
  let v141 : BitVec 32 := Scalar.divsi v139 c1_i32_40
  let v142 : BitVec 32 := Scalar.muli v141 c1_i32_40
  let v143 : BitVec 32 := Scalar.addi c0_i32_39 v142
  let v140 : BitVec 32 := Scalar.addi c0_i32_39 v139
  let c1_i32_42 : BitVec 32 := 1#32
  ⟨v143, v140, c1_i32_42⟩
def k1_mult3 (i : grid1.Coords) (k1_t2 : Fin (k1_t2_loop i).trips) : BitVec 32 :=
  let c0_i32_39 : BitVec 32 := 0#32
  let arg2 : BitVec 32 := BitVec.ofNat 32 (i 2).val
  let v139 : BitVec 32 := Scalar.subi arg2 c0_i32_39
  let c1_i32_40 : BitVec 32 := 1#32
  let v141 : BitVec 32 := Scalar.divsi v139 c1_i32_40
  let v142 : BitVec 32 := Scalar.muli v141 c1_i32_40
  let v143 : BitVec 32 := Scalar.addi c0_i32_39 v142
  let c1_i32_42 : BitVec 32 := 1#32
  let arg13 : BitVec 32 := Scf.iv v143 c1_i32_42 k1_t2
  let c1024_i32_68 : BitVec 32 := 1024#32
  let v199 : BitVec 32 := Scalar.muli arg13 c1024_i32_68
  v199
def k1_off8 (i : grid1.Coords) (k1_t2 : Fin (k1_t2_loop i).trips) : Fin 2 → Nat :=
  let c0_i32_39 : BitVec 32 := 0#32
  let arg2 : BitVec 32 := BitVec.ofNat 32 (i 2).val
  let v139 : BitVec 32 := Scalar.subi arg2 c0_i32_39
  let c1_i32_40 : BitVec 32 := 1#32
  let v141 : BitVec 32 := Scalar.divsi v139 c1_i32_40
  let v142 : BitVec 32 := Scalar.muli v141 c1_i32_40
  let v143 : BitVec 32 := Scalar.addi c0_i32_39 v142
  let c1_i32_42 : BitVec 32 := 1#32
  let arg13 : BitVec 32 := Scf.iv v143 c1_i32_42 k1_t2
  let c1024_i32_68 : BitVec 32 := 1024#32
  let v199 : BitVec 32 := Scalar.muli arg13 c1024_i32_68
  let v200 : BitVec 32 := v199
  let v201 : Index := Scalar.indexCast v200
  let c0_69 : Index := 0#32
  ![v201.toNat, 0]
def k1_off9 (i : grid1.Coords) (k1_t2 : Fin (k1_t2_loop i).trips) : Fin 2 → Nat :=
  let c0_70 : Index := 0#32
  let c0_i32_39 : BitVec 32 := 0#32
  let arg2 : BitVec 32 := BitVec.ofNat 32 (i 2).val
  let v139 : BitVec 32 := Scalar.subi arg2 c0_i32_39
  let c1_i32_40 : BitVec 32 := 1#32
  let v141 : BitVec 32 := Scalar.divsi v139 c1_i32_40
  let v142 : BitVec 32 := Scalar.muli v141 c1_i32_40
  let v143 : BitVec 32 := Scalar.addi c0_i32_39 v142
  let c1_i32_42 : BitVec 32 := 1#32
  let arg13 : BitVec 32 := Scf.iv v143 c1_i32_42 k1_t2
  let c1024_i32_68 : BitVec 32 := 1024#32
  let v199 : BitVec 32 := Scalar.muli arg13 c1024_i32_68
  let v200 : BitVec 32 := v199
  let v203 : Index := Scalar.indexCast v200
  ![0, v203.toNat]
def k1_off10 (i : grid1.Coords) : Fin 2 → Nat :=
  let arg2 : BitVec 32 := BitVec.ofNat 32 (i 2).val
  let c1024_i32 : BitVec 32 := 1024#32
  let v9 : BitVec 32 := Scalar.muli arg2 c1024_i32
  let v10 : BitVec 32 := v9
  let v93 : Index := Scalar.indexCast v10
  let c0_26 : Index := 0#32
  ![v93.toNat, 0]
def k1_off11 (i : grid1.Coords) : Fin 2 → Nat :=
  let c0_27 : Index := 0#32
  let arg2 : BitVec 32 := BitVec.ofNat 32 (i 2).val
  let c1024_i32 : BitVec 32 := 1024#32
  let v9 : BitVec 32 := Scalar.muli arg2 c1024_i32
  let v10 : BitVec 32 := v9
  let v95 : Index := Scalar.indexCast v10
  ![0, v95.toNat]
def k1_off12 (i : grid1.Coords) : Fin 2 → Nat :=
  let arg2 : BitVec 32 := BitVec.ofNat 32 (i 2).val
  let c1024_i32 : BitVec 32 := 1024#32
  let v9 : BitVec 32 := Scalar.muli arg2 c1024_i32
  let v10 : BitVec 32 := v9
  let c512_i32 : BitVec 32 := 512#32
  let v119 : BitVec 32 := Scalar.addi v10 c512_i32
  let v120 : Index := Scalar.indexCast v119
  let c0_34 : Index := 0#32
  ![v120.toNat, 0]
def k1_off13 (i : grid1.Coords) : Fin 2 → Nat :=
  let c0_36 : Index := 0#32
  let arg2 : BitVec 32 := BitVec.ofNat 32 (i 2).val
  let c1024_i32 : BitVec 32 := 1024#32
  let v9 : BitVec 32 := Scalar.muli arg2 c1024_i32
  let v10 : BitVec 32 := v9
  let c512_i32_35 : BitVec 32 := 512#32
  let v122 : BitVec 32 := Scalar.addi v10 c512_i32_35
  let v123 : Index := Scalar.indexCast v122
  ![0, v123.toNat]
@[reducible] def k1_t3_loop (i : grid1.Coords) : Scf.Loop 32 :=
  let c0_i32_41 : BitVec 32 := 0#32
  let arg2 : BitVec 32 := BitVec.ofNat 32 (i 2).val
  let v153 : BitVec 32 := Scalar.subi arg2 c0_i32_41
  let c1_i32_42 : BitVec 32 := 1#32
  let v155 : BitVec 32 := Scalar.divsi v153 c1_i32_42
  let v156 : BitVec 32 := Scalar.muli v155 c1_i32_42
  let v157 : BitVec 32 := Scalar.addi c0_i32_41 v156
  let c1_i32_43 : BitVec 32 := 1#32
  ⟨c0_i32_41, v157, c1_i32_43⟩
def k1_mult4 (i : grid1.Coords) (k1_t3 : Fin (k1_t3_loop i).trips) : BitVec 32 :=
  let c0_i32_41 : BitVec 32 := 0#32
  let c1_i32_43 : BitVec 32 := 1#32
  let arg13 : BitVec 32 := Scf.iv c0_i32_41 c1_i32_43 k1_t3
  let c1024_i32_70 : BitVec 32 := 1024#32
  let v213 : BitVec 32 := Scalar.muli arg13 c1024_i32_70
  v213
def k1_off14 (i : grid1.Coords) (k1_t3 : Fin (k1_t3_loop i).trips) : Fin 2 → Nat :=
  let c0_i32_41 : BitVec 32 := 0#32
  let c1_i32_43 : BitVec 32 := 1#32
  let arg13 : BitVec 32 := Scf.iv c0_i32_41 c1_i32_43 k1_t3
  let c1024_i32_70 : BitVec 32 := 1024#32
  let v213 : BitVec 32 := Scalar.muli arg13 c1024_i32_70
  let v214 : BitVec 32 := v213
  let v215 : Index := Scalar.indexCast v214
  let c0_71 : Index := 0#32
  ![v215.toNat, 0]
def k1_off15 (i : grid1.Coords) (k1_t3 : Fin (k1_t3_loop i).trips) : Fin 2 → Nat :=
  let c0_72 : Index := 0#32
  let c0_i32_41 : BitVec 32 := 0#32
  let c1_i32_43 : BitVec 32 := 1#32
  let arg13 : BitVec 32 := Scf.iv c0_i32_41 c1_i32_43 k1_t3
  let c1024_i32_70 : BitVec 32 := 1024#32
  let v213 : BitVec 32 := Scalar.muli arg13 c1024_i32_70
  let v214 : BitVec 32 := v213
  let v217 : Index := Scalar.indexCast v214
  ![0, v217.toNat]
@[reducible] def k1_t4_loop (i : grid1.Coords) : Scf.Loop 32 :=
  let c0_i32_41 : BitVec 32 := 0#32
  let arg2 : BitVec 32 := BitVec.ofNat 32 (i 2).val
  let v153 : BitVec 32 := Scalar.subi arg2 c0_i32_41
  let c1_i32_42 : BitVec 32 := 1#32
  let v155 : BitVec 32 := Scalar.divsi v153 c1_i32_42
  let v156 : BitVec 32 := Scalar.muli v155 c1_i32_42
  let v157 : BitVec 32 := Scalar.addi c0_i32_41 v156
  let v154 : BitVec 32 := Scalar.addi c0_i32_41 v153
  let c1_i32_44 : BitVec 32 := 1#32
  ⟨v157, v154, c1_i32_44⟩
def k1_mult5 (i : grid1.Coords) (k1_t4 : Fin (k1_t4_loop i).trips) : BitVec 32 :=
  let c0_i32_41 : BitVec 32 := 0#32
  let arg2 : BitVec 32 := BitVec.ofNat 32 (i 2).val
  let v153 : BitVec 32 := Scalar.subi arg2 c0_i32_41
  let c1_i32_42 : BitVec 32 := 1#32
  let v155 : BitVec 32 := Scalar.divsi v153 c1_i32_42
  let v156 : BitVec 32 := Scalar.muli v155 c1_i32_42
  let v157 : BitVec 32 := Scalar.addi c0_i32_41 v156
  let c1_i32_44 : BitVec 32 := 1#32
  let arg13 : BitVec 32 := Scf.iv v157 c1_i32_44 k1_t4
  let c1024_i32_70 : BitVec 32 := 1024#32
  let v213 : BitVec 32 := Scalar.muli arg13 c1024_i32_70
  v213
def k1_off16 (i : grid1.Coords) (k1_t4 : Fin (k1_t4_loop i).trips) : Fin 2 → Nat :=
  let c0_i32_41 : BitVec 32 := 0#32
  let arg2 : BitVec 32 := BitVec.ofNat 32 (i 2).val
  let v153 : BitVec 32 := Scalar.subi arg2 c0_i32_41
  let c1_i32_42 : BitVec 32 := 1#32
  let v155 : BitVec 32 := Scalar.divsi v153 c1_i32_42
  let v156 : BitVec 32 := Scalar.muli v155 c1_i32_42
  let v157 : BitVec 32 := Scalar.addi c0_i32_41 v156
  let c1_i32_44 : BitVec 32 := 1#32
  let arg13 : BitVec 32 := Scf.iv v157 c1_i32_44 k1_t4
  let c1024_i32_70 : BitVec 32 := 1024#32
  let v213 : BitVec 32 := Scalar.muli arg13 c1024_i32_70
  let v214 : BitVec 32 := v213
  let v215 : Index := Scalar.indexCast v214
  let c0_71 : Index := 0#32
  ![v215.toNat, 0]
def k1_off17 (i : grid1.Coords) (k1_t4 : Fin (k1_t4_loop i).trips) : Fin 2 → Nat :=
  let c0_72 : Index := 0#32
  let c0_i32_41 : BitVec 32 := 0#32
  let arg2 : BitVec 32 := BitVec.ofNat 32 (i 2).val
  let v153 : BitVec 32 := Scalar.subi arg2 c0_i32_41
  let c1_i32_42 : BitVec 32 := 1#32
  let v155 : BitVec 32 := Scalar.divsi v153 c1_i32_42
  let v156 : BitVec 32 := Scalar.muli v155 c1_i32_42
  let v157 : BitVec 32 := Scalar.addi c0_i32_41 v156
  let c1_i32_44 : BitVec 32 := 1#32
  let arg13 : BitVec 32 := Scf.iv v157 c1_i32_44 k1_t4
  let c1024_i32_70 : BitVec 32 := 1024#32
  let v213 : BitVec 32 := Scalar.muli arg13 c1024_i32_70
  let v214 : BitVec 32 := v213
  let v217 : Index := Scalar.indexCast v214
  ![0, v217.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x1024x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]
-- ==== FoxIdeal.lean ====
variable {F : FTy → Type} [FloatOps F] [Named F]
def κ : String → Option EReal := fun
  | "log2e" => some (((Real.log 2)⁻¹ : ℝ) : EReal)
  | "scale2" => some (((Real.sqrt 128)⁻¹ * (Real.log 2)⁻¹ : ℝ) : EReal)
  | _ => none
-- ==== FoxReferenceIdeal.lean ====
abbrev S2x4096x7168 : Shape := ⟨3, ![2, 4096, 7168]⟩
abbrev S2x4096x128 : Shape := ⟨3, ![2, 4096, 128]⟩
abbrev S8 : Shape := ⟨1, ![8]⟩
abbrev S128 : Shape := ⟨1, ![128]⟩
abbrev S2x4096x1024 : Shape := ⟨3, ![2, 4096, 1024]⟩
abbrev S2x4096x8x128 : Shape := ⟨4, ![2, 4096, 8, 128]⟩
abbrev S2x8x4096x128 : Shape := ⟨4, ![2, 8, 4096, 128]⟩
abbrev S_ : Shape := ⟨0, ![]⟩
abbrev S2x8x4096 : Shape := ⟨3, ![2, 8, 4096]⟩
abbrev S2x8x4096x1 : Shape := ⟨4, ![2, 8, 4096, 1]⟩
abbrev S1x1x1x128 : Shape := ⟨4, ![1, 1, 1, 128]⟩
abbrev S2x4096x8 : Shape := ⟨3, ![2, 4096, 8]⟩
abbrev S1x1x8 : Shape := ⟨3, ![1, 1, 8]⟩
abbrev S2x8x4096x4096 : Shape := ⟨4, ![2, 8, 4096, 4096]⟩
abbrev S2x8x1x4096 : Shape := ⟨4, ![2, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩

abbrev nBuf : Space → Nat
  | .hbm => 110
  | .vmem => 0
  | .smem => 0
  | _ => 0

abbrev bufTy : (tb : Table) → Fin (tcTables nBuf tb) → BufTy
  | .hbm, ⟨0, _⟩ => ⟨S2x4096x7168, .f32⟩
  | .hbm, ⟨1, _⟩ => ⟨S2x4096x128, .f32⟩
  | .hbm, ⟨2, _⟩ => ⟨S8, .f32⟩
  | .hbm, ⟨3, _⟩ => ⟨S128, .f32⟩
  | .hbm, ⟨4, _⟩ => ⟨S128, .f32⟩
  | .hbm, ⟨5, _⟩ => ⟨S2x4096x1024, .f32⟩
  | .hbm, ⟨6, _⟩ => ⟨S2x4096x8x128, .f32⟩
  | .hbm, ⟨7, _⟩ => ⟨S2x8x4096x128, .f32⟩
  | .hbm, ⟨8, _⟩ => ⟨S2x8x4096x128, .f32⟩
  | .hbm, ⟨9, _⟩ => ⟨S_, .f32⟩
  | .hbm, ⟨10, _⟩ => ⟨S2x8x4096, .f32⟩
  | .hbm, ⟨11, _⟩ => ⟨S2x8x4096x1, .f32⟩
  | .hbm, ⟨12, _⟩ => ⟨S_, .f32⟩
  | .hbm, ⟨13, _⟩ => ⟨S2x8x4096x1, .f32⟩
  | .hbm, ⟨14, _⟩ => ⟨S2x8x4096x1, .f32⟩
  | .hbm, ⟨15, _⟩ => ⟨S_, .f32⟩
  | .hbm, ⟨16, _⟩ => ⟨S2x8x4096x1, .f32⟩
  | .hbm, ⟨17, _⟩ => ⟨S2x8x4096x1, .f32⟩
  | .hbm, ⟨18, _⟩ => ⟨S2x8x4096x1, .f32⟩
  | .hbm, ⟨19, _⟩ => ⟨S2x8x4096x128, .f32⟩
  | .hbm, ⟨20, _⟩ => ⟨S2x8x4096x128, .f32⟩
  | .hbm, ⟨21, _⟩ => ⟨S1x1x1x128, .f32⟩
  | .hbm, ⟨22, _⟩ => ⟨S2x8x4096x128, .f32⟩
  | .hbm, ⟨23, _⟩ => ⟨S2x8x4096x128, .f32⟩
  | .hbm, ⟨24, _⟩ => ⟨S2x4096x1024, .f32⟩
  | .hbm, ⟨25, _⟩ => ⟨S2x4096x8x128, .f32⟩
  | .hbm, ⟨26, _⟩ => ⟨S2x8x4096x128, .f32⟩
  | .hbm, ⟨27, _⟩ => ⟨S2x8x4096x128, .f32⟩
  | .hbm, ⟨28, _⟩ => ⟨S_, .f32⟩
  | .hbm, ⟨29, _⟩ => ⟨S2x8x4096, .f32⟩
  | .hbm, ⟨30, _⟩ => ⟨S2x8x4096x1, .f32⟩
  | .hbm, ⟨31, _⟩ => ⟨S_, .f32⟩
  | .hbm, ⟨32, _⟩ => ⟨S2x8x4096x1, .f32⟩
  | .hbm, ⟨33, _⟩ => ⟨S2x8x4096x1, .f32⟩
  | .hbm, ⟨34, _⟩ => ⟨S_, .f32⟩
  | .hbm, ⟨35, _⟩ => ⟨S2x8x4096x1, .f32⟩
  | .hbm, ⟨36, _⟩ => ⟨S2x8x4096x1, .f32⟩
  | .hbm, ⟨37, _⟩ => ⟨S2x8x4096x1, .f32⟩
  | .hbm, ⟨38, _⟩ => ⟨S2x8x4096x128, .f32⟩
  | .hbm, ⟨39, _⟩ => ⟨S2x8x4096x128, .f32⟩
  | .hbm, ⟨40, _⟩ => ⟨S1x1x1x128, .f32⟩
  | .hbm, ⟨41, _⟩ => ⟨S2x8x4096x128, .f32⟩
  | .hbm, ⟨42, _⟩ => ⟨S2x8x4096x128, .f32⟩
  | .hbm, ⟨43, _⟩ => ⟨S2x4096x1024, .f32⟩
  | .hbm, ⟨44, _⟩ => ⟨S2x4096x8x128, .f32⟩
  | .hbm, ⟨45, _⟩ => ⟨S2x8x4096x128, .f32⟩
  | .hbm, ⟨46, _⟩ => ⟨S2x4096x8, .f32⟩
  | .hbm, ⟨47, _⟩ => ⟨S1x1x8, .f32⟩
  | .hbm, ⟨48, _⟩ => ⟨S2x4096x8, .f32⟩
  | .hbm, ⟨49, _⟩ => ⟨S2x4096x8, .f32⟩
  | .hbm, ⟨50, _⟩ => ⟨S2x4096x8, .f32⟩
  | .hbm, ⟨51, _⟩ => ⟨S_, .f32⟩
  | .hbm, ⟨52, _⟩ => ⟨S2x4096x8, .f32⟩
  | .hbm, ⟨53, _⟩ => ⟨S2x4096x8, .f32⟩
  | .hbm, ⟨54, _⟩ => ⟨S2x4096x8, .f32⟩
  | .hbm, ⟨55, _⟩ => ⟨S2x4096x8, .f32⟩
  | .hbm, ⟨56, _⟩ => ⟨S2x4096x8, .i1⟩
  | .hbm, ⟨57, _⟩ => ⟨S2x4096x8, .f32⟩
  | .hbm, ⟨58, _⟩ => ⟨S2x4096x8, .f32⟩
  | .hbm, ⟨59, _⟩ => ⟨S2x4096x8, .f32⟩
  | .hbm, ⟨60, _⟩ => ⟨S2x4096x8, .f32⟩
  | .hbm, ⟨61, _⟩ => ⟨S2x4096x8, .f32⟩
  | .hbm, ⟨62, _⟩ => ⟨S2x4096x8, .f32⟩
  | .hbm, ⟨63, _⟩ => ⟨S2x4096x8, .f32⟩
  | .hbm, ⟨64, _⟩ => ⟨S2x4096x8, .f32⟩
  | .hbm, ⟨65, _⟩ => ⟨S2x4096x8, .f32⟩
  | .hbm, ⟨66, _⟩ => ⟨S2x8x4096, .f32⟩
  | .hbm, ⟨67, _⟩ => ⟨S_, .f32⟩
  | .hbm, ⟨68, _⟩ => ⟨S_, .f32⟩
  | .hbm, ⟨69, _⟩ => ⟨S2x8x4096, .f32⟩
  | .hbm, ⟨70, _⟩ => ⟨S2x8x4096x4096, .f32⟩
  | .hbm, ⟨71, _⟩ => ⟨S_, .f32⟩
  | .hbm, ⟨72, _⟩ => ⟨S_, .f32⟩
  | .hbm, ⟨73, _⟩ => ⟨S2x8x4096x4096, .f32⟩
  | .hbm, ⟨74, _⟩ => ⟨S2x8x4096x4096, .f32⟩
  | .hbm, ⟨75, _⟩ => ⟨S2x8x4096x1, .f32⟩
  | .hbm, ⟨76, _⟩ => ⟨S2x8x4096x4096, .f32⟩
  | .hbm, ⟨77, _⟩ => ⟨S2x8x4096x4096, .f32⟩
  | .hbm, ⟨78, _⟩ => ⟨S2x8x1x4096, .f32⟩
  | .hbm, ⟨79, _⟩ => ⟨S2x8x4096x4096, .f32⟩
  | .hbm, ⟨80, _⟩ => ⟨S2x8x4096x4096, .f32⟩
  | .hbm, ⟨81, _⟩ => ⟨S4096, .i32⟩
  | .hbm, ⟨82, _⟩ => ⟨S4096x1, .i32⟩
  | .hbm, ⟨83, _⟩ => ⟨S1x4096, .i32⟩
  | .hbm, ⟨84, _⟩ => ⟨S4096x4096, .i32⟩
  | .hbm, ⟨85, _⟩ => ⟨S4096x4096, .i32⟩
  | .hbm, ⟨86, _⟩ => ⟨S4096x4096, .i1⟩
  | .hbm, ⟨87, _⟩ => ⟨S_, .f32⟩
  | .hbm, ⟨88, _⟩ => ⟨S_, .f32⟩
  | .hbm, ⟨89, _⟩ => ⟨S2x8x4096x4096, .i1⟩
  | .hbm, ⟨90, _⟩ => ⟨S2x8x4096x4096, .f32⟩
  | .hbm, ⟨91, _⟩ => ⟨S2x8x4096x4096, .f32⟩
  | .hbm, ⟨92, _⟩ => ⟨S_, .f32⟩
  | .hbm, ⟨93, _⟩ => ⟨S2x8x4096, .f32⟩
  | .hbm, ⟨94, _⟩ => ⟨S_, .f32⟩
  | .hbm, ⟨95, _⟩ => ⟨S2x8x4096, .f32⟩
  | .hbm, ⟨96, _⟩ => ⟨S2x8x4096, .f32⟩
  | .hbm, ⟨97, _⟩ => ⟨S2x8x4096x1, .f32⟩
  | .hbm, ⟨98, _⟩ => ⟨S2x8x4096x4096, .f32⟩
  | .hbm, ⟨99, _⟩ => ⟨S2x8x4096x4096, .f32⟩
  | .hbm, ⟨100, _⟩ => ⟨S2x8x4096x4096, .f32⟩
  | .hbm, ⟨101, _⟩ => ⟨S_, .f32⟩
  | .hbm, ⟨102, _⟩ => ⟨S2x8x4096, .f32⟩
  | .hbm, ⟨103, _⟩ => ⟨S2x8x4096x1, .f32⟩
  | .hbm, ⟨104, _⟩ => ⟨S2x8x4096x4096, .f32⟩
  | .hbm, ⟨105, _⟩ => ⟨S2x8x4096x4096, .f32⟩
  | .hbm, ⟨106, _⟩ => ⟨S2x8x4096x128, .f32⟩
  | .hbm, ⟨107, _⟩ => ⟨S2x4096x8x128, .f32⟩
  | .hbm, ⟨108, _⟩ => ⟨S2x4096x1024, .f32⟩
  | .hbm, ⟨109, _⟩ => ⟨S2x4096x1024, .bf16⟩
  | _, _ => ⟨S2x4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v39 : Ref sig .tc := ⟨.hbm, 65, rfl⟩
abbrev main_v40 : Ref sig .tc := ⟨.hbm, 66, rfl⟩
abbrev main_call1_call0_cst : Ref sig .tc := ⟨.hbm, 67, rfl⟩
abbrev main_call1_call0_v0 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v58 : Ref sig .tc := ⟨.hbm, 91, rfl⟩
abbrev main_cst_7 : Ref sig .tc := ⟨.hbm, 92, rfl⟩
abbrev main_v59 : Ref sig .tc := ⟨.hbm, 93, rfl⟩
abbrev main_cst_8 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩

abbrev nD : Nat := 1
abbrev τ : Topo := Topo.v7x

variable {F : FTy → Type} [FloatOps F]
-- ==== Proof.MemHeads.lean ====
module

public import proofs.«01_k».proof.Defs
public import proofs.«01_k».proof.Proof.Gen.MemIdeal.Value
public import proofs.«01_k».proof.Proof.Gen.MemReferenceIdeal.Read
public import Idealize.ShloMosaic.Lib.Pointwise
public import Idealize.ShloMosaic.Lib.Pipeline.ValueKit
public import Idealize.ShloMosaic.Lib.Pipeline.ReadBack

@[expose] public section

noncomputable section

namespace Cert.MemSpec

open Idealize.ShloMosaic

/-- An array of extended reals of a shape. -/
abbrev Arr (s : Shape) : Type := s.Idx → EReal

/-- The inverse root of a row's mean square; `c` is the row's length. -/
def nrm {n : ℕ} (c : EReal) (x : Fin n → EReal) : EReal :=
  Ideal.rsqrt (Ideal.div (∑ e, x e * x e) c + Ideal.ofBits .f32 0x358637BD#32)

/-- A head's row normalized, with its gain. -/
def unitRow (x g : Fin 128 → EReal) (e : Fin 128) : EReal := x e * nrm (Ideal.ofBits .f32 0x43000000#32) x * g e

/-- The logits of a query against 256 keys, the query scaled first. -/
def logit (q gq gk : Fin 128 → EReal) (k : Fin 256 → Fin 128 → EReal) (l : Fin 256) : EReal :=
  ∑ e, unitRow q gq e * Ideal.ofBits .f32 0x3DB504F3#32 * unitRow (k l) gk e

/-- The largest of 256 logits. -/
def top (s : Fin 256 → EReal) : EReal := Finset.fold max (Ideal.ofBits .f32 0xFF800000#32) s Finset.univ

/-- One head's result as the kernel computes it: the weighted values' sum over the weights' sum. -/
def head (q gq gk : Fin 128 → EReal) (k v : Fin 256 → Fin 128 → EReal) (e : Fin 128) : EReal :=
  Ideal.div (∑ l, Ideal.exp (logit q gq gk k l - top (logit q gq gk k)) * v l e)
    (∑ l, Ideal.exp (logit q gq gk k l - top (logit q gq gk k)))

/-- Head `h` of a token whose projected query is `q`, over the memory's rows `kv`. -/
def headAt (q : Fin 512 → EReal) (gq gk : Fin 128 → EReal) (kv : Fin 256 → Fin 1024 → EReal) (h : Fin 4) (e : Fin 128) : EReal :=
  head (fun e => q ⟨h.val * 128 + e.val, by omega⟩) gq gk (fun l e => kv l ⟨h.val * 128 + e.val, by omega⟩)
    (fun l e => kv l ⟨512 + h.val * 128 + e.val, by omega⟩) e

variable (x : Arr ⟨3, ![2, 4096, 2048]⟩) (g : Arr ⟨2, ![4, 2048]⟩) (wq : Arr ⟨3, ![4, 2048, 512]⟩) (kv : Arr ⟨3, ![2, 256, 1024]⟩)
  (gq gk : Arr ⟨2, ![4, 128]⟩) (wo : Arr ⟨3, ![4, 512, 2048]⟩)

/-- The token normalized. -/
def hid (b : Fin 2) (t : Fin 4096) (d : Fin 2048) : EReal :=
  x (ix3 b t d) * nrm (Ideal.ofBits .f32 0x45000000#32) (fun e => x (ix3 b t e)) * g (ix2 (3 : Fin 4) d)

/-- The token's projected query, all four heads. -/
def qrow (b : Fin 2) (t : Fin 4096) (n : Fin 512) : EReal := ∑ d, hid x g b t d * wq (ix3 (3 : Fin 4) d n)

/-- The block's result: the token and the heads projected back. -/
def out (b : Fin 2) (t : Fin 4096) (d : Fin 2048) : EReal :=
  x (ix3 b t d) + ∑ n : Fin 512,
    headAt (qrow x g wq b t) (fun e => gq (ix2 (3 : Fin 4) e)) (fun e => gk (ix2 (3 : Fin 4) e)) (fun l n => kv (ix3 b l n))
      ⟨n.val / 128, by omega⟩ ⟨n.val % 128, by omega⟩ * wo (ix3 (3 : Fin 4) n d)

end Cert.MemSpec

namespace Cert.MemIdeal.Value

open Cert.MemSpec

open Cert.MemIdeal Cert.MemIdeal.Gen Idealize.ShloMosaic Idealize.ShloMosaic.TcCoe Idealize.SL.Sem

variable (m : (ℓ : Loc nD τ sig) → Buf (Elt Ideal) ℓ) (ρ : Dev nD → PrngReg)

/-- The projected queries of a block, opaque in the head lemmas. -/
theorem pay5_of (v0 : Vec Ideal S1x1024x2048 .f32) (v2 : Vec Ideal S1x2048 .f32) (v17 : Vec Ideal S1x2048x512 .bf16) (gq : Vec Ideal S1x128 .f32)
    (r : Fin 1024) (e : Fin 128) :
    k0_pay5 (F := Ideal) v0 v2 v17 gq (ix2 r e) =
      unitRow (fun e => k0_pay3 (F := Ideal) v0 v2 v17 (ix2 r ⟨e.val, by omega⟩)) (fun e => gq (ix2 0 e)) e := by
  pointwise [k0_pay5]
  rfl

set_option maxHeartbeats 1000000 in
theorem head0 (a : FVec Ideal S256x1024 .f32) (w : FVec Ideal S1024x512 .f32) (u : FVec Ideal S1024x128 .f32) (gq gk : Vec Ideal S1x128 .f32) (r : Fin 1024) (e : Fin 128)
    (hu : ∀ e, u (ix2 r e) = unitRow (fun e => w (ix2 r ⟨e.val, by omega⟩)) (fun e => gq (ix2 0 e)) e) :
    k0_pay6 (F := Ideal) a u (FloatOps.ofBits .f32 0x3DB504F3#32) gk (ix2 r e) =
      headAt (fun n => w (ix2 r n)) (fun e => gq (ix2 0 e)) (fun e => gk (ix2 0 e)) (fun l n => a (ix2 l n)) 0 e := by
  pointwise [k0_pay6, hu]
  simp only [headAt, head, top, logit, unitRow, nrm, Fin.isValue, Fin.val_zero, zero_mul, zero_add, add_zero]
  rfl

set_option maxHeartbeats 1000000 in
theorem head1 (a : FVec Ideal S256x1024 .f32) (w : FVec Ideal S1024x512 .f32) (gq gk : Vec Ideal S1x128 .f32) (r : Fin 1024) (e : Fin 128) :
    k0_pay10 (F := Ideal) a (k0_pay7 w) (k0_pay8 gq) (k0_pay9 w) gk (ix2 r e) =
      headAt (fun n => w (ix2 r n)) (fun e => gq (ix2 0 e)) (fun e => gk (ix2 0 e)) (fun l n => a (ix2 l n)) 1 e := by
  pointwise [k0_pay10, k0_pay7, k0_pay8, k0_pay9]
  simp only [headAt, head, top, logit, unitRow, nrm, Fin.isValue, Fin.val_zero, Fin.val_one, Fin.val_two, Fin.reduceFinMk, zero_mul, zero_add, add_zero, Nat.reduceMul, Nat.reduceAdd]
  rfl

set_option maxHeartbeats 1000000 in
theorem head2 (a : FVec Ideal S256x1024 .f32) (w : FVec Ideal S1024x512 .f32) (gq gk : Vec Ideal S1x128 .f32) (r : Fin 1024) (e : Fin 128) :
    k0_pay14 (F := Ideal) a (k0_pay11 w) (k0_pay12 gq) (k0_pay13 w) (FloatOps.ofBits .f32 0x358637BD#32) gk (ix2 r e) =
      headAt (fun n => w (ix2 r n)) (fun e => gq (ix2 0 e)) (fun e => gk (ix2 0 e)) (fun l n => a (ix2 l n)) 2 e := by
  pointwise [k0_pay14, k0_pay11, k0_pay12, k0_pay13]
  simp only [headAt, head, top, logit, unitRow, nrm, Fin.isValue, Fin.val_zero, Fin.val_one, Fin.val_two, Fin.reduceFinMk, zero_mul, zero_add, add_zero, Nat.reduceMul, Nat.reduceAdd]
  rfl

set_option maxHeartbeats 2000000 in
theorem heads (a : FVec Ideal S256x1024 .f32) (w : FVec Ideal S1024x512 .f32) (gq gk : Vec Ideal S1x128 .f32)
    (b c d : FVec Ideal S1024x128 .bf16) (r : Fin 1024)
    (hb : ∀ e, b (ix2 r e) = headAt (fun n => w (ix2 r n)) (fun e => gq (ix2 0 e)) (fun e => gk (ix2 0 e)) (fun l n => a (ix2 l n)) 0 e)
    (hc : ∀ e, c (ix2 r e) = headAt (fun n => w (ix2 r n)) (fun e => gq (ix2 0 e)) (fun e => gk (ix2 0 e)) (fun l n => a (ix2 l n)) 1 e)
    (hd : ∀ e, d (ix2 r e) = headAt (fun n => w (ix2 r n)) (fun e => gq (ix2 0 e)) (fun e => gk (ix2 0 e)) (fun l n => a (ix2 l n)) 2 e)
    (n : Fin 512) :
    k0_pay18 (F := Ideal) a b c d (k0_pay15 w) (k0_pay16 gq) (k0_pay17 w) gk (ix2 r n) =
      headAt (fun n => w (ix2 r n)) (fun e => gq (ix2 0 e)) (fun e => gk (ix2 0 e)) (fun l n => a (ix2 l n))
        ⟨n.val / 128, by omega⟩ ⟨n.val % 128, by omega⟩ := by
  pointwise [k0_pay18, k0_pay15, k0_pay16, k0_pay17]
  by_cases h1 : n.val < 128
  · rw [dif_pos h1, hb]
    congr 1 <;> exact Fin.ext (by simp; omega)
  rw [dif_neg h1]
  by_cases h2 : n.val - 128 < 128
  · rw [dif_pos h2, hc]
    congr 1 <;> exact Fin.ext (by simp; omega)
  rw [dif_neg h2]
  by_cases h3 : n.val - 128 - 128 < 128
  · rw [dif_pos h3, hd]
    congr 1 <;> exact Fin.ext (by simp; omega)
  rw [dif_neg h3]
  have e1 : (⟨n.val / 128, by omega⟩ : Fin 4) = 3 := Fin.ext (by simp; omega)
  have e2 : (⟨n.val % 128, by omega⟩ : Fin 128) = ⟨n.val - 128 - 128 - 128, by omega⟩ := Fin.ext (by simp; omega)
  rw [e1, e2]
  rfl

end Cert.MemIdeal.Value

end
-- ==== Proof.MemValue.lean ====
module

public import proofs.«01_k».proof.Proof.MemHeads

@[expose] public section

noncomputable section

namespace Cert.MemIdeal.Value

open Cert.MemSpec

open Cert.MemIdeal Cert.MemIdeal.Gen Idealize.ShloMosaic Idealize.ShloMosaic.TcCoe Idealize.SL.Sem

variable (m : (ℓ : Loc nD τ sig) → Buf (Elt Ideal) ℓ) (ρ : Dev nD → PrngReg)

theorem idxs : ∀ t : Fin cfg0.N, win0_0.index t = ![t.val / 4, t.val % 4, 0] ∧ win0_1.index t = ![0, 0]
    ∧ win0_2.index t = ![3, 0, 0] ∧ win0_3.index t = ![t.val / 4, 0, 0] ∧ win0_4.index t = ![0, 0] ∧ win0_5.index t = ![0, 0]
    ∧ win0_6.index t = ![3, 0, 0] ∧ win0_7.index t = ![t.val / 4, t.val % 4, 0] :=
  (by decide +kernel : ∀ t : Fin grid0.N, _)

abbrev ax (c : Dev nD) : Arr ⟨3, ![2, 4096, 2048]⟩ := m ((c : Thread nD τ).loc main_arg0)
abbrev ag (c : Dev nD) : Arr ⟨2, ![4, 2048]⟩ := m ((c : Thread nD τ).loc main_arg1)
abbrev awq (c : Dev nD) : Arr ⟨3, ![4, 2048, 512]⟩ := m ((c : Thread nD τ).loc main_arg2)
abbrev akv (c : Dev nD) : Arr ⟨3, ![2, 256, 1024]⟩ := m ((c : Thread nD τ).loc main_arg3)
abbrev agq (c : Dev nD) : Arr ⟨2, ![4, 128]⟩ := m ((c : Thread nD τ).loc main_arg4)
abbrev agk (c : Dev nD) : Arr ⟨2, ![4, 128]⟩ := m ((c : Thread nD τ).loc main_arg5)
abbrev awo (c : Dev nD) : Arr ⟨3, ![4, 512, 2048]⟩ := m ((c : Thread nD τ).loc main_arg6)

/-- A point's sequence. -/
def seqOf (t : Fin cfg0.N) : Fin 2 := ⟨t.val / 4, by have := lt_of_lt_of_eq t.isLt (show cfg0.N = 8 from N_0); omega⟩
/-- The token that a point's row `r` is. -/
def row (t : Fin cfg0.N) (r : Fin 1024) : Fin 4096 := ⟨1024 * (t.val % 4) + r.val, by omega⟩

theorem blk0 (c : Dev nD) (t : Fin cfg0.N) (r : Fin 1024) (d : Fin 2048) :
    iblk m c 0 t (ix3 0 r d) = ax m c (ix3 (seqOf t) (row t r) d) := by
  unfold seqOf row
  blk_ext! [iblk, V, (idxs t).1]

theorem blk1 (c : Dev nD) (t : Fin cfg0.N) (d : Fin 2048) :
    iblk m c 1 t (ix2 0 d) = ag m c (ix2 3 d) := by
  blk_ext! [iblk, V, (idxs t).2.1]

theorem blk2 (c : Dev nD) (t : Fin cfg0.N) (d : Fin 2048) (k : Fin 512) :
    iblk m c 2 t (ix3 0 d k) = awq m c (ix3 3 d k) := by
  blk_ext! [iblk, V, (idxs t).2.2.1]

theorem blk3 (c : Dev nD) (t : Fin cfg0.N) (l : Fin 256) (n : Fin 1024) :
    iblk m c 3 t (ix3 0 l n) = akv m c (ix3 (seqOf t) l n) := by
  unfold seqOf
  blk_ext! [iblk, V, (idxs t).2.2.2.1]

theorem blk4 (c : Dev nD) (t : Fin cfg0.N) (d : Fin 128) :
    iblk m c 4 t (ix2 0 d) = agq m c (ix2 3 d) := by
  blk_ext! [iblk, V, (idxs t).2.2.2.2.1]

theorem blk5 (c : Dev nD) (t : Fin cfg0.N) (d : Fin 128) :
    iblk m c 5 t (ix2 0 d) = agk m c (ix2 3 d) := by
  blk_ext! [iblk, V, (idxs t).2.2.2.2.2.1]

theorem blk6 (c : Dev nD) (t : Fin cfg0.N) (n : Fin 512) (d : Fin 2048) :
    iblk m c 6 t (ix3 0 n d) = awo m c (ix3 3 n d) := by
  blk_ext! [iblk, V, (idxs t).2.2.2.2.2.2.1]

theorem proj (c : Dev nD) (t : Fin cfg0.N) (r : Fin 1024) (n : Fin 512) :
    k0_pay3 (F := Ideal) (iblk m c 0 t) (iblk m c 1 t) (iblk m c 2 t) (ix2 r n) = qrow (ax m c) (ag m c) (awq m c) (seqOf t) (row t r) n := by
  pointwise [k0_pay3, k0_pay2]
  simp only [blk0, blk1, blk2]
  rfl

theorem mem_rows (c : Dev nD) (t : Fin cfg0.N) (l : Fin 256) (n : Fin 1024) :
    k0_pay4 (F := Ideal) (iblk m c 3 t) (ix2 l n) = akv m c (ix3 (seqOf t) l n) := by
  pointwise [k0_pay4]
  exact blk3 m c t l n

theorem after_eq (c : Dev nD) (t : Fin cfg0.N) (r : Fin 1024) (d : Fin 2048) :
    (dats m 0 c).after 7 t (ix3 0 r d) = out (ax m c) (ag m c) (awq m c) (akv m c) (agq m c) (agk m c) (awo m c) (seqOf t) (row t r) d := by
  have e19 : k0_pay19 (F := Ideal) (iblk m c 0 t) (iblk m c 1 t) (iblk m c 2 t) (iblk m c 3 t) (iblk m c 4 t) (iblk m c 5 t) (iblk m c 6 t)
      = k0_pay3 (iblk m c 0 t) (iblk m c 1 t) (iblk m c 2 t) := by
    unfold k0_pay19; frame_out
  have e20 : k0_pay20 (F := Ideal) (iblk m c 0 t) (iblk m c 1 t) (iblk m c 2 t) (iblk m c 3 t) (iblk m c 4 t) (iblk m c 5 t) (iblk m c 6 t)
      = k0_pay4 (iblk m c 3 t) := by
    unfold k0_pay20; frame_out
  rw [after0_7]; frame_out
  rw [e19, e20]
  pointwise [k0_pay1, k0_pay2]
  rw [blk0]
  unfold out
  refine congrArg _ (Finset.sum_congr rfl fun n _ => ?_)
  rw [blk6]
  refine congrArg (· * _) ((heads _ _ _ _ _ _ _ _ (fun e => head0 _ (k0_pay3 (F := Ideal) (iblk m c 0 t) (iblk m c 1 t) (iblk m c 2 t)) _ (iblk m c 4 t) (iblk m c 5 t) _ e (fun e => pay5_of _ _ _ _ _ e))
    (fun e => head1 _ _ _ _ _ e) (fun e => head2 _ _ _ _ _ e) n).trans ?_)
  simp only [proj, mem_rows, blk4, blk5]

/-- The array after the run, from what every point leaves in its block. -/
theorem final_of (c : Dev nD) (G : Fin 2 → Fin 4096 → Fin 2048 → EReal)
    (h : ∀ (t : Fin cfg0.N) (r : Fin 1024) (d : Fin 2048), (dats m 0 c).after 7 t (ix3 0 r d) = G (seqOf t) (row t r) d) :
    (dats m 0 c).arrAt 7 cfg0.N = fun i : S2x4096x2048.Idx => G (i 0) (i 1) (i 2) := by
  refine (dats m 0 c).arrAt_eq_of_covers 7 _ (by decide +kernel) fun t hf y => ?_
  have i0 : win0_7.index t = ![t.val / 4, t.val % 4, 0] := (idxs t).2.2.2.2.2.2.2
  blk_simp
  idx_vars y
  obtain rfl : y0 = 0 := Subsingleton.elim _ _
  refine (h t y1 y2).trans ?_
  have e : ∀ {a a' : Fin 2} {b b' : Fin 4096} {d d' : Fin 2048}, a = a' → b = b' → d = d' → G a b d = G a' b' d' := by
    rintro _ _ _ _ _ _ rfl rfl rfl; rfl
  refine e (Fin.ext ?_) (Fin.ext ?_) (Fin.ext ?_) <;> blk_simp [i0, row, seqOf] <;> simp [mul_comm]

/-- The array after the run. -/
theorem final (c : Dev nD) : (dats m 0 c).arrAt 7 cfg0.N
    = fun i : S2x4096x2048.Idx => out (ax m c) (ag m c) (awq m c) (akv m c) (agq m c) (agk m c) (awo m c) (i 0) (i 1) (i 2) :=
  final_of m c (out (ax m c) (ag m c) (awq m c) (akv m c) (agq m c) (agk m c) (awo m c)) (after_eq m c)

/-- The run: the result in plain terms, the arguments unchanged. -/
theorem run_out : θ_run defs (onTc (τ := τ) (main (F := Ideal))) ⟨m, fun _ => 0, ρ⟩ fun r => ∀ c : Dev nD,
      r.2.mem ((c : Thread nD τ).loc main_v11) = (fun i : S2x4096x2048.Idx => out (ax m c) (ag m c) (awq m c) (akv m c) (agq m c) (agk m c) (awo m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.MemIdeal.Value

end
-- ==== Proof.RealMath.lean ====
module

public import Idealize.ShloMosaic.PureOps.Ideal
public import Idealize.ShloMosaic.PureOps.Ideal.Laws
public import Idealize.ShloMosaic.Lib.IdealHost
public import Mathlib.Data.Finset.Fold

@[expose] public section

noncomputable section

/-! Sums and quotients of extended reals in which enough is real. -/

namespace Cert.RealMath

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem div_coe (x : EReal) {z : ℝ} (hz : 0 < z) : Ideal.div x (z : EReal) = x * ((z⁻¹ : ℝ) : EReal) := by
  rw [Ideal.div, if_neg (by exact_mod_cast hz.ne'), EReal.coe_inv]

theorem ofBits_128 : Ideal.ofBits .f32 0x43000000#32 = ((128 : ℝ) : EReal) := by
  simp [Ideal.ofBits, Ideal.ieee, -EReal.coe_mul]; norm_num

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem ofBits_eps : ∃ r : ℝ, 0 < r ∧ Ideal.ofBits .f32 0x358637BD#32 = (r : EReal) := by
  refine ⟨_, ?_, by simp [Ideal.ofBits, Ideal.ieee, -EReal.coe_mul]; rfl⟩
  norm_num

theorem ofBits_scale : ∃ r : ℝ, 0 < r ∧ Ideal.ofBits .f32 0x3DB504F3#32 = (r : EReal) := by
  refine ⟨_, ?_, by simp [Ideal.ofBits, Ideal.ieee, -EReal.coe_mul]; rfl⟩
  norm_num

theorem sq_nonneg (x : EReal) : 0 ≤ x * x := by
  induction x with
  | bot => simp
  | top => simp
  | coe r => exact_mod_cast mul_self_nonneg r

/-- An entry of a row scaled by the inverse root of the row's mean square is real, whatever the row's entries are. -/
theorem row_finite {n : ℕ} (x : Fin n → EReal) {c ε : ℝ} (hc : 0 < c) (hε : 0 < ε) (e : Fin n) :
    ∃ r : ℝ, x e * Ideal.rsqrt (Ideal.div (∑ e, x e * x e) (c : EReal) + (ε : EReal)) = (r : EReal) := by
  rw [div_coe _ hc]
  by_cases h : ∃ i, x i * x i = ⊤
  · obtain ⟨i, hi⟩ := h
    have hs : ∑ e, x e * x e = ⊤ := by
      refine top_le_iff.mp (hi ▸ Finset.single_le_sum (f := fun e => x e * x e) (fun e _ => sq_nonneg (x e)) (Finset.mem_univ i))
    have hc' : (0 : EReal) < ((c⁻¹ : ℝ) : EReal) := by exact_mod_cast inv_pos.mpr hc
    rw [hs, EReal.top_mul_of_pos hc', EReal.top_add_of_ne_bot (EReal.coe_ne_bot ε)]
    exact ⟨0, by rw [show Ideal.rsqrt ⊤ = 0 from rfl, mul_zero]; rfl⟩
  · have hr : ∀ i, ∃ r : ℝ, x i = r := by
      intro i
      have hi : x i * x i ≠ ⊤ := fun h' => h ⟨i, h'⟩
      induction hx : x i with
      | bot => rw [hx] at hi; simp at hi
      | top => rw [hx] at hi; simp at hi
      | coe r => exact ⟨r, rfl⟩
    choose f hf using hr
    simp only [hf, ← EReal.coe_mul, ← coe_sum, ← EReal.coe_add]
    have h0 : 0 ≤ (∑ i, f i * f i) * c⁻¹ := mul_nonneg (Finset.sum_nonneg fun i _ => mul_self_nonneg _) (inv_pos.mpr hc).le
    have hp : 0 < (∑ i, f i * f i) * c⁻¹ + ε := by linarith
    have e1 : Ideal.rsqrt (((∑ i, f i * f i) * c⁻¹ + ε : ℝ) : EReal) = (((Real.sqrt ((∑ i, f i * f i) * c⁻¹ + ε))⁻¹ : ℝ) : EReal) := by
      show (if _ < 0 then _ else if _ = 0 then _ else _) = _
      rw [if_neg (not_lt.mpr hp.le), if_neg hp.ne']
    rw [e1]
    exact ⟨_, (EReal.coe_mul _ _).symm⟩

/-- The largest of finitely many reals, at least one, folded from the least element, is real. -/
theorem fold_max_real {n : ℕ} (s : Fin (n + 1) → ℝ) : ∃ M : ℝ, Finset.fold max ⊥ (fun l => (s l : EReal)) Finset.univ = (M : EReal) := by
  have h1 : Finset.fold max ⊥ (fun l => (s l : EReal)) Finset.univ < ⊤ :=
    (Finset.fold_max_lt _).mpr ⟨bot_lt_top, fun l _ => EReal.coe_lt_top _⟩
  have h2 : (s 0 : EReal) ≤ Finset.fold max ⊥ (fun l => (s l : EReal)) Finset.univ :=
    (Finset.le_fold_max _).mpr (Or.inr ⟨0, Finset.mem_univ _, le_rfl⟩)
  have h3 : Finset.fold max ⊥ (fun l => (s l : EReal)) Finset.univ ≠ ⊥ := fun h => by
    rw [h] at h2; exact EReal.coe_ne_bot _ (le_bot_iff.mp h2)
  exact ⟨_, (EReal.coe_toReal h1.ne h3).symm⟩

/-- Normalizing the weights before or after the weighted sum, and a common positive factor of the weights, are the same. -/
theorem weighted {ι : Type*} [Fintype ι] (w : ι → ℝ) (v : ι → EReal) {k : ℝ} (hk : 0 < k) (hw : 0 < ∑ i, w i) :
    Ideal.div (∑ i, ((k * w i : ℝ) : EReal) * v i) (∑ i, ((k * w i : ℝ) : EReal))
      = ∑ i, Ideal.div ((w i : ℝ) : EReal) (∑ i, ((w i : ℝ) : EReal)) * v i := by
  have hz : 0 < ∑ i, k * w i := by rw [← Finset.mul_sum]; exact mul_pos hk hw
  rw [← coe_sum, ← coe_sum, div_coe _ hz, sum_mul_coe _ _ (inv_pos.mpr hz).le]
  refine Finset.sum_congr rfl fun i _ => ?_
  rw [div_coe _ hw, mul_right_comm, ← EReal.coe_mul, ← EReal.coe_mul]
  congr 2
  rw [← Finset.mul_sum]
  field_simp

end Cert.RealMath

end
-- ==== Proof.MemRef.lean ====
module

public import proofs.«01_k».proof.Proof.MemHeads
public import proofs.«01_k».proof.Proof.RealMath
public import proofs.«01_k».proof.Proof.Gen.MemReferenceIdeal.Read

@[expose] public section

noncomputable section

namespace Cert.MemSpec

open Idealize.ShloMosaic Cert.RealMath

/-- The logits scaled after the product. -/
def logitR (q gq gk : Fin 128 → EReal) (k : Fin 256 → Fin 128 → EReal) (l : Fin 256) : EReal :=
  (∑ e, unitRow q gq e * unitRow (k l) gk e) * Ideal.ofBits .f32 0x3DB504F3#32

/-- One head's result with every weight normalized first. -/
def headR (s : Fin 256 → EReal) (v : Fin 256 → EReal) : EReal :=
  ∑ l, Ideal.div (Ideal.exp (s l - top s)) (∑ l, Ideal.exp (s l - top s)) * v l

theorem unitRow_real (x g : Fin 128 → EReal) (hg : ∀ e, ∃ r : ℝ, g e = r) : ∃ f : Fin 128 → ℝ, unitRow x g = fun e => (f e : EReal) := by
  obtain ⟨ε, hε, he⟩ := ofBits_eps
  have h : ∀ e, ∃ r : ℝ, unitRow x g e = r := by
    intro e
    obtain ⟨r, hr⟩ := row_finite x (c := 128) (by norm_num) hε e
    obtain ⟨u, hu⟩ := hg e
    refine ⟨r * u, ?_⟩
    unfold unitRow nrm
    rw [ofBits_128, he, hr, hu, EReal.coe_mul]
  choose f hf using h
  exact ⟨f, funext hf⟩

theorem logits_real (q gq gk : Fin 128 → EReal) (k : Fin 256 → Fin 128 → EReal)
    (hq : ∀ e, ∃ r : ℝ, gq e = r) (hk : ∀ e, ∃ r : ℝ, gk e = r) :
    ∃ s : Fin 256 → ℝ, logit q gq gk k = (fun l => (s l : EReal)) ∧ logitR q gq gk k = fun l => (s l : EReal) := by
  obtain ⟨c, _, hc⟩ := ofBits_scale
  obtain ⟨f, hf⟩ := unitRow_real q gq hq
  choose u hu using fun l => unitRow_real (k l) gk hk
  refine ⟨fun l => ∑ e, f e * c * u l e, funext fun l => ?_, funext fun l => ?_⟩
  · unfold logit
    rw [hf, hu, hc, coe_sum]
    simp only [EReal.coe_mul]
  · unfold logitR
    rw [hf, hu, hc]
    simp only [← EReal.coe_mul, ← coe_sum]
    rw [Finset.sum_mul]
    exact congrArg _ (Finset.sum_congr rfl fun e _ => by ring)

/-- The two ways of weighing the values agree when the gains are finite. -/
theorem head_eq (q gq gk : Fin 128 → EReal) (k v : Fin 256 → Fin 128 → EReal) (e : Fin 128)
    (hq : ∀ e, ∃ r : ℝ, gq e = r) (hk : ∀ e, ∃ r : ℝ, gk e = r) :
    head q gq gk k v e = headR (logitR q gq gk k) (fun l => v l e) := by
  obtain ⟨s, h1, h2⟩ := logits_real q gq gk k hq hk
  unfold head headR
  rw [h1, h2]
  obtain ⟨M, hM⟩ := fold_max_real s
  have ht : top (fun l => (s l : EReal)) = M := by unfold top; rw [ofBits_bot]; exact hM
  rw [ht]
  have hx : ∀ l, Ideal.exp ((s l : EReal) - (M : EReal)) = ((Real.exp (s l - M) : ℝ) : EReal) := fun l => by
    rw [← EReal.coe_sub]; rfl
  simp only [hx]
  have h := weighted (fun l => Real.exp (s l - M)) (fun l => v l e) one_pos
    (Finset.sum_pos (fun l _ => Real.exp_pos _) Finset.univ_nonempty)
  simpa only [one_mul] using h

end Cert.MemSpec

namespace Cert.MemReferenceIdeal.Value

open Cert.MemSpec

open Cert.MemReferenceIdeal Cert.MemReferenceIdeal.Gen Cert.MemReferenceIdeal.Read Idealize.ShloMosaic Idealize.ShloMosaic.TcCoe Idealize.SL.Sem

variable (x0 : Arr S2x4096x2048) (x1 : Arr S4x2048) (x2 : Arr S4x2048x512) (x3 : Arr S2x256x1024) (x4 x5 : Arr S4x128) (x6 : Arr S4x512x2048)

theorem hid_eq (b : Fin 2) (t : Fin 4096) (d : Fin 2048) : val_main_v14 (F := Ideal) x0 x1 (ix3 b t d) = hid x0 x1 b t d := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  rfl

theorem q_eq (b : Fin 2) (t : Fin 4096) (n : Fin 512) : val_main_v17 (F := Ideal) x0 x1 x2 (ix3 b t n) = qrow x0 x1 x2 b t n := by
  pointwise [val_main_v15, val_main_v16, val_main_v17]
  simp only [hid_eq]
  rfl

theorem split_q (b : Fin 2) (h : Fin 4) (t : Fin 4096) (e : Fin 128) :
    val_main_v19 (F := Ideal) x0 x1 x2 (ix4 b h t e) = qrow x0 x1 x2 b t ⟨h.val * 128 + e.val, by omega⟩ := by
  pointwise [val_main_v18, val_main_v19]
  rw [q_eq]

theorem unit_q (b : Fin 2) (h : Fin 4) (t : Fin 4096) (e : Fin 128) :
    val_main_v34 (F := Ideal) x0 x1 x2 x4 (ix4 b h t e)
      = unitRow (fun e => qrow x0 x1 x2 b t ⟨h.val * 128 + e.val, by omega⟩) (fun e => x4 (ix2 (3 : Fin 4) e)) e := by
  pointwise [val_main_v20, val_main_v21, val_main_v22, val_main_v23, val_main_v24, val_main_v25, val_main_v26, val_main_v27, val_main_v28, val_main_v29, val_main_v30, val_main_v31, val_main_v32, val_main_v33, val_main_v34, val_main_cst_2, val_main_cst_3, val_main_cst_4]
  simp only [split_q]
  rfl

theorem split_k (b : Fin 2) (h : Fin 4) (l : Fin 256) (e : Fin 128) :
    val_main_v38 (F := Ideal) x3 (ix4 b h l e) = x3 (ix3 b l ⟨h.val * 128 + e.val, by omega⟩) := by
  pointwise [val_main_v35, val_main_v36, val_main_v37, val_main_v38]

theorem unit_k (b : Fin 2) (h : Fin 4) (l : Fin 256) (e : Fin 128) :
    val_main_v53 (F := Ideal) x3 x5 (ix4 b h l e)
      = unitRow (fun e => x3 (ix3 b l ⟨h.val * 128 + e.val, by omega⟩)) (fun e => x5 (ix2 (3 : Fin 4) e)) e := by
  pointwise [val_main_v39, val_main_v40, val_main_v41, val_main_v42, val_main_v43, val_main_v44, val_main_v45, val_main_v46, val_main_v47, val_main_v48, val_main_v49, val_main_v50, val_main_v51, val_main_v52, val_main_v53, val_main_cst_5, val_main_cst_6, val_main_cst_7]
  simp only [split_k]
  rfl

theorem split_v (b : Fin 2) (h : Fin 4) (l : Fin 256) (e : Fin 128) :
    val_main_v55 (F := Ideal) x3 (ix4 b h l e) = x3 (ix3 b l ⟨512 + h.val * 128 + e.val, by omega⟩) := by
  pointwise [val_main_v54, val_main_v55, val_main_v36]
  exact congrArg (fun n => x3 (ix3 b l n)) (Fin.ext (by show 512 + (h.val * 128 + e.val) = 512 + h.val * 128 + e.val; omega))

theorem logits (b : Fin 2) (h : Fin 4) (t : Fin 4096) (l : Fin 256) :
    val_main_v58 (F := Ideal) x0 x1 x2 x3 x4 x5 (ix4 b h t l)
      = logitR (fun e => qrow x0 x1 x2 b t ⟨h.val * 128 + e.val, by omega⟩) (fun e => x4 (ix2 (3 : Fin 4) e)) (fun e => x5 (ix2 (3 : Fin 4) e))
          (fun l e => x3 (ix3 b l ⟨h.val * 128 + e.val, by omega⟩)) l := by
  pointwise [val_main_v56, val_main_v57, val_main_v58, val_main_cst_8]
  simp only [unit_q, unit_k]
  rfl

theorem top_eq (b : Fin 2) (h : Fin 4) (t : Fin 4096) :
    val_main_v59 (F := Ideal) x0 x1 x2 x3 x4 x5 (ix3 b h t) = top (fun l => val_main_v58 (F := Ideal) x0 x1 x2 x3 x4 x5 (ix4 b h t l)) := by
  pointwise [val_main_v59, val_main_cst_9]
  rfl

theorem top_eq' (b : Fin 2) (h : Fin 4) (t : Fin 4096) :
    val_main_v61 (F := Ideal) x0 x1 x2 x3 x4 x5 (ix3 b h t) = top (fun l => val_main_v58 (F := Ideal) x0 x1 x2 x3 x4 x5 (ix4 b h t l)) := by
  rw [val_main_v61_apply, top_eq]
  generalize top (fun l => val_main_v58 (F := Ideal) x0 x1 x2 x3 x4 x5 (ix4 b h t l)) = M
  pointwise [val_main_v60, val_main_cst_10]
  rw [RealMath.ofBits_bot]
  exact max_eq_right bot_le

theorem weight_eq (b : Fin 2) (h : Fin 4) (t : Fin 4096) (l : Fin 256) :
    val_main_v65 (F := Ideal) x0 x1 x2 x3 x4 x5 (ix4 b h t l)
      = Ideal.exp (val_main_v58 (F := Ideal) x0 x1 x2 x3 x4 x5 (ix4 b h t l) - top (fun l => val_main_v58 (F := Ideal) x0 x1 x2 x3 x4 x5 (ix4 b h t l))) := by
  pointwise [val_main_v62, val_main_v63, val_main_v64, val_main_v65]
  rw [top_eq']

theorem attn (b : Fin 2) (h : Fin 4) (t : Fin 4096) (e : Fin 128) :
    val_main_v70 (F := Ideal) x0 x1 x2 x3 x4 x5 (ix4 b h t e)
      = headR (fun l => val_main_v58 (F := Ideal) x0 x1 x2 x3 x4 x5 (ix4 b h t l)) (fun l => val_main_v55 (F := Ideal) x3 (ix4 b h l e)) := by
  pointwise [val_main_v66, val_main_v67, val_main_v68, val_main_v69, val_main_v70, val_main_cst_11]
  simp only [weight_eq]
  rfl

theorem val_eq (hq : ∀ e, ∃ r : ℝ, x4 (ix2 (3 : Fin 4) e) = r) (hk : ∀ e, ∃ r : ℝ, x5 (ix2 (3 : Fin 4) e) = r)
    (b : Fin 2) (t : Fin 4096) (d : Fin 2048) :
    val_main_v76 (F := Ideal) x0 x1 x2 x3 x4 x5 x6 (ix3 b t d) = out x0 x1 x2 x3 x4 x5 x6 b t d := by
  pointwise [val_main_v71, val_main_v72, val_main_v73, val_main_v74, val_main_v75, val_main_v76]
  unfold out
  refine congrArg _ (Finset.sum_congr rfl fun n _ => congrArg (· * _) ?_)
  rw [attn]
  unfold headAt
  rw [head_eq _ _ _ _ _ _ hq hk]
  simp only [logits, split_v]

end Cert.MemReferenceIdeal.Value

end
-- ==== Proof.MemClaim.lean ====
module

public import proofs.«01_k».proof.Defs
public import proofs.«01_k».proof.Proof.MemValue
public import proofs.«01_k».proof.Proof.MemRef
public import proofs.«01_k».proof.Proof.Gen.Mem
public import proofs.«01_k».proof.Proof.Gen.Mem.Frame
public import proofs.«01_k».proof.Proof.Gen.MemReferenceIdeal
public import proofs.«01_k».proof.Proof.Gen.MemReferenceIdeal.Run
public import Idealize.ShloMosaic.Lib.ReduceAll
public import Idealize.ShloMosaic.Lib.Affine

@[expose] public section

noncomputable section

/-! The memory attention's claims. -/

namespace Cert.MemClaims

open Idealize.ShloMosaic Idealize.ShloMosaic.TcCoe Idealize.SL.Sem

theorem pre_facts : Cert.Pre_mem_gains_finite.Facts := by
  constructor <;> decide

attribute [local instance] pre_facts

theorem frame_p : Cert.quiescent_Mem := fun m ρ _ => Cert.Mem.Gen.frame m ρ
theorem frame_pi : Cert.quiescent_MemIdeal := fun m ρ _ => Cert.MemIdeal.Gen.frame m ρ
theorem frame_pi' : Cert.quiescent_MemIdeal_pre_mem_gains_finite := fun m ρ _ => Cert.MemIdeal.Gen.frame m ρ

theorem frame_ri : Cert.quiescent_MemReferenceIdeal := fun m ρ _ =>
  (θ_run Cert.MemReferenceIdeal.defs _ _).mono (fun r h => ⟨fun c => (h c).2, Idealize.ShloMosaic.sem_eq_zero_of_no_sems (by decide) r.2⟩)
    (Cert.MemReferenceIdeal.Value.run (F := Ideal) m ρ)
theorem frame_ri' : Cert.quiescent_MemReferenceIdeal_pre_mem_gains_finite := fun m ρ _ => frame_ri m ρ trivial

theorem of_abs (x : EReal) (h : BitVec.ofBool (decide (max x (-x) < Ideal.ofBits .f32 0x7F800000#32)) = 1#1) : ∃ r : ℝ, x = r := by
  rw [Cert.RealMath.ofBits_top] at h
  have hx : max x (-x) < ⊤ := by
    by_contra hn
    rw [decide_eq_false hn] at h
    exact absurd h (by decide)
  induction x with
  | bot => simp at hx
  | top => simp at hx
  | coe r => exact ⟨r, rfl⟩

/-- The precondition: row 3 of both gains is real. -/
theorem gains (m : (ℓ : Loc Cert.MemIdeal.nD Cert.MemIdeal.τ Cert.MemIdeal.sig) → Buf (Elt Ideal) ℓ)
    (h : Cert.Pre_MemIdeal_mem_gains_finite m) (c : Dev Cert.MemIdeal.nD) :
    (∀ e, ∃ r : ℝ, Cert.MemIdeal.Value.agq m c (ix2 (3 : Fin 4) e) = r) ∧ ∀ e, ∃ r : ℝ, Cert.MemIdeal.Value.agk m c (ix2 (3 : Fin 4) e) = r := by
  have hc := congrFun (h c) (fun a => a.elim0)
  dsimp only [Cert.Pre_mem_gains_finite.fn] at hc
  obtain ⟨h1, h2⟩ := IntOp.andi_eq_one.1 hc
  haveI : Subsingleton (Shape.Idx Cert.Pre_mem_gains_finite.S_) := ⟨fun a b => funext fun i => i.elim0⟩
  refine ⟨fun e => of_abs _ ?_, fun e => of_abs _ ?_⟩
  · have h3 := Host.reduce_andi_all _ _ _ _ _ h1 (ix1 e)
    pointwise at h3
    exact h3
  · have h3 := Host.reduce_andi_all _ _ _ _ _ h2 (ix1 e)
    pointwise at h3
    exact h3

open Cert.MemSpec in
/-- The kernel's result is the reference's. -/
theorem value : Cert.algebraic_MemIdeal_MemReferenceIdeal_pre_mem_gains_finite := fun m ρ m' ρ' hp hag =>
  ⟨fun c => (fun i : Cert.MemIdeal.S2x4096x2048.Idx => out (Cert.MemIdeal.Value.ax m c) (Cert.MemIdeal.Value.ag m c) (Cert.MemIdeal.Value.awq m c)
      (Cert.MemIdeal.Value.akv m c) (Cert.MemIdeal.Value.agq m c) (Cert.MemIdeal.Value.agk m c) (Cert.MemIdeal.Value.awo m c) (i 0) (i 1) (i 2)),
    Cert.MemIdeal.Value.run_out m ρ,
    (θ_run Cert.MemReferenceIdeal.defs _ _).mono (fun r h c => ⟨(h c).1.trans (by
        rw [Cert.MemReferenceIdeal.Read.val_main_v76_eq, (hag c).1, (hag c).2.1, (hag c).2.2.1, (hag c).2.2.2.1, (hag c).2.2.2.2.1,
          (hag c).2.2.2.2.2.1, (hag c).2.2.2.2.2.2]
        funext i
        idx_vars i
        exact Cert.MemReferenceIdeal.Value.val_eq _ _ _ _ _ _ _ (gains m hp c).1 (gains m hp c).2 _ _ _), (h c).2⟩)
      (Cert.MemReferenceIdeal.Value.run (F := Ideal) m' ρ')⟩

end Cert.MemClaims

end
-- ==== Proof.FfnValue.lean ====
module

public import proofs.«01_k».proof.Defs
public import proofs.«01_k».proof.Proof.Gen.FfnIdeal.Value
public import proofs.«01_k».proof.Proof.Gen.FfnReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! ## The feed-forward block in plain terms -/

namespace Cert.FfnSpec

open Idealize.ShloMosaic

/-- An array of extended reals of a shape. -/
abbrev Arr (s : Shape) : Type := s.Idx → EReal

/-- A row scaled by the inverse root of its mean square, and by a gain. -/
def rn {n : ℕ} (x g : Fin n → EReal) (d : Fin n) : EReal :=
  x d * Ideal.rsqrt (Ideal.div (∑ e, x e * x e) (Ideal.ofBits .f32 0x45000000#32) + Ideal.ofBits .f32 0x358637BD#32) * g d

variable (x : Arr ⟨3, ![2, 4096, 2048]⟩) (g : Arr ⟨2, ![4, 2048]⟩) (w1 w3 : Arr ⟨3, ![4, 2048, 5632]⟩) (w2 : Arr ⟨3, ![4, 5632, 2048]⟩)

/-- Token `i` of both sequences, its coordinate `d`. -/
def tok (i : Fin 8192) (d : Fin 2048) : EReal :=
  x (ix3 (⟨i.val / 4096, by omega⟩ : Fin 2) (⟨i.val % 4096, by omega⟩ : Fin 4096) d)

/-- The token normalized. -/
def hid (i : Fin 8192) (d : Fin 2048) : EReal := rn (tok x i) (fun e => g (ix2 (3 : Fin 4) e)) d

/-- A projection of the normalized token. -/
def pre (w : Arr ⟨3, ![4, 2048, 5632]⟩) (i : Fin 8192) (f : Fin 5632) : EReal := ∑ d, hid x g i d * w (ix3 (3 : Fin 4) d f)

/-- The gated hidden unit. -/
def unit (i : Fin 8192) (f : Fin 5632) : EReal :=
  pre x g w1 i f * Ideal.logistic (pre x g w1 i f) * pre x g w3 i f

/-- The block's result: the token and the hidden units projected back. -/
def out (i : Fin 8192) (d : Fin 2048) : EReal :=
  tok x i d + ∑ f, unit x g w1 w3 i f * w2 (ix3 (3 : Fin 4) f d)

end Cert.FfnSpec

namespace Cert.FfnIdeal.Value

open Cert.FfnSpec

open Cert.FfnIdeal Cert.FfnIdeal.Gen Idealize.ShloMosaic Idealize.ShloMosaic.TcCoe Idealize.SL.Sem

variable (m : (ℓ : Loc nD τ sig) → Buf (Elt Ideal) ℓ) (ρ : Dev nD → PrngReg)

theorem idx0 : ∀ t : Fin cfg0.N, win0_0.index t = ![t.val / 22, 0] ∧ win0_1.index t = ![0, 0]
    ∧ win0_2.index t = ![3, 0, t.val % 22] ∧ win0_3.index t = ![3, 0, t.val % 22] ∧ win0_4.index t = ![3, t.val % 22, 0] :=
  (by decide +kernel : ∀ t : Fin grid0.N, _)

abbrev ax (c : Dev nD) : Arr ⟨3, ![2, 4096, 2048]⟩ := m ((c : Thread nD τ).loc main_arg0)
abbrev ag (c : Dev nD) : Arr ⟨2, ![4, 2048]⟩ := m ((c : Thread nD τ).loc main_arg1)
abbrev aw1 (c : Dev nD) : Arr ⟨3, ![4, 2048, 5632]⟩ := m ((c : Thread nD τ).loc main_arg2)
abbrev aw3 (c : Dev nD) : Arr ⟨3, ![4, 2048, 5632]⟩ := m ((c : Thread nD τ).loc main_arg3)
abbrev aw2 (c : Dev nD) : Arr ⟨3, ![4, 5632, 2048]⟩ := m ((c : Thread nD τ).loc main_arg4)

/-- The row of the array that a point's row `r` is. -/
def row (t : Fin cfg0.N) (r : Fin 1024) : Fin 8192 :=
  ⟨1024 * (t.val / 22) + r.val, by have := lt_of_lt_of_eq t.isLt (show cfg0.N = 176 from N_0); omega⟩
/-- The hidden unit that a point's unit `k` is. -/
def col (t : Fin cfg0.N) (k : Fin 256) : Fin 5632 := ⟨256 * (t.val % 22) + k.val, by omega⟩

theorem idx5 : ∀ t : Fin cfg0.N, win0_5.index t = ![t.val / 22, 0] :=
  (by decide +kernel : ∀ t : Fin grid0.N, _)

theorem blk0 (c : Dev nD) (t : Fin cfg0.N) (r : Fin 1024) (d : Fin 2048) :
    iblk m c 0 t (ix2 r d) = tok (ax m c) (row t r) d := by
  unfold tok row
  blk_ext! [iblk, V, (idx0 t).1]

theorem blk1 (c : Dev nD) (t : Fin cfg0.N) (d : Fin 2048) :
    iblk m c 1 t (ix2 0 d) = ag m c (ix2 3 d) := by
  blk_ext! [iblk, V, (idx0 t).2.1]

theorem blk2 (c : Dev nD) (t : Fin cfg0.N) (d : Fin 2048) (k : Fin 256) :
    iblk m c 2 t (ix3 0 d k) = aw1 m c (ix3 3 d (col t k)) := by
  unfold col
  blk_ext! [iblk, V, (idx0 t).2.2.1]

theorem blk3 (c : Dev nD) (t : Fin cfg0.N) (d : Fin 2048) (k : Fin 256) :
    iblk m c 3 t (ix3 0 d k) = aw3 m c (ix3 3 d (col t k)) := by
  unfold col
  blk_ext! [iblk, V, (idx0 t).2.2.2.1]

theorem blk4 (c : Dev nD) (t : Fin cfg0.N) (k : Fin 256) (d : Fin 2048) :
    iblk m c 4 t (ix3 0 k d) = aw2 m c (ix3 3 (col t k) d) := by
  unfold col
  blk_ext! [iblk, V, (idx0 t).2.2.2.2]

/-- The scratch holds the normalized rows of the point's row block. -/
theorem hn_eq (c : Dev nD) : ∀ (n : ℕ) (hn : n < cfg0.N) (r : Fin 1024) (d : Fin 2048),
    (outsAt0 m c n hn).2 (ix2 r d) = hid (ax m c) (ag m c) (row ⟨n, hn⟩ r) d := by
  have hA : ∀ (n : ℕ) (hn : n < cfg0.N), n % 22 = 0 → ∀ (r : Fin 1024) (d : Fin 2048),
      (outsAt0 m c n hn).2 (ix2 r d) = hid (ax m c) (ag m c) (row ⟨n, hn⟩ r) d := by
    intro n hn h r d
    rw [outsAt0_A m c ⟨n, hn⟩ h]
    frame_out
    pointwise [k0_pay2, k0_pay1]
    simp only [blk0, blk1, hid, rn]
  intro n
  induction n with
  | zero => intro hn; exact hA 0 hn rfl
  | succ n ih =>
    intro hn r d
    by_cases h : (n + 1) % 22 = 0
    · exact hA _ hn h r d
    · rw [outsAt0_B m c ⟨n + 1, hn⟩ h]
      have e : ∀ (a b : Vec Ideal S1024x2048 .bf16), a = b → b (ix2 r d) = hid (ax m c) (ag m c) (row ⟨n, Nat.lt_of_succ_lt hn⟩ r) d →
          a (ix2 r d) = hid (ax m c) (ag m c) (row ⟨n, Nat.lt_of_succ_lt hn⟩ r) d := fun _ _ h h' => h ▸ h'
      refine (e _ (outsAt0 m c n (Nat.lt_of_succ_lt hn)).2 (by unfold sout0_B_0; rfl) (ih _ r d)).trans ?_
      congr 1
      unfold row
      apply Fin.ext
      show 1024 * (n / 22) + r.val = 1024 * ((n + 1) / 22) + r.val
      omega

/-- A point's share of the sum over the hidden units. -/
def term (c : Dev nD) (t : Fin cfg0.N) (j : S1024x2048.Idx) : EReal :=
  ∑ k : Fin 256, unit (ax m c) (ag m c) (aw1 m c) (aw3 m c) (row t (j 0)) (col t k) * aw2 m c (ix3 (3 : Fin 4) (col t k) (j 1))

theorem pay3 (c : Dev nD) (t : Fin cfg0.N) (hn : Vec Ideal S1024x2048 .bf16) (xo : Vec Ideal S1024x2048 .f32)
    (h : ∀ (r : Fin 1024) (d : Fin 2048), hn (ix2 r d) = hid (ax m c) (ag m c) (row t r) d) (j : S1024x2048.Idx) :
    k0_pay3 hn (iblk m c 2 t) (iblk m c 3 t) xo (iblk m c 4 t) j = xo j + term m c t j := by
  idx_vars j
  pointwise [k0_pay3]
  simp only [h, blk2, blk3, blk4, term, unit, pre]
  rfl

theorem out_A (c : Dev nD) (t : Fin cfg0.N) (h : t.val % 22 = 0) (j : S1024x2048.Idx) :
    (outsAt0 m c t.val t.isLt).1 j = tok (ax m c) (row t (j 0)) (j 1) + term m c t j := by
  have e := hn_eq m c t.val t.isLt
  rw [outsAt0_A m c t h] at e ⊢
  revert e
  frame_out
  intro e
  rw [pay3 m c t _ _ e]
  congr 1
  idx_vars j
  pointwise [k0_pay1]
  exact blk0 m c t _ _

theorem out_B (c : Dev nD) (t : Fin cfg0.N) (h : ¬t.val % 22 = 0) (j : S1024x2048.Idx) :
    (outsAt0 m c t.val t.isLt).1 j = (outsAt0 m c (t.val - 1) (Nat.lt_of_le_of_lt (Nat.sub_le _ _) t.isLt)).1 j + term m c t j := by
  have e := hn_eq m c t.val t.isLt
  rw [congrArg Prod.snd (outsAt0_B m c t h)] at e
  unfold sout0_B_0 at e
  dsimp only at e
  rw [outsAt0_B m c t h]
  frame_out
  simp only [read_unread_whole]
  exact pay3 m c t _ _ e j

/-- The array after the run. -/
theorem final (c : Dev nD) : (dats m 0 c).arrAt 5 cfg0.N
    = fun i => out (ax m c) (ag m c) (aw1 m c) (aw3 m c) (aw2 m c) (i 0) (i 1) := by
  refine (dats m 0 c).arrAt_eq_of_covers 5 _ (by decide +kernel) fun t hf y => ?_
  have hr : t.val % 22 = 21 := (flush0_5 t).mp hf
  have hs := Pipeline.eq_sum_fin_of_reset_step_apply_of_flush (fun n h => (outsAt0 m c n h).1) 22 (fun _ => (0 : EReal))
    (fun t j => (if t.val % 22 = 0 then tok (ax m c) (row t (j 0)) (j 1) else 0) + term m c t j)
    (fun t h j => by rw [out_A m c t h j, if_pos h, zero_add])
    (fun t h j => by rw [out_B m c t h j, if_neg h, zero_add])
    t hr y
  rw [zero_add, Finset.sum_add_distrib] at hs
  have h22 : ∀ s : Fin 22, (22 * (t.val / 22) + s.val) / 22 = t.val / 22 ∧ (22 * (t.val / 22) + s.val) % 22 = s.val := by
    intro s; omega
  have h1 : ∑ s : Fin 22, (if (22 * (t.val / 22) + s.val) % 22 = 0 then
      tok (ax m c) (row ⟨22 * (t.val / 22) + s.val, Pipeline.run_point_lt_of_flush t hr s⟩ (y 0)) (y 1) else 0)
      = tok (ax m c) (row t (y 0)) (y 1) := by
    rw [Finset.sum_eq_single (0 : Fin 22)]
    · rw [if_pos (by omega)]
      congr 1
      unfold row
      apply Fin.ext
      show 1024 * ((22 * (t.val / 22) + 0) / 22) + _ = 1024 * (t.val / 22) + _
      omega
    · intro s _ h
      rw [if_neg]
      rw [(h22 s).2]
      exact fun h' => h (Fin.ext h')
    · intro h; exact absurd (Finset.mem_univ _) h
  have h2 : ∑ s : Fin 22, term m c ⟨22 * (t.val / 22) + s.val, Pipeline.run_point_lt_of_flush t hr s⟩ y
      = ∑ f : Fin 5632, unit (ax m c) (ag m c) (aw1 m c) (aw3 m c) (row t (y 0)) f * aw2 m c (ix3 (3 : Fin 4) f (y 1)) := by
    refine Fin.sum_mul_add_congr (fun s k hl => ?_)
    have e1 : row ⟨22 * (t.val / 22) + s.val, Pipeline.run_point_lt_of_flush t hr s⟩ (y 0) = row t (y 0) := by
      unfold row; apply Fin.ext
      show 1024 * ((22 * (t.val / 22) + s.val) / 22) + _ = 1024 * (t.val / 22) + _
      rw [(h22 s).1]
    have e2 : col ⟨22 * (t.val / 22) + s.val, Pipeline.run_point_lt_of_flush t hr s⟩ k = ⟨s.val * 256 + k.val, hl⟩ := by
      unfold col; apply Fin.ext
      show 256 * ((22 * (t.val / 22) + s.val) % 22) + _ = s.val * 256 + k.val
      rw [(h22 s).2, mul_comm]
    rw [e1, e2]
  have hy : (fun i : S8192x2048.Idx => out (ax m c) (ag m c) (aw1 m c) (aw3 m c) (aw2 m c) (i 0) (i 1)) (((cfg0.win 5).blk t).view.emb y)
      = out (ax m c) (ag m c) (aw1 m c) (aw3 m c) (aw2 m c) (row t (y 0)) (y 1) := by
    have i0 : win0_5.index t = ![t.val / 22, 0] := idx5 t
    dsimp only
    congr 1 <;> apply Fin.ext <;> blk_simp [i0, row] <;> simp [mul_comm]
  refine Eq.trans ?_ hy.symm
  blk_simp
  rw [after0_5]
  exact hs.trans (congrArg₂ (· + ·) h1 h2)

/-- The run: the result in plain terms, the arguments unchanged. -/
theorem run_out : θ_run defs (onTc (τ := τ) (main (F := Ideal))) ⟨m, fun _ => 0, ρ⟩ fun r => ∀ c : Dev nD,
      r.2.mem ((c : Thread nD τ).loc main_v4) = (fun i : S8192x2048.Idx => out (ax m c) (ag m c) (aw1 m c) (aw3 m c) (aw2 m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.FfnIdeal.Value

namespace Cert.FfnReferenceIdeal.Value

open Cert.FfnSpec Cert.FfnReferenceIdeal Cert.FfnReferenceIdeal.Gen Cert.FfnReferenceIdeal.Read Idealize.ShloMosaic

theorem val_eq (x0 : Arr S2x4096x2048) (x1 : Arr S4x2048) (x2 x3 : Arr S4x2048x5632) (x4 : Arr S4x5632x2048) (i : S8192x2048.Idx) :
    val_main_v27 (F := Ideal) x0 x1 x2 x3 x4 i = out x0 x1 x2 x3 x4 (i 0) (i 1) := by
  have hid_eq : ∀ (a : Fin 2) (b : Fin 4096) (d : Fin 2048) (h : a.val * 4096 + b.val < 8192),
      val_main_v14 (F := Ideal) x0 x1 (ix3 a b d) = hid x0 x1 ⟨a.val * 4096 + b.val, h⟩ d := by
    intro a b d h
    have ha : (⟨(a.val * 4096 + b.val) / 4096, by omega⟩ : Fin 2) = a := Fin.ext (by show (a.val * 4096 + b.val) / 4096 = a.val; omega)
    have hb : (⟨(a.val * 4096 + b.val) % 4096, by omega⟩ : Fin 4096) = b := Fin.ext (by show (a.val * 4096 + b.val) % 4096 = b.val; omega)
    unfold hid rn tok
    rw [ha, hb]
    pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  idx_vars i
  have hi : i0.val / 4096 * 4096 + i0.val % 4096 = i0.val := by omega
  pointwise [val_main_v27, val_main_v26, val_main_v25, val_main_v24, val_main_v23, val_main_v22, val_main_v21, val_main_v20, val_main_v19, val_main_v18, val_main_v17, val_main_v16, val_main_v15, val_main_call0_v0, val_main_call0_v1, val_main_call0_v2, val_main_call0_v3, val_main_call0_v4, val_main_call0_v5, val_main_call0_cst, val_main_call0_cst_0]
  have hh : ∀ d : Fin 2048, val_main_v14 (F := Ideal) x0 x1 (ix3 ⟨i0.val / 4096, by omega⟩ ⟨i0.val % 4096, by omega⟩ d)
      = hid x0 x1 i0 d := fun d =>
    (hid_eq ⟨i0.val / 4096, by omega⟩ ⟨i0.val % 4096, by omega⟩ d (by show i0.val / 4096 * 4096 + i0.val % 4096 < 8192; omega)).trans
      (congrArg (fun r => hid x0 x1 r d) (Fin.ext hi))
  simp only [hh, ← Ideal.logistic.eq_1]
  rfl

end Cert.FfnReferenceIdeal.Value
end
-- ==== Proof.FfnClaim.lean ====
module

public import proofs.«01_k».proof.Defs
public import proofs.«01_k».proof.Proof.FfnValue
public import proofs.«01_k».proof.Proof.Gen.Ffn
public import proofs.«01_k».proof.Proof.Gen.Ffn.Frame
public import proofs.«01_k».proof.Proof.Gen.FfnReferenceIdeal
public import proofs.«01_k».proof.Proof.Gen.FfnReferenceIdeal.Run

@[expose] public section

noncomputable section

/-! The feed-forward block's claims. -/

namespace Cert.FfnClaims

open Idealize.ShloMosaic Idealize.ShloMosaic.TcCoe Idealize.SL.Sem

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)

open Cert.FfnSpec in
/-- The kernel's result is the reference's. -/
theorem value : Cert.algebraic_FfnIdeal_FfnReferenceIdeal := fun m ρ m' ρ' _ hag =>
  ⟨fun c => (fun i : Cert.FfnIdeal.S8192x2048.Idx => out (Cert.FfnIdeal.Value.ax m c) (Cert.FfnIdeal.Value.ag m c) (Cert.FfnIdeal.Value.aw1 m c)
      (Cert.FfnIdeal.Value.aw3 m c) (Cert.FfnIdeal.Value.aw2 m c) (i 0) (i 1)),
    Cert.FfnIdeal.Value.run_out m ρ,
    (θ_run Cert.FfnReferenceIdeal.defs _ _).mono (fun r h c => ⟨(h c).1.trans (by
        rw [Cert.FfnReferenceIdeal.Read.val_main_v27_eq, (hag c).1, (hag c).2.1, (hag c).2.2.1, (hag c).2.2.2.1, (hag c).2.2.2.2]
        funext i
        exact Cert.FfnReferenceIdeal.Value.val_eq _ _ _ _ _ i), (h c).2⟩)
      (Cert.FfnReferenceIdeal.Value.run (F := Ideal) m' ρ')⟩

end Cert.FfnClaims

end
-- ==== Proof.FoxAttnRun.lean ====
module

public import proofs.«01_k».proof.Proof.Gen.FoxIdeal.Regions
public import proofs.«01_k».proof.Proof.Gen.FoxIdeal.Points
public import proofs.«01_k».proof.Proof.Gen.FoxIdeal.Loops
public import proofs.«01_k».proof.Proof.Gen.FoxIdeal.Skeleton
public import Idealize.ShloMosaic.Lib.VecWindow
public import Idealize.ShloMosaic.Lib.Pointwise
public import Idealize.ShloMosaic.Lib.Pipeline.ReadBack
public import Idealize.ShloMosaic.Lib.WordCmp
public import Idealize.ShloMosaic.Lib.Ring
public import Idealize.ShloMosaic.Lib.Tactic
public import Idealize.ShloMosaic.Lib.WritesUnit
public import Idealize.ShloMosaic.Lib.Writes
public import Idealize.ShloMosaic.Lib.Claim
public import Idealize.ShloMosaic.Lib.Pipeline.Value
public import Idealize.ShloMosaic.Lib.Pipeline.FrameBody
public import Idealize.ShloMosaic.Lib.Pipeline.RegionsLoop
public import Idealize.ShloMosaic.Lib.Pipeline.ValueKit.Acc

@[expose] public section

set_option maxRecDepth 16384

noncomputable section

/-! The attention call: the body at each grid point and what it leaves in the windows. -/

namespace Cert.FoxIdeal.Attn

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first query block of a head. -/
abbrev first (i : grid1.Coords) : Prop := (Scalar.cmpi .ne (Scalar.extui (Scalar.cmpi .eq (BitVec.ofNat 32 (i 2).val) 0#32)) 0#32) = 1#1

/-- It holds at the first point of each run of four. -/
theorem first_iff : ∀ t : Fin cfg1.N, first (grid1.coords t) ↔ t.val % 4 = 0 :=
  (fun t => by
    have ht : t.val < 64 := Nat.lt_of_lt_of_eq t.isLt N_1
    have e2 : (grid1.coords t 2).val = t.val / 1 % 4 := Pipeline.Grid.coords_val t 2 (by decide) rfl
    simp only [first, e2]
    word_cmp
   : ∀ t : Fin grid1.N, first (grid1.coords t) ↔ t.val % 4 = 0)

/-- The bound on the logits is within the limit. -/
abbrev small (v82 : F .f32) (v85 : FVec F S1 .f32) : Prop :=
  (Scalar.cmpi .ne (Scalar.extui (Scalar.cmpf .ole (k1_pay1 v82 v85) (Scalar.ofBits .f32 0x42200000#32))) 0#32) = 1#1

/-- The body after the scratch is filled and the queries are read. -/
def rest (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v5 : FVec F S128x128 .bf16) (v10 : BitVec 32) (v31 : FVec F S128x1024 .bf16) (v37 : FVec F S1x1024 .bf16) (v39 : FVec F S1x1024 .f32) :
    Prog (TpuEff nD τ sig (Elt F) Λ₀ .tc) PUnit := do
  let ⟨v70, v71, v72, v82, v85⟩ : Σ' (v70 : FVec F S256x1024 .bf16) (v71 : IVec S1024x1 32) (v72 : IVec S1x1024 32) (v82 : F .f32), FVec F S1 .f32 ← k1_part8 i arg3 harg3 arg4 harg4 arg5 harg5 arg6 harg6 arg7 harg7 arg8 harg8 arg9 harg9 arg10 harg10 arg11 harg11 arg12 harg12 v31 v37 v39
  have cst_24 : F .f32 := Scalar.ofBits .f32 0x42200000#32
  let v90 : BitVec 1 := Scalar.cmpf .ole (k1_pay1 v82 v85) cst_24
  let v91 : BitVec 32 := Scalar.extui v90
  let v92 : BitVec 1 := Scalar.cmpi .ne v91 0#32
  if v92 = 1#1 then do
    let v138 : FVec F S144x1024 .f32 ← k1_part2 i arg3 harg3 arg4 harg4 arg5 harg5 arg6 harg6 arg7 harg7 arg8 harg8 arg9 harg9 arg10 harg10 arg11 harg11 arg12 harg12 v10 v70 v71 v72 (k1_pay1 v82 v85)
    let v150 : FVec F S128x1024 .bf16 ← k1_part3 i arg3 harg3 arg4 harg4 arg5 harg5 arg6 harg6 arg7 harg7 arg8 harg8 arg9 harg9 arg10 harg10 arg11 harg11 arg12 harg12 arg2 v5 v70 (k1_pay1 v82 v85) v138
    let v178 : Vec F S1x128x128 .bf16 ← Prog.lift (.load arg10 (Rect.unit (s := S1x1024x128) ![0, 512, 0] S1x128x128.size inb_S1x1024x128_S1x128x128_0_512_0).toLoadRect (View.loadsAt_vmem h_S1x128x128))
    Prog.lift (.store arg10 (Rect.unit (s := S1x1024x128) ![0, 512, 0] S1x128x128.size inb_S1x1024x128_S1x128x128_0_512_0) (k1_pay2 v5 v150) Finset.univ (View.stores_vmem h_S1x128x128 (harg10.storeExact_slice rfl _ packedbf16_S1x1024x128_S1x128x128_0_512_0) (fun _ => rfl)) (.inl rfl))
    let v184 : Vec F S1x128x128 .bf16 ← Prog.lift (.load arg10 (Rect.unit (s := S1x1024x128) ![0, 640, 0] S1x128x128.size inb_S1x1024x128_S1x128x128_0_640_0).toLoadRect (View.loadsAt_vmem h_S1x128x128))
    Prog.lift (.store arg10 (Rect.unit (s := S1x1024x128) ![0, 640, 0] S1x128x128.size inb_S1x1024x128_S1x128x128_0_640_0) (k1_pay3 v5 v150) Finset.univ (View.stores_vmem h_S1x128x128 (harg10.storeExact_slice rfl _ packedbf16_S1x1024x128_S1x128x128_0_640_0) (fun _ => rfl)) (.inl rfl))
    let v190 : Vec F S1x128x128 .bf16 ← Prog.lift (.load arg10 (Rect.unit (s := S1x1024x128) ![0, 768, 0] S1x128x128.size inb_S1x1024x128_S1x128x128_0_768_0).toLoadRect (View.loadsAt_vmem h_S1x128x128))
    Prog.lift (.store arg10 (Rect.unit (s := S1x1024x128) ![0, 768, 0] S1x128x128.size inb_S1x1024x128_S1x128x128_0_768_0) (k1_pay4 v5 v150) Finset.univ (View.stores_vmem h_S1x128x128 (harg10.storeExact_slice rfl _ packedbf16_S1x1024x128_S1x128x128_0_768_0) (fun _ => rfl)) (.inl rfl))
    let v196 : Vec F S1x128x128 .bf16 ← Prog.lift (.load arg10 (Rect.unit (s := S1x1024x128) ![0, 896, 0] S1x128x128.size inb_S1x1024x128_S1x128x128_0_896_0).toLoadRect (View.loadsAt_vmem h_S1x128x128))
    Prog.lift (.store arg10 (Rect.unit (s := S1x1024x128) ![0, 896, 0] S1x128x128.size inb_S1x1024x128_S1x128x128_0_896_0) (k1_pay5 v5 v150) Finset.univ (View.stores_vmem h_S1x128x128 (harg10.storeExact_slice rfl _ packedbf16_S1x1024x128_S1x128x128_0_896_0) (fun _ => rfl)) (.inl rfl))
    pure ⟨⟩
  else do
    let ⟨v108, v118, v124, v126, v127, v135, v137⟩ : Σ' (v108 : FVec F S1x1024 .f32) (v118 : FVec F S144x1024 .f32) (v124 : Vec F S144x512 .bf16) (v126 : FVec F S1x512 .f32) (v127 : FVec F S144x512 .f32) (v135 : FVec F S512x512 .f32), FVec F S1x512 .f32 ← k1_part4 i arg3 harg3 arg4 harg4 arg5 harg5 arg6 harg6 arg7 harg7 arg8 harg8 arg9 harg9 arg10 harg10 arg11 harg11 arg12 harg12 v10 v70 v71 v72
    let ⟨v164, v179⟩ : Σ' (v164 : FVec F S128x1024 .bf16), FVec F S128x128 .bf16 ← k1_part5 i arg3 harg3 arg4 harg4 arg5 harg5 arg6 harg6 arg7 harg7 arg8 harg8 arg9 harg9 arg10 harg10 arg11 harg11 arg12 harg12 arg2 v5 v70 v108 v118 v124 v126 v127 v135 v137
    k1_part6 i arg3 harg3 arg4 harg4 arg5 harg5 arg6 harg6 arg7 harg7 arg8 harg8 arg9 harg9 arg10 harg10 arg11 harg11 arg12 harg12 v5 v164 v179
    pure ⟨⟩
  pure ⟨⟩

theorem skel_eq (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) : cc1_fox_attn_skel (F := F) i arg3 harg3 arg4 harg4 arg5 harg5 arg6 harg6 arg7 harg7 arg8 harg8 arg9 harg9 arg10 harg10 arg11 harg11 arg12 harg12
    = (k1_part7 (F := F) i arg3 harg3 arg4 harg4 arg5 harg5 arg6 harg6 arg7 harg7 arg8 harg8 arg9 harg9 arg10 harg10 arg11 harg11 arg12 harg12 >>= fun r => rest i arg3 harg3 arg4 harg4 arg5 harg5 arg6 harg6 arg7 harg7 arg8 harg8 arg9 harg9 arg10 harg10 arg11 harg11 arg12 harg12 r.1 r.2.1 r.2.2.1 r.2.2.2.1 r.2.2.2.2.1 r.2.2.2.2.2) := rfl

set_option maxHeartbeats 1000000 in
/-- The first query block: the scratch is filled. -/
noncomputable def fillA (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : first i) (x3 : Vec F S1x1024x128 .f32) (x4 : Vec F S1x4096x128 .f32) (x5 : Vec F S1x4096x128 .f32) (x6 : Vec F S1x1x4096x128 .bf16) (x7 : Vec F S1x1x4096 .f32) (x8 : Vec F S1x128 .f32) (x9 : Vec F S1x128 .f32) :
    Σ' (r : Σ' (arg2 : BitVec 32) (v5 : FVec F S128x128 .bf16) (v10 : BitVec 32) (v31 : FVec F S128x1024 .bf16) (v37 : FVec F S1x1024 .bf16), FVec F S1x1024 .f32) (L11 : List (View.Piece (Elt F) S4096x256 .bf16)), { L12 : List (View.Piece (Elt F) S144x4096 .bf16) //
      ∀ (E : Set ℕ) (K : (Σ' (arg2 : BitVec 32) (v5 : FVec F S128x128 .bf16) (v10 : BitVec 32) (v31 : FVec F S128x1024 .bf16) (v37 : FVec F S1x1024 .bf16), FVec F S1x1024 .f32) → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg11 fullShare d) ∗ (∃ d, owns (c : Thread nD τ) arg12 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K r))
          ⊢ wp frame (wpE (defs₀ (F := F)) Variants.none c none) E (k1_part7 i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [k1_part7_eq_skeleton]; unfold k1_part7_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0)
    sl_step
    iapply Hk
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H11]
    · iexists _; iexact H11
    iexists _; iexact H12

set_option maxHeartbeats 1000000 in
/-- A later query block: the scratch stays. -/
noncomputable def fillB (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : ¬first i) (x3 : Vec F S1x1024x128 .f32) (x7 : Vec F S1x1x4096 .f32) (x8 : Vec F S1x128 .f32) :
    { r : Σ' (arg2 : BitVec 32) (v5 : FVec F S128x128 .bf16) (v10 : BitVec 32) (v31 : FVec F S128x1024 .bf16) (v37 : FVec F S1x1024 .bf16), FVec F S1x1024 .f32 //
      ∀ (E : Set ℕ) (K : (Σ' (arg2 : BitVec 32) (v5 : FVec F S128x128 .bf16) (v10 : BitVec 32) (v31 : FVec F S128x1024 .bf16) (v37 : FVec F S1x1024 .bf16), FVec F S1x1024 .f32) → sProp 𝕄),
        iprop(owns (c : Thread nD τ) arg3 fullShare x3 ∗ owns (c : Thread nD τ) arg7 fullShare x7 ∗ owns (c : Thread nD τ) arg8 fullShare x8
            ∗ (iprop(owns (c : Thread nD τ) arg3 fullShare x3 ∗ owns (c : Thread nD τ) arg7 fullShare x7 ∗ owns (c : Thread nD τ) arg8 fullShare x8) -∗ K r))
          ⊢ wp frame (wpE (defs₀ (F := F)) Variants.none c none) E (k1_part7 i arg3 harg3 arg4 harg4 arg5 harg5 arg6 harg6 arg7 harg7 arg8 harg8 arg9 harg9 arg10 harg10 arg11 harg11 arg12 harg12) K } := by
  refine ⟨?_, fun E K => ?run⟩
  case run =>
    simp only [k1_part7_eq_skeleton]; unfold k1_part7_skel
    unfold owns
    iintro ⟨⟨%f3, %hf3, H3⟩, ⟨%f7, %hf7, H7⟩, ⟨%f8, %hf8, H8⟩, Hk⟩
    obtain rfl := harg3.eq_unread hf3; obtain rfl := harg7.eq_unread hf7; obtain rfl := harg8.eq_unread hf8
    sl_exec (disch := first | sl_exact hc0)
    sl_step
    iapply Hk
    isplitl [H3]
    · iexists _; isplitr; swap; · iexact H3
      ipureintro; exact harg3.read_unread _
    isplitl [H7]
    · iexists _; isplitr; swap; · iexact H7
      ipureintro; exact harg7.read_unread _
    iexists _; isplitr; swap; · iexact H8
    ipureintro; exact harg8.read_unread _

set_option maxHeartbeats 2000000 in
/-- The bound is the shift. -/
noncomputable def tailS (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v5 : FVec F S128x128 .bf16) (v10 : BitVec 32) (v31 : FVec F S128x1024 .bf16) (v37 : FVec F S1x1024 .bf16) (v39 : FVec F S1x1024 .f32) (x8 : Vec F S1x128 .f32) (x9 : Vec F S1x128 .f32) (x11 : Vec F S4096x256 .bf16) (x12 : Vec F S144x4096 .bf16) (hb : small (k1_pay51 x8) (k1_pay52 x9)) :
    { L10 : List (View.Piece (Elt F) S1x1024x128 .bf16) //
      ∀ (E : Set ℕ) (K : PUnit → sProp 𝕄),
        iprop(owns (c : Thread nD τ) arg8 fullShare x8 ∗ owns (c : Thread nD τ) arg9 fullShare x9 ∗ owns (c : Thread nD τ) arg11 fullShare x11 ∗ owns (c : Thread nD τ) arg12 fullShare x12 ∗ (∃ d, owns (c : Thread nD τ) arg10 fullShare d)
            ∗ (iprop(owns (c : Thread nD τ) arg8 fullShare x8 ∗ owns (c : Thread nD τ) arg9 fullShare x9 ∗ owns (c : Thread nD τ) arg11 fullShare x11 ∗ owns (c : Thread nD τ) arg12 fullShare x12 ∗ (∃ f, arg10.view.loc (c : Thread nD τ) ↦[arg10.view.set]{fullShare} arg10.view.writes (Elt F) f L10)) -∗ K ⟨⟩))
          ⊢ wp frame (wpE (defs₀ (F := F)) Variants.none c none) E (rest i arg3 harg3 arg4 harg4 arg5 harg5 arg6 harg6 arg7 harg7 arg8 harg8 arg9 harg9 arg10 harg10 arg11 harg11 arg12 harg12 arg2 v5 v10 v31 v37 v39) K } := by
  refine ⟨?_, fun E K => ?run⟩
  case run =>
    unfold rest; simp only [k1_part2_eq_skeleton, k1_part3_eq_skeleton, k1_part4_eq_skeleton, k1_part5_eq_skeleton, k1_part6_eq_skeleton, k1_part8_eq_skeleton]
    unfold owns
    iintro ⟨⟨%f8, %hf8, H8⟩, ⟨%f9, %hf9, H9⟩, ⟨%f11, %hf11, H11⟩, ⟨%f12, %hf12, H12⟩, ⟨%d10, %f10, -, H10⟩, Hk⟩
    obtain rfl := harg8.eq_unread hf8; obtain rfl := harg9.eq_unread hf9; obtain rfl := harg11.eq_unread hf11; obtain rfl := harg12.eq_unread hf12
    sl_exec (disch := first | sl_exact hb | (sl_unfold_words; rw [View.readAt_full, View.readAt_full, harg8.read_unread, harg9.read_unread]; exact hb))
    sl_step
    iapply Hk
    isplitl [H8]
    · iexists _; isplitr; swap; · iexact H8
      ipureintro; exact harg8.read_unread _
    isplitl [H9]
    · iexists _; isplitr; swap; · iexact H9
      ipureintro; exact harg9.read_unread _
    isplitl [H11]
    · iexists _; isplitr; swap; · iexact H11
      ipureintro; exact harg11.read_unread _
    isplitl [H12]
    · iexists _; isplitr; swap; · iexact H12
      ipureintro; exact harg12.read_unread _
    iexists _; iexact H10

set_option maxHeartbeats 2000000 in
/-- The running maximum is the shift. -/
noncomputable def tailM (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v5 : FVec F S128x128 .bf16) (v10 : BitVec 32) (v31 : FVec F S128x1024 .bf16) (v37 : FVec F S1x1024 .bf16) (v39 : FVec F S1x1024 .f32) (x8 : Vec F S1x128 .f32) (x9 : Vec F S1x128 .f32) (x11 : Vec F S4096x256 .bf16) (x12 : Vec F S144x4096 .bf16) (hb : ¬small (k1_pay51 x8) (k1_pay52 x9)) :
    { L10 : List (View.Piece (Elt F) S1x1024x128 .bf16) //
      ∀ (E : Set ℕ) (K : PUnit → sProp 𝕄),
        iprop(owns (c : Thread nD τ) arg8 fullShare x8 ∗ owns (c : Thread nD τ) arg9 fullShare x9 ∗ owns (c : Thread nD τ) arg11 fullShare x11 ∗ owns (c : Thread nD τ) arg12 fullShare x12 ∗ (∃ d, owns (c : Thread nD τ) arg10 fullShare d)
            ∗ (iprop(owns (c : Thread nD τ) arg8 fullShare x8 ∗ owns (c : Thread nD τ) arg9 fullShare x9 ∗ owns (c : Thread nD τ) arg11 fullShare x11 ∗ owns (c : Thread nD τ) arg12 fullShare x12 ∗ (∃ f, arg10.view.loc (c : Thread nD τ) ↦[arg10.view.set]{fullShare} arg10.view.writes (Elt F) f L10)) -∗ K ⟨⟩))
          ⊢ wp frame (wpE (defs₀ (F := F)) Variants.none c none) E (rest i arg3 harg3 arg4 harg4 arg5 harg5 arg6 harg6 arg7 harg7 arg8 harg8 arg9 harg9 arg10 harg10 arg11 harg11 arg12 harg12 arg2 v5 v10 v31 v37 v39) K } := by
  refine ⟨?_, fun E K => ?run⟩
  case run =>
    unfold rest; simp only [k1_part2_eq_skeleton, k1_part3_eq_skeleton, k1_part4_eq_skeleton, k1_part5_eq_skeleton, k1_part6_eq_skeleton, k1_part8_eq_skeleton]
    unfold owns
    iintro ⟨⟨%f8, %hf8, H8⟩, ⟨%f9, %hf9, H9⟩, ⟨%f11, %hf11, H11⟩, ⟨%f12, %hf12, H12⟩, ⟨%d10, %f10, -, H10⟩, Hk⟩
    obtain rfl := harg8.eq_unread hf8; obtain rfl := harg9.eq_unread hf9; obtain rfl := harg11.eq_unread hf11; obtain rfl := harg12.eq_unread hf12
    sl_exec (disch := first | sl_exact hb | (sl_unfold_words; rw [View.readAt_full, View.readAt_full, harg8.read_unread, harg9.read_unread]; exact hb))
    sl_step
    iapply Hk
    isplitl [H8]
    · iexists _; isplitr; swap; · iexact H8
      ipureintro; exact harg8.read_unread _
    isplitl [H9]
    · iexists _; isplitr; swap; · iexact H9
      ipureintro; exact harg9.read_unread _
    isplitl [H11]
    · iexists _; isplitr; swap; · iexact H11
      ipureintro; exact harg11.read_unread _
    isplitl [H12]
    · iexists _; isplitr; swap; · iexact H12
      ipureintro; exact harg12.read_unread _
    iexists _; iexact H10

end Cert.FoxIdeal.Attn

end
-- ==== Proof.FoxAttnSteps.lean ====
module

public import proofs.«01_k».proof.Proof.Gen.FoxIdeal.Regions
public import proofs.«01_k».proof.Proof.Gen.FoxIdeal.Points
public import proofs.«01_k».proof.Proof.Gen.FoxIdeal.Loops
public import proofs.«01_k».proof.Proof.Gen.FoxIdeal.Skeleton
public import Idealize.ShloMosaic.Lib.VecWindow
public import Idealize.ShloMosaic.Lib.Pointwise
public import Idealize.ShloMosaic.Lib.Pipeline.ReadBack
public import Idealize.ShloMosaic.Lib.WordCmp
public import Idealize.ShloMosaic.Lib.Ring
public import Idealize.ShloMosaic.Lib.Tactic
public import Idealize.ShloMosaic.Lib.WritesUnit
public import Idealize.ShloMosaic.Lib.Writes
public import Idealize.ShloMosaic.Lib.Claim
public import Idealize.ShloMosaic.Lib.Pipeline.Value
public import Idealize.ShloMosaic.Lib.Pipeline.FrameBody
public import Idealize.ShloMosaic.Lib.Pipeline.RegionsLoop
public import Idealize.ShloMosaic.Lib.Pipeline.ValueKit.Acc

public import proofs.«01_k».proof.Proof.FoxAttnRun

@[expose] public section

set_option maxRecDepth 16384

noncomputable section

/-! The attention call: the body at each grid point and what it leaves in the windows. -/

namespace Cert.FoxIdeal.Attn

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of keys of one trip. -/
def kt (x11 : Vec F S4096x256 .bf16) (k : Fin 4) : Vec F S1024x256 .bf16 :=
  VecWindow.window x11 ![1024 * k.val, 0] S1024x256.size (by intro a; fin_cases a <;> simp <;> omega)

/-- The block of values of one trip. -/
def vt (x12 : Vec F S144x4096 .bf16) (k : Fin 4) : Vec F S144x1024 .bf16 :=
  VecWindow.window x12 ![0, 1024 * k.val] S144x1024.size (by intro a; fin_cases a <;> simp <;> omega)

/-- Half a block of keys on the diagonal. -/
def kd (x11 : Vec F S4096x256 .bf16) (k : Fin 4) (e : Fin 2) : Vec F S512x256 .bf16 :=
  VecWindow.window x11 ![1024 * k.val + 512 * e.val, 0] S512x256.size (by intro a; fin_cases a <;> simp <;> omega)

/-- Half a block of values on the diagonal. -/
def vd (x12 : Vec F S144x4096 .bf16) (k : Fin 4) (e : Fin 2) : Vec F S144x512 .bf16 :=
  VecWindow.window x12 ![0, 1024 * k.val + 512 * e.val] S144x512.size (by intro a; fin_cases a <;> simp <;> omega)

/-- The query block. -/
def qi (i : grid1.Coords) : Fin 4 := ⟨(i 2).val, (i 2).isLt⟩

def io0 : IVec S1024x1 32 := iota .tc S1024x1 32 [0] iota_S1024x1_d0_w32
def io1 : IVec S1x1024 32 := iota .tc S1x1024 32 [1] iota_S1x1024_d1_w32

/-- The diagonal tiles with a fixed shift. -/
def diagS (q : Fin 4) (v70 : FVec F S256x1024 .bf16) (v89 : F .f32) (x11 : Vec F S4096x256 .bf16) (x12 : Vec F S144x4096 .bf16) : FVec F S144x1024 .f32 :=
  k1_pay9 v70 io0 io1 v89 (kd x11 q 0) (vd x12 q 0) (kd x11 q 1) (vd x12 q 1)

/-- The sums before a trip, with a fixed shift. -/
def accS (q : Fin 4) (v70 : FVec F S256x1024 .bf16) (v89 : F .f32) (x11 : Vec F S4096x256 .bf16) (x12 : Vec F S144x4096 .bf16) : ℕ → FVec F S144x1024 .f32
  | 0 => diagS q v70 v89 x11 x12
  | n + 1 => if h : n < 4 then k1_pay10 v70 v89 (accS q v70 v89 x11 x12 n) (kt x11 ⟨n, h⟩) (vt x12 ⟨n, h⟩) else accS q v70 v89 x11 x12 n

/-- The diagonal tiles with a running maximum. -/
def diagM (q : Fin 4) (v70 : FVec F S256x1024 .bf16) (x11 : Vec F S4096x256 .bf16) (x12 : Vec F S144x4096 .bf16) : FVec F S1x1024 .f32 × FVec F S144x1024 .f32 :=
  (k1_pay26 (k1_pay19 v70 io0 io1 (kd x11 q 0)) (k1_pay21 v70 io0 io1 (kd x11 q 0)) (k1_pay24 v70 io0 io1 (kd x11 q 1)),
   k1_pay27 (k1_pay20 v70 io0 io1 (kd x11 q 0) (vd x12 q 0)) (vd x12 q 1) (k1_pay21 v70 io0 io1 (kd x11 q 0)) (k1_pay22 v70 io0 io1 (kd x11 q 0) (vd x12 q 0)) (k1_pay23 v70 io0 io1 (kd x11 q 1)) (k1_pay24 v70 io0 io1 (kd x11 q 1)))

/-- The maxima and sums before a trip. -/
def accM (q : Fin 4) (v70 : FVec F S256x1024 .bf16) (x11 : Vec F S4096x256 .bf16) (x12 : Vec F S144x4096 .bf16) : ℕ → FVec F S1x1024 .f32 × FVec F S144x1024 .f32
  | 0 => diagM q v70 x11 x12
  | n + 1 => if h : n < 4 then (k1_pay29 v70 (accM q v70 x11 x12 n).1 (kt x11 ⟨n, h⟩), k1_pay30 v70 (accM q v70 x11 x12 n).1 (accM q v70 x11 x12 n).2 (kt x11 ⟨n, h⟩) (vt x12 ⟨n, h⟩)) else accM q v70 x11 x12 n

theorem accS_succ (q : Fin 4) (v70 : FVec F S256x1024 .bf16) (v89 : F .f32) (x11 : Vec F S4096x256 .bf16) (x12 : Vec F S144x4096 .bf16) (n : ℕ) (h : n < 4) :
    accS q v70 v89 x11 x12 (n + 1) = k1_pay10 v70 v89 (accS q v70 v89 x11 x12 n) (kt x11 ⟨n, h⟩) (vt x12 ⟨n, h⟩) := by
  rw [accS.eq_2]; exact dif_pos h

theorem accM_succ (q : Fin 4) (v70 : FVec F S256x1024 .bf16) (x11 : Vec F S4096x256 .bf16) (x12 : Vec F S144x4096 .bf16) (n : ℕ) (h : n < 4) :
    accM q v70 x11 x12 (n + 1) = (k1_pay29 v70 (accM q v70 x11 x12 n).1 (kt x11 ⟨n, h⟩), k1_pay30 v70 (accM q v70 x11 x12 n).1 (accM q v70 x11 x12 n).2 (kt x11 ⟨n, h⟩) (vt x12 ⟨n, h⟩)) := by
  rw [accM.eq_2]; exact dif_pos h

theorem trips1 (i : grid1.Coords) : (k1_t1_loop i).trips = (i 2).val := by
  have h : (i 2).val < 4 := (i 2).isLt
  unfold k1_t1_loop Scf.Loop.trips
  generalize (i 2).val = n at h
  interval_cases n <;> decide

theorem trips2 (i : grid1.Coords) : (k1_t2_loop i).trips = 0 := by
  have h : (i 2).val < 4 := (i 2).isLt
  unfold k1_t2_loop Scf.Loop.trips
  generalize (i 2).val = n at h
  interval_cases n <;> decide

theorem trips3 (i : grid1.Coords) : (k1_t3_loop i).trips = (i 2).val := trips1 i

theorem trips4 (i : grid1.Coords) : (k1_t4_loop i).trips = 0 := trips2 i

theorem k1_off2_eq (i : grid1.Coords) : k1_off2 i = ![1024 * (qi i).val + 512 * (0 : Fin 2).val, 0] := by
  have h : (i 2).val < 4 := (i 2).isLt
  unfold k1_off2 qi
  generalize (i 2).val = n at h
  interval_cases n <;> decide

theorem k1_off4_eq (i : grid1.Coords) : k1_off4 i = ![1024 * (qi i).val + 512 * (1 : Fin 2).val, 0] := by
  have h : (i 2).val < 4 := (i 2).isLt
  unfold k1_off4 qi
  generalize (i 2).val = n at h
  interval_cases n <;> decide

theorem k1_off10_eq (i : grid1.Coords) : k1_off10 i = ![1024 * (qi i).val + 512 * (0 : Fin 2).val, 0] := by
  have h : (i 2).val < 4 := (i 2).isLt
  unfold k1_off10 qi
  generalize (i 2).val = n at h
  interval_cases n <;> decide

theorem k1_off12_eq (i : grid1.Coords) : k1_off12 i = ![1024 * (qi i).val + 512 * (1 : Fin 2).val, 0] := by
  have h : (i 2).val < 4 := (i 2).isLt
  unfold k1_off12 qi
  generalize (i 2).val = n at h
  interval_cases n <;> decide

theorem k1_off3_eq (i : grid1.Coords) : k1_off3 i = ![0, 1024 * (qi i).val + 512 * (0 : Fin 2).val] := by
  have h : (i 2).val < 4 := (i 2).isLt
  unfold k1_off3 qi
  generalize (i 2).val = n at h
  interval_cases n <;> decide

theorem k1_off5_eq (i : grid1.Coords) : k1_off5 i = ![0, 1024 * (qi i).val + 512 * (1 : Fin 2).val] := by
  have h : (i 2).val < 4 := (i 2).isLt
  unfold k1_off5 qi
  generalize (i 2).val = n at h
  interval_cases n <;> decide

theorem k1_off11_eq (i : grid1.Coords) : k1_off11 i = ![0, 1024 * (qi i).val + 512 * (0 : Fin 2).val] := by
  have h : (i 2).val < 4 := (i 2).isLt
  unfold k1_off11 qi
  generalize (i 2).val = n at h
  interval_cases n <;> decide

theorem k1_off13_eq (i : grid1.Coords) : k1_off13 i = ![0, 1024 * (qi i).val + 512 * (1 : Fin 2).val] := by
  have h : (i 2).val < 4 := (i 2).isLt
  unfold k1_off13 qi
  generalize (i 2).val = n at h
  interval_cases n <;> decide

theorem k1_off1_eq (i : grid1.Coords) : k1_off1 i = ![0, 0, 1024 * (qi i).val] := by
  have h : (i 2).val < 4 := (i 2).isLt
  unfold k1_off1 qi
  generalize (i 2).val = n at h
  interval_cases n <;> decide

theorem k1_off6_eq (i : grid1.Coords) (k : Fin (k1_t1_loop i).trips) (hk : k.val < 4) : k1_off6 i k = ![1024 * k.val, 0] := by
  unfold k1_off6
  generalize k.val = n at hk
  interval_cases n <;> rfl

theorem k1_off7_eq (i : grid1.Coords) (k : Fin (k1_t1_loop i).trips) (hk : k.val < 4) : k1_off7 i k = ![0, 1024 * k.val] := by
  unfold k1_off7
  generalize k.val = n at hk
  interval_cases n <;> rfl

theorem k1_off14_eq (i : grid1.Coords) (k : Fin (k1_t3_loop i).trips) (hk : k.val < 4) : k1_off14 i k = ![1024 * k.val, 0] := by
  unfold k1_off14
  generalize k.val = n at hk
  interval_cases n <;> rfl

theorem k1_off15_eq (i : grid1.Coords) (k : Fin (k1_t3_loop i).trips) (hk : k.val < 4) : k1_off15 i k = ![0, 1024 * k.val] := by
  unfold k1_off15
  generalize k.val = n at hk
  interval_cases n <;> rfl

theorem tripS_eq (𝒱 : Variants) (c : Dev nD) (bd : Option 𝒱.V) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v5 : FVec F S128x128 .bf16) (v70 : FVec F S256x1024 .bf16) (v89 : F .f32) (v138 : FVec F S144x1024 .f32)
    (x11 : Vec F S4096x256 .bf16) (x12 : Vec F S144x4096 .bf16) (k : Fin (k1_t1_loop i).trips) (hk : k.val < 4) (acc : FVec F S144x1024 .f32) :
    tripR_k1_t1 (F := F) 𝒱 c bd i arg3 harg3 arg4 harg4 arg5 harg5 arg6 harg6 arg7 harg7 arg8 harg8 arg9 harg9 arg10 harg10 arg11 harg11 arg12 harg12 arg2 v5 v70 v89 v138 (harg11.unread x11) (harg12.unread x12) k acc
      = k1_pay10 v70 v89 acc (kt x11 ⟨k.val, hk⟩) (vt x12 ⟨k.val, hk⟩) := by
  have e1 : (View.readAt (Elt F) arg11.view (Rect.unit (s := S4096x256) (k1_off6 i k) S1024x256.size (k1_off6_inb i k)).toLoadRect (harg11.unread x11)) = kt x11 ⟨k.val, hk⟩ := by
    rw [View.readAt_unit _ _ _ (k1_off6_eq i k hk) (by intro a; fin_cases a <;> simp <;> omega), harg11.read_unread]; rfl
  have e2 : (View.readAt (Elt F) arg12.view (Rect.unit (s := S144x4096) (k1_off7 i k) S144x1024.size (k1_off7_inb i k)).toLoadRect (harg12.unread x12)) = vt x12 ⟨k.val, hk⟩ := by
    rw [View.readAt_unit _ _ _ (k1_off7_eq i k hk) (by intro a; fin_cases a <;> simp <;> omega), harg12.read_unread]; rfl
  have h : tripR_k1_t1 (F := F) 𝒱 c bd i arg3 harg3 arg4 harg4 arg5 harg5 arg6 harg6 arg7 harg7 arg8 harg8 arg9 harg9 arg10 harg10 arg11 harg11 arg12 harg12 arg2 v5 v70 v89 v138 (harg11.unread x11) (harg12.unread x12) k acc
      = k1_pay10 v70 v89 acc (View.readAt (Elt F) arg11.view (Rect.unit (s := S4096x256) (k1_off6 i k) S1024x256.size (k1_off6_inb i k)).toLoadRect (harg11.unread x11))
        (View.readAt (Elt F) arg12.view (Rect.unit (s := S144x4096) (k1_off7 i k) S144x1024.size (k1_off7_inb i k)).toLoadRect (harg12.unread x12)) := by
    unfold tripR_k1_t1 trip_k1_t1; rfl
  rw [e1, e2] at h
  exact h

theorem stateS (𝒱 : Variants) (c : Dev nD) (bd : Option 𝒱.V) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v5 : FVec F S128x128 .bf16) (v70 : FVec F S256x1024 .bf16) (v89 : F .f32) (v138 : FVec F S144x1024 .f32)
    (x11 : Vec F S4096x256 .bf16) (x12 : Vec F S144x4096 .bf16) : ∀ n : ℕ, n ≤ (i 2).val →
    st_k1_t1 (F := F) 𝒱 c bd i arg3 harg3 arg4 harg4 arg5 harg5 arg6 harg6 arg7 harg7 arg8 harg8 arg9 harg9 arg10 harg10 arg11 harg11 arg12 harg12 arg2 v5 v70 v89 v138 (harg11.unread x11) (harg12.unread x12) (diagS (qi i) v70 v89 x11 x12) n
      = accS (qi i) v70 v89 x11 x12 n
  | 0, _ => rfl
  | n + 1, h => by
    have hi : (i 2).val < 4 := (i 2).isLt
    have ih := stateS 𝒱 c bd i arg3 harg3 arg4 harg4 arg5 harg5 arg6 harg6 arg7 harg7 arg8 harg8 arg9 harg9 arg10 harg10 arg11 harg11 arg12 harg12 arg2 v5 v70 v89 v138 x11 x12 n (Nat.le_of_succ_le h)
    have hs := st_k1_t1_succ (F := F) 𝒱 c bd i arg3 harg3 arg4 harg4 arg5 harg5 arg6 harg6 arg7 harg7 arg8 harg8 arg9 harg9 arg10 harg10 arg11 harg11 arg12 harg12 arg2 v5 v70 v89 v138 (harg11.unread x11) (harg12.unread x12) (diagS (qi i) v70 v89 x11 x12) ⟨n, by rw [trips1]; exact h⟩
    simp only [Fin.val_mk] at hs
    rw [hs, ih]
    exact (tripS_eq 𝒱 c bd i arg3 harg3 arg4 harg4 arg5 harg5 arg6 harg6 arg7 harg7 arg8 harg8 arg9 harg9 arg10 harg10 arg11 harg11 arg12 harg12 arg2 v5 v70 v89 v138 x11 x12 ⟨n, by rw [trips1]; exact h⟩ (lt_trans h hi) _).trans (accS_succ _ _ _ _ _ n (lt_trans h hi)).symm

theorem tripM_eq (𝒱 : Variants) (c : Dev nD) (bd : Option 𝒱.V) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v5 : FVec F S128x128 .bf16) (v70 : FVec F S256x1024 .bf16) (v108 : FVec F S1x1024 .f32) (v118 : FVec F S144x1024 .f32) (v124 : Vec F S144x512 .bf16) (v126 : FVec F S1x512 .f32) (v127 : FVec F S144x512 .f32) (v135 : FVec F S512x512 .f32) (v137 : FVec F S1x512 .f32)
    (x11 : Vec F S4096x256 .bf16) (x12 : Vec F S144x4096 .bf16) (k : Fin (k1_t3_loop i).trips) (hk : k.val < 4) (acc : FVec F S1x1024 .f32 × FVec F S144x1024 .f32) :
    tripR_k1_t3 (F := F) 𝒱 c bd i arg3 harg3 arg4 harg4 arg5 harg5 arg6 harg6 arg7 harg7 arg8 harg8 arg9 harg9 arg10 harg10 arg11 harg11 arg12 harg12 arg2 v5 v70 v108 v118 v124 v126 v127 v135 v137 (harg11.unread x11) (harg12.unread x12) k acc
      = (k1_pay29 v70 acc.1 (kt x11 ⟨k.val, hk⟩), k1_pay30 v70 acc.1 acc.2 (kt x11 ⟨k.val, hk⟩) (vt x12 ⟨k.val, hk⟩)) := by
  have e1 : (View.readAt (Elt F) arg11.view (Rect.unit (s := S4096x256) (k1_off14 i k) S1024x256.size (k1_off14_inb i k)).toLoadRect (harg11.unread x11)) = kt x11 ⟨k.val, hk⟩ := by
    rw [View.readAt_unit _ _ _ (k1_off14_eq i k hk) (by intro a; fin_cases a <;> simp <;> omega), harg11.read_unread]; rfl
  have e2 : (View.readAt (Elt F) arg12.view (Rect.unit (s := S144x4096) (k1_off15 i k) S144x1024.size (k1_off15_inb i k)).toLoadRect (harg12.unread x12)) = vt x12 ⟨k.val, hk⟩ := by
    rw [View.readAt_unit _ _ _ (k1_off15_eq i k hk) (by intro a; fin_cases a <;> simp <;> omega), harg12.read_unread]; rfl
  have h : tripR_k1_t3 (F := F) 𝒱 c bd i arg3 harg3 arg4 harg4 arg5 harg5 arg6 harg6 arg7 harg7 arg8 harg8 arg9 harg9 arg10 harg10 arg11 harg11 arg12 harg12 arg2 v5 v70 v108 v118 v124 v126 v127 v135 v137 (harg11.unread x11) (harg12.unread x12) k acc
      = (k1_pay29 v70 acc.1 (View.readAt (Elt F) arg11.view (Rect.unit (s := S4096x256) (k1_off14 i k) S1024x256.size (k1_off14_inb i k)).toLoadRect (harg11.unread x11)), k1_pay30 v70 acc.1 acc.2 (View.readAt (Elt F) arg11.view (Rect.unit (s := S4096x256) (k1_off14 i k) S1024x256.size (k1_off14_inb i k)).toLoadRect (harg11.unread x11))
        (View.readAt (Elt F) arg12.view (Rect.unit (s := S144x4096) (k1_off15 i k) S144x1024.size (k1_off15_inb i k)).toLoadRect (harg12.unread x12))) := by
    unfold tripR_k1_t3 trip_k1_t3; rfl
  rw [e1, e2] at h
  exact h

theorem stateM (𝒱 : Variants) (c : Dev nD) (bd : Option 𝒱.V) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v5 : FVec F S128x128 .bf16) (v70 : FVec F S256x1024 .bf16) (v108 : FVec F S1x1024 .f32) (v118 : FVec F S144x1024 .f32) (v124 : Vec F S144x512 .bf16) (v126 : FVec F S1x512 .f32) (v127 : FVec F S144x512 .f32) (v135 : FVec F S512x512 .f32) (v137 : FVec F S1x512 .f32)
    (x11 : Vec F S4096x256 .bf16) (x12 : Vec F S144x4096 .bf16) : ∀ n : ℕ, n ≤ (i 2).val →
    st_k1_t3 (F := F) 𝒱 c bd i arg3 harg3 arg4 harg4 arg5 harg5 arg6 harg6 arg7 harg7 arg8 harg8 arg9 harg9 arg10 harg10 arg11 harg11 arg12 harg12 arg2 v5 v70 v108 v118 v124 v126 v127 v135 v137 (harg11.unread x11) (harg12.unread x12) (diagM (qi i) v70 x11 x12) n
      = accM (qi i) v70 x11 x12 n
  | 0, _ => rfl
  | n + 1, h => by
    have hi : (i 2).val < 4 := (i 2).isLt
    have ih := stateM 𝒱 c bd i arg3 harg3 arg4 harg4 arg5 harg5 arg6 harg6 arg7 harg7 arg8 harg8 arg9 harg9 arg10 harg10 arg11 harg11 arg12 harg12 arg2 v5 v70 v108 v118 v124 v126 v127 v135 v137 x11 x12 n (Nat.le_of_succ_le h)
    have hs := st_k1_t3_succ (F := F) 𝒱 c bd i arg3 harg3 arg4 harg4 arg5 harg5 arg6 harg6 arg7 harg7 arg8 harg8 arg9 harg9 arg10 harg10 arg11 harg11 arg12 harg12 arg2 v5 v70 v108 v118 v124 v126 v127 v135 v137 (harg11.unread x11) (harg12.unread x12) (diagM (qi i) v70 x11 x12) ⟨n, by rw [trips3]; exact h⟩
    simp only [Fin.val_mk] at hs
    rw [hs, ih]
    exact (tripM_eq 𝒱 c bd i arg3 harg3 arg4 harg4 arg5 harg5 arg6 harg6 arg7 harg7 arg8 harg8 arg9 harg9 arg10 harg10 arg11 harg11 arg12 harg12 arg2 v5 v70 v108 v118 v124 v126 v127 v135 v137 x11 x12 ⟨n, by rw [trips3]; exact h⟩ (lt_trans h hi) _).trans (accM_succ _ _ _ _ n (lt_trans h hi)).symm

end Cert.FoxIdeal.Attn

end
-- ==== Proof.FoxAttnTail.lean ====
module

public import proofs.«01_k».proof.Proof.Gen.FoxIdeal.Regions
public import proofs.«01_k».proof.Proof.Gen.FoxIdeal.Points
public import proofs.«01_k».proof.Proof.Gen.FoxIdeal.Loops
public import proofs.«01_k».proof.Proof.Gen.FoxIdeal.Skeleton
public import Idealize.ShloMosaic.Lib.VecWindow
public import Idealize.ShloMosaic.Lib.Pointwise
public import Idealize.ShloMosaic.Lib.Pipeline.ReadBack
public import Idealize.ShloMosaic.Lib.WordCmp
public import Idealize.ShloMosaic.Lib.Ring
public import Idealize.ShloMosaic.Lib.Tactic
public import Idealize.ShloMosaic.Lib.WritesUnit
public import Idealize.ShloMosaic.Lib.Writes
public import Idealize.ShloMosaic.Lib.Claim
public import Idealize.ShloMosaic.Lib.Pipeline.Value
public import Idealize.ShloMosaic.Lib.Pipeline.FrameBody
public import Idealize.ShloMosaic.Lib.Pipeline.RegionsLoop
public import Idealize.ShloMosaic.Lib.Pipeline.ValueKit.Acc

public import proofs.«01_k».proof.Proof.FoxAttnSteps

@[expose] public section

set_option maxRecDepth 16384

noncomputable section

/-! The attention call: the body at each grid point and what it leaves in the windows. -/

namespace Cert.FoxIdeal.Attn

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem sl_ok : ∀ j : Fin 8, S128x1024.Slices ![0, 128 * j.val] S128x128
  | 0 => slices_S128x1024_o0_0_S128x128
  | 1 => slices_S128x1024_o0_128_S128x128
  | 2 => slices_S128x1024_o0_256_S128x128
  | 3 => slices_S128x1024_o0_384_S128x128
  | 4 => slices_S128x1024_o0_512_S128x128
  | 5 => slices_S128x1024_o0_640_S128x128
  | 6 => slices_S128x1024_o0_768_S128x128
  | 7 => slices_S128x1024_o0_896_S128x128

/-- A block of outputs, transposed back. -/
def pB (v5 : FVec F S128x128 .bf16) (ot : FVec F S128x1024 .bf16) (j : Fin 8) : FVec F S1x128x128 .bf16 :=
  shapeCast S1x128x128 (truncf .bf16 (matmul dot_S128x128_S128x128_S128x128_1_1_0_0_n_n none v5
    (extractStridedSlice S128x128 ![0, 128 * j.val] ot (sl_ok j)) (constant S128x128 .f32 0x00000000#32)) bitsLt_bf16_f32) shapeCasts_S128x128_S1x128x128

/-- The stores of the outputs. -/
def pcs (v5 : FVec F S128x128 .bf16) (ot : FVec F S128x1024 .bf16) : List (View.Piece (Elt F) S1x1024x128 .bf16) :=
  [⟨Rect.unit (s := S1x1024x128) ![0, 896, 0] S1x128x128.size inb_S1x1024x128_S1x128x128_0_896_0, pB v5 ot 7⟩,
   ⟨Rect.unit (s := S1x1024x128) ![0, 768, 0] S1x128x128.size inb_S1x1024x128_S1x128x128_0_768_0, pB v5 ot 6⟩,
   ⟨Rect.unit (s := S1x1024x128) ![0, 640, 0] S1x128x128.size inb_S1x1024x128_S1x128x128_0_640_0, pB v5 ot 5⟩,
   ⟨Rect.unit (s := S1x1024x128) ![0, 512, 0] S1x128x128.size inb_S1x1024x128_S1x128x128_0_512_0, pB v5 ot 4⟩,
   ⟨Rect.unit (s := S1x1024x128) ![0, 384, 0] S1x128x128.size inb_S1x1024x128_S1x128x128_0_384_0, pB v5 ot 3⟩,
   ⟨Rect.unit (s := S1x1024x128) ![0, 256, 0] S1x128x128.size inb_S1x1024x128_S1x128x128_0_256_0, pB v5 ot 2⟩,
   ⟨Rect.unit (s := S1x1024x128) ![0, 128, 0] S1x128x128.size inb_S1x1024x128_S1x128x128_0_128_0, pB v5 ot 1⟩,
   ⟨Rect.unit (s := S1x1024x128) ![0, 0, 0] S1x128x128.size inb_S1x1024x128_S1x128x128_0_0_0, pB v5 ot 0⟩]

/-- The block of outputs. -/
def out10 (v5 : FVec F S128x128 .bf16) (ot : FVec F S128x1024 .bf16) : Vec F S1x1024x128 .bf16 :=
  fun y => pB v5 ot ⟨(y 1).val / 128, by have : (y 1).val < 1024 := (y 1).isLt; omega⟩ (ix3 0 ⟨(y 1).val % 128, Nat.mod_lt _ (by decide)⟩ (y 2))

theorem pB_agrees (v5 : FVec F S128x128 .bf16) (ot : FVec F S128x1024 .bf16) (j : Fin 8) (off : Fin 3 → ℕ) (hoff : off = ![0, 128 * j.val, 0])
    (inb : ∀ a, off a + (![1, 128, 128] : Fin 3 → ℕ) a ≤ S1x1024x128.size a) (x : (Rect.unit (s := S1x1024x128) off ![1, 128, 128] inb).shape.Idx) :
    pB v5 ot j x = out10 v5 ot ((Rect.unit (s := S1x1024x128) off ![1, 128, 128] inb).emb x) := by
  subst hoff
  have hx0 : (x 0).val < 1 := (x 0).isLt
  have hx : (x 1).val < 128 := (x 1).isLt
  have e1 : ((Rect.unit (s := S1x1024x128) ![0, 128 * j.val, 0] ![1, 128, 128] inb).emb x 1).val = 128 * j.val + (x 1).val := by
    show 128 * j.val + 1 * (x 1).val = _
    omega
  have e2 : ((Rect.unit (s := S1x1024x128) ![0, 128 * j.val, 0] ![1, 128, 128] inb).emb x 2).val = (x 2).val := by
    show 0 + 1 * (x 2).val = _
    omega
  unfold out10
  have et : (⟨((Rect.unit (s := S1x1024x128) ![0, 128 * j.val, 0] ![1, 128, 128] inb).emb x 1).val / 128, by rw [e1]; omega⟩ : Fin 8) = j := by
    apply Fin.ext
    show ((Rect.unit (s := S1x1024x128) ![0, 128 * j.val, 0] ![1, 128, 128] inb).emb x 1).val / 128 = j.val
    rw [e1]; omega
  rw [et]
  congr 1
  funext a
  fin_cases a
  · exact Fin.ext (by show (x 0).val = 0; omega)
  · exact Fin.ext (by show (x 1).val = ((Rect.unit (s := S1x1024x128) ![0, 128 * j.val, 0] ![1, 128, 128] inb).emb x 1).val % 128; rw [e1]; omega)
  · exact Fin.ext e2.symm

theorem read10 {sp : Space} (v : View sig .tc sp S1x1024x128 .bf16) (f : v.ty.Contents (Elt F)) (v5 : FVec F S128x128 .bf16) (ot : FVec F S128x1024 .bf16) :
    v.read (Elt F) (v.writes (Elt F) f (pcs v5 ot)) = out10 v5 ot := by
  funext y
  have h0 : (y 0).val < 1 := (y 0).isLt
  have h1 : (y 1).val < 1024 := (y 1).isLt
  have h2 : (y 2).val < 128 := (y 2).isLt
  refine View.read_writes_apply_of_pieces v f (out10 v5 ot) _ ?_ y ?_
  · intro p hp x
    unfold pcs at hp
    simp only [List.mem_cons, List.not_mem_nil, or_false] at hp
    rcases hp with rfl | rfl | rfl | rfl | rfl | rfl | rfl | rfl
    · exact pB_agrees v5 ot 7 _ rfl inb_S1x1024x128_S1x128x128_0_896_0 x
    · exact pB_agrees v5 ot 6 _ rfl inb_S1x1024x128_S1x128x128_0_768_0 x
    · exact pB_agrees v5 ot 5 _ rfl inb_S1x1024x128_S1x128x128_0_640_0 x
    · exact pB_agrees v5 ot 4 _ rfl inb_S1x1024x128_S1x128x128_0_512_0 x
    · exact pB_agrees v5 ot 3 _ rfl inb_S1x1024x128_S1x128x128_0_384_0 x
    · exact pB_agrees v5 ot 2 _ rfl inb_S1x1024x128_S1x128x128_0_256_0 x
    · exact pB_agrees v5 ot 1 _ rfl inb_S1x1024x128_S1x128x128_0_128_0 x
    · exact pB_agrees v5 ot 0 _ rfl inb_S1x1024x128_S1x128x128_0_0_0 x
  · have key : ∀ (j : ℕ) (inb : ∀ a, (![0, 128 * j, 0] : Fin 3 → ℕ) a + (![1, 128, 128] : Fin 3 → ℕ) a ≤ S1x1024x128.size a), (y 1).val / 128 = j →
        y ∈ (Rect.unit (s := S1x1024x128) ![0, 128 * j, 0] ![1, 128, 128] inb).set := by
      intro j inb hy
      rw [Rect.mem_set_unit]
      intro a
      fin_cases a
      · show 0 ≤ (y 0).val ∧ (y 0).val < 0 + 1
        omega
      · show 128 * j ≤ (y 1).val ∧ (y 1).val < 128 * j + 128
        omega
      · show 0 ≤ (y 2).val ∧ (y 2).val < 0 + 128
        omega
    have hq : (y 1).val / 128 < 8 := by omega
    unfold pcs
    generalize hj : (y 1).val / 128 = j at hq
    interval_cases j
    · exact ⟨⟨Rect.unit (s := S1x1024x128) ![0, 0, 0] S1x128x128.size inb_S1x1024x128_S1x128x128_0_0_0, pB v5 ot 0⟩, by simp, key 0 inb_S1x1024x128_S1x128x128_0_0_0 hj⟩
    · exact ⟨⟨Rect.unit (s := S1x1024x128) ![0, 128, 0] S1x128x128.size inb_S1x1024x128_S1x128x128_0_128_0, pB v5 ot 1⟩, by simp, key 1 inb_S1x1024x128_S1x128x128_0_128_0 hj⟩
    · exact ⟨⟨Rect.unit (s := S1x1024x128) ![0, 256, 0] S1x128x128.size inb_S1x1024x128_S1x128x128_0_256_0, pB v5 ot 2⟩, by simp, key 2 inb_S1x1024x128_S1x128x128_0_256_0 hj⟩
    · exact ⟨⟨Rect.unit (s := S1x1024x128) ![0, 384, 0] S1x128x128.size inb_S1x1024x128_S1x128x128_0_384_0, pB v5 ot 3⟩, by simp, key 3 inb_S1x1024x128_S1x128x128_0_384_0 hj⟩
    · exact ⟨⟨Rect.unit (s := S1x1024x128) ![0, 512, 0] S1x128x128.size inb_S1x1024x128_S1x128x128_0_512_0, pB v5 ot 4⟩, by simp, key 4 inb_S1x1024x128_S1x128x128_0_512_0 hj⟩
    · exact ⟨⟨Rect.unit (s := S1x1024x128) ![0, 640, 0] S1x128x128.size inb_S1x1024x128_S1x128x128_0_640_0, pB v5 ot 5⟩, by simp, key 5 inb_S1x1024x128_S1x128x128_0_640_0 hj⟩
    · exact ⟨⟨Rect.unit (s := S1x1024x128) ![0, 768, 0] S1x128x128.size inb_S1x1024x128_S1x128x128_0_768_0, pB v5 ot 6⟩, by simp, key 6 inb_S1x1024x128_S1x128x128_0_768_0 hj⟩
    · exact ⟨⟨Rect.unit (s := S1x1024x128) ![0, 896, 0] S1x128x128.size inb_S1x1024x128_S1x128x128_0_896_0, pB v5 ot 7⟩, by simp, key 7 inb_S1x1024x128_S1x128x128_0_896_0 hj⟩

theorem pcsS (v5 : FVec F S128x128 .bf16) (acc : FVec F S144x1024 .f32) :
    ([⟨Rect.unit (s := S1x1024x128) ![0, 896, 0] S1x128x128.size inb_S1x1024x128_S1x128x128_0_896_0, k1_pay5 v5 (k1_pay12 acc)⟩,
      ⟨Rect.unit (s := S1x1024x128) ![0, 768, 0] S1x128x128.size inb_S1x1024x128_S1x128x128_0_768_0, k1_pay4 v5 (k1_pay12 acc)⟩,
      ⟨Rect.unit (s := S1x1024x128) ![0, 640, 0] S1x128x128.size inb_S1x1024x128_S1x128x128_0_640_0, k1_pay3 v5 (k1_pay12 acc)⟩,
      ⟨Rect.unit (s := S1x1024x128) ![0, 512, 0] S1x128x128.size inb_S1x1024x128_S1x128x128_0_512_0, k1_pay2 v5 (k1_pay12 acc)⟩,
      ⟨Rect.unit (s := S1x1024x128) ![0, 384, 0] S1x128x128.size inb_S1x1024x128_S1x128x128_0_384_0, k1_pay16 v5 acc⟩,
      ⟨Rect.unit (s := S1x1024x128) ![0, 256, 0] S1x128x128.size inb_S1x1024x128_S1x128x128_0_256_0, k1_pay15 v5 acc⟩,
      ⟨Rect.unit (s := S1x1024x128) ![0, 128, 0] S1x128x128.size inb_S1x1024x128_S1x128x128_0_128_0, k1_pay14 v5 acc⟩,
      ⟨Rect.unit (s := S1x1024x128) ![0, 0, 0] S1x128x128.size inb_S1x1024x128_S1x128x128_0_0_0, k1_pay13 v5 acc⟩] : List (View.Piece (Elt F) S1x1024x128 .bf16)) = pcs v5 (k1_pay12 acc) := rfl

theorem pcsM (v5 : FVec F S128x128 .bf16) (acc : FVec F S144x1024 .f32) :
    ([⟨Rect.unit (s := S1x1024x128) ![0, 896, 0] S1x128x128.size inb_S1x1024x128_S1x128x128_0_896_0, k1_pay43 v5 (k1_pay34 acc)⟩,
      ⟨Rect.unit (s := S1x1024x128) ![0, 768, 0] S1x128x128.size inb_S1x1024x128_S1x128x128_0_768_0, k1_pay42 v5 (k1_pay34 acc)⟩,
      ⟨Rect.unit (s := S1x1024x128) ![0, 640, 0] S1x128x128.size inb_S1x1024x128_S1x128x128_0_640_0, k1_pay41 v5 (k1_pay34 acc)⟩,
      ⟨Rect.unit (s := S1x1024x128) ![0, 512, 0] S1x128x128.size inb_S1x1024x128_S1x128x128_0_512_0, k1_pay40 v5 (k1_pay34 acc)⟩,
      ⟨Rect.unit (s := S1x1024x128) ![0, 384, 0] S1x128x128.size inb_S1x1024x128_S1x128x128_0_384_0, k1_pay39 v5 (k1_pay34 acc)⟩,
      ⟨Rect.unit (s := S1x1024x128) ![0, 256, 0] S1x128x128.size inb_S1x1024x128_S1x128x128_0_256_0, k1_pay38 (k1_pay37 v5 acc)⟩,
      ⟨Rect.unit (s := S1x1024x128) ![0, 128, 0] S1x128x128.size inb_S1x1024x128_S1x128x128_0_128_0, k1_pay36 v5 acc⟩,
      ⟨Rect.unit (s := S1x1024x128) ![0, 0, 0] S1x128x128.size inb_S1x1024x128_S1x128x128_0_0_0, k1_pay35 v5 acc⟩] : List (View.Piece (Elt F) S1x1024x128 .bf16)) = pcs v5 (k1_pay12 acc) := rfl

set_option maxHeartbeats 1000000 in
theorem tailS_eq (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v5 : FVec F S128x128 .bf16) (v10 : BitVec 32) (v31 : FVec F S128x1024 .bf16) (v37 : FVec F S1x1024 .bf16) (v39 : FVec F S1x1024 .f32) (x8 : Vec F S1x128 .f32) (x9 : Vec F S1x128 .f32) (x11 : Vec F S4096x256 .bf16) (x12 : Vec F S144x4096 .bf16) (hb : small (k1_pay51 x8) (k1_pay52 x9)) :
    (tailS c i arg3 harg3 arg4 harg4 arg5 harg5 arg6 harg6 arg7 harg7 arg8 harg8 arg9 harg9 arg10 harg10 arg11 harg11 arg12 harg12 arg2 v5 v10 v31 v37 v39 x8 x9 x11 x12 hb).1
      = pcs v5 (k1_pay12 (accS (qi i) (k1_pay50 v31 v37 v39) (k1_pay1 (k1_pay51 x8) (k1_pay52 x9)) x11 x12 (i 2).val)) := by
  have e8 : (View.readAt (Elt F) arg8.view (Rect.unit (s := S1x128) ![0, 0] S1x128.size inb_S1x128_S1x128_0_0).toLoadRect (harg8.unread x8)) = x8 := by rw [View.readAt_full, harg8.read_unread]
  have e9 : (View.readAt (Elt F) arg9.view (Rect.unit (s := S1x128) ![0, 0] S1x128.size inb_S1x128_S1x128_0_0).toLoadRect (harg9.unread x9)) = x9 := by rw [View.readAt_full, harg9.read_unread]
  have e0 : (View.readAt (Elt F) arg11.view (Rect.unit (s := S4096x256) (k1_off2 i) S512x256.size (k1_off2_inb i)).toLoadRect (harg11.unread x11)) = kd x11 (qi i) 0 := by
    rw [View.readAt_unit _ _ _ (k1_off2_eq i) (by intro a; have := (qi i).isLt; fin_cases a <;> simp <;> omega), harg11.read_unread]; rfl
  have e1 : (View.readAt (Elt F) arg12.view (Rect.unit (s := S144x4096) (k1_off3 i) S144x512.size (k1_off3_inb i)).toLoadRect (harg12.unread x12)) = vd x12 (qi i) 0 := by
    rw [View.readAt_unit _ _ _ (k1_off3_eq i) (by intro a; have := (qi i).isLt; fin_cases a <;> simp <;> omega), harg12.read_unread]; rfl
  have e2 : (View.readAt (Elt F) arg11.view (Rect.unit (s := S4096x256) (k1_off4 i) S512x256.size (k1_off4_inb i)).toLoadRect (harg11.unread x11)) = kd x11 (qi i) 1 := by
    rw [View.readAt_unit _ _ _ (k1_off4_eq i) (by intro a; have := (qi i).isLt; fin_cases a <;> simp <;> omega), harg11.read_unread]; rfl
  have e3 : (View.readAt (Elt F) arg12.view (Rect.unit (s := S144x4096) (k1_off5 i) S144x512.size (k1_off5_inb i)).toLoadRect (harg12.unread x12)) = vd x12 (qi i) 1 := by
    rw [View.readAt_unit _ _ _ (k1_off5_eq i) (by intro a; have := (qi i).isLt; fin_cases a <;> simp <;> omega), harg12.read_unread]; rfl
  have h : (tailS c i arg3 harg3 arg4 harg4 arg5 harg5 arg6 harg6 arg7 harg7 arg8 harg8 arg9 harg9 arg10 harg10 arg11 harg11 arg12 harg12 arg2 v5 v10 v31 v37 v39 x8 x9 x11 x12 hb).1
      = (fun (v89 : F .f32) (d : FVec F S144x1024 .f32) => (fun acc => ([⟨Rect.unit (s := S1x1024x128) ![0, 896, 0] S1x128x128.size inb_S1x1024x128_S1x128x128_0_896_0, k1_pay5 v5 (k1_pay12 acc)⟩,
      ⟨Rect.unit (s := S1x1024x128) ![0, 768, 0] S1x128x128.size inb_S1x1024x128_S1x128x128_0_768_0, k1_pay4 v5 (k1_pay12 acc)⟩,
      ⟨Rect.unit (s := S1x1024x128) ![0, 640, 0] S1x128x128.size inb_S1x1024x128_S1x128x128_0_640_0, k1_pay3 v5 (k1_pay12 acc)⟩,
      ⟨Rect.unit (s := S1x1024x128) ![0, 512, 0] S1x128x128.size inb_S1x1024x128_S1x128x128_0_512_0, k1_pay2 v5 (k1_pay12 acc)⟩,
      ⟨Rect.unit (s := S1x1024x128) ![0, 384, 0] S1x128x128.size inb_S1x1024x128_S1x128x128_0_384_0, k1_pay16 v5 acc⟩,
      ⟨Rect.unit (s := S1x1024x128) ![0, 256, 0] S1x128x128.size inb_S1x1024x128_S1x128x128_0_256_0, k1_pay15 v5 acc⟩,
      ⟨Rect.unit (s := S1x1024x128) ![0, 128, 0] S1x128x128.size inb_S1x1024x128_S1x128x128_0_128_0, k1_pay14 v5 acc⟩,
      ⟨Rect.unit (s := S1x1024x128) ![0, 0, 0] S1x128x128.size inb_S1x1024x128_S1x128x128_0_0_0, k1_pay13 v5 acc⟩] : List (View.Piece (Elt F) S1x1024x128 .bf16))) (st_k1_t2 (F := F) Variants.none c none i arg3 harg3 arg4 harg4 arg5 harg5 arg6 harg6 arg7 harg7 arg8 harg8 arg9 harg9 arg10 harg10 arg11 harg11 arg12 harg12 arg2 v5 (k1_pay50 v31 v37 v39) v89 d (harg11.unread x11) (harg12.unread x12) (st_k1_t1 (F := F) Variants.none c none i arg3 harg3 arg4 harg4 arg5 harg5 arg6 harg6 arg7 harg7 arg8 harg8 arg9 harg9 arg10 harg10 arg11 harg11 arg12 harg12 arg2 v5 (k1_pay50 v31 v37 v39) v89 d (harg11.unread x11) (harg12.unread x12) d (k1_t1_loop i).trips) (k1_t2_loop i).trips)) (k1_pay1 (k1_pay51 (View.readAt (Elt F) arg8.view (Rect.unit (s := S1x128) ![0, 0] S1x128.size inb_S1x128_S1x128_0_0).toLoadRect (harg8.unread x8))) (k1_pay52 (View.readAt (Elt F) arg9.view (Rect.unit (s := S1x128) ![0, 0] S1x128.size inb_S1x128_S1x128_0_0).toLoadRect (harg9.unread x9)))) (k1_pay9 (k1_pay50 v31 v37 v39) io0 io1 (k1_pay1 (k1_pay51 (View.readAt (Elt F) arg8.view (Rect.unit (s := S1x128) ![0, 0] S1x128.size inb_S1x128_S1x128_0_0).toLoadRect (harg8.unread x8))) (k1_pay52 (View.readAt (Elt F) arg9.view (Rect.unit (s := S1x128) ![0, 0] S1x128.size inb_S1x128_S1x128_0_0).toLoadRect (harg9.unread x9)))) (View.readAt (Elt F) arg11.view (Rect.unit (s := S4096x256) (k1_off2 i) S512x256.size (k1_off2_inb i)).toLoadRect (harg11.unread x11)) (View.readAt (Elt F) arg12.view (Rect.unit (s := S144x4096) (k1_off3 i) S144x512.size (k1_off3_inb i)).toLoadRect (harg12.unread x12)) (View.readAt (Elt F) arg11.view (Rect.unit (s := S4096x256) (k1_off4 i) S512x256.size (k1_off4_inb i)).toLoadRect (harg11.unread x11)) (View.readAt (Elt F) arg12.view (Rect.unit (s := S144x4096) (k1_off5 i) S144x512.size (k1_off5_inb i)).toLoadRect (harg12.unread x12))) := by
    unfold tailS; rfl
  rw [h, e8, e9, e0, e1, e2, e3, trips1, trips2]
  refine (pcsS v5 _).trans ?_
  exact congrArg (fun s => pcs v5 (k1_pay12 s)) (stateS Variants.none c none i arg3 harg3 arg4 harg4 arg5 harg5 arg6 harg6 arg7 harg7 arg8 harg8 arg9 harg9 arg10 harg10 arg11 harg11 arg12 harg12 arg2 v5 _ _ _ x11 x12 (i 2).val le_rfl)

set_option maxHeartbeats 1000000 in
theorem tailM_eq (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v5 : FVec F S128x128 .bf16) (v10 : BitVec 32) (v31 : FVec F S128x1024 .bf16) (v37 : FVec F S1x1024 .bf16) (v39 : FVec F S1x1024 .f32) (x8 : Vec F S1x128 .f32) (x9 : Vec F S1x128 .f32) (x11 : Vec F S4096x256 .bf16) (x12 : Vec F S144x4096 .bf16) (hb : ¬ small (k1_pay51 x8) (k1_pay52 x9)) :
    (tailM c i arg3 harg3 arg4 harg4 arg5 harg5 arg6 harg6 arg7 harg7 arg8 harg8 arg9 harg9 arg10 harg10 arg11 harg11 arg12 harg12 arg2 v5 v10 v31 v37 v39 x8 x9 x11 x12 hb).1
      = pcs v5 (k1_pay12 (accM (qi i) (k1_pay50 v31 v37 v39) x11 x12 (i 2).val).2) := by
  have e0 : (View.readAt (Elt F) arg11.view (Rect.unit (s := S4096x256) (k1_off10 i) S512x256.size (k1_off10_inb i)).toLoadRect (harg11.unread x11)) = kd x11 (qi i) 0 := by
    rw [View.readAt_unit _ _ _ (k1_off10_eq i) (by intro a; have := (qi i).isLt; fin_cases a <;> simp <;> omega), harg11.read_unread]; rfl
  have e1 : (View.readAt (Elt F) arg12.view (Rect.unit (s := S144x4096) (k1_off11 i) S144x512.size (k1_off11_inb i)).toLoadRect (harg12.unread x12)) = vd x12 (qi i) 0 := by
    rw [View.readAt_unit _ _ _ (k1_off11_eq i) (by intro a; have := (qi i).isLt; fin_cases a <;> simp <;> omega), harg12.read_unread]; rfl
  have e2 : (View.readAt (Elt F) arg11.view (Rect.unit (s := S4096x256) (k1_off12 i) S512x256.size (k1_off12_inb i)).toLoadRect (harg11.unread x11)) = kd x11 (qi i) 1 := by
    rw [View.readAt_unit _ _ _ (k1_off12_eq i) (by intro a; have := (qi i).isLt; fin_cases a <;> simp <;> omega), harg11.read_unread]; rfl
  have e3 : (View.readAt (Elt F) arg12.view (Rect.unit (s := S144x4096) (k1_off13 i) S144x512.size (k1_off13_inb i)).toLoadRect (harg12.unread x12)) = vd x12 (qi i) 1 := by
    rw [View.readAt_unit _ _ _ (k1_off13_eq i) (by intro a; have := (qi i).isLt; fin_cases a <;> simp <;> omega), harg12.read_unread]; rfl
  have h : (tailM c i arg3 harg3 arg4 harg4 arg5 harg5 arg6 harg6 arg7 harg7 arg8 harg8 arg9 harg9 arg10 harg10 arg11 harg11 arg12 harg12 arg2 v5 v10 v31 v37 v39 x8 x9 x11 x12 hb).1
      = (fun (a0 : FVec F S1x1024 .f32) (a1 : FVec F S144x1024 .f32) (a2 : Vec F S144x512 .bf16) (a3 : FVec F S1x512 .f32) (a4 : FVec F S144x512 .f32) (a5 : FVec F S512x512 .f32) (a6 : FVec F S1x512 .f32) => (fun acc => ([⟨Rect.unit (s := S1x1024x128) ![0, 896, 0] S1x128x128.size inb_S1x1024x128_S1x128x128_0_896_0, k1_pay43 v5 (k1_pay34 acc)⟩,
      ⟨Rect.unit (s := S1x1024x128) ![0, 768, 0] S1x128x128.size inb_S1x1024x128_S1x128x128_0_768_0, k1_pay42 v5 (k1_pay34 acc)⟩,
      ⟨Rect.unit (s := S1x1024x128) ![0, 640, 0] S1x128x128.size inb_S1x1024x128_S1x128x128_0_640_0, k1_pay41 v5 (k1_pay34 acc)⟩,
      ⟨Rect.unit (s := S1x1024x128) ![0, 512, 0] S1x128x128.size inb_S1x1024x128_S1x128x128_0_512_0, k1_pay40 v5 (k1_pay34 acc)⟩,
      ⟨Rect.unit (s := S1x1024x128) ![0, 384, 0] S1x128x128.size inb_S1x1024x128_S1x128x128_0_384_0, k1_pay39 v5 (k1_pay34 acc)⟩,
      ⟨Rect.unit (s := S1x1024x128) ![0, 256, 0] S1x128x128.size inb_S1x1024x128_S1x128x128_0_256_0, k1_pay38 (k1_pay37 v5 acc)⟩,
      ⟨Rect.unit (s := S1x1024x128) ![0, 128, 0] S1x128x128.size inb_S1x1024x128_S1x128x128_0_128_0, k1_pay36 v5 acc⟩,
      ⟨Rect.unit (s := S1x1024x128) ![0, 0, 0] S1x128x128.size inb_S1x1024x128_S1x128x128_0_0_0, k1_pay35 v5 acc⟩] : List (View.Piece (Elt F) S1x1024x128 .bf16))) (st_k1_t4 (F := F) Variants.none c none i arg3 harg3 arg4 harg4 arg5 harg5 arg6 harg6 arg7 harg7 arg8 harg8 arg9 harg9 arg10 harg10 arg11 harg11 arg12 harg12 arg2 v5 (k1_pay50 v31 v37 v39) a0 a1 a2 a3 a4 a5 a6 (harg11.unread x11) (harg12.unread x12) (st_k1_t3 (F := F) Variants.none c none i arg3 harg3 arg4 harg4 arg5 harg5 arg6 harg6 arg7 harg7 arg8 harg8 arg9 harg9 arg10 harg10 arg11 harg11 arg12 harg12 arg2 v5 (k1_pay50 v31 v37 v39) a0 a1 a2 a3 a4 a5 a6 (harg11.unread x11) (harg12.unread x12) (k1_pay26 a0 a3 a6, k1_pay27 a1 a2 a3 a4 a5 a6) (k1_t3_loop i).trips) (k1_t4_loop i).trips).2) (k1_pay19 (k1_pay50 v31 v37 v39) io0 io1 (View.readAt (Elt F) arg11.view (Rect.unit (s := S4096x256) (k1_off10 i) S512x256.size (k1_off10_inb i)).toLoadRect (harg11.unread x11))) (k1_pay20 (k1_pay50 v31 v37 v39) io0 io1 (View.readAt (Elt F) arg11.view (Rect.unit (s := S4096x256) (k1_off10 i) S512x256.size (k1_off10_inb i)).toLoadRect (harg11.unread x11)) (View.readAt (Elt F) arg12.view (Rect.unit (s := S144x4096) (k1_off11 i) S144x512.size (k1_off11_inb i)).toLoadRect (harg12.unread x12))) (View.readAt (Elt F) arg12.view (Rect.unit (s := S144x4096) (k1_off13 i) S144x512.size (k1_off13_inb i)).toLoadRect (harg12.unread x12)) (k1_pay21 (k1_pay50 v31 v37 v39) io0 io1 (View.readAt (Elt F) arg11.view (Rect.unit (s := S4096x256) (k1_off10 i) S512x256.size (k1_off10_inb i)).toLoadRect (harg11.unread x11))) (k1_pay22 (k1_pay50 v31 v37 v39) io0 io1 (View.readAt (Elt F) arg11.view (Rect.unit (s := S4096x256) (k1_off10 i) S512x256.size (k1_off10_inb i)).toLoadRect (harg11.unread x11)) (View.readAt (Elt F) arg12.view (Rect.unit (s := S144x4096) (k1_off11 i) S144x512.size (k1_off11_inb i)).toLoadRect (harg12.unread x12))) (k1_pay23 (k1_pay50 v31 v37 v39) io0 io1 (View.readAt (Elt F) arg11.view (Rect.unit (s := S4096x256) (k1_off12 i) S512x256.size (k1_off12_inb i)).toLoadRect (harg11.unread x11))) (k1_pay24 (k1_pay50 v31 v37 v39) io0 io1 (View.readAt (Elt F) arg11.view (Rect.unit (s := S4096x256) (k1_off12 i) S512x256.size (k1_off12_inb i)).toLoadRect (harg11.unread x11))) := by
    unfold tailM; rfl
  rw [h, e0, e1, e2, e3, trips3, trips4]
  refine (pcsM v5 _).trans ?_
  exact congrArg (fun s : FVec F S1x1024 .f32 × FVec F S144x1024 .f32 => pcs v5 (k1_pay12 s.2)) (stateM Variants.none c none i arg3 harg3 arg4 harg4 arg5 harg5 arg6 harg6 arg7 harg7 arg8 harg8 arg9 harg9 arg10 harg10 arg11 harg11 arg12 harg12 arg2 v5 _ _ _ _ _ _ _ _ x11 x12 (i 2).val le_rfl)

/-- The query's part of the gate sums. -/
def cw (i : grid1.Coords) (x7 : Vec F S1x1x4096 .f32) : Vec F S1x1x1024 .f32 :=
  VecWindow.window x7 ![0, 0, 1024 * (qi i).val] S1x1x1024.size (by intro a; have := (qi i).isLt; fin_cases a <;> simp <;> omega)

/-- The columns of the queries. -/
def qcol (i : grid1.Coords) (x3 : Vec F S1x1024x128 .f32) (x7 : Vec F S1x1x4096 .f32) (x8 : Vec F S1x128 .f32) : FVec F S256x1024 .bf16 :=
  k1_pay50 (k1_pay46 x3 x8) (k1_pay48 (cw i x7)) (k1_pay49 (cw i x7))

/-- What the fill hands on. -/
def handed (i : grid1.Coords) (x3 : Vec F S1x1024x128 .f32) (x7 : Vec F S1x1x4096 .f32) (x8 : Vec F S1x128 .f32) : Σ' (_ : BitVec 32) (_ : FVec F S128x128 .bf16) (_ : BitVec 32) (_ : FVec F S128x1024 .bf16) (_ : FVec F S1x1024 .bf16), FVec F S1x1024 .f32 :=
  ⟨BitVec.ofNat 32 (i 2).val, k1_pay44, Scalar.muli (BitVec.ofNat 32 (i 2).val) (1024#32), k1_pay46 x3 x8, k1_pay48 (cw i x7), k1_pay49 (cw i x7)⟩

theorem fillB_eq (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : ¬ first i) (x3 : Vec F S1x1024x128 .f32) (x7 : Vec F S1x1x4096 .f32) (x8 : Vec F S1x128 .f32) :
    (fillB c i arg3 harg3 arg4 harg4 arg5 harg5 arg6 harg6 arg7 harg7 arg8 harg8 arg9 harg9 arg10 harg10 arg11 harg11 arg12 harg12 hc0 x3 x7 x8).1 = handed i x3 x7 x8 := by
  have e3 : (View.readAt (Elt F) arg3.view (Rect.unit (s := S1x1024x128) ![0, 0, 0] S1x1024x128.size inb_S1x1024x128_S1x1024x128_0_0_0).toLoadRect (harg3.unread x3)) = x3 := by rw [View.readAt_full, harg3.read_unread]
  have e8 : (View.readAt (Elt F) arg8.view (Rect.unit (s := S1x128) ![0, 0] S1x128.size inb_S1x128_S1x128_0_0).toLoadRect (harg8.unread x8)) = x8 := by rw [View.readAt_full, harg8.read_unread]
  have e7 : (View.readAt (Elt F) arg7.view (Rect.unit (s := S1x1x4096) (k1_off1 i) S1x1x1024.size (k1_off1_inb i)).toLoadRect (harg7.unread x7)) = cw i x7 := by
    rw [View.readAt_unit _ _ _ (k1_off1_eq i) (by intro a; have := (qi i).isLt; fin_cases a <;> simp <;> omega), harg7.read_unread]; rfl
  have h : (fillB c i arg3 harg3 arg4 harg4 arg5 harg5 arg6 harg6 arg7 harg7 arg8 harg8 arg9 harg9 arg10 harg10 arg11 harg11 arg12 harg12 hc0 x3 x7 x8).1
      = ⟨BitVec.ofNat 32 (i 2).val, k1_pay44, Scalar.muli (BitVec.ofNat 32 (i 2).val) (1024#32), k1_pay46 (View.readAt (Elt F) arg3.view (Rect.unit (s := S1x1024x128) ![0, 0, 0] S1x1024x128.size inb_S1x1024x128_S1x1024x128_0_0_0).toLoadRect (harg3.unread x3)) (View.readAt (Elt F) arg8.view (Rect.unit (s := S1x128) ![0, 0] S1x128.size inb_S1x128_S1x128_0_0).toLoadRect (harg8.unread x8)), k1_pay48 (View.readAt (Elt F) arg7.view (Rect.unit (s := S1x1x4096) (k1_off1 i) S1x1x1024.size (k1_off1_inb i)).toLoadRect (harg7.unread x7)), k1_pay49 (View.readAt (Elt F) arg7.view (Rect.unit (s := S1x1x4096) (k1_off1 i) S1x1x1024.size (k1_off1_inb i)).toLoadRect (harg7.unread x7))⟩ := by
    unfold fillB; rfl
  rw [h, e3, e8, e7]
  rfl

theorem fillA_eq (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : first i) (x3 : Vec F S1x1024x128 .f32) (x4 : Vec F S1x4096x128 .f32) (x5 : Vec F S1x4096x128 .f32) (x6 : Vec F S1x1x4096x128 .bf16) (x7 : Vec F S1x1x4096 .f32) (x8 : Vec F S1x128 .f32) (x9 : Vec F S1x128 .f32) :
    (fillA c i arg3 harg3 arg4 harg4 arg5 harg5 arg6 harg6 arg7 harg7 arg8 harg8 arg9 harg9 arg10 harg10 arg11 harg11 arg12 harg12 hc0 x3 x4 x5 x6 x7 x8 x9).1 = handed i x3 x7 x8 := by
  have e3 : (View.readAt (Elt F) arg3.view (Rect.unit (s := S1x1024x128) ![0, 0, 0] S1x1024x128.size inb_S1x1024x128_S1x1024x128_0_0_0).toLoadRect (harg3.unread x3)) = x3 := by rw [View.readAt_full, harg3.read_unread]
  have e8 : (View.readAt (Elt F) arg8.view (Rect.unit (s := S1x128) ![0, 0] S1x128.size inb_S1x128_S1x128_0_0).toLoadRect (harg8.unread x8)) = x8 := by rw [View.readAt_full, harg8.read_unread]
  have e7 : (View.readAt (Elt F) arg7.view (Rect.unit (s := S1x1x4096) (k1_off1 i) S1x1x1024.size (k1_off1_inb i)).toLoadRect (harg7.unread x7)) = cw i x7 := by
    rw [View.readAt_unit _ _ _ (k1_off1_eq i) (by intro a; have := (qi i).isLt; fin_cases a <;> simp <;> omega), harg7.read_unread]; rfl
  have h : (fillA c i arg3 harg3 arg4 harg4 arg5 harg5 arg6 harg6 arg7 harg7 arg8 harg8 arg9 harg9 arg10 harg10 arg11 harg11 arg12 harg12 hc0 x3 x4 x5 x6 x7 x8 x9).1
      = ⟨BitVec.ofNat 32 (i 2).val, k1_pay44, Scalar.muli (BitVec.ofNat 32 (i 2).val) (1024#32), k1_pay46 (View.readAt (Elt F) arg3.view (Rect.unit (s := S1x1024x128) ![0, 0, 0] S1x1024x128.size inb_S1x1024x128_S1x1024x128_0_0_0).toLoadRect (harg3.unread x3)) (View.readAt (Elt F) arg8.view (Rect.unit (s := S1x128) ![0, 0] S1x128.size inb_S1x128_S1x128_0_0).toLoadRect (harg8.unread x8)), k1_pay48 (View.readAt (Elt F) arg7.view (Rect.unit (s := S1x1x4096) (k1_off1 i) S1x1x1024.size (k1_off1_inb i)).toLoadRect (harg7.unread x7)), k1_pay49 (View.readAt (Elt F) arg7.view (Rect.unit (s := S1x1x4096) (k1_off1 i) S1x1x1024.size (k1_off1_inb i)).toLoadRect (harg7.unread x7))⟩ := by
    unfold fillA; rfl
  rw [h, e3, e8, e7]
  rfl

theorem fillA_list11 (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : first i) (x3 : Vec F S1x1024x128 .f32) (x4 : Vec F S1x4096x128 .f32) (x5 : Vec F S1x4096x128 .f32) (x6 : Vec F S1x1x4096x128 .bf16) (x7 : Vec F S1x1x4096 .f32) (x8 : Vec F S1x128 .f32) (x9 : Vec F S1x128 .f32) :
    (fillA c i arg3 harg3 arg4 harg4 arg5 harg5 arg6 harg6 arg7 harg7 arg8 harg8 arg9 harg9 arg10 harg10 arg11 harg11 arg12 harg12 hc0 x3 x4 x5 x6 x7 x8 x9).2.1 = ([⟨Rect.unit (s := S4096x256) ![0, 128] S4096x128.size inb_S4096x256_S4096x128_0_128, k1_pay7 x6⟩, ⟨Rect.unit (s := S4096x256) ![0, 0] S4096x128.size inb_S4096x256_S4096x128_0_0, k1_pay6 x4 x9⟩] : List (View.Piece (Elt F) S4096x256 .bf16)) := by
  have e4 : (View.readAt (Elt F) arg4.view (Rect.unit (s := S1x4096x128) ![0, 0, 0] S1x4096x128.size inb_S1x4096x128_S1x4096x128_0_0_0).toLoadRect (harg4.unread x4)) = x4 := by rw [View.readAt_full, harg4.read_unread]
  have e6 : (View.readAt (Elt F) arg6.view (Rect.unit (s := S1x1x4096x128) ![0, 0, 0, 0] S1x1x4096x128.size inb_S1x1x4096x128_S1x1x4096x128_0_0_0_0).toLoadRect (harg6.unread x6)) = x6 := by rw [View.readAt_full, harg6.read_unread]
  have e9 : (View.readAt (Elt F) arg9.view (Rect.unit (s := S1x128) ![0, 0] S1x128.size inb_S1x128_S1x128_0_0).toLoadRect (harg9.unread x9)) = x9 := by rw [View.readAt_full, harg9.read_unread]
  have h : (fillA c i arg3 harg3 arg4 harg4 arg5 harg5 arg6 harg6 arg7 harg7 arg8 harg8 arg9 harg9 arg10 harg10 arg11 harg11 arg12 harg12 hc0 x3 x4 x5 x6 x7 x8 x9).2.1 = ([⟨Rect.unit (s := S4096x256) ![0, 128] S4096x128.size inb_S4096x256_S4096x128_0_128, k1_pay7 (View.readAt (Elt F) arg6.view (Rect.unit (s := S1x1x4096x128) ![0, 0, 0, 0] S1x1x4096x128.size inb_S1x1x4096x128_S1x1x4096x128_0_0_0_0).toLoadRect (harg6.unread x6))⟩, ⟨Rect.unit (s := S4096x256) ![0, 0] S4096x128.size inb_S4096x256_S4096x128_0_0, k1_pay6 (View.readAt (Elt F) arg4.view (Rect.unit (s := S1x4096x128) ![0, 0, 0] S1x4096x128.size inb_S1x4096x128_S1x4096x128_0_0_0).toLoadRect (harg4.unread x4)) (View.readAt (Elt F) arg9.view (Rect.unit (s := S1x128) ![0, 0] S1x128.size inb_S1x128_S1x128_0_0).toLoadRect (harg9.unread x9))⟩] : List (View.Piece (Elt F) S4096x256 .bf16)) := by
    unfold fillA; rfl
  rw [h, e4, e6, e9]

theorem fillA_list12 (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : first i) (x3 : Vec F S1x1024x128 .f32) (x4 : Vec F S1x4096x128 .f32) (x5 : Vec F S1x4096x128 .f32) (x6 : Vec F S1x1x4096x128 .bf16) (x7 : Vec F S1x1x4096 .f32) (x8 : Vec F S1x128 .f32) (x9 : Vec F S1x128 .f32) :
    (fillA c i arg3 harg3 arg4 harg4 arg5 harg5 arg6 harg6 arg7 harg7 arg8 harg8 arg9 harg9 arg10 harg10 arg11 harg11 arg12 harg12 hc0 x3 x4 x5 x6 x7 x8 x9).2.2.1 = ([⟨Rect.unit (s := S144x4096) ![128, 0] S16x4096.size inb_S144x4096_S16x4096_128_0, (k1_pay45 (F := F) (iota .tc S16x4096 32 [0] iota_S16x4096_d0_w32) 0#32)⟩, ⟨Rect.unit (s := S144x4096) ![0, 0] S128x4096.size inb_S144x4096_S128x4096_0_0, k1_pay8 k1_pay44 x5⟩] : List (View.Piece (Elt F) S144x4096 .bf16)) := by
  have e5 : (View.readAt (Elt F) arg5.view (Rect.unit (s := S1x4096x128) ![0, 0, 0] S1x4096x128.size inb_S1x4096x128_S1x4096x128_0_0_0).toLoadRect (harg5.unread x5)) = x5 := by rw [View.readAt_full, harg5.read_unread]
  have h : (fillA c i arg3 harg3 arg4 harg4 arg5 harg5 arg6 harg6 arg7 harg7 arg8 harg8 arg9 harg9 arg10 harg10 arg11 harg11 arg12 harg12 hc0 x3 x4 x5 x6 x7 x8 x9).2.2.1 = ([⟨Rect.unit (s := S144x4096) ![128, 0] S16x4096.size inb_S144x4096_S16x4096_128_0, (k1_pay45 (F := F) (iota .tc S16x4096 32 [0] iota_S16x4096_d0_w32) 0#32)⟩, ⟨Rect.unit (s := S144x4096) ![0, 0] S128x4096.size inb_S144x4096_S128x4096_0_0, k1_pay8 k1_pay44 (View.readAt (Elt F) arg5.view (Rect.unit (s := S1x4096x128) ![0, 0, 0] S1x4096x128.size inb_S1x4096x128_S1x4096x128_0_0_0).toLoadRect (harg5.unread x5))⟩] : List (View.Piece (Elt F) S144x4096 .bf16)) := by
    unfold fillA; rfl
  rw [h, e5]

/-- The keys with their features. -/
def KA (x4 : Vec F S1x4096x128 .f32) (x6 : Vec F S1x1x4096x128 .bf16) (x9 : Vec F S1x128 .f32) : Vec F S4096x256 .bf16 :=
  fun y => if h : (y 1).val < 128 then k1_pay6 x4 x9 (ix2 (y 0) ⟨(y 1).val, h⟩) else k1_pay7 x6 (ix2 (y 0) ⟨(y 1).val - 128, by have : (y 1).val < 256 := (y 1).isLt; omega⟩)

/-- The values with their row of ones. -/
def VT (x5 : Vec F S1x4096x128 .f32) : Vec F S144x4096 .bf16 :=
  fun y => if h : (y 0).val < 128 then k1_pay8 k1_pay44 x5 (ix2 ⟨(y 0).val, h⟩ (y 1)) else (k1_pay45 (F := F) (iota .tc S16x4096 32 [0] iota_S16x4096_d0_w32) 0#32) (ix2 ⟨(y 0).val - 128, by have : (y 0).val < 144 := (y 0).isLt; omega⟩ (y 1))

theorem read11 {sp : Space} (v : View sig .tc sp S4096x256 .bf16) (f : v.ty.Contents (Elt F)) (x4 : Vec F S1x4096x128 .f32) (x6 : Vec F S1x1x4096x128 .bf16) (x9 : Vec F S1x128 .f32) :
    v.read (Elt F) (v.writes (Elt F) f ([⟨Rect.unit (s := S4096x256) ![0, 128] S4096x128.size inb_S4096x256_S4096x128_0_128, k1_pay7 x6⟩, ⟨Rect.unit (s := S4096x256) ![0, 0] S4096x128.size inb_S4096x256_S4096x128_0_0, k1_pay6 x4 x9⟩] : List (View.Piece (Elt F) S4096x256 .bf16))) = KA x4 x6 x9 := by
  funext y
  have h0 : (y 0).val < 4096 := (y 0).isLt
  have h1 : (y 1).val < 256 := (y 1).isLt
  refine View.read_writes_apply_of_pieces v f (KA x4 x6 x9) _ ?_ y ?_
  · intro p hp x
    simp only [List.mem_cons, List.not_mem_nil, or_false] at hp
    rcases hp with rfl | rfl
    · have hx : (x 1).val < 128 := (x 1).isLt
      have e1 : ((Rect.unit (s := S4096x256) ![0, 128] S4096x128.size inb_S4096x256_S4096x128_0_128).emb x 1).val = 128 + (x 1).val := by
        show 128 + 1 * (x 1).val = _
        omega
      have e0 : ((Rect.unit (s := S4096x256) ![0, 128] S4096x128.size inb_S4096x256_S4096x128_0_128).emb x 0).val = (x 0).val := by
        show 0 + 1 * (x 0).val = _
        omega
      unfold KA
      rw [dif_neg (by rw [e1]; omega)]
      show k1_pay7 x6 x = _
      congr 1
      funext a
      fin_cases a
      · exact Fin.ext e0.symm
      · exact Fin.ext (by show (x 1).val = ((Rect.unit (s := S4096x256) ![0, 128] S4096x128.size inb_S4096x256_S4096x128_0_128).emb x 1).val - 128; rw [e1]; omega)
    · have hx : (x 1).val < 128 := (x 1).isLt
      have e1 : ((Rect.unit (s := S4096x256) ![0, 0] S4096x128.size inb_S4096x256_S4096x128_0_0).emb x 1).val = (x 1).val := by
        show 0 + 1 * (x 1).val = _
        omega
      have e0 : ((Rect.unit (s := S4096x256) ![0, 0] S4096x128.size inb_S4096x256_S4096x128_0_0).emb x 0).val = (x 0).val := by
        show 0 + 1 * (x 0).val = _
        omega
      unfold KA
      rw [dif_pos (by rw [e1]; omega)]
      show k1_pay6 x4 x9 x = _
      congr 1
      funext a
      fin_cases a
      · exact Fin.ext e0.symm
      · exact Fin.ext e1.symm
  · by_cases h : (y 1).val < 128
    · refine ⟨⟨Rect.unit (s := S4096x256) ![0, 0] S4096x128.size inb_S4096x256_S4096x128_0_0, k1_pay6 x4 x9⟩, by simp, ?_⟩
      rw [Rect.mem_set_unit]
      intro a
      fin_cases a
      · show 0 ≤ (y 0).val ∧ (y 0).val < 0 + 4096
        omega
      · show 0 ≤ (y 1).val ∧ (y 1).val < 0 + 128
        omega
    · refine ⟨⟨Rect.unit (s := S4096x256) ![0, 128] S4096x128.size inb_S4096x256_S4096x128_0_128, k1_pay7 x6⟩, by simp, ?_⟩
      rw [Rect.mem_set_unit]
      intro a
      fin_cases a
      · show 0 ≤ (y 0).val ∧ (y 0).val < 0 + 4096
        omega
      · show 128 ≤ (y 1).val ∧ (y 1).val < 128 + 128
        omega

theorem read12 {sp : Space} (v : View sig .tc sp S144x4096 .bf16) (f : v.ty.Contents (Elt F)) (x5 : Vec F S1x4096x128 .f32) :
    v.read (Elt F) (v.writes (Elt F) f ([⟨Rect.unit (s := S144x4096) ![128, 0] S16x4096.size inb_S144x4096_S16x4096_128_0, (k1_pay45 (F := F) (iota .tc S16x4096 32 [0] iota_S16x4096_d0_w32) 0#32)⟩, ⟨Rect.unit (s := S144x4096) ![0, 0] S128x4096.size inb_S144x4096_S128x4096_0_0, k1_pay8 k1_pay44 x5⟩] : List (View.Piece (Elt F) S144x4096 .bf16))) = VT x5 := by
  funext y
  have h0 : (y 0).val < 144 := (y 0).isLt
  have h1 : (y 1).val < 4096 := (y 1).isLt
  refine View.read_writes_apply_of_pieces v f (VT x5) _ ?_ y ?_
  · intro p hp x
    simp only [List.mem_cons, List.not_mem_nil, or_false] at hp
    rcases hp with rfl | rfl
    · have hx : (x 0).val < 16 := (x 0).isLt
      have e0 : ((Rect.unit (s := S144x4096) ![128, 0] S16x4096.size inb_S144x4096_S16x4096_128_0).emb x 0).val = 128 + (x 0).val := by
        show 128 + 1 * (x 0).val = _
        omega
      have e1 : ((Rect.unit (s := S144x4096) ![128, 0] S16x4096.size inb_S144x4096_S16x4096_128_0).emb x 1).val = (x 1).val := by
        show 0 + 1 * (x 1).val = _
        omega
      unfold VT
      rw [dif_neg (by rw [e0]; omega)]
      show (k1_pay45 (F := F) (iota .tc S16x4096 32 [0] iota_S16x4096_d0_w32) 0#32) x = _
      congr 1
      funext a
      fin_cases a
      · exact Fin.ext (by show (x 0).val = ((Rect.unit (s := S144x4096) ![128, 0] S16x4096.size inb_S144x4096_S16x4096_128_0).emb x 0).val - 128; rw [e0]; omega)
      · exact Fin.ext e1.symm
    · have hx : (x 0).val < 128 := (x 0).isLt
      have e0 : ((Rect.unit (s := S144x4096) ![0, 0] S128x4096.size inb_S144x4096_S128x4096_0_0).emb x 0).val = (x 0).val := by
        show 0 + 1 * (x 0).val = _
        omega
      have e1 : ((Rect.unit (s := S144x4096) ![0, 0] S128x4096.size inb_S144x4096_S128x4096_0_0).emb x 1).val = (x 1).val := by
        show 0 + 1 * (x 1).val = _
        omega
      unfold VT
      rw [dif_pos (by rw [e0]; omega)]
      show k1_pay8 k1_pay44 x5 x = _
      congr 1
      funext a
      fin_cases a
      · exact Fin.ext e0.symm
      · exact Fin.ext e1.symm
  · by_cases h : (y 0).val < 128
    · refine ⟨⟨Rect.unit (s := S144x4096) ![0, 0] S128x4096.size inb_S144x4096_S128x4096_0_0, k1_pay8 k1_pay44 x5⟩, by simp, ?_⟩
      rw [Rect.mem_set_unit]
      intro a
      fin_cases a
      · show 0 ≤ (y 0).val ∧ (y 0).val < 0 + 128
        omega
      · show 0 ≤ (y 1).val ∧ (y 1).val < 0 + 4096
        omega
    · refine ⟨⟨Rect.unit (s := S144x4096) ![128, 0] S16x4096.size inb_S144x4096_S16x4096_128_0, (k1_pay45 (F := F) (iota .tc S16x4096 32 [0] iota_S16x4096_d0_w32) 0#32)⟩, by simp, ?_⟩
      rw [Rect.mem_set_unit]
      intro a
      fin_cases a
      · show 128 ≤ (y 0).val ∧ (y 0).val < 128 + 16
        omega
      · show 0 ≤ (y 1).val ∧ (y 1).val < 0 + 4096
        omega

open Classical in
/-- The attention of one block of queries, from the filled scratch. -/
def attnO (i : grid1.Coords) (x3 : Vec F S1x1024x128 .f32) (x7 : Vec F S1x1x4096 .f32) (x8 : Vec F S1x128 .f32) (x9 : Vec F S1x128 .f32) (x11 : Vec F S4096x256 .bf16) (x12 : Vec F S144x4096 .bf16) : Vec F S1x1024x128 .bf16 :=
  out10 k1_pay44 (k1_pay12 (if small (k1_pay51 x8) (k1_pay52 x9) then accS (qi i) (qcol i x3 x7 x8) (k1_pay1 (k1_pay51 x8) (k1_pay52 x9)) x11 x12 (i 2).val
    else (accM (qi i) (qcol i x3 x7 x8) x11 x12 (i 2).val).2))

end Cert.FoxIdeal.Attn

end
-- ==== Proof.FoxAttnObl.lean ====
module

public import proofs.«01_k».proof.Proof.Gen.FoxIdeal.Regions
public import proofs.«01_k».proof.Proof.Gen.FoxIdeal.Points
public import proofs.«01_k».proof.Proof.Gen.FoxIdeal.Loops
public import proofs.«01_k».proof.Proof.Gen.FoxIdeal.Skeleton
public import Idealize.ShloMosaic.Lib.VecWindow
public import Idealize.ShloMosaic.Lib.Pointwise
public import Idealize.ShloMosaic.Lib.Pipeline.ReadBack
public import Idealize.ShloMosaic.Lib.WordCmp
public import Idealize.ShloMosaic.Lib.Ring
public import Idealize.ShloMosaic.Lib.Tactic
public import Idealize.ShloMosaic.Lib.WritesUnit
public import Idealize.ShloMosaic.Lib.Writes
public import Idealize.ShloMosaic.Lib.Claim
public import Idealize.ShloMosaic.Lib.Pipeline.Value
public import Idealize.ShloMosaic.Lib.Pipeline.FrameBody
public import Idealize.ShloMosaic.Lib.Pipeline.RegionsLoop
public import Idealize.ShloMosaic.Lib.Pipeline.ValueKit.Acc

public import proofs.«01_k».proof.Proof.FoxAttnTail

@[expose] public section

set_option maxRecDepth 16384

noncomputable section

/-! The attention call: the body at each grid point of the pipeline. -/

namespace Cert.FoxIdeal.Attn

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem owns_of_read {sp : Space} {s : Shape} {e : EltTy} (c : Dev nD) (a : Memref sig .tc sp s e) (L : List (View.Piece (Elt F) s e)) (x : Vec F s e)
    (h : ∀ f, a.view.read (Elt F) (a.view.writes (Elt F) f L) = x) :
    iprop(∃ f, a.view.loc (c : Thread nD τ) ↦[a.view.set]{fullShare} a.view.writes (Elt F) f L) ⊢ (owns (c : Thread nD τ) a fullShare x : sProp 𝕄) := by
  iintro ⟨%f, H⟩
  unfold owns; iexists _; isplitr
  swap; · iexact H
  ipureintro; exact h f

set_option maxHeartbeats 1600000 in
open Classical in
theorem tail (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (arg2 : BitVec 32) (v10 : BitVec 32) (v31 : FVec F S128x1024 .bf16) (v37 : FVec F S1x1024 .bf16) (v39 : FVec F S1x1024 .f32) (x8 : Vec F S1x128 .f32) (x9 : Vec F S1x128 .f32) (x11 : Vec F S4096x256 .bf16) (x12 : Vec F S144x4096 .bf16) (E : Set ℕ) (K : PUnit → sProp 𝕄) :
    iprop(owns (c : Thread nD τ) arg8 fullShare x8 ∗ owns (c : Thread nD τ) arg9 fullShare x9 ∗ owns (c : Thread nD τ) arg11 fullShare x11 ∗ owns (c : Thread nD τ) arg12 fullShare x12 ∗ (∃ d, owns (c : Thread nD τ) arg10 fullShare d)
      ∗ (iprop(owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg10 fullShare (out10 k1_pay44 (k1_pay12 (if small (k1_pay51 x8) (k1_pay52 x9) then accS (qi i) (k1_pay50 v31 v37 v39) (k1_pay1 (k1_pay51 x8) (k1_pay52 x9)) x11 x12 (i 2).val
      else (accM (qi i) (k1_pay50 v31 v37 v39) x11 x12 (i 2).val).2)))) -∗ K ⟨⟩))
      ⊢ wp frame (wpE (defs₀ (F := F)) Variants.none c none) E (rest i arg3 harg3 arg4 harg4 arg5 harg5 arg6 harg6 arg7 harg7 arg8 harg8 arg9 harg9 arg10 harg10 arg11 harg11 arg12 harg12 arg2 k1_pay44 v10 v31 v37 v39) K := by
  iintro ⟨H8, H9, H11, H12, H10, Hk⟩
  by_cases hb : small (k1_pay51 x8) (k1_pay52 x9)
  · iapply ((tailS c i arg3 harg3 arg4 harg4 arg5 harg5 arg6 harg6 arg7 harg7 arg8 harg8 arg9 harg9 arg10 harg10 arg11 harg11 arg12 harg12 arg2 k1_pay44 v10 v31 v37 v39 x8 x9 x11 x12 hb).2 E K)
    isplitl [H8]; · iexact H8
    isplitl [H9]; · iexact H9
    isplitl [H11]; · iexact H11
    isplitl [H12]; · iexact H12
    isplitl [H10]; · iexact H10
    iintro ⟨H8, H9, H11, H12, H10⟩
    iapply Hk
    isplitl [H8]; · iexact H8
    isplitl [H9]; · iexact H9
    isplitl [H11]; · iexact H11
    isplitl [H12]; · iexact H12
    rw [if_pos hb]
    iapply (owns_of_read c arg10 (tailS c i arg3 harg3 arg4 harg4 arg5 harg5 arg6 harg6 arg7 harg7 arg8 harg8 arg9 harg9 arg10 harg10 arg11 harg11 arg12 harg12 arg2 k1_pay44 v10 v31 v37 v39 x8 x9 x11 x12 hb).1 _ (fun f => by rw [tailS_eq]; exact read10 arg10.view f _ _))
    iexact H10
  · iapply ((tailM c i arg3 harg3 arg4 harg4 arg5 harg5 arg6 harg6 arg7 harg7 arg8 harg8 arg9 harg9 arg10 harg10 arg11 harg11 arg12 harg12 arg2 k1_pay44 v10 v31 v37 v39 x8 x9 x11 x12 hb).2 E K)
    isplitl [H8]; · iexact H8
    isplitl [H9]; · iexact H9
    isplitl [H11]; · iexact H11
    isplitl [H12]; · iexact H12
    isplitl [H10]; · iexact H10
    iintro ⟨H8, H9, H11, H12, H10⟩
    iapply Hk
    isplitl [H8]; · iexact H8
    isplitl [H9]; · iexact H9
    isplitl [H11]; · iexact H11
    isplitl [H12]; · iexact H12
    rw [if_neg hb]
    iapply (owns_of_read c arg10 (tailM c i arg3 harg3 arg4 harg4 arg5 harg5 arg6 harg6 arg7 harg7 arg8 harg8 arg9 harg9 arg10 harg10 arg11 harg11 arg12 harg12 arg2 k1_pay44 v10 v31 v37 v39 x8 x9 x11 x12 hb).1 _ (fun f => by rw [tailM_eq]; exact read10 arg10.view f _ _))
    iexact H10

theorem k7_first (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : first i) (x3 : Vec F S1x1024x128 .f32) (x4 : Vec F S1x4096x128 .f32) (x5 : Vec F S1x4096x128 .f32) (x6 : Vec F S1x1x4096x128 .bf16) (x7 : Vec F S1x1x4096 .f32) (x8 : Vec F S1x128 .f32) (x9 : Vec F S1x128 .f32) (E : Set ℕ) (K : _ → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg11 fullShare d) ∗ (∃ d, owns (c : Thread nD τ) arg12 fullShare d)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (KA x4 x6 x9) ∗ owns (c : Thread nD τ) arg12 fullShare (VT x5)) -∗ K (handed i x3 x7 x8)))
      ⊢ wp frame (wpE (defs₀ (F := F)) Variants.none c none) E (k1_part7 i arg3 harg3 arg4 harg4 arg5 harg5 arg6 harg6 arg7 harg7 arg8 harg8 arg9 harg9 arg10 harg10 arg11 harg11 arg12 harg12) K := by
  rw [← fillA_eq c i arg3 harg3 arg4 harg4 arg5 harg5 arg6 harg6 arg7 harg7 arg8 harg8 arg9 harg9 arg10 harg10 arg11 harg11 arg12 harg12 hc0 x3 x4 x5 x6 x7 x8 x9]
  iintro ⟨H3, H4, H5, H6, H7, H8, H9, H11, H12, Hk⟩
  iapply ((fillA c i arg3 harg3 arg4 harg4 arg5 harg5 arg6 harg6 arg7 harg7 arg8 harg8 arg9 harg9 arg10 harg10 arg11 harg11 arg12 harg12 hc0 x3 x4 x5 x6 x7 x8 x9).2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  iintro ⟨H3, H4, H5, H6, H7, H8, H9, H11, H12⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]
  · iapply (owns_of_read c arg11 (fillA c i arg3 harg3 arg4 harg4 arg5 harg5 arg6 harg6 arg7 harg7 arg8 harg8 arg9 harg9 arg10 harg10 arg11 harg11 arg12 harg12 hc0 x3 x4 x5 x6 x7 x8 x9).2.1 _ (fun f => by rw [fillA_list11]; exact read11 arg11.view f _ _ _))
    iexact H11
  iapply (owns_of_read c arg12 (fillA c i arg3 harg3 arg4 harg4 arg5 harg5 arg6 harg6 arg7 harg7 arg8 harg8 arg9 harg9 arg10 harg10 arg11 harg11 arg12 harg12 hc0 x3 x4 x5 x6 x7 x8 x9).2.2.1 _ (fun f => by rw [fillA_list12]; exact read12 arg12.view f _))
  iexact H12

theorem k7_later (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : ¬first i) (x3 : Vec F S1x1024x128 .f32) (x7 : Vec F S1x1x4096 .f32) (x8 : Vec F S1x128 .f32) (E : Set ℕ) (K : _ → sProp 𝕄) :
    iprop(owns (c : Thread nD τ) arg3 fullShare x3 ∗ owns (c : Thread nD τ) arg7 fullShare x7 ∗ owns (c : Thread nD τ) arg8 fullShare x8
      ∗ (iprop(owns (c : Thread nD τ) arg3 fullShare x3 ∗ owns (c : Thread nD τ) arg7 fullShare x7 ∗ owns (c : Thread nD τ) arg8 fullShare x8) -∗ K (handed i x3 x7 x8)))
      ⊢ wp frame (wpE (defs₀ (F := F)) Variants.none c none) E (k1_part7 i arg3 harg3 arg4 harg4 arg5 harg5 arg6 harg6 arg7 harg7 arg8 harg8 arg9 harg9 arg10 harg10 arg11 harg11 arg12 harg12) K := by
  rw [← fillB_eq c i arg3 harg3 arg4 harg4 arg5 harg5 arg6 harg6 arg7 harg7 arg8 harg8 arg9 harg9 arg10 harg10 arg11 harg11 arg12 harg12 hc0 x3 x7 x8]
  exact (fillB c i arg3 harg3 arg4 harg4 arg5 harg5 arg6 harg6 arg7 harg7 arg8 harg8 arg9 harg9 arg10 harg10 arg11 harg11 arg12 harg12 hc0 x3 x7 x8).2 E K

set_option maxHeartbeats 1600000 in
theorem body_first (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : first i) (x3 : Vec F S1x1024x128 .f32) (x4 : Vec F S1x4096x128 .f32) (x5 : Vec F S1x4096x128 .f32) (x6 : Vec F S1x1x4096x128 .bf16) (x7 : Vec F S1x1x4096 .f32) (x8 : Vec F S1x128 .f32) (x9 : Vec F S1x128 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (attnO i x3 x7 x8 x9 (KA x4 x6 x9) (VT x5)) ∗ owns (c : Thread nD τ) arg11 fullShare (KA x4 x6 x9) ∗ owns (c : Thread nD τ) arg12 fullShare (VT x5)) -∗ K ⟨⟩))
      ⊢ wp frame (wpE (defs₀ (F := F)) Variants.none c none) E (cc1_fox_attn i arg3 harg3 arg4 harg4 arg5 harg5 arg6 harg6 arg7 harg7 arg8 harg8 arg9 harg9 arg10 harg10 arg11 harg11 arg12 harg12) K := by
  simp only [cc1_fox_attn_eq_skeleton]; rw [skel_eq, wp_bind]
  iintro ⟨H3, H4, H5, H6, H7, H8, H9, H10, H11, H12, Hk⟩
  iapply (k7_first c i arg3 harg3 arg4 harg4 arg5 harg5 arg6 harg6 arg7 harg7 arg8 harg8 arg9 harg9 arg10 harg10 arg11 harg11 arg12 harg12 hc0 x3 x4 x5 x6 x7 x8 x9 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  iintro ⟨H3, H4, H5, H6, H7, H8, H9, H11, H12⟩
  unfold handed; dsimp only
  iapply (tail c i arg3 harg3 arg4 harg4 arg5 harg5 arg6 harg6 arg7 harg7 arg8 harg8 arg9 harg9 arg10 harg10 arg11 harg11 arg12 harg12 _ _ _ _ _ x8 x9 (KA x4 x6 x9) (VT x5) E K)
  isplitl [H8]; · iexact H8
  isplitl [H9]; · iexact H9
  isplitl [H11]; · iexact H11
  isplitl [H12]; · iexact H12
  isplitl [H10]; · iexact H10
  iintro ⟨H8, H9, H11, H12, H10⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · unfold attnO qcol; iexact H10
  isplitl [H11]; · iexact H11
  iexact H12

set_option maxHeartbeats 1600000 in
theorem body_later (c : Dev nD) (i : grid1.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x1x4096x128 .bf16) (harg6 : arg6.IsWhole) (arg7 : Memref sig .tc .vmem S1x1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S4096x256 .bf16) (harg11 : arg11.IsWhole) (arg12 : Memref sig .tc .vmem S144x4096 .bf16) (harg12 : arg12.IsWhole) (hc0 : ¬first i) (x3 : Vec F S1x1024x128 .f32) (x4 : Vec F S1x4096x128 .f32) (x5 : Vec F S1x4096x128 .f32) (x6 : Vec F S1x1x4096x128 .bf16) (x7 : Vec F S1x1x4096 .f32) (x8 : Vec F S1x128 .f32) (x9 : Vec F S1x128 .f32) (x11 : Vec F S4096x256 .bf16) (x12 : Vec F S144x4096 .bf16) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (attnO i x3 x7 x8 x9 x11 x12) ∗ owns (c : Thread nD τ) arg11 fullShare x11 ∗ owns (c : Thread nD τ) arg12 fullShare x12) -∗ K ⟨⟩))
      ⊢ wp frame (wpE (defs₀ (F := F)) Variants.none c none) E (cc1_fox_attn i arg3 harg3 arg4 harg4 arg5 harg5 arg6 harg6 arg7 harg7 arg8 harg8 arg9 harg9 arg10 harg10 arg11 harg11 arg12 harg12) K := by
  simp only [cc1_fox_attn_eq_skeleton]; rw [skel_eq, wp_bind]
  iintro ⟨H3, H4, H5, H6, H7, H8, H9, H10, H11, H12, Hk⟩
  iapply (k7_later c i arg3 harg3 arg4 harg4 arg5 harg5 arg6 harg6 arg7 harg7 arg8 harg8 arg9 harg9 arg10 harg10 arg11 harg11 arg12 harg12 hc0 x3 x7 x8 E _)
  isplitl [H3]; · iexact H3
  isplitl [H7]; · iexact H7
  isplitl [H8]; · iexact H8
  iintro ⟨H3, H7, H8⟩
  unfold handed; dsimp only
  iapply (tail c i arg3 harg3 arg4 harg4 arg5 harg5 arg6 harg6 arg7 harg7 arg8 harg8 arg9 harg9 arg10 harg10 arg11 harg11 arg12 harg12 _ _ _ _ _ x8 x9 x11 x12 E K)
  isplitl [H8]; · iexact H8
  isplitl [H9]; · iexact H9
  isplitl [H11]; · iexact H11
  isplitl [H12]; · iexact H12
  isplitl [H10]; · iexact H10
  iintro ⟨H8, H9, H11, H12, H10⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · unfold attnO qcol; iexact H10
  isplitl [H11]; · iexact H11
  iexact H12

/-! ## The proof data over the contents `V` the call is entered with -/

variable (V : (c : Dev nD) → (b : Ref sig .tc) → Buf (Elt F) ((c : Thread nD τ).loc b))

/-- Window `w`'s block at a point. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of `t`'s head. -/
def base (t : Fin cfg1.N) : Fin cfg1.N := ⟨t.val / 4 * 4, Nat.lt_of_le_of_lt (Nat.div_mul_le_self _ _) t.isLt⟩

theorem base_of (t : Fin cfg1.N) (h : t.val % 4 = 0) : base t = t := Fin.ext (by show t.val / 4 * 4 = t.val; omega)

theorem base_pred (t : Fin cfg1.N) (h : ¬t.val % 4 = 0) (h' : t.val - 1 < cfg1.N) : base ⟨t.val - 1, h'⟩ = base t :=
  Fin.ext (by show (t.val - 1) / 4 * 4 = t.val / 4 * 4; omega)

/-- The keys of `t`'s head, and its values. -/
def kaAt (c : Dev nD) (t : Fin cfg1.N) : Vec F S4096x256 .bf16 := KA (iblk V c 1 (base t)) (iblk V c 3 (base t)) (iblk V c 6 (base t))
def vtAt (c : Dev nD) (t : Fin cfg1.N) : Vec F S144x4096 .bf16 := VT (iblk V c 2 (base t))

abbrev scr0 : Memref sig .tc .vmem S4096x256 .bf16 := Memref.whole cc1_scratch0
abbrev scr1 : Memref sig .tc .vmem S144x4096 .bf16 := Memref.whole cc1_scratch1

/-- The other call's buffers. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem rest_split (c : Dev nD) : (Pipeline.scopedRest spec1 c : sProp 𝕄) ⊢ iprop(others c ∗ (∃ d, owns (c : Thread nD τ) scr0 fullShare d) ∗ (∃ d, owns (c : Thread nD τ) scr1 fullShare d)) := by
  rw [scopedRest1_eq]; unfold others; simp only [scr0, scr1, owns_whole]
  iintro ⟨H0, H1, H2, H3, H4, H5, H6, H7, H8⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iexact H8

theorem rest_join (c : Dev nD) : iprop(others c ∗ (∃ d, owns (c : Thread nD τ) scr0 fullShare d) ∗ (∃ d, owns (c : Thread nD τ) scr1 fullShare d)) ⊢ (Pipeline.scopedRest spec1 c : sProp 𝕄) := by
  rw [scopedRest1_eq]; unfold others; simp only [scr0, scr1, owns_whole]
  iintro ⟨⟨H0, H1, H2, H3, H4, H5, H6⟩, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Before a point: the scratch filled with the head of the point before. -/
def PhiS (c : Dev nD) : (n : ℕ) → n ≤ cfg1.N → sProp 𝕄
  | 0, _ => Pipeline.ΦA spec1 c
  | n + 1, hn => iprop((others c ∗ owns (c : Thread nD τ) scr0 fullShare (kaAt V c ⟨n, hn⟩) ∗ owns (c : Thread nD τ) scr1 fullShare (vtAt V c ⟨n, hn⟩)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others c ∗ owns (c : Thread nD τ) scr0 fullShare (kaAt V c ⟨n, hn⟩) ∗ owns (c : Thread nD τ) scr1 fullShare (vtAt V c ⟨n, hn⟩)) ∗ (∃ r, prngReg c r)) := rfl

theorem PhiS_pos (c : Dev nD) (n : ℕ) (h : n ≤ cfg1.N) (hz : n ≠ 0) :
    PhiS V c n h = iprop((others c ∗ owns (c : Thread nD τ) scr0 fullShare (kaAt V c ⟨n - 1, by omega⟩) ∗ owns (c : Thread nD τ) scr1 fullShare (vtAt V c ⟨n - 1, by omega⟩)) ∗ (∃ r, prngReg c r)) := by
  cases n with
  | zero => exact absurd rfl hz
  | succ n => rfl

/-- Between points the scratch may be forgotten. -/
theorem PhiS_out (c : Dev nD) (n : ℕ) (h : n ≤ cfg1.N) : PhiS V c n h ⊢ (iprop((others c ∗ (∃ d, owns (c : Thread nD τ) scr0 fullShare d) ∗ (∃ d, owns (c : Thread nD τ) scr1 fullShare d)) ∗ (∃ r, prngReg c r)) : sProp 𝕄) := by
  cases n with
  | zero =>
    rw [PhiS_zero V c 0 h rfl]; unfold Pipeline.ΦA
    iintro ⟨H, Hg⟩
    isplitl [H]; · iapply (rest_split c); iexact H
    iexact Hg
  | succ n =>
    rw [PhiS_succ]
    iintro ⟨⟨Ho, H0, H1⟩, Hg⟩
    isplitl [Ho H0 H1]
    · isplitl [Ho]; · iexact Ho
      isplitl [H0]; · iexists _; iexact H0
      iexists _; iexact H1
    iexact Hg

/-- The attention's proof data. -/
def D (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => attnO (grid1.coords t) (iblk V c 0 t) (iblk V c 4 t) (iblk V c 5 t) (iblk V c 6 t) (kaAt V c t) (vtAt V c t)
  Φ t := PhiS V c t.val (Nat.le_of_lt_succ t.isLt)
  q w := Pipeline.shareOf spec1 w
  owed _ := 0

theorem A_eq (c : Dev nD) (w : Fin cfg1.W) : (D V c).A w = V c (Pipeline.arrRef spec1 w) := by
  dsimp only [D]

theorem PhiS_castSucc (c : Dev nD) (t : Fin cfg1.N) :
    (D V c).Φ t.castSucc = PhiS V c t.val (Nat.le_of_lt t.isLt) := by
  dsimp only [D]; exact Pipeline.Dat.Φ_castSucc (PhiS V c) t

theorem after1_0 (c : Dev nD) (t : Fin cfg1.N) : (D V c).after 0 t = iblk V c 0 t := by dsimp only [D]
theorem after1_1 (c : Dev nD) (t : Fin cfg1.N) : (D V c).after 1 t = iblk V c 1 t := by dsimp only [D]
theorem after1_2 (c : Dev nD) (t : Fin cfg1.N) : (D V c).after 2 t = iblk V c 2 t := by dsimp only [D]
theorem after1_3 (c : Dev nD) (t : Fin cfg1.N) : (D V c).after 3 t = iblk V c 3 t := by dsimp only [D]
theorem after1_4 (c : Dev nD) (t : Fin cfg1.N) : (D V c).after 4 t = iblk V c 4 t := by dsimp only [D]
theorem after1_5 (c : Dev nD) (t : Fin cfg1.N) : (D V c).after 5 t = iblk V c 5 t := by dsimp only [D]
theorem after1_6 (c : Dev nD) (t : Fin cfg1.N) : (D V c).after 6 t = iblk V c 6 t := by dsimp only [D]
theorem after1_7 (c : Dev nD) (t : Fin cfg1.N) : (D V c).after 7 t = attnO (grid1.coords t) (iblk V c 0 t) (iblk V c 4 t) (iblk V c 5 t) (iblk V c 6 t) (kaAt V c t) (vtAt V c t) := by dsimp only [D]
theorem before1_0 (c : Dev nD) (t : Fin cfg1.N) (d) : (D V c).before 0 t d = iblk V c 0 t :=
  ((D V c).before_in_eq_fetched 0 rfl (fun _ => rfl) (fun _ _ _ => rfl) (fun t => by rw [after1_0]; unfold Dat.blockOf iblk; rw [A_eq]; try rfl) t d).trans (by unfold Dat.fetched Dat.blockOf iblk; rw [A_eq]; try rfl)
theorem before1_1 (c : Dev nD) (t : Fin cfg1.N) (d) : (D V c).before 1 t d = iblk V c 1 t :=
  ((D V c).before_in_eq_fetched 1 rfl (fun _ => rfl) (fun _ _ _ => rfl) (fun t => by rw [after1_1]; unfold Dat.blockOf iblk; rw [A_eq]; try rfl) t d).trans (by unfold Dat.fetched Dat.blockOf iblk; rw [A_eq]; try rfl)
theorem before1_2 (c : Dev nD) (t : Fin cfg1.N) (d) : (D V c).before 2 t d = iblk V c 2 t :=
  ((D V c).before_in_eq_fetched 2 rfl (fun _ => rfl) (fun _ _ _ => rfl) (fun t => by rw [after1_2]; unfold Dat.blockOf iblk; rw [A_eq]; try rfl) t d).trans (by unfold Dat.fetched Dat.blockOf iblk; rw [A_eq]; try rfl)
theorem before1_3 (c : Dev nD) (t : Fin cfg1.N) (d) : (D V c).before 3 t d = iblk V c 3 t :=
  ((D V c).before_in_eq_fetched 3 rfl (fun _ => rfl) (fun _ _ _ => rfl) (fun t => by rw [after1_3]; unfold Dat.blockOf iblk; rw [A_eq]; try rfl) t d).trans (by unfold Dat.fetched Dat.blockOf iblk; rw [A_eq]; try rfl)
theorem before1_4 (c : Dev nD) (t : Fin cfg1.N) (d) : (D V c).before 4 t d = iblk V c 4 t :=
  ((D V c).before_in_eq_fetched 4 rfl (fun _ => rfl) (fun _ _ _ => rfl) (fun t => by rw [after1_4]; unfold Dat.blockOf iblk; rw [A_eq]; try rfl) t d).trans (by unfold Dat.fetched Dat.blockOf iblk; rw [A_eq]; try rfl)
theorem before1_5 (c : Dev nD) (t : Fin cfg1.N) (d) : (D V c).before 5 t d = iblk V c 5 t :=
  ((D V c).before_in_eq_fetched 5 rfl (fun _ => rfl) (fun _ _ _ => rfl) (fun t => by rw [after1_5]; unfold Dat.blockOf iblk; rw [A_eq]; try rfl) t d).trans (by unfold Dat.fetched Dat.blockOf iblk; rw [A_eq]; try rfl)
theorem before1_6 (c : Dev nD) (t : Fin cfg1.N) (d) : (D V c).before 6 t d = iblk V c 6 t :=
  ((D V c).before_in_eq_fetched 6 rfl (fun _ => rfl) (fun _ _ _ => rfl) (fun t => by rw [after1_6]; unfold Dat.blockOf iblk; rw [A_eq]; try rfl) t d).trans (by unfold Dat.fetched Dat.blockOf iblk; rw [A_eq]; try rfl)

def bodyPre (c : Dev nD) (t : Fin cfg1.N) : sProp 𝕄 :=
  iprop((D V c).Φ t.castSucc ∗ (D V c).owesAt () t.castSucc ∗ (∃ d, owns (c : Thread nD τ) (st1_0 t) fullShare ((D V c).before 0 t d)) ∗ (∃ d, owns (c : Thread nD τ) (st1_1 t) fullShare ((D V c).before 1 t d)) ∗ (∃ d, owns (c : Thread nD τ) (st1_2 t) fullShare ((D V c).before 2 t d)) ∗ (∃ d, owns (c : Thread nD τ) (st1_3 t) fullShare ((D V c).before 3 t d)) ∗ (∃ d, owns (c : Thread nD τ) (st1_4 t) fullShare ((D V c).before 4 t d)) ∗ (∃ d, owns (c : Thread nD τ) (st1_5 t) fullShare ((D V c).before 5 t d)) ∗ (∃ d, owns (c : Thread nD τ) (st1_6 t) fullShare ((D V c).before 6 t d)) ∗ (∃ d, owns (c : Thread nD τ) (st1_7 t) fullShare ((D V c).before 7 t d)))

def bodyPost (c : Dev nD) (t : Fin cfg1.N) : sProp 𝕄 :=
  iprop((D V c).Φ t.succ ∗ (D V c).owesAt () t.succ ∗ owns (c : Thread nD τ) (st1_0 t) fullShare ((D V c).after 0 t) ∗ owns (c : Thread nD τ) (st1_1 t) fullShare ((D V c).after 1 t) ∗ owns (c : Thread nD τ) (st1_2 t) fullShare ((D V c).after 2 t) ∗ owns (c : Thread nD τ) (st1_3 t) fullShare ((D V c).after 3 t) ∗ owns (c : Thread nD τ) (st1_4 t) fullShare ((D V c).after 4 t) ∗ owns (c : Thread nD τ) (st1_5 t) fullShare ((D V c).after 5 t) ∗ owns (c : Thread nD τ) (st1_6 t) fullShare ((D V c).after 6 t) ∗ owns (c : Thread nD τ) (st1_7 t) fullShare ((D V c).after 7 t))

set_option maxHeartbeats 3200000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6]
  rw [show (D V c).owesAt () t.succ = (D V c).owesAt () t.castSucc from rfl,
    after1_0, after1_1, after1_2, after1_3, after1_4, after1_5, after1_6, after1_7]
  rw [show (D V c).Φ t.succ = PhiS V c (t.val + 1) t.isLt from rfl, PhiS_succ, PhiS_castSucc]
  have hN : t.val < 64 := lt_of_lt_of_eq t.isLt (show cfg1.N = 64 from N_1)
  by_cases h0 : t.val % 4 = 0
  · rw [show kaAt V c ⟨t.val, t.isLt⟩ = KA (iblk V c 1 t) (iblk V c 3 t) (iblk V c 6 t) from by unfold kaAt; rw [base_of t h0],
      show vtAt V c ⟨t.val, t.isLt⟩ = VT (iblk V c 2 t) from by unfold vtAt; rw [base_of t h0]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ := PhiS_out V c _ _ $$ HΦ
    icases HΦ with ⟨⟨Hr, HS0, HS1⟩, Hg⟩
    iapply (body_first c (grid1.coords t) _ _ _ _ _ _ _ _ _ _ _ _ _ _ _ _ _ _ _ _ ((first_iff t).mpr h0) (iblk V c 0 t) (iblk V c 1 t) (iblk V c 2 t) (iblk V c 3 t) (iblk V c 4 t) (iblk V c 5 t) (iblk V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [Hr HS0 HS1 Hg]
    · isplitl [Hr HS0 HS1]
      · isplitl [Hr]; · iexact Hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := by omega
    rw [PhiS_pos V c _ _ hz,
      show kaAt V c ⟨t.val - 1, Nat.lt_of_le_of_lt (Nat.sub_le _ _) t.isLt⟩ = kaAt V c t from by unfold kaAt; rw [base_pred t h0],
      show vtAt V c ⟨t.val - 1, Nat.lt_of_le_of_lt (Nat.sub_le _ _) t.isLt⟩ = vtAt V c t from by unfold vtAt; rw [base_pred t h0]]
    iintro ⟨⟨⟨Hr, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid1.coords t) _ _ _ _ _ _ _ _ _ _ _ _ _ _ _ _ _ _ _ _ (fun h => h0 ((first_iff t).mp h)) (iblk V c 0 t) (iblk V c 1 t) (iblk V c 2 t) (iblk V c 3 t) (iblk V c 4 t) (iblk V c 5 t) (iblk V c 6 t) (kaAt V c t) (vtAt V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [Hr HS0 HS1 Hg]
    · isplitl [Hr HS0 HS1]
      · isplitl [Hr]; · iexact Hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (D V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (D V c).Φ 0 := by
  rw [show (D V c).Φ 0 = PhiS V c 0 (Nat.zero_le _) from rfl, PhiS_zero V c 0 _ rfl]
  try exact Idealize.SL.BI.Entails.refl _

theorem hout (c : Dev nD) : (D V c).Φ (Fin.last cfg1.N) ⊢ Pipeline.ΦA spec1 c := by
  rw [show (D V c).Φ (Fin.last cfg1.N) = PhiS V c (Fin.last cfg1.N).val (Nat.le_of_lt_succ (Fin.last cfg1.N).isLt) from rfl]
  refine (PhiS_out V c _ _).trans ?_
  unfold Pipeline.ΦA
  iintro ⟨H, Hg⟩
  isplitl [H]; · iapply (rest_join c); iexact H
  iexact Hg

end Cert.FoxIdeal.Attn

end
-- ==== Proof.FoxGateBody.lean ====
module

public import proofs.«01_k».proof.Proof.Gen.FoxIdeal.Regions
public import proofs.«01_k».proof.Proof.Gen.FoxIdeal.Points
public import proofs.«01_k».proof.Proof.Gen.FoxIdeal.Loops
public import proofs.«01_k».proof.Proof.Gen.FoxIdeal.Skeleton
public import Idealize.ShloMosaic.Lib.VecWindow
public import Idealize.ShloMosaic.Lib.Pointwise
public import Idealize.ShloMosaic.Lib.Pipeline.ReadBack
public import Idealize.ShloMosaic.Lib.WordCmp
public import Idealize.ShloMosaic.Lib.Ring
public import Idealize.ShloMosaic.Lib.Tactic
public import Idealize.ShloMosaic.Lib.WritesUnit
public import Idealize.ShloMosaic.Lib.Writes
public import Idealize.ShloMosaic.Lib.Claim
public import Idealize.ShloMosaic.Lib.Pipeline.Value
public import Idealize.ShloMosaic.Lib.Pipeline.FrameBody
public import Idealize.ShloMosaic.Lib.Pipeline.RegionsLoop
public import Idealize.ShloMosaic.Lib.Pipeline.ValueKit.Acc

@[expose] public section

set_option maxRecDepth 16384

noncomputable section

/-! The gate call: the body at each grid point and what it leaves in the windows. -/

namespace Cert.FoxIdeal.Gate

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point: what it stores into the two results. -/
noncomputable def run (c : Dev nD) (i : grid0.Coords) (arg1 : Memref sig .tc .vmem S1x4096x128 .f32) (harg1 : arg1.IsWhole) (arg2 : Memref sig .tc .vmem S1x128 .f32) (harg2 : arg2.IsWhole) (arg3 : Memref sig .tc .vmem S1x4096x128 .f32) (harg3 : arg3.IsWhole) (arg4 : Memref sig .tc .vmem S1x8x4096x128 .bf16) (harg4 : arg4.IsWhole)
    (x0 : Vec F S1x4096x128 .f32) (x1 : Vec F S1x128 .f32) :
    Σ' (L3 : List (View.Piece (Elt F) S1x4096x128 .f32)), { L4 : List (View.Piece (Elt F) S1x8x4096x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4)) -∗ K ⟨⟩))
          ⊢ wp frame (wpE (defs₀ (F := F)) Variants.none c none) E (cc0_fox_gate i arg1 harg1 arg2 harg2 arg3 harg3 arg4 harg4) K } := by
  refine ⟨?_, ?_, fun E K => ?run⟩
  case run =>
    simp only [cc0_fox_gate_eq_skeleton]; unfold cc0_fox_gate_skel
    unfold owns
    iintro ⟨⟨%f0, %hf0, H0⟩, ⟨%f1, %hf1, H1⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    iexists _; iexact H4

/-- The rows of one trip. -/
def rowsv (x0 : Vec F S1x4096x128 .f32) (k : Fin k0_t1_loop.trips) : Vec F S1x512x128 .f32 :=
  VecWindow.window x0 (k0_off1 k) S1x512x128.size (k0_off1_inb k)

/-- The running sum before a trip. -/
def carry (x0 : Vec F S1x4096x128 .f32) (x1 : Vec F S1x128 .f32) : ℕ → FVec F S1x128 .f32
  | 0 => k0_pay2
  | k + 1 => if h : k < k0_t1_loop.trips then k0_pay4 (k0_pay5 k0_pay1 (carry x0 x1 k) (rowsv x0 ⟨k, h⟩) x1) else carry x0 x1 k

/-- The sums of one trip's rows. -/
def blkC (x0 : Vec F S1x4096x128 .f32) (x1 : Vec F S1x128 .f32) (k : Fin k0_t1_loop.trips) : FVec F S512x128 .f32 :=
  k0_pay5 k0_pay1 (carry x0 x1 k) (rowsv x0 k) x1

/-- The lane numbers. -/
def lanes : IVec S512x128 32 := iota .tc S512x128 32 [1] iota_S512x128_d1_w32

/-- The features of one head from a column of scaled sums. -/
def featOf (col : FVec F S512x1 .f32) : FVec F S1x1x512x128 .bf16 :=
  k0_pay13 lanes (truncf .bf16 col bitsLt_bf16_f32)
    (truncf .bf16 (subf col (extf .f32 (truncf .bf16 col bitsLt_bf16_f32) bitsLt_bf16_f32)) bitsLt_bf16_f32)
    (truncf .bf16 (subf (subf col (extf .f32 (truncf .bf16 col bitsLt_bf16_f32) bitsLt_bf16_f32))
      (extf .f32 (truncf .bf16 (subf col (extf .f32 (truncf .bf16 col bitsLt_bf16_f32) bitsLt_bf16_f32)) bitsLt_bf16_f32) bitsLt_bf16_f32)) bitsLt_bf16_f32)

/-- The scaled sums of a trip. -/
def scaled (v40 : FVec F S512x128 .f32) : FVec F S512x128 .f32 := mulf v40 (broadcast S512x128 (Named.named κ "log2e" 0x3FB8AA3B#32))

theorem tripR_eq (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x4096x128 .f32) (harg3 : arg3.IsWhole) (arg4 : Memref sig .tc .vmem S1x8x4096x128 .bf16) (harg4 : arg4.IsWhole)
    (x0 : Vec F S1x4096x128 .f32) (x1 : Vec F S1x128 .f32) (k : Fin k0_t1_loop.trips) (acc : FVec F S1x128 .f32) :
    (trip_k0_t1 (F := F) 𝒱 c bd i arg1 harg1 arg2 harg2 arg3 harg3 arg4 harg4 lanes (harg1.unread x0) (harg2.unread x1) k).1 acc
      = k0_pay4 (k0_pay5 k0_pay1 acc (rowsv x0 k) x1) := by
  have e1 : (View.readAt (Elt F) arg1.view (Rect.unit (s := S1x4096x128) (k0_off1 k) S1x512x128.size (k0_off1_inb k)).toLoadRect (harg1.unread x0)) = rowsv x0 k := by
    rw [View.readAt_unit _ _ _ rfl (k0_off1_inb k), harg1.read_unread]; rfl
  have e2 : (View.readAt (Elt F) arg2.view (Rect.unit (s := S1x128) ![0, 0] S1x128.size inb_S1x128_S1x128_0_0).toLoadRect (harg2.unread x1)) = x1 := by
    rw [View.readAt_full, harg2.read_unread]
  have h : (trip_k0_t1 (F := F) 𝒱 c bd i arg1 harg1 arg2 harg2 arg3 harg3 arg4 harg4 lanes (harg1.unread x0) (harg2.unread x1) k).1 acc
      = k0_pay4 (k0_pay5 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1))) := by
    unfold trip_k0_t1; rfl
  rw [e1, e2] at h
  exact h

theorem tripL3_eq (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x4096x128 .f32) (harg3 : arg3.IsWhole) (arg4 : Memref sig .tc .vmem S1x8x4096x128 .bf16) (harg4 : arg4.IsWhole)
    (x0 : Vec F S1x4096x128 .f32) (x1 : Vec F S1x128 .f32) (k : Fin k0_t1_loop.trips) (acc : FVec F S1x128 .f32) :
    (trip_k0_t1 (F := F) 𝒱 c bd i arg1 harg1 arg2 harg2 arg3 harg3 arg4 harg4 lanes (harg1.unread x0) (harg2.unread x1) k).2.1 acc
      = [⟨Rect.unit (k0_off1 k) S1x512x128.size (k0_off1_inb k), k0_pay6 k0_pay1 acc (rowsv x0 k) x1⟩] := by
  have e1 : (View.readAt (Elt F) arg1.view (Rect.unit (s := S1x4096x128) (k0_off1 k) S1x512x128.size (k0_off1_inb k)).toLoadRect (harg1.unread x0)) = rowsv x0 k := by
    rw [View.readAt_unit _ _ _ rfl (k0_off1_inb k), harg1.read_unread]; rfl
  have e2 : (View.readAt (Elt F) arg2.view (Rect.unit (s := S1x128) ![0, 0] S1x128.size inb_S1x128_S1x128_0_0).toLoadRect (harg2.unread x1)) = x1 := by
    rw [View.readAt_full, harg2.read_unread]
  have h : (trip_k0_t1 (F := F) 𝒱 c bd i arg1 harg1 arg2 harg2 arg3 harg3 arg4 harg4 lanes (harg1.unread x0) (harg2.unread x1) k).2.1 acc
      = [⟨Rect.unit (k0_off1 k) S1x512x128.size (k0_off1_inb k), k0_pay6 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1))⟩] := by
    unfold trip_k0_t1; rfl
  rw [e1, e2] at h
  exact h

theorem tripL4_eq (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x4096x128 .f32) (harg3 : arg3.IsWhole) (arg4 : Memref sig .tc .vmem S1x8x4096x128 .bf16) (harg4 : arg4.IsWhole)
    (x0 : Vec F S1x4096x128 .f32) (x1 : Vec F S1x128 .f32) (k : Fin k0_t1_loop.trips) (acc : FVec F S1x128 .f32) :
    (trip_k0_t1 (F := F) 𝒱 c bd i arg1 harg1 arg2 harg2 arg3 harg3 arg4 harg4 lanes (harg1.unread x0) (harg2.unread x1) k).2.2.1 acc
      = [⟨Rect.unit (k0_off9 k) ![1, 1, 512, 128] (k0_off9_inb k), featOf (extractStridedSlice S512x1 ![0, 7] (scaled (k0_pay5 k0_pay1 acc (rowsv x0 k) x1)) slices_S512x128_o0_7_S512x1)⟩,
        ⟨Rect.unit (k0_off8 k) ![1, 1, 512, 128] (k0_off8_inb k), featOf (extractStridedSlice S512x1 ![0, 6] (scaled (k0_pay5 k0_pay1 acc (rowsv x0 k) x1)) slices_S512x128_o0_6_S512x1)⟩,
        ⟨Rect.unit (k0_off7 k) ![1, 1, 512, 128] (k0_off7_inb k), featOf (extractStridedSlice S512x1 ![0, 5] (scaled (k0_pay5 k0_pay1 acc (rowsv x0 k) x1)) slices_S512x128_o0_5_S512x1)⟩,
        ⟨Rect.unit (k0_off6 k) ![1, 1, 512, 128] (k0_off6_inb k), featOf (extractStridedSlice S512x1 ![0, 4] (scaled (k0_pay5 k0_pay1 acc (rowsv x0 k) x1)) slices_S512x128_o0_4_S512x1)⟩,
        ⟨Rect.unit (k0_off5 k) ![1, 1, 512, 128] (k0_off5_inb k), featOf (extractStridedSlice S512x1 ![0, 3] (scaled (k0_pay5 k0_pay1 acc (rowsv x0 k) x1)) slices_S512x128_o0_3_S512x1)⟩,
        ⟨Rect.unit (k0_off4 k) ![1, 1, 512, 128] (k0_off4_inb k), featOf (extractStridedSlice S512x1 ![0, 2] (scaled (k0_pay5 k0_pay1 acc (rowsv x0 k) x1)) slices_S512x128_o0_2_S512x1)⟩,
        ⟨Rect.unit (k0_off3 k) ![1, 1, 512, 128] (k0_off3_inb k), featOf (extractStridedSlice S512x1 ![0, 1] (scaled (k0_pay5 k0_pay1 acc (rowsv x0 k) x1)) slices_S512x128_o0_1_S512x1)⟩,
        ⟨Rect.unit (k0_off2 k) ![1, 1, 512, 128] (k0_off2_inb k), featOf (extractStridedSlice S512x1 ![0, 0] (scaled (k0_pay5 k0_pay1 acc (rowsv x0 k) x1)) slices_S512x128_o0_0_S512x1)⟩] := by
  have e1 : (View.readAt (Elt F) arg1.view (Rect.unit (s := S1x4096x128) (k0_off1 k) S1x512x128.size (k0_off1_inb k)).toLoadRect (harg1.unread x0)) = rowsv x0 k := by
    rw [View.readAt_unit _ _ _ rfl (k0_off1_inb k), harg1.read_unread]; rfl
  have e2 : (View.readAt (Elt F) arg2.view (Rect.unit (s := S1x128) ![0, 0] S1x128.size inb_S1x128_S1x128_0_0).toLoadRect (harg2.unread x1)) = x1 := by
    rw [View.readAt_full, harg2.read_unread]
  have h : (trip_k0_t1 (F := F) 𝒱 c bd i arg1 harg1 arg2 harg2 arg3 harg3 arg4 harg4 lanes (harg1.unread x0) (harg2.unread x1) k).2.2.1 acc
      = [⟨Rect.unit (k0_off9 k) ![1, 1, 512, 128] (k0_off9_inb k), featOf (extractStridedSlice S512x1 ![0, 7] (scaled (k0_pay5 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1)))) slices_S512x128_o0_7_S512x1)⟩,
        ⟨Rect.unit (k0_off8 k) ![1, 1, 512, 128] (k0_off8_inb k), featOf (extractStridedSlice S512x1 ![0, 6] (scaled (k0_pay5 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1)))) slices_S512x128_o0_6_S512x1)⟩,
        ⟨Rect.unit (k0_off7 k) ![1, 1, 512, 128] (k0_off7_inb k), featOf (extractStridedSlice S512x1 ![0, 5] (scaled (k0_pay5 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1)))) slices_S512x128_o0_5_S512x1)⟩,
        ⟨Rect.unit (k0_off6 k) ![1, 1, 512, 128] (k0_off6_inb k), featOf (extractStridedSlice S512x1 ![0, 4] (scaled (k0_pay5 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1)))) slices_S512x128_o0_4_S512x1)⟩,
        ⟨Rect.unit (k0_off5 k) ![1, 1, 512, 128] (k0_off5_inb k), featOf (extractStridedSlice S512x1 ![0, 3] (scaled (k0_pay5 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1)))) slices_S512x128_o0_3_S512x1)⟩,
        ⟨Rect.unit (k0_off4 k) ![1, 1, 512, 128] (k0_off4_inb k), featOf (extractStridedSlice S512x1 ![0, 2] (scaled (k0_pay5 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1)))) slices_S512x128_o0_2_S512x1)⟩,
        ⟨Rect.unit (k0_off3 k) ![1, 1, 512, 128] (k0_off3_inb k), featOf (extractStridedSlice S512x1 ![0, 1] (scaled (k0_pay5 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1)))) slices_S512x128_o0_1_S512x1)⟩,
        ⟨Rect.unit (k0_off2 k) ![1, 1, 512, 128] (k0_off2_inb k), featOf (extractStridedSlice S512x1 ![0, 0] (scaled (k0_pay5 k0_pay1 acc (View.readAt (Elt F) arg1.view (Rect.unit (s := S1x4096x128) (k0_off1 k) S1x512x128.size (k0_off1_inb k)).toLoadRect (harg1.unread x0))
        (View.readAt (Elt F) arg2.view (Rect.unit (s := S1x128) ![0, 0] S1x128.size inb_S1x128_S1x128_0_0).toLoadRect (harg2.unread x1)))) slices_S512x128_o0_0_S512x1)⟩] := by
    unfold trip_k0_t1; rfl
  rw [e1, e2] at h
  exact h

/-- What a trip stores into the sums. -/
def piece3 (x0 : Vec F S1x4096x128 .f32) (x1 : Vec F S1x128 .f32) (k : Fin k0_t1_loop.trips) : View.Piece (Elt F) S1x4096x128 .f32 :=
  ⟨Rect.unit (k0_off1 k) S1x512x128.size (k0_off1_inb k), k0_pay6 k0_pay1 (carry x0 x1 k) (rowsv x0 k) x1⟩

/-- What a trip stores into the features. -/
def pieces4 (x0 : Vec F S1x4096x128 .f32) (x1 : Vec F S1x128 .f32) (k : Fin k0_t1_loop.trips) : List (View.Piece (Elt F) S1x8x4096x128 .bf16) :=
  [⟨Rect.unit (k0_off9 k) ![1, 1, 512, 128] (k0_off9_inb k), featOf (extractStridedSlice S512x1 ![0, 7] (scaled (blkC x0 x1 k)) slices_S512x128_o0_7_S512x1)⟩,
    ⟨Rect.unit (k0_off8 k) ![1, 1, 512, 128] (k0_off8_inb k), featOf (extractStridedSlice S512x1 ![0, 6] (scaled (blkC x0 x1 k)) slices_S512x128_o0_6_S512x1)⟩,
    ⟨Rect.unit (k0_off7 k) ![1, 1, 512, 128] (k0_off7_inb k), featOf (extractStridedSlice S512x1 ![0, 5] (scaled (blkC x0 x1 k)) slices_S512x128_o0_5_S512x1)⟩,
    ⟨Rect.unit (k0_off6 k) ![1, 1, 512, 128] (k0_off6_inb k), featOf (extractStridedSlice S512x1 ![0, 4] (scaled (blkC x0 x1 k)) slices_S512x128_o0_4_S512x1)⟩,
    ⟨Rect.unit (k0_off5 k) ![1, 1, 512, 128] (k0_off5_inb k), featOf (extractStridedSlice S512x1 ![0, 3] (scaled (blkC x0 x1 k)) slices_S512x128_o0_3_S512x1)⟩,
    ⟨Rect.unit (k0_off4 k) ![1, 1, 512, 128] (k0_off4_inb k), featOf (extractStridedSlice S512x1 ![0, 2] (scaled (blkC x0 x1 k)) slices_S512x128_o0_2_S512x1)⟩,
    ⟨Rect.unit (k0_off3 k) ![1, 1, 512, 128] (k0_off3_inb k), featOf (extractStridedSlice S512x1 ![0, 1] (scaled (blkC x0 x1 k)) slices_S512x128_o0_1_S512x1)⟩,
    ⟨Rect.unit (k0_off2 k) ![1, 1, 512, 128] (k0_off2_inb k), featOf (extractStridedSlice S512x1 ![0, 0] (scaled (blkC x0 x1 k)) slices_S512x128_o0_0_S512x1)⟩]

/-- The stores of the first trips. -/
def list3 (x0 : Vec F S1x4096x128 .f32) (x1 : Vec F S1x128 .f32) : ℕ → List (View.Piece (Elt F) S1x4096x128 .f32)
  | 0 => []
  | k + 1 => if h : k < k0_t1_loop.trips then piece3 x0 x1 ⟨k, h⟩ :: list3 x0 x1 k else list3 x0 x1 k

/-- The stores of the first trips. -/
def list4 (x0 : Vec F S1x4096x128 .f32) (x1 : Vec F S1x128 .f32) : ℕ → List (View.Piece (Elt F) S1x8x4096x128 .bf16)
  | 0 => []
  | k + 1 => if h : k < k0_t1_loop.trips then pieces4 x0 x1 ⟨k, h⟩ ++ list4 x0 x1 k else list4 x0 x1 k

theorem carry_succ (x0 : Vec F S1x4096x128 .f32) (x1 : Vec F S1x128 .f32) (n : ℕ) (h : n < k0_t1_loop.trips) :
    carry x0 x1 (n + 1) = k0_pay4 (k0_pay5 k0_pay1 (carry x0 x1 n) (rowsv x0 ⟨n, h⟩) x1) := by
  rw [carry.eq_2]; exact dif_pos h

theorem list3_succ (x0 : Vec F S1x4096x128 .f32) (x1 : Vec F S1x128 .f32) (n : ℕ) (h : n < k0_t1_loop.trips) :
    list3 x0 x1 (n + 1) = piece3 x0 x1 ⟨n, h⟩ :: list3 x0 x1 n := by
  rw [list3.eq_2]; exact dif_pos h

theorem list4_succ (x0 : Vec F S1x4096x128 .f32) (x1 : Vec F S1x128 .f32) (n : ℕ) (h : n < k0_t1_loop.trips) :
    list4 x0 x1 (n + 1) = pieces4 x0 x1 ⟨n, h⟩ ++ list4 x0 x1 n := by
  rw [list4.eq_2]; exact dif_pos h

theorem state (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x4096x128 .f32) (harg3 : arg3.IsWhole) (arg4 : Memref sig .tc .vmem S1x8x4096x128 .bf16) (harg4 : arg4.IsWhole)
    (x0 : Vec F S1x4096x128 .f32) (x1 : Vec F S1x128 .f32) : ∀ n : ℕ, n ≤ k0_t1_loop.trips →
    (st_k0_t1 (F := F) 𝒱 c bd i arg1 harg1 arg2 harg2 arg3 harg3 arg4 harg4 lanes (harg1.unread x0) (harg2.unread x1) k0_pay2 n)
      = (carry x0 x1 n, list3 x0 x1 n, list4 x0 x1 n)
  | 0, _ => rfl
  | n + 1, h => by
    have ih := state 𝒱 c bd i arg1 harg1 arg2 harg2 arg3 harg3 arg4 harg4 x0 x1 n (Nat.le_of_succ_le h)
    have hs := st_k0_t1_succ (F := F) 𝒱 c bd i arg1 harg1 arg2 harg2 arg3 harg3 arg4 harg4 lanes (harg1.unread x0) (harg2.unread x1) k0_pay2 ⟨n, h⟩
    simp only [Fin.val_mk] at hs
    rw [hs, ih]
    try unfold tripR_k0_t1
    try unfold tripL_k0_t1
    simp only [tripR_eq, tripL3_eq, tripL4_eq]
    rw [carry_succ x0 x1 n h, list3_succ x0 x1 n h, list4_succ x0 x1 n h]
    rfl

theorem run3_eq (c : Dev nD) (i : grid0.Coords) (arg1 : Memref sig .tc .vmem S1x4096x128 .f32) (harg1 : arg1.IsWhole) (arg2 : Memref sig .tc .vmem S1x128 .f32) (harg2 : arg2.IsWhole) (arg3 : Memref sig .tc .vmem S1x4096x128 .f32) (harg3 : arg3.IsWhole) (arg4 : Memref sig .tc .vmem S1x8x4096x128 .bf16) (harg4 : arg4.IsWhole)
    (x0 : Vec F S1x4096x128 .f32) (x1 : Vec F S1x128 .f32) : (run c i arg1 harg1 arg2 harg2 arg3 harg3 arg4 harg4 x0 x1).1 = list3 x0 x1 8 := by
  have h := state Variants.none c none i arg1 harg1 arg2 harg2 arg3 harg3 arg4 harg4 x0 x1 8 (by decide)
  unfold run
  exact congrArg (fun z => z.2.1) h

theorem run4_eq (c : Dev nD) (i : grid0.Coords) (arg1 : Memref sig .tc .vmem S1x4096x128 .f32) (harg1 : arg1.IsWhole) (arg2 : Memref sig .tc .vmem S1x128 .f32) (harg2 : arg2.IsWhole) (arg3 : Memref sig .tc .vmem S1x4096x128 .f32) (harg3 : arg3.IsWhole) (arg4 : Memref sig .tc .vmem S1x8x4096x128 .bf16) (harg4 : arg4.IsWhole)
    (x0 : Vec F S1x4096x128 .f32) (x1 : Vec F S1x128 .f32) : (run c i arg1 harg1 arg2 harg2 arg3 harg3 arg4 harg4 x0 x1).2.1 = list4 x0 x1 8 := by
  have h := state Variants.none c none i arg1 harg1 arg2 harg2 arg3 harg3 arg4 harg4 x0 x1 8 (by decide)
  unfold run
  exact congrArg (fun z => z.2.2) h

theorem trips_eq : k0_t1_loop.trips = 8 := by decide

/-- The trip of a row. -/
def trip (r : Fin 4096) : Fin k0_t1_loop.trips := ⟨r.val / 512, by rw [trips_eq]; omega⟩

/-- The row within its trip. -/
def sub (r : Fin 4096) : Fin 512 := ⟨r.val % 512, by omega⟩

/-- The column of a head. -/
def col (h : Fin 8) (v : FVec F S512x128 .f32) : FVec F S512x1 .f32 := fun y => v (ix2 (y 0) (Fin.castLE (by decide) h))

/-- The sums. -/
def gateC (x0 : Vec F S1x4096x128 .f32) (x1 : Vec F S1x128 .f32) : Vec F S1x4096x128 .f32 :=
  fun y => blkC x0 x1 (trip (y 1)) (ix2 (sub (y 1)) (y 2))

/-- The features. -/
def gateK (x0 : Vec F S1x4096x128 .f32) (x1 : Vec F S1x128 .f32) : Vec F S1x8x4096x128 .bf16 :=
  fun y => featOf (col (y 1) (scaled (blkC x0 x1 (trip (y 2))))) (ix4 0 0 (sub (y 2)) (y 3))

theorem off1_eq : ∀ k : Fin k0_t1_loop.trips, k0_off1 k = ![0, 512 * k.val, 0] := by decide
theorem off2_eq : ∀ k : Fin k0_t1_loop.trips, k0_off2 k = ![0, 0, 512 * k.val, 0] := by decide
theorem off3_eq : ∀ k : Fin k0_t1_loop.trips, k0_off3 k = ![0, 1, 512 * k.val, 0] := by decide
theorem off4_eq : ∀ k : Fin k0_t1_loop.trips, k0_off4 k = ![0, 2, 512 * k.val, 0] := by decide
theorem off5_eq : ∀ k : Fin k0_t1_loop.trips, k0_off5 k = ![0, 3, 512 * k.val, 0] := by decide
theorem off6_eq : ∀ k : Fin k0_t1_loop.trips, k0_off6 k = ![0, 4, 512 * k.val, 0] := by decide
theorem off7_eq : ∀ k : Fin k0_t1_loop.trips, k0_off7 k = ![0, 5, 512 * k.val, 0] := by decide
theorem off8_eq : ∀ k : Fin k0_t1_loop.trips, k0_off8 k = ![0, 6, 512 * k.val, 0] := by decide
theorem off9_eq : ∀ k : Fin k0_t1_loop.trips, k0_off9 k = ![0, 7, 512 * k.val, 0] := by decide

theorem mem_list3 (x0 : Vec F S1x4096x128 .f32) (x1 : Vec F S1x128 .f32) (p) : ∀ n, p ∈ list3 x0 x1 n → ∃ k, p = piece3 x0 x1 k
  | 0, h => absurd h List.not_mem_nil
  | n + 1, h => by
    unfold list3 at h
    split at h
    · rcases List.mem_cons.mp h with h | h
      · exact ⟨_, h⟩
      · exact mem_list3 x0 x1 p n h
    · exact mem_list3 x0 x1 p n h

theorem list3_mem (x0 : Vec F S1x4096x128 .f32) (x1 : Vec F S1x128 .f32) (k : Fin k0_t1_loop.trips) : ∀ n, k.val < n → piece3 x0 x1 k ∈ list3 x0 x1 n
  | 0, h => absurd h (Nat.not_lt_zero _)
  | n + 1, h => by
    unfold list3
    split
    · rename_i hn
      rcases Nat.lt_succ_iff_lt_or_eq.mp h with h | h
      · exact List.mem_cons_of_mem _ (list3_mem x0 x1 k n h)
      · obtain rfl : k = ⟨n, hn⟩ := Fin.ext h
        exact List.mem_cons_self
    · rename_i hn
      have := k.isLt
      exact list3_mem x0 x1 k n (by omega)

theorem mem_list4 (x0 : Vec F S1x4096x128 .f32) (x1 : Vec F S1x128 .f32) (p) : ∀ n, p ∈ list4 x0 x1 n → ∃ k, p ∈ pieces4 x0 x1 k
  | 0, h => absurd h List.not_mem_nil
  | n + 1, h => by
    unfold list4 at h
    split at h
    · rcases List.mem_append.mp h with h | h
      · exact ⟨_, h⟩
      · exact mem_list4 x0 x1 p n h
    · exact mem_list4 x0 x1 p n h

theorem list4_mem (x0 : Vec F S1x4096x128 .f32) (x1 : Vec F S1x128 .f32) (k : Fin k0_t1_loop.trips) (p) (hp : p ∈ pieces4 x0 x1 k) : ∀ n, k.val < n → p ∈ list4 x0 x1 n
  | 0, h => absurd h (Nat.not_lt_zero _)
  | n + 1, h => by
    unfold list4
    split
    · rename_i hn
      rcases Nat.lt_succ_iff_lt_or_eq.mp h with h | h
      · exact List.mem_append_right _ (list4_mem x0 x1 k p hp n h)
      · obtain rfl : k = ⟨n, hn⟩ := Fin.ext h
        exact List.mem_append_left _ hp
    · rename_i hn
      have := k.isLt
      exact list4_mem x0 x1 k p hp n (by omega)

theorem cast_at (v : FVec F S512x128 .f32) (x : S1x512x128.Idx) :
    shapeCast S1x512x128 v shapeCasts_S512x128_S1x512x128 x = v (ix2 (x 1) (x 2)) := by
  idx_vars x
  pointwise

theorem slice_eq (h : Fin 8) (v : FVec F S512x128 .f32) (hs : S512x128.Slices ![0, h.val] S512x1) :
    extractStridedSlice S512x1 ![0, h.val] v hs = col h v := by
  funext y
  idx_vars y
  unfold col extractStridedSlice
  congr 1
  funext a
  fin_cases a <;> apply Fin.ext <;> simp <;> omega

/-- One store of the sums agrees with them. -/
theorem piece3_agrees (x0 : Vec F S1x4096x128 .f32) (x1 : Vec F S1x128 .f32) (k : Fin k0_t1_loop.trips) (off : Fin 3 → ℕ)
    (hoff : off = ![0, 512 * k.val, 0]) (inb : ∀ a, off a + S1x512x128.size a ≤ S1x4096x128.size a)
    (x : (Rect.unit (s := S1x4096x128) off S1x512x128.size inb).shape.Idx) :
    k0_pay6 k0_pay1 (carry x0 x1 k) (rowsv x0 k) x1 x
      = gateC x0 x1 ((Rect.unit (s := S1x4096x128) off S1x512x128.size inb).emb x) := by
  have hk : k.val < 8 := lt_of_lt_of_eq k.isLt trips_eq
  subst hoff
  have e1 : ((Rect.unit (s := S1x4096x128) ![0, 512 * k.val, 0] S1x512x128.size inb).emb x 1).val = 512 * k.val + (x 1).val := by
    show 512 * k.val + 1 * (x 1).val = _
    omega
  have e2 : ((Rect.unit (s := S1x4096x128) ![0, 512 * k.val, 0] S1x512x128.size inb).emb x 2).val = (x 2).val := by
    show 0 + 1 * (x 2).val = _
    omega
  have hx : (x 1).val < 512 := (x 1).isLt
  refine (cast_at (blkC x0 x1 k) x).trans ?_
  unfold gateC
  have et : trip ((Rect.unit (s := S1x4096x128) ![0, 512 * k.val, 0] S1x512x128.size inb).emb x 1) = k :=
    Fin.ext (by show ((Rect.unit (s := S1x4096x128) ![0, 512 * k.val, 0] S1x512x128.size inb).emb x 1).val / 512 = k.val; rw [e1]; omega)
  rw [et]
  congr 1
  funext a
  fin_cases a
  · exact Fin.ext (by
      show (x 1).val = ((Rect.unit (s := S1x4096x128) ![0, 512 * k.val, 0] S1x512x128.size inb).emb x 1).val % 512
      rw [e1]; omega)
  · exact Fin.ext e2.symm

theorem read3 {sp : Space} (v : View sig .tc sp S1x4096x128 .f32) (f : v.ty.Contents (Elt F)) (x0 : Vec F S1x4096x128 .f32) (x1 : Vec F S1x128 .f32) :
    v.read (Elt F) (v.writes (Elt F) f (list3 x0 x1 8)) = gateC x0 x1 := by
  funext y
  refine View.read_writes_apply_of_pieces v f (gateC x0 x1) _ ?_ y ?_
  · intro p hp x
    obtain ⟨k, rfl⟩ := mem_list3 x0 x1 p 8 hp
    exact piece3_agrees x0 x1 k _ (off1_eq k) (k0_off1_inb k) x
  · refine ⟨piece3 x0 x1 (trip (y 1)), list3_mem x0 x1 _ 8 (trip (y 1)).isLt, ?_⟩
    have h0 : (y 0).val < 1 := (y 0).isLt
    have h2 : (y 2).val < 128 := (y 2).isLt
    unfold piece3
    rw [Rect.mem_set_unit]
    simp only [off1_eq]
    intro a
    fin_cases a
    · show 0 ≤ (y 0).val ∧ (y 0).val < 0 + 1
      omega
    · show 512 * ((y 1).val / 512) ≤ (y 1).val ∧ (y 1).val < 512 * ((y 1).val / 512) + 512
      omega
    · show 0 ≤ (y 2).val ∧ (y 2).val < 0 + 128
      omega

/-- One store of the features agrees with them. -/
theorem piece4_agrees (x0 : Vec F S1x4096x128 .f32) (x1 : Vec F S1x128 .f32) (k : Fin k0_t1_loop.trips) (h : Fin 8) (off : Fin 4 → ℕ)
    (hoff : off = ![0, h.val, 512 * k.val, 0]) (inb : ∀ a, off a + (![1, 1, 512, 128] : Fin 4 → ℕ) a ≤ S1x8x4096x128.size a)
    (hs : S512x128.Slices ![0, h.val] S512x1)
    (x : (Rect.unit (s := S1x8x4096x128) off ![1, 1, 512, 128] inb).shape.Idx) :
    featOf (extractStridedSlice S512x1 ![0, h.val] (scaled (blkC x0 x1 k)) hs) x
      = gateK x0 x1 ((Rect.unit (s := S1x8x4096x128) off ![1, 1, 512, 128] inb).emb x) := by
  have hk : k.val < 8 := lt_of_lt_of_eq k.isLt trips_eq
  subst hoff
  have e1 : ((Rect.unit (s := S1x8x4096x128) ![0, h.val, 512 * k.val, 0] ![1, 1, 512, 128] inb).emb x 1) = h := Fin.ext (by
    show h.val + 1 * (x 1).val = _
    have : (x 1).val < 1 := (x 1).isLt
    omega)
  have e2 : ((Rect.unit (s := S1x8x4096x128) ![0, h.val, 512 * k.val, 0] ![1, 1, 512, 128] inb).emb x 2).val = 512 * k.val + (x 2).val := by
    show 512 * k.val + 1 * (x 2).val = _
    omega
  have e3 : ((Rect.unit (s := S1x8x4096x128) ![0, h.val, 512 * k.val, 0] ![1, 1, 512, 128] inb).emb x 3).val = (x 3).val := by
    show 0 + 1 * (x 3).val = _
    omega
  have hx : (x 2).val < 512 := (x 2).isLt
  rw [slice_eq]
  unfold gateK
  have et : trip ((Rect.unit (s := S1x8x4096x128) ![0, h.val, 512 * k.val, 0] ![1, 1, 512, 128] inb).emb x 2) = k :=
    Fin.ext (by show ((Rect.unit (s := S1x8x4096x128) ![0, h.val, 512 * k.val, 0] ![1, 1, 512, 128] inb).emb x 2).val / 512 = k.val; rw [e2]; omega)
  rw [et, e1]
  congr 1
  funext a
  fin_cases a
  · exact Fin.ext (by have : (x 0).val < 1 := (x 0).isLt; show (x 0).val = 0; omega)
  · exact Fin.ext (by have : (x 1).val < 1 := (x 1).isLt; show (x 1).val = 0; omega)
  · exact Fin.ext (by show (x 2).val = ((Rect.unit (s := S1x8x4096x128) ![0, h.val, 512 * k.val, 0] ![1, 1, 512, 128] inb).emb x 2).val % 512; rw [e2]; omega)
  · exact Fin.ext e3.symm

theorem read4 {sp : Space} (v : View sig .tc sp S1x8x4096x128 .bf16) (f : v.ty.Contents (Elt F)) (x0 : Vec F S1x4096x128 .f32) (x1 : Vec F S1x128 .f32) :
    v.read (Elt F) (v.writes (Elt F) f (list4 x0 x1 8)) = gateK x0 x1 := by
  funext y
  refine View.read_writes_apply_of_pieces v f (gateK x0 x1) _ ?_ y ?_
  · intro p hp x
    obtain ⟨k, hp⟩ := mem_list4 x0 x1 p 8 hp
    unfold pieces4 at hp
    simp only [List.mem_cons, List.not_mem_nil, or_false] at hp
    rcases hp with rfl | rfl | rfl | rfl | rfl | rfl | rfl | rfl
    · exact piece4_agrees x0 x1 k 7 _ (off9_eq k) (k0_off9_inb k) _ x
    · exact piece4_agrees x0 x1 k 6 _ (off8_eq k) (k0_off8_inb k) _ x
    · exact piece4_agrees x0 x1 k 5 _ (off7_eq k) (k0_off7_inb k) _ x
    · exact piece4_agrees x0 x1 k 4 _ (off6_eq k) (k0_off6_inb k) _ x
    · exact piece4_agrees x0 x1 k 3 _ (off5_eq k) (k0_off5_inb k) _ x
    · exact piece4_agrees x0 x1 k 2 _ (off4_eq k) (k0_off4_inb k) _ x
    · exact piece4_agrees x0 x1 k 1 _ (off3_eq k) (k0_off3_inb k) _ x
    · exact piece4_agrees x0 x1 k 0 _ (off2_eq k) (k0_off2_inb k) _ x
  · have h0 : (y 0).val < 1 := (y 0).isLt
    have h3 : (y 3).val < 128 := (y 3).isLt
    have key : ∀ (h : Fin 8) (off : Fin 4 → ℕ) (hoff : off = ![0, h.val, 512 * (trip (y 2)).val, 0]) (inb : ∀ a, off a + (![1, 1, 512, 128] : Fin 4 → ℕ) a ≤ S1x8x4096x128.size a), y 1 = h →
        y ∈ (Rect.unit (s := S1x8x4096x128) off ![1, 1, 512, 128] inb).set := by
      intro h off hoff inb hy
      subst hoff
      have hy' : (y 1).val = h.val := congrArg Fin.val hy
      rw [Rect.mem_set_unit]
      intro a
      fin_cases a
      · show 0 ≤ (y 0).val ∧ (y 0).val < 0 + 1
        omega
      · show h.val ≤ (y 1).val ∧ (y 1).val < h.val + 1
        omega
      · show 512 * ((y 2).val / 512) ≤ (y 2).val ∧ (y 2).val < 512 * ((y 2).val / 512) + 512
        omega
      · show 0 ≤ (y 3).val ∧ (y 3).val < 0 + 128
        omega
    have hh : ∀ h : Fin 8, y 1 = h → ∃ p ∈ pieces4 x0 x1 (trip (y 2)), y ∈ p.1.set := by
      intro h hy
      unfold pieces4
      fin_cases h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 _ (off2_eq _) (k0_off2_inb _) hy⟩
      · exact ⟨_, List.mem_cons_of_mem _ (List.mem_cons_of_mem _ (List.mem_cons_of_mem _ (List.mem_cons_of_mem _ (List.mem_cons_of_mem _ (List.mem_cons_of_mem _ (List.mem_cons_self)))))), key 1 _ (off3_eq _) (k0_off3_inb _) hy⟩
      · exact ⟨_, List.mem_cons_of_mem _ (List.mem_cons_of_mem _ (List.mem_cons_of_mem _ (List.mem_cons_of_mem _ (List.mem_cons_of_mem _ (List.mem_cons_self))))), key 2 _ (off4_eq _) (k0_off4_inb _) hy⟩
      · exact ⟨_, List.mem_cons_of_mem _ (List.mem_cons_of_mem _ (List.mem_cons_of_mem _ (List.mem_cons_of_mem _ (List.mem_cons_self)))), key 3 _ (off5_eq _) (k0_off5_inb _) hy⟩
      · exact ⟨_, List.mem_cons_of_mem _ (List.mem_cons_of_mem _ (List.mem_cons_of_mem _ (List.mem_cons_self))), key 4 _ (off6_eq _) (k0_off6_inb _) hy⟩
      · exact ⟨_, List.mem_cons_of_mem _ (List.mem_cons_of_mem _ (List.mem_cons_self)), key 5 _ (off7_eq _) (k0_off7_inb _) hy⟩
      · exact ⟨_, List.mem_cons_of_mem _ (List.mem_cons_self), key 6 _ (off8_eq _) (k0_off8_inb _) hy⟩
      · exact ⟨_, List.mem_cons_self, key 7 _ (off9_eq _) (k0_off9_inb _) hy⟩
    obtain ⟨p, hp, hy⟩ := hh (y 1) rfl
    exact ⟨p, list4_mem x0 x1 _ p hp 8 (trip (y 2)).isLt, hy⟩

end Cert.FoxIdeal.Gate

end
-- ==== Proof.FoxGateObl.lean ====
module

public import proofs.«01_k».proof.Proof.Gen.FoxIdeal.Regions
public import proofs.«01_k».proof.Proof.Gen.FoxIdeal.Points
public import proofs.«01_k».proof.Proof.Gen.FoxIdeal.Loops
public import proofs.«01_k».proof.Proof.Gen.FoxIdeal.Skeleton
public import Idealize.ShloMosaic.Lib.VecWindow
public import Idealize.ShloMosaic.Lib.Pointwise
public import Idealize.ShloMosaic.Lib.Pipeline.ReadBack
public import Idealize.ShloMosaic.Lib.WordCmp
public import Idealize.ShloMosaic.Lib.Ring
public import Idealize.ShloMosaic.Lib.Tactic
public import Idealize.ShloMosaic.Lib.WritesUnit
public import Idealize.ShloMosaic.Lib.Writes
public import Idealize.ShloMosaic.Lib.Claim
public import Idealize.ShloMosaic.Lib.Pipeline.Value
public import Idealize.ShloMosaic.Lib.Pipeline.FrameBody
public import Idealize.ShloMosaic.Lib.Pipeline.RegionsLoop
public import Idealize.ShloMosaic.Lib.Pipeline.ValueKit.Acc

public import proofs.«01_k».proof.Proof.FoxGateBody

@[expose] public section

set_option maxRecDepth 16384

noncomputable section

/-! The gate call: the body at each grid point of the pipeline. -/

namespace Cert.FoxIdeal.Gate

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at a point. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gate's proof data. -/
def D (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => gateC (iblk V c 0 t) (iblk V c 1 t)
    | ⟨3, _⟩ => gateK (iblk V c 0 t) (iblk V c 1 t)
  Φ _ := Pipeline.ΦA spec0 c
  q _ := fullShare
  owed _ := 0

theorem A_eq (c : Dev nD) (w : Fin cfg0.W) : (D V c).A w = V c (Pipeline.arrRef spec0 w) := by
  dsimp only [D]

theorem after0_0 (c : Dev nD) (t : Fin cfg0.N) : (D V c).after 0 t = iblk V c 0 t := by dsimp only [D]
theorem after0_1 (c : Dev nD) (t : Fin cfg0.N) : (D V c).after 1 t = iblk V c 1 t := by dsimp only [D]
theorem after0_2 (c : Dev nD) (t : Fin cfg0.N) : (D V c).after 2 t = gateC (iblk V c 0 t) (iblk V c 1 t) := by dsimp only [D]
theorem after0_3 (c : Dev nD) (t : Fin cfg0.N) : (D V c).after 3 t = gateK (iblk V c 0 t) (iblk V c 1 t) := by dsimp only [D]
theorem before0_0 (c : Dev nD) (t : Fin cfg0.N) (d) : (D V c).before 0 t d = iblk V c 0 t :=
  ((D V c).before_in_eq_fetched 0 rfl (fun _ => rfl) (fun _ _ _ => rfl) (fun t => by rw [after0_0]; unfold Dat.blockOf iblk; rw [A_eq]; try rfl) t d).trans (by unfold Dat.fetched Dat.blockOf iblk; rw [A_eq]; try rfl)
theorem before0_1 (c : Dev nD) (t : Fin cfg0.N) (d) : (D V c).before 1 t d = iblk V c 1 t :=
  ((D V c).before_in_eq_fetched 1 rfl (fun _ => rfl) (fun _ _ _ => rfl) (fun t => by rw [after0_1]; unfold Dat.blockOf iblk; rw [A_eq]; try rfl) t d).trans (by unfold Dat.fetched Dat.blockOf iblk; rw [A_eq]; try rfl)

def bodyPre (c : Dev nD) (t : Fin cfg0.N) : sProp 𝕄 :=
  iprop((D V c).Φ t.castSucc ∗ (D V c).owesAt () t.castSucc ∗ (∃ d, owns (c : Thread nD τ) (st0_0 t) fullShare ((D V c).before 0 t d)) ∗ (∃ d, owns (c : Thread nD τ) (st0_1 t) fullShare ((D V c).before 1 t d)) ∗ (∃ d, owns (c : Thread nD τ) (st0_2 t) fullShare ((D V c).before 2 t d)) ∗ (∃ d, owns (c : Thread nD τ) (st0_3 t) fullShare ((D V c).before 3 t d)))

def bodyPost (c : Dev nD) (t : Fin cfg0.N) : sProp 𝕄 :=
  iprop((D V c).Φ t.succ ∗ (D V c).owesAt () t.succ ∗ owns (c : Thread nD τ) (st0_0 t) fullShare ((D V c).after 0 t) ∗ owns (c : Thread nD τ) (st0_1 t) fullShare ((D V c).after 1 t) ∗ owns (c : Thread nD τ) (st0_2 t) fullShare ((D V c).after 2 t) ∗ owns (c : Thread nD τ) (st0_3 t) fullShare ((D V c).after 3 t))

set_option maxHeartbeats 3200000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (D V c).owesAt () t.succ = (D V c).owesAt () t.castSucc from rfl,
    show (D V c).Φ t.succ = (D V c).Φ t.castSucc from rfl, after0_0, after0_1, after0_2, after0_3]
  iintro ⟨HΦ, Ho, ⟨%d0, H0⟩, ⟨%d1, H1⟩, ⟨%d2, H2⟩, ⟨%d3, H3⟩⟩
  iapply ((run c (grid0.coords t) _ _ _ _ _ _ _ _ (iblk V c 0 t) (iblk V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; rw [run3_eq]; exact read3 _ _ _ _
  unfold owns; iexists _; isplitr
  swap; · iexact H3
  ipureintro; rw [run4_eq]; exact read4 _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (D V c) (defs₀ (F := F)) Variants.none () Set.univ := fun t => by
  rw [bigSep_W0, bigSep_W0, defs₀_row]
  exact triple_restated (sound_body V c t) rfl .rfl fun _ => .rfl

end Cert.FoxIdeal.Gate

end
-- ==== Proof.FoxRun.lean ====
module

public import proofs.«01_k».proof.Proof.Gen.FoxIdeal.Regions
public import proofs.«01_k».proof.Proof.Gen.FoxIdeal.Points
public import proofs.«01_k».proof.Proof.Gen.FoxIdeal.Loops
public import proofs.«01_k».proof.Proof.Gen.FoxIdeal.Skeleton
public import Idealize.ShloMosaic.Lib.VecWindow
public import Idealize.ShloMosaic.Lib.Pointwise
public import Idealize.ShloMosaic.Lib.Pipeline.ReadBack
public import Idealize.ShloMosaic.Lib.WordCmp
public import Idealize.ShloMosaic.Lib.Ring
public import Idealize.ShloMosaic.Lib.Tactic
public import Idealize.ShloMosaic.Lib.WritesUnit
public import Idealize.ShloMosaic.Lib.Writes
public import Idealize.ShloMosaic.Lib.Claim
public import Idealize.ShloMosaic.Lib.Pipeline.Value
public import Idealize.ShloMosaic.Lib.Pipeline.FrameBody
public import Idealize.ShloMosaic.Lib.Pipeline.RegionsLoop
public import Idealize.ShloMosaic.Lib.Pipeline.ValueKit.Acc

public import proofs.«01_k».proof.Proof.FoxAttnObl
public import proofs.«01_k».proof.Proof.FoxGateObl

@[expose] public section

set_option maxRecDepth 16384

noncomputable section

/-! The whole program: the gate call, the host reshapes between, the attention call. -/

namespace Cert.FoxIdeal.Run

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev W2 (c : Dev nD) (b : Ref sig .tc) : Buf (Elt F) ((c : Thread nD τ).loc b) := V2 m c b

/-- After the gate call. -/
def A3 (c : Dev nD) : Valuation τ sig (Elt F) :=
  Function.update (Function.update (V2 m c) main_v2_0 ((Gate.D (W2 m) c).arrAt 2 cfg0.N)) main_v2_1 ((Gate.D (W2 m) c).arrAt 3 cfg0.N)

/-- Before the attention call. -/
def A4 (c : Dev nD) (b : Ref sig .tc) : Buf (Elt F) ((c : Thread nD τ).loc b) := StableHlo.after hostOps1 (A3 m c) b

/-- What the calls leave. -/
def outs : Outs (F := F) := fun J r c => if J = 3 then A3 m c r
  else Function.update (β := fun b : DevRef τ sig => b.ty.Contents (Elt F)) (StableHlo.after hostOps1 (A3 m c)) (Proc.devRef .tc main_v8) ((Attn.D (A4 m) c).arrAt 7 cfg1.N) r

theorem outs_3_0 (c : Dev nD) : outs m 3 main_v2_0 c = (Gate.D (W2 m) c).arrAt 2 cfg0.N := by
  unfold outs A3; rw [if_pos rfl, Function.update_of_ne (by decide), Function.update_self]

theorem outs_3_1 (c : Dev nD) : outs m 3 main_v2_1 c = (Gate.D (W2 m) c).arrAt 3 cfg0.N := by
  unfold outs A3; rw [if_pos rfl, Function.update_self]

theorem outs_5 (c : Dev nD) : outs m 5 main_v8 c = (Attn.D (A4 m) c).arrAt 7 cfg1.N := by
  unfold outs; rw [if_neg (by decide)]; exact Function.update_self _ _ _

theorem V3_eq (c : Dev nD) : V3 m (outs m) c = A3 m c := by
  unfold V3; rw [outs_3_0, outs_3_1]; rfl

theorem V4_eq (c : Dev nD) (b : Ref sig .tc) : V4 m (outs m) c b = A4 m c b := by
  unfold V4 A4; rw [V3_eq]

def pdats : (p : Fin 2) → (c : Dev nD) → Dat τ (Elt F) Unit ℕ (UR sig nD τ) ℕ (cfgs p) c
  | 0, c => Gate.D (W2 m) c
  | 1, c => Attn.D (A4 m) c

abbrev L : GSem nD τ sig → Finset Unit := fun _ => ∅
abbrev lv : GSem nD τ sig → Unit → ℕ := fun _ _ => 0

/-- What rides beside the buffers. -/
abbrev E (_ : Fin 3) (c : Dev nD) : sProp 𝕄 := iprop((∃ r, prngReg c r) ∗ ∃ W, owes (c : Thread nD τ) (0 : CellTallies nD τ sig Unit) W)

theorem V3_v20 (c : Dev nD) : V3 m (outs m) c main_v2_0 = outs m 3 main_v2_0 c := by
  unfold V3; rw [Function.update_of_ne (by decide), Function.update_self]
theorem V3_v21 (c : Dev nD) : V3 m (outs m) c main_v2_1 = outs m 3 main_v2_1 c := by
  unfold V3; rw [Function.update_self]
theorem V5_v8 (c : Dev nD) : V5 m (outs m) c main_v8 = outs m 5 main_v8 c := by
  unfold V5; rw [Function.update_self]

theorem mem_v20 : main_v2_0 ∈ Finset.univ.image (Pipeline.arrRef spec0) := by decide
theorem mem_v21 : main_v2_1 ∈ Finset.univ.image (Pipeline.arrRef spec0) := by decide
theorem mem_v8 : main_v8 ∈ Finset.univ.image (Pipeline.arrRef spec1) := by decide

theorem hF0 (c : Dev nD) : ∀ w : Fin cfg0.W, (Gate.D (W2 m) c).arrAt w cfg0.N = V3 m (outs m) c (Pipeline.arrRef spec0 w)
  | 0 => ((Gate.D (W2 m) c).arrAt_in 0 rfl _).trans ((Gate.A_eq (W2 m) c 0).trans (V3_of m (outs m) c main_arg1 (by decide)).symm)
  | 1 => ((Gate.D (W2 m) c).arrAt_in 1 rfl _).trans ((Gate.A_eq (W2 m) c 1).trans (V3_of m (outs m) c main_v1 (by decide)).symm)
  | 2 => (outs_3_0 m c).symm.trans (V3_v20 m c).symm
  | 3 => (outs_3_1 m c).symm.trans (V3_v21 m c).symm
  | ⟨_ + 4, h⟩ => absurd h (Nat.not_lt.2 (Nat.le_add_left _ _))

theorem hF1 (c : Dev nD) : ∀ w : Fin cfg1.W, (Attn.D (A4 m) c).arrAt w cfg1.N = V5 m (outs m) c (Pipeline.arrRef spec1 w)
  | 0 => ((Attn.D (A4 m) c).arrAt_in 0 rfl _).trans ((Attn.A_eq (A4 m) c 0).trans ((V4_eq m c _).symm.trans (V5_of m (outs m) c (Pipeline.arrRef spec1 0) (by decide)).symm))
  | 1 => ((Attn.D (A4 m) c).arrAt_in 1 rfl _).trans ((Attn.A_eq (A4 m) c 1).trans ((V4_eq m c _).symm.trans (V5_of m (outs m) c (Pipeline.arrRef spec1 1) (by decide)).symm))
  | 2 => ((Attn.D (A4 m) c).arrAt_in 2 rfl _).trans ((Attn.A_eq (A4 m) c 2).trans ((V4_eq m c _).symm.trans (V5_of m (outs m) c (Pipeline.arrRef spec1 2) (by decide)).symm))
  | 3 => ((Attn.D (A4 m) c).arrAt_in 3 rfl _).trans ((Attn.A_eq (A4 m) c 3).trans ((V4_eq m c _).symm.trans (V5_of m (outs m) c (Pipeline.arrRef spec1 3) (by decide)).symm))
  | 4 => ((Attn.D (A4 m) c).arrAt_in 4 rfl _).trans ((Attn.A_eq (A4 m) c 4).trans ((V4_eq m c _).symm.trans (V5_of m (outs m) c (Pipeline.arrRef spec1 4) (by decide)).symm))
  | 5 => ((Attn.D (A4 m) c).arrAt_in 5 rfl _).trans ((Attn.A_eq (A4 m) c 5).trans ((V4_eq m c _).symm.trans (V5_of m (outs m) c (Pipeline.arrRef spec1 5) (by decide)).symm))
  | 6 => ((Attn.D (A4 m) c).arrAt_in 6 rfl _).trans ((Attn.A_eq (A4 m) c 6).trans ((V4_eq m c _).symm.trans (V5_of m (outs m) c (Pipeline.arrRef spec1 6) (by decide)).symm))
  | 7 => (outs_5 m c).symm.trans (V5_v8 m c).symm
  | ⟨_ + 8, h⟩ => absurd h (Nat.not_lt.2 (Nat.le_add_left _ _))

abbrev osem : Fin 0 → SemLoc sig := Fin.elim0
theorem own0 : Pipeline.OwnSemFacts spec0 osem := by decide
theorem own1 : Pipeline.OwnSemFacts spec1 osem := by decide

set_option backward.isDefEq.respectTransparency.types false in
def reg0 : RegionSeg (pcfgs (F := F)) adm (pdats m) () defs₀ Variants.none L lv 0 where
  win := launch0.win.to₀
  block_pos := launch0.block_pos
  stage_whole := launch0.stage_whole
  K := Fin 0
  osem := osem
  ho := own0
  hbody c := (Gate.body_obligation (W2 m) c).loose
  hwaits := Pipeline.hwaits_of_owed_zero _ _ _ _ L lv 0 fun _ _ => rfl
  pre c := iprop(StableHlo.held (c : Thread nD τ) (Pipeline.ucRefs τ sig) (V2 m c) ∗ E 0 c)
  post c := iprop(StableHlo.held (c : Thread nD τ) (Pipeline.ucRefs τ sig) (V3 m (outs m) c) ∗ E 1 c)
  X c := iprop(∃ r, prngReg c r)
  Y c := iprop(∃ r, prngReg c r)
  Z c := Pipeline.unscopedRest spec0 c (W2 m c)
  hentry c := by
    rw [show StableHlo.held (c : Thread nD τ) (Pipeline.ucRefs τ sig) (V2 m c) = unscopedBufs c (W2 m c) from (Pipeline.unscopedBufs_held c (V2 m c)).symm]
    have hsplit := Pipeline.arrays_of_unscopedBufs (pcfgs (F := F)) adm (pdats m) (p := 0) launch0.win launch0.arr_whole c
      ((pdats m 0 c).share_full fun _ => rfl) (W2 m c) (Gate.A_eq (W2 m) c)
    iintro ⟨⟨Hub, Hp, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    rw [show (pdats m 0 c).Φ 0 = Pipeline.ΦA spec0 c from rfl]; unfold Pipeline.ΦA
    iintro ⟨Hp, -, Hr⟩
    isplitl [Hr]; · iexact Hr
    iexact Hp
  hout c := by
    rw [show (pdats m 0 c).Φ (Fin.last _) = Pipeline.ΦA spec0 c from rfl]; unfold Pipeline.ΦA
    iintro ⟨Hr, Hp⟩
    isplitl [Hp]; · iexact Hp
    isplitr
    · unfold Pipeline.ownSems0; rw [show (Finset.univ : Finset (Fin 0)) = ∅ from rfl, BI.bigSep_empty]; iempintro
    iexact Hr
  hexit c := by
    have hjoin := Pipeline.unscopedBufs_of_arrays (pcfgs (F := F)) adm (p := 0) launch0.win launch0.arr_whole c (pdats m)
      ((pdats m 0 c).share_full fun _ => rfl) (W2 m c) (fun b => V3 m (outs m) c b) _ (hF0 m c)
      (fun b hb => V3_of m (outs m) c b (fun h => hb (by
        simp only [List.mem_cons, List.not_mem_nil, _root_.or_false] at h
        rcases h with rfl | rfl
        · exact mem_v20
        · exact mem_v21)))
    rw [show StableHlo.held (c : Thread nD τ) (Pipeline.ucRefs τ sig) (V3 m (outs m) c) = unscopedBufs c (fun b => V3 m (outs m) c b) from (Pipeline.unscopedBufs_held c (V3 m (outs m) c)).symm]
    iintro ⟨Ha, HO, HY, HZ⟩
    imodintro
    isplitl [Ha HZ]
    · iapply hjoin
      isplitl [Ha]; · iexact Ha
      iexact HZ
    isplitl [HY]; · iexact HY
    unfold Pipeline.Dat.owesAt Pipeline.owesWithin
    icases HO with ⟨%W, -, HO⟩; iexists W; iexact HO

set_option backward.isDefEq.respectTransparency.types false in
def reg1 : RegionSeg (pcfgs (F := F)) adm (pdats m) () defs₀ Variants.none L lv 1 where
  win := launch₀1.win
  block_pos := launch₀1.block_pos
  stage_whole := launch₀1.stage_whole
  K := Fin 0
  osem := osem
  ho := own1
  hbody c := (Attn.body_obligation (A4 m) c).loose
  hwaits := Pipeline.hwaits_of_owed_zero _ _ _ _ L lv 1 fun _ _ => rfl
  pre c := iprop(unscopedBufs c (A4 m c) ∗ E 1 c)
  post c := iprop(StableHlo.held (c : Thread nD τ) (Pipeline.ucRefs τ sig) (V5 m (outs m) c) ∗ E 2 c)
  X c := iprop(∃ r, prngReg c r)
  Y c := iprop(∃ r, prngReg c r)
  Z c := Pipeline.unscopedRest spec1 c (A4 m c)
  hentry c := by
    have hsplit := Pipeline.arrays_of_unscopedBufs_shared (pcfgs (F := F)) adm (pdats m) (p := 1) launch₀1.win sharedIn1 arr_whole1 c
      (fun _ _ => rfl) (A4 m c) (Attn.A_eq (A4 m) c)
    iintro ⟨⟨Hub, Hp, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    refine BIBase.Entails.trans ?_ (Attn.hin (A4 m) c); unfold Pipeline.ΦA
    iintro ⟨Hp, -, Hr⟩
    isplitl [Hr]; · iexact Hr
    iexact Hp
  hout c := by
    refine (Attn.hout (A4 m) c).trans ?_; unfold Pipeline.ΦA
    iintro ⟨Hr, Hp⟩
    isplitl [Hp]; · iexact Hp
    isplitr
    · unfold Pipeline.ownSems0; rw [show (Finset.univ : Finset (Fin 0)) = ∅ from rfl, BI.bigSep_empty]; iempintro
    iexact Hr
  hexit c := by
    have hjoin := Pipeline.unscopedBufs_of_arrays_shared (pcfgs (F := F)) adm (p := 1) launch₀1.win sharedIn1 arr_whole1 c (pdats m)
      (fun _ _ => rfl) (A4 m c) (fun b => V5 m (outs m) c b) _ (hF1 m c)
      (fun b hb => (V5_of m (outs m) c b (fun h => hb (by
        simp only [List.mem_cons, List.not_mem_nil, _root_.or_false] at h
        subst h; exact mem_v8))).trans (V4_eq m c b))
    rw [show StableHlo.held (c : Thread nD τ) (Pipeline.ucRefs τ sig) (V5 m (outs m) c) = unscopedBufs c (fun b => V5 m (outs m) c b) from (Pipeline.unscopedBufs_held c (V5 m (outs m) c)).symm]
    iintro ⟨Ha, HO, HY, HZ⟩
    imodintro
    isplitl [Ha HZ]
    · iapply hjoin
      isplitl [Ha]; · iexact Ha
      iexact HZ
    isplitl [HY]; · iexact HY
    unfold Pipeline.Dat.owesAt Pipeline.owesWithin
    icases HO with ⟨%W, -, HO⟩; iexists W; iexact HO

theorem hpre1 (c : Dev nD) : iprop(StableHlo.held (c : Thread nD τ) (Pipeline.ucRefs τ sig) (V4 m (outs m) c) ∗ E 1 c) ⊢ (reg1 m).pre c := by
  rw [show StableHlo.held (c : Thread nD τ) (Pipeline.ucRefs τ sig) (V4 m (outs m) c) = unscopedBufs c (fun b => V4 m (outs m) c b) from (Pipeline.unscopedBufs_held c (V4 m (outs m) c)).symm,
    show (fun b : Ref sig .tc => V4 m (outs m) c b) = A4 m c from funext fun b => V4_eq m c b]
  exact .rfl

variable (ρ : Dev nD → PrngReg)

/-- The result's buffer at the end. -/
def final (c : Dev nD) : Buf (Elt F) ((c : Thread nD τ).loc main_v8) := (Attn.D (A4 m) c).arrAt 7 cfg1.N

theorem V5_main_v8 (c : Dev nD) : V5 m (outs m) c main_v8 = final m c := (hF1 m c 7).symm

theorem hE2 (c : Dev nD) : E (F := F) 2 c ⊢ (iprop(∃ W, owes (c : Thread nD τ) (0 : CellTallies nD τ sig Unit) W) : sProp 𝕄) := by
  iintro ⟨-, H⟩; iexact H

theorem hu₀ : (ownU (initOf (Pipeline.cells cfgs cellOf_inj) (Pipeline.launchToks cfgs cellOf_inj)) : sProp 𝕄) ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  rw [ownU_emb₁]
  iintro H
  imodintro
  isplitl [H]; · iexact H
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred 0 c ∗ prngReg c (ρ c) ∗ emp)) ∗ levAts L lv)
      ⊢ (|={Set.univ}=> bigSep Finset.univ (E 0) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- From any memory with zero counters: every weakly fair execution terminates, with the result's buffer at `final`,
the arguments as launched and every counter at zero. -/
theorem run_main : θ_run defs (onTc (τ := τ) (main (F := F))) ⟨m, fun _ => 0, ρ⟩ (fun r => (∀ c : Dev nD,
      r.2.mem ((c.tc : Thread nD τ).loc main_v8) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pdats m) () cellOf_inj emb₁ defs₀ Variants.none L lv m ρ main
    (segs m (outs m) Variants.none L lv (E (F := F)) () (pdats m) (reg0 m) (reg1 m))
    (fun c Q => by
      rewrite [main_chain c, Seg.run_eq_chain,
        show (segs m (outs m) Variants.none L lv (E (F := F)) () (pdats m) (reg0 m) (reg1 m) c).map Seg.prog = [
          StableHlo.seq hostOps0,
          StableHlo.seq hostOps0_1,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, hpre1 m c, sep_mono .rfl (hE2 c)⟩)
    (hinit := ?_) (QY := fun c s => s.mem ((c.tc : Thread nD τ).loc main_v8) = final m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred 0 c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred 0 c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 ρ $$ [Hr Hla] with HE
    · isplitl [Hr]; · iexact Hr
      iexact Hla
    imodintro
    rw [show (bigSep Finset.univ fun c : Dev nD => iprop(StableHlo.held (c : Thread nD τ) (Pipeline.ucRefs τ sig) (V0 m c) ∗ E 0 c)) = (iprop(bigSep Finset.univ (fun c : Dev nD => StableHlo.held (c : Thread nD τ) (Pipeline.ucRefs τ sig) (V0 m c)) ∗ bigSep Finset.univ (E 0)) : sProp 𝕄) from by rw [bigSep_sep']]
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_v8) (Finset.mem_filter.mpr ⟨StableHlo.devRef_mem_tcRefs main_v8, by decide⟩)).trans (V5_main_v8 m c),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c)⟩
    · iexact HSI

end Cert.FoxIdeal.Run

end
-- ==== Proof.FoxPlain.lean ====
module

public import proofs.«01_k».proof.Defs
public import proofs.«01_k».proof.Proof.Gen.Fox
public import proofs.«01_k».proof.Proof.FoxRun

@[expose] public section

noncomputable section

/-! The forgetting attention as written, before its constants get names: it is the named program with each name
read as the literal that stood there. -/

namespace Cert.Fox.Plain

open Idealize.ShloMosaic Idealize.ShloMosaic.TcCoe Idealize.SL.Sem

/-- A name read as the literal it was written for. -/
@[reducible] def literals : Named Bits := ⟨fun _ _ {φ} b => Scalar.ofBits φ b⟩

set_option maxHeartbeats 1000000
set_option maxRecDepth 100000

/-- The two tables of kernel bodies are one. -/
theorem defs0_eq : @Cert.Fox.defs₀ Bits _ Cert.Fox.Gen.facts = @Cert.FoxIdeal.defs₀ Bits _ literals Cert.FoxIdeal.Gen.facts := by
  unfold Cert.Fox.defs₀ Cert.FoxIdeal.defs₀
  refine congrArg (Defs.onTc (nD := Cert.Fox.nD) (τ := Cert.Fox.τ) (sig := Cert.Fox.sig) (Val := Elt Bits) (Λ := @Cert.Fox.Λ₀ Cert.Fox.Gen.facts)) ?_
  funext l x
  match l, x with
  | 0, (t, s) => with_unfolding_all rfl
  | 1, (t, s) => with_unfolding_all rfl

/-- The two tables of labels are one. -/
theorem defs_eq : @Cert.Fox.defs Bits _ Cert.Fox.Gen.facts = @Cert.FoxIdeal.defs Bits _ literals Cert.FoxIdeal.Gen.facts := by
  unfold Cert.Fox.defs Cert.FoxIdeal.defs
  rw [defs0_eq]
  with_unfolding_all rfl

/-- The two host programs are one. -/
theorem main_eq : @Cert.Fox.main Bits _ Cert.Fox.Gen.facts = @Cert.FoxIdeal.main Bits _ Cert.FoxIdeal.Gen.facts := by
  with_unfolding_all rfl

/-- The program as written terminates on every device, leaving its arguments and every counter as it found them. -/
theorem frame_p : Cert.quiescent_Fox := by
  intro m ρ _
  rw [defs_eq, main_eq]
  have key := (θ_run (@Cert.FoxIdeal.defs Bits _ literals Cert.FoxIdeal.Gen.facts) _ _).mono
    (fun r h => (⟨fun c => (h.1 c).2, h.2⟩ : _ ∧ _)) (@Cert.FoxIdeal.Run.run_main Bits _ literals m ρ)
  with_unfolding_all exact key

end Cert.Fox.Plain

end
-- ==== Proof.FoxMath.lean ====
module

public import proofs.«01_k».proof.Proof.RealMath
public import Idealize.ShloMosaic.Lib.Pointwise

@[expose] public section

noncomputable section

/-! ## The mathematics of attention with forgetting: sums of exponentials from any shift, prefix sums, and the logarithm of the logistic function -/

namespace Cert.FoxMath

open Idealize.ShloMosaic Cert.RealMath

/-! ### The logarithm of the logistic function -/

theorem coe_max' (x y : ℝ) : ((max x y : ℝ) : EReal) = max (x : EReal) (y : EReal) := EReal.coe_strictMono.monotone.map_max

theorem coe_min' (x y : ℝ) : ((min x y : ℝ) : EReal) = min (x : EReal) (y : EReal) := EReal.coe_strictMono.monotone.map_min

/-- The logarithm of the logistic function of a real number. -/
def ls (r : ℝ) : ℝ := min r 0 - Real.log (1 + Real.exp (-|r|))

theorem abs_coe' (r : ℝ) : max (r : EReal) (-(r : EReal)) = ((|r| : ℝ) : EReal) := by
  rw [abs_eq_max_neg, coe_max', EReal.coe_neg]

theorem log1p_exp (r : ℝ) : Ideal.log1p (Ideal.exp (((-|r| : ℝ)) : EReal)) = ((Real.log (1 + Real.exp (-|r|)) : ℝ) : EReal) := by
  have h : 0 < 1 + Real.exp (-|r|) := by positivity
  rw [Ideal.log1p, Ideal.exp_coe, show (1 : EReal) = ((1 : ℝ) : EReal) from rfl, ← EReal.coe_add, Ideal.log_coe, if_neg (not_le.mpr h)]

theorem ls_kernel (r : ℝ) :
    min (r : EReal) 0 - Ideal.log1p (Ideal.exp (0 - max (r : EReal) (-(r : EReal)))) = ((ls r : ℝ) : EReal) := by
  rw [abs_coe', zero_sub, ← EReal.coe_neg, log1p_exp, ls, EReal.coe_sub, coe_min']; rfl

theorem ls_reference (r : ℝ) :
    -(max (-(r : EReal)) 0 + Ideal.log1p (Ideal.exp (-(max (-(r : EReal) - 0) (-(-(r : EReal) - 0)))))) = ((ls r : ℝ) : EReal) := by
  have e : -(r : EReal) - 0 = ((-r : ℝ) : EReal) := by rw [sub_zero, EReal.coe_neg]
  rw [e, abs_coe', abs_neg, ← EReal.coe_neg |r|, log1p_exp, ← EReal.coe_neg r, show (0 : EReal) = ((0 : ℝ) : EReal) from rfl, ← coe_max', ← EReal.coe_add, ← EReal.coe_neg]
  refine congrArg _ ?_
  rw [ls, neg_add, ← sub_eq_add_neg]
  congr 1
  rcases le_total r 0 with h | h
  · rw [min_eq_left h, max_eq_left (by linarith)]; ring
  · rw [min_eq_right h, max_eq_right (by linarith)]; ring

/-! ### Sums of exponentials -/

/-- The sum over a set of keys of their exponentials from a shift against a value. -/
def acc (S : ℕ → ℝ) (v : ℕ → EReal) (A : Finset ℕ) (M : ℝ) : EReal := ∑ s ∈ A, ((Real.rpow 2 (S s - M) : ℝ) : EReal) * v s

theorem pow_nonneg (x : ℝ) : 0 ≤ Real.rpow 2 x := Real.rpow_nonneg (by norm_num) x

theorem pow_pos (x : ℝ) : 0 < Real.rpow 2 x := Real.rpow_pos_of_pos (by norm_num) x

theorem pow_add (x y : ℝ) : Real.rpow 2 (x + y) = Real.rpow 2 x * Real.rpow 2 y := Real.rpow_add (by norm_num) x y

theorem acc_shift (S : ℕ → ℝ) (v : ℕ → EReal) (A : Finset ℕ) (M M' : ℝ) :
    ((Real.rpow 2 (M - M') : ℝ) : EReal) * acc S v A M = acc S v A M' := by
  unfold acc
  rw [mul_comm, sum_mul_coe _ _ (pow_nonneg _)]
  refine Finset.sum_congr rfl fun s _ => ?_
  rw [mul_right_comm, ← EReal.coe_mul, ← pow_add]; congr 3; ring

theorem acc_union (S : ℕ → ℝ) (v : ℕ → EReal) {A B : Finset ℕ} (h : Disjoint A B) (M : ℝ) : acc S v (A ∪ B) M = acc S v A M + acc S v B M :=
  Finset.sum_union h

theorem acc_empty (S : ℕ → ℝ) (v : ℕ → EReal) (M : ℝ) : acc S v ∅ M = 0 := Finset.sum_empty

/-- The keys of a tile that a mask lets through. -/
def tile (base n : ℕ) (P : ℕ → Prop) [DecidablePred P] : Finset ℕ := (Finset.Ico base (base + n)).filter P

/-- A masked score. -/
def msk (S : ℕ → ℝ) (P : ℕ → Prop) [DecidablePred P] (s : ℕ) : EReal := if P s then (S s : EReal) else ⊥

/-- A tile's masked exponentials against the values. -/
theorem tile_sum (S : ℕ → ℝ) (v : ℕ → EReal) (base n : ℕ) (P : ℕ → Prop) [DecidablePred P] (M : ℝ) :
    ∑ k : Fin n, v (base + k.val) * Ideal.exp2 (msk S P (base + k.val) - (M : EReal)) = acc S v (tile base n P) M := by
  rw [acc, tile, Finset.sum_filter, Finset.sum_Ico_eq_sum_range, Nat.add_sub_cancel_left, Finset.sum_range]
  refine Finset.sum_congr rfl fun k _ => ?_
  unfold msk
  by_cases h : P (base + k.val)
  · rw [if_pos h, if_pos h, ← EReal.coe_sub, Ideal.exp2_coe, mul_comm]
  · rw [if_neg h, if_neg h, show (⊥ : EReal) - (M : EReal) = ⊥ from rfl, Ideal.exp2_bot, mul_zero]

/-- The state of a column: a running maximum that is real once a key has come, and the sums from it. -/
def State {D : Type*} (S : ℕ → ℝ) (v : D → ℕ → EReal) (A : Finset ℕ) (m : EReal) (a : D → EReal) : Prop :=
  (A = ∅ ∧ m = ⊥ ∧ ∀ d, a d = 0) ∨ ∃ M : ℝ, m = (M : EReal) ∧ ∀ d, a d = acc S (v d) A M

/-- The largest masked score of a tile, when it holds a key. -/
theorem fold_msk {n : ℕ} (S : ℕ → ℝ) (base : ℕ) (P : ℕ → Prop) [DecidablePred P] (m : EReal) (hm : m < ⊤)
    (h : m ≠ ⊥ ∨ ∃ k : Fin n, P (base + k.val)) :
    ∃ M : ℝ, max m (Finset.fold max ⊥ (fun k : Fin n => msk S P (base + k.val)) Finset.univ) = (M : EReal) := by
  have h1 : Finset.fold max ⊥ (fun k : Fin n => msk S P (base + k.val)) Finset.univ < ⊤ := by
    refine (Finset.fold_max_lt _).mpr ⟨bot_lt_top, fun l _ => ?_⟩
    unfold msk; split
    · exact EReal.coe_lt_top _
    · exact bot_lt_top
  have h2 : max m (Finset.fold max ⊥ (fun k : Fin n => msk S P (base + k.val)) Finset.univ) ≠ ⊥ := by
    rcases h with h | ⟨k, hk⟩
    · exact fun e => h (max_eq_bot.mp e).1
    · intro e
      have h3 : msk S P (base + k.val) ≤ Finset.fold max ⊥ (fun k : Fin n => msk S P (base + k.val)) Finset.univ :=
        (Finset.le_fold_max _).mpr (Or.inr ⟨k, Finset.mem_univ _, le_rfl⟩)
      rw [(max_eq_bot.mp e).2, le_bot_iff] at h3
      unfold msk at h3; rw [if_pos hk] at h3
      exact EReal.coe_ne_bot _ h3
  exact ⟨_, (EReal.coe_toReal (ne_of_lt (max_lt hm h1)) h2).symm⟩

/-- One step with a running maximum. -/
theorem State.step {D : Type*} {S : ℕ → ℝ} {v : D → ℕ → EReal} {A : Finset ℕ} {m : EReal} {a : D → EReal} (h : State S v A m a)
    (base n : ℕ) (P : ℕ → Prop) [DecidablePred P] (hd : Disjoint A (tile base n P)) (hk : A.Nonempty ∨ ∃ k : Fin n, P (base + k.val))
    (m' : EReal) (hm' : m' = max m (Finset.fold max ⊥ (fun k : Fin n => msk S P (base + k.val)) Finset.univ)) :
    State S v (A ∪ tile base n P) m' (fun d => Ideal.exp2 (m - m') * a d + ∑ k : Fin n, v d (base + k.val) * Ideal.exp2 (msk S P (base + k.val) - m')) := by
  obtain ⟨M', hM⟩ : ∃ M' : ℝ, m' = (M' : EReal) := by
    rw [hm']
    rcases h with ⟨hA, hm, -⟩ | ⟨M, hm, -⟩
    · refine fold_msk S base P m (by rw [hm]; exact bot_lt_top) (Or.inr ?_)
      rcases hk with hk | hk
      · exact absurd hA hk.ne_empty
      · exact hk
    · exact fold_msk S base P m (by rw [hm]; exact EReal.coe_lt_top _) (Or.inl (by rw [hm]; exact EReal.coe_ne_bot _))
  right
  refine ⟨M', hM, fun d => ?_⟩
  show Ideal.exp2 (m - m') * a d + ∑ k : Fin n, v d (base + k.val) * Ideal.exp2 (msk S P (base + k.val) - m') = _
  rw [hM, tile_sum, acc_union _ _ hd]
  congr 1
  rcases h with ⟨hA, hm, ha⟩ | ⟨M, hm, ha⟩
  · rw [hA, acc_empty, ha, mul_zero]
  · rw [hm, ha, ← EReal.coe_sub, Ideal.exp2_coe, acc_shift]

/-- One step with a fixed shift. -/
theorem acc_step (S : ℕ → ℝ) (v : ℕ → EReal) (A : Finset ℕ) (M : ℝ) (base n : ℕ) (P : ℕ → Prop) [DecidablePred P] (hd : Disjoint A (tile base n P)) :
    acc S v A M + ∑ k : Fin n, v (base + k.val) * Ideal.exp2 (msk S P (base + k.val) - (M : EReal)) = acc S v (A ∪ tile base n P) M := by
  rw [tile_sum, acc_union _ _ hd]

/-! ### The weighted mean -/

/-- The mean of the values weighted with the exponentials of the scores. -/
def mean (σ : ℕ → ℝ) (v : ℕ → EReal) (A : Finset ℕ) : EReal := (∑ s ∈ A, ((Real.exp (σ s) : ℝ) : EReal) * v s) * (((∑ s ∈ A, Real.exp (σ s))⁻¹ : ℝ) : EReal)

theorem pow_exp (x : ℝ) : Real.rpow 2 ((Real.log 2)⁻¹ * x) = Real.exp x := by
  have h : Real.log 2 ≠ 0 := (Real.log_pos (by norm_num)).ne'
  refine (Real.rpow_def_of_pos (x := 2) (by norm_num) _).trans ?_
  congr 1; field_simp

theorem acc_eq (σ : ℕ → ℝ) (v : ℕ → EReal) (A : Finset ℕ) (M : ℝ) :
    acc (fun s => (Real.log 2)⁻¹ * σ s) v A M = (∑ s ∈ A, ((Real.exp (σ s) : ℝ) : EReal) * v s) * ((Real.rpow 2 (-M) : ℝ) : EReal) := by
  unfold acc
  rw [sum_mul_coe _ _ (pow_nonneg _)]
  refine Finset.sum_congr rfl fun s _ => ?_
  rw [sub_eq_add_neg, pow_add, pow_exp, EReal.coe_mul, mul_right_comm]

/-- The quotient of the sums is the weighted mean, whatever the shift. -/
theorem acc_div (σ : ℕ → ℝ) (v one : ℕ → EReal) (h1 : ∀ s, one s = 1) (A : Finset ℕ) (hA : A.Nonempty) (M : ℝ) :
    Ideal.div (acc (fun s => (Real.log 2)⁻¹ * σ s) v A M) (acc (fun s => (Real.log 2)⁻¹ * σ s) one A M) = mean σ v A := by
  have hz : 0 < ∑ s ∈ A, Real.exp (σ s) := Finset.sum_pos (fun s _ => Real.exp_pos _) hA
  have e : acc (fun s => (Real.log 2)⁻¹ * σ s) one A M = (((∑ s ∈ A, Real.exp (σ s)) * Real.rpow 2 (-M) : ℝ) : EReal) := by
    rw [acc_eq, EReal.coe_mul, coe_sum]
    congr 1
    exact Finset.sum_congr rfl fun s _ => by rw [h1, mul_one]
  rw [e, acc_eq, div_coe _ (mul_pos hz (pow_pos _)), mean, mul_assoc, ← EReal.coe_mul]
  congr 2
  rw [mul_inv, mul_left_comm, mul_inv_cancel₀ (pow_pos _).ne', mul_one]

/-- The weights of the reference: exponentials from the largest masked score, over their sum. -/
theorem softmax_mean (σ : ℕ → ℝ) (v : Fin 4096 → EReal) (t : Fin 4096) (v' : ℕ → EReal) (hv : ∀ s : Fin 4096, v' s.val = v s) (z : Fin 4096 → EReal)
    (hz : ∀ s : Fin 4096, z s = if s.val ≤ t.val then ((σ s.val : ℝ) : EReal) else ⊥) (m : EReal) (hm : m = Finset.fold max ⊥ z Finset.univ) :
    ∑ s : Fin 4096, Ideal.div (Ideal.exp (z s - m)) (∑ u : Fin 4096, Ideal.exp (z u - m)) * v s = mean σ v' (Finset.range (t.val + 1)) := by
  obtain ⟨M, hM⟩ : ∃ M : ℝ, m = (M : EReal) := by
    have e : z = fun k : Fin 4096 => msk σ (fun s => s ≤ t.val) (0 + k.val) := funext fun s => by rw [hz, msk, Nat.zero_add]
    obtain ⟨M, h⟩ := fold_msk (n := 4096) σ 0 (fun s => s ≤ t.val) ⊥ bot_lt_top (Or.inr ⟨t, by simp⟩)
    refine ⟨M, ?_⟩
    rw [hm, e, ← h]; exact (max_eq_right bot_le).symm
  have hw : ∀ s : Fin 4096, Ideal.exp (z s - m) = ((if s.val ≤ t.val then Real.exp (σ s.val) * Real.exp (-M) else 0 : ℝ) : EReal) := fun s => by
    rw [hz, hM]
    by_cases h : s.val ≤ t.val
    · rw [if_pos h, if_pos h, ← EReal.coe_sub, Ideal.exp_coe, sub_eq_add_neg, Real.exp_add]
    · rw [if_neg h, if_neg h, show (⊥ : EReal) - (M : EReal) = ⊥ from rfl, Ideal.exp_bot]; rfl
  have hs : ∑ u : Fin 4096, Ideal.exp (z u - m) = (((∑ s ∈ Finset.range (t.val + 1), Real.exp (σ s)) * Real.exp (-M) : ℝ) : EReal) := by
    rw [Finset.sum_congr rfl fun u _ => hw u, ← coe_sum, Finset.sum_mul]
    refine congrArg _ ?_
    rw [← Finset.sum_range (fun s => if s ≤ t.val then Real.exp (σ s) * Real.exp (-M) else 0), ← Finset.sum_filter]
    refine Finset.sum_congr (Finset.ext fun s => ?_) fun _ _ => rfl
    have := t.isLt
    rw [Finset.mem_filter, Finset.mem_range, Finset.mem_range]; omega
  have hpos : 0 < ∑ s ∈ Finset.range (t.val + 1), Real.exp (σ s) := Finset.sum_pos (fun s _ => Real.exp_pos _) ⟨0, by simp⟩
  rw [hs, mean, sum_mul_coe _ _ (inv_nonneg.mpr hpos.le)]
  have key : ∀ s : Fin 4096, Ideal.div (Ideal.exp (z s - m)) (((∑ s ∈ Finset.range (t.val + 1), Real.exp (σ s)) * Real.exp (-M) : ℝ) : EReal) * v s
      = (fun s : ℕ => if s ≤ t.val then ((Real.exp (σ s) : ℝ) : EReal) * v' s * (((∑ s ∈ Finset.range (t.val + 1), Real.exp (σ s))⁻¹ : ℝ) : EReal) else 0) s.val := fun s => by
    rw [div_coe _ (mul_pos hpos (Real.exp_pos _)), hw, ← EReal.coe_mul]
    by_cases h : s.val ≤ t.val
    · simp only [if_pos h]
      rw [hv, mul_right_comm (((Real.exp (σ s.val) : ℝ) : EReal)), ← EReal.coe_mul]
      congr 2
      have : Real.exp (-M) ≠ 0 := (Real.exp_pos _).ne'
      field_simp
    · simp only [if_neg h]
      rw [zero_mul, EReal.coe_zero, zero_mul]
  rw [Finset.sum_congr rfl fun s _ => key s, ← Finset.sum_range (fun s : ℕ => if s ≤ t.val then ((Real.exp (σ s) : ℝ) : EReal) * v' s * (((∑ s ∈ Finset.range (t.val + 1), Real.exp (σ s))⁻¹ : ℝ) : EReal) else 0), ← Finset.sum_filter]
  refine Finset.sum_congr (Finset.ext fun s => ?_) fun _ _ => rfl
  have := t.isLt
  rw [Finset.mem_filter, Finset.mem_range, Finset.mem_range]; omega

/-! ### A score from the two parts of the features -/

theorem score_sum (K Q : Fin 256 → EReal) (k q : Fin 128 → ℝ) (cs ct : ℝ)
    (hk : ∀ e : Fin 128, K (Fin.castAdd 128 e) = (k e : EReal)) (hq : ∀ e : Fin 128, Q (Fin.castAdd 128 e) = (q e : EReal))
    (hK : ∀ l : Fin 128, K (Fin.natAdd 128 l) = if l.val < 3 then 1 else if l.val = 3 then ((-cs : ℝ) : EReal) else 0)
    (hQ : ∀ l : Fin 128, Q (Fin.natAdd 128 l) = if l.val = 0 then (ct : EReal) else if l.val < 3 then 0 else if l.val < 6 then 1 else 0) :
    ∑ a, K a * Q a = ((∑ e, k e * q e + ct - cs : ℝ) : EReal) := by
  rw [Fin.sum_univ_add (a := 128) (b := 128) (fun a => K a * Q a)]
  have h1 : ∑ e : Fin 128, K (Fin.castAdd 128 e) * Q (Fin.castAdd 128 e) = ((∑ e, k e * q e : ℝ) : EReal) := by
    rw [coe_sum]; exact Finset.sum_congr rfl fun e _ => by rw [hk, hq, EReal.coe_mul]
  have h2 : ∀ l : Fin 128, K (Fin.natAdd 128 l) * Q (Fin.natAdd 128 l) = (((if l = 0 then ct else 0) + (if l = 3 then -cs else 0) : ℝ) : EReal) := fun l => by
    rw [hK, hQ]
    by_cases a0 : l = 0
    · subst a0; simp
    by_cases a3 : l = 3
    · subst a3; simp
    have b0 : l.val ≠ 0 := fun h => a0 (Fin.ext h)
    have b3 : l.val ≠ 3 := fun h => a3 (Fin.ext h)
    rw [if_neg b0, if_neg b3, if_neg a0, if_neg a3]
    by_cases c : l.val < 3 <;> simp [c]
  rw [h1, Finset.sum_congr rfl fun l _ => h2 l, ← coe_sum, ← EReal.coe_add, Finset.sum_add_distrib, Finset.sum_ite_eq', Finset.sum_ite_eq', if_pos (Finset.mem_univ _), if_pos (Finset.mem_univ _)]
  congr 1; ring

end Cert.FoxMath
-- ==== Proof.FoxAttnCol.lean ====
module

public import proofs.«01_k».proof.Proof.FoxAttnTail
public import proofs.«01_k».proof.Proof.FoxMath
public import Idealize.ShloMosaic.Lib.Pointwise

@[expose] public section

set_option maxRecDepth 16384

noncomputable section

/-! The tiles of one query column: after each, the state of Cert.FoxMath over the keys seen. -/

namespace Cert.FoxIdeal.Attn

open Cert.FoxIdeal Cert.FoxIdeal.Gen Cert.FoxMath Cert.RealMath
open Idealize.ShloMosaic Idealize.ShloMosaic.TcCoe

theorem exp2_eq (x : EReal) : FloatOps.exp2 (F := Ideal) (φ := .f32) x = Ideal.exp2 x := rfl

/-! ### Blocks of the key and value scratch at an index -/

theorem kt_at (x11 : Vec Ideal S4096x256 .bf16) (k : Fin 4) (x : Fin 1024) (a : Fin 256) :
    kt x11 k (ix2 x a) = x11 (ix2 (⟨1024 * k.val + x.val, by omega⟩ : Fin 4096) a) := by
  unfold kt VecWindow.window
  refine congrArg x11 (funext fun q => Fin.ext ?_)
  show (![1024 * k.val, 0] : Fin 2 → ℕ) q + 1 * (ix2 x a q).val = _
  fin_cases q <;> simp

theorem vt_at (x12 : Vec Ideal S144x4096 .bf16) (k : Fin 4) (d : Fin 144) (x : Fin 1024) :
    vt x12 k (ix2 d x) = x12 (ix2 d (⟨1024 * k.val + x.val, by omega⟩ : Fin 4096)) := by
  unfold vt VecWindow.window
  refine congrArg x12 (funext fun q => Fin.ext ?_)
  show (![0, 1024 * k.val] : Fin 2 → ℕ) q + 1 * (ix2 d x q).val = _
  fin_cases q <;> simp

theorem kd_at (x11 : Vec Ideal S4096x256 .bf16) (k : Fin 4) (e : Fin 2) (x : Fin 512) (a : Fin 256) :
    kd x11 k e (ix2 x a) = x11 (ix2 (⟨1024 * k.val + 512 * e.val + x.val, by omega⟩ : Fin 4096) a) := by
  unfold kd VecWindow.window
  refine congrArg x11 (funext fun q => Fin.ext ?_)
  show (![1024 * k.val + 512 * e.val, 0] : Fin 2 → ℕ) q + 1 * (ix2 x a q).val = _
  fin_cases q <;> simp

theorem vd_at (x12 : Vec Ideal S144x4096 .bf16) (k : Fin 4) (e : Fin 2) (d : Fin 144) (x : Fin 512) :
    vd x12 k e (ix2 d x) = x12 (ix2 d (⟨1024 * k.val + 512 * e.val + x.val, by omega⟩ : Fin 4096)) := by
  unfold vd VecWindow.window
  refine congrArg x12 (funext fun q => Fin.ext ?_)
  show (![0, 1024 * k.val + 512 * e.val] : Fin 2 → ℕ) q + 1 * (ix2 d x q).val = _
  fin_cases q <;> simp

theorem io0_at (x : Fin 1024) : io0 (ix2 x 0) = BitVec.ofNat 32 x.val := by pointwise [io0]
theorem io1_at (x : Fin 1024) : io1 (ix2 0 x) = BitVec.ofNat 32 x.val := by pointwise [io1]

/-! ### The tiles at an index -/

theorem pay10_at (Q : FVec Ideal S256x1024 .bf16) (b : Ideal .f32) (a : FVec Ideal S144x1024 .f32) (K : Vec Ideal S1024x256 .bf16) (W : Vec Ideal S144x1024 .bf16) (d : Fin 144) (j : Fin 1024) :
    k1_pay10 Q b a K W (ix2 d j) = a (ix2 d j) + ∑ x, W (ix2 d x) * Ideal.exp2 ((∑ c, K (ix2 x c) * Q (ix2 c j)) - b) := by
  pointwise [k1_pay10]
  all_goals rfl

theorem pay29_at (Q : FVec Ideal S256x1024 .bf16) (m : FVec Ideal S1x1024 .f32) (K : Vec Ideal S1024x256 .bf16) (j : Fin 1024) :
    k1_pay29 Q m K (ix2 0 j) = max (m (ix2 0 j)) (Finset.fold max ⊥ (fun x => ∑ c, K (ix2 x c) * Q (ix2 c j)) Finset.univ) := by
  rw [← ofBits_bot]
  pointwise [k1_pay29, k1_pay28]
  all_goals rfl

theorem pay30_at (Q : FVec Ideal S256x1024 .bf16) (m : FVec Ideal S1x1024 .f32) (a : FVec Ideal S144x1024 .f32) (K : Vec Ideal S1024x256 .bf16) (W : Vec Ideal S144x1024 .bf16) (d : Fin 144) (j : Fin 1024) :
    k1_pay30 Q m a K W (ix2 d j) = Ideal.exp2 (m (ix2 0 j) - k1_pay29 Q m K (ix2 0 j)) * a (ix2 d j)
      + ∑ x, W (ix2 d x) * Ideal.exp2 ((∑ c, K (ix2 x c) * Q (ix2 c j)) - k1_pay29 Q m K (ix2 0 j)) := by
  generalize hM : k1_pay29 Q m K = M
  unfold k1_pay30
  rw [hM]
  pointwise [k1_pay28]
  all_goals rfl

/-- A masked score of the first half of the diagonal. -/
theorem pay18_at (Q : FVec Ideal S256x1024 .bf16) (K : Vec Ideal S512x256 .bf16) (x : Fin 512) (j : Fin 1024) :
    k1_pay18 Q io0 io1 K (ix2 x j) = if x.val ≤ j.val then ∑ c, K (ix2 x c) * Q (ix2 c j) else ⊥ := by
  pointwise [k1_pay18]
  rw [ofBits_bot, io1_at, show io0 (ix2 (⟨x.val, _⟩ : Fin 1024) 0) = _ from io0_at _]
  simp (disch := omega) only [hlo_ix]

/-- A masked score of the second half. -/
theorem pay23_at (Q : FVec Ideal S256x1024 .bf16) (K : Vec Ideal S512x256 .bf16) (x : Fin 512) (j : Fin 512) :
    k1_pay23 Q io0 io1 K (ix2 x j) = if x.val ≤ j.val then ∑ c, K (ix2 x c) * Q (ix2 c (⟨512 + j.val, by omega⟩ : Fin 1024)) else ⊥ := by
  pointwise [k1_pay23]
  rw [ofBits_bot, show io1 (ix2 0 (⟨j.val, _⟩ : Fin 1024)) = _ from io1_at _, show io0 (ix2 (⟨x.val, _⟩ : Fin 1024) 0) = _ from io0_at _]
  simp (disch := omega) only [hlo_ix]

theorem pay19_at (Q : FVec Ideal S256x1024 .bf16) (K : Vec Ideal S512x256 .bf16) (j : Fin 1024) :
    k1_pay19 Q io0 io1 K (ix2 0 j) = max ⊥ (Finset.fold max ⊥ (fun x => k1_pay18 Q io0 io1 K (ix2 x j)) Finset.univ) := by
  rw [← ofBits_bot]
  pointwise [k1_pay19, k1_pay17]
  all_goals rfl

theorem pay24_at (Q : FVec Ideal S256x1024 .bf16) (K : Vec Ideal S512x256 .bf16) (j : Fin 512) :
    k1_pay24 Q io0 io1 K (ix2 0 j) = Finset.fold max ⊥ (fun x => k1_pay23 Q io0 io1 K (ix2 x j)) Finset.univ := by
  rw [← ofBits_bot]
  pointwise [k1_pay24]

theorem pay20_at (Q : FVec Ideal S256x1024 .bf16) (K : Vec Ideal S512x256 .bf16) (W : Vec Ideal S144x512 .bf16) (d : Fin 144) (j : Fin 1024) :
    k1_pay20 Q io0 io1 K W (ix2 d j) = Ideal.exp2 (⊥ - k1_pay19 Q io0 io1 K (ix2 0 j)) * 0
      + ∑ x, W (ix2 d x) * Ideal.exp2 (k1_pay18 Q io0 io1 K (ix2 x j) - k1_pay19 Q io0 io1 K (ix2 0 j)) := by
  generalize hM : k1_pay19 Q io0 io1 K = M
  generalize hS : k1_pay18 Q io0 io1 K = S
  unfold k1_pay20
  rw [hM, hS]
  pointwise [k1_pay17]
  simp only [mul_zero, zero_add]
  all_goals rfl

theorem pay26_at (m : FVec Ideal S1x1024 .f32) (x y : FVec Ideal S1x512 .f32) (j : Fin 1024) :
    k1_pay26 m x y (ix2 0 j) = if h : j.val < 512 then m (ix2 0 j) else max (x (ix2 0 (⟨j.val - 512, by omega⟩ : Fin 512))) (y (ix2 0 (⟨j.val - 512, by omega⟩ : Fin 512))) := by
  pointwise [k1_pay26, k1_pay25]

theorem pay27_at (a : FVec Ideal S144x1024 .f32) (w : Vec Ideal S144x512 .bf16) (x y : FVec Ideal S1x512 .f32) (z : FVec Ideal S144x512 .f32) (s : FVec Ideal S512x512 .f32) (d : Fin 144) (j : Fin 1024) :
    k1_pay27 a w x z s y (ix2 d j) = if h : j.val < 512 then a (ix2 d j) else
      Ideal.exp2 (x (ix2 0 (⟨j.val - 512, by omega⟩ : Fin 512)) - max (x (ix2 0 (⟨j.val - 512, by omega⟩ : Fin 512))) (y (ix2 0 (⟨j.val - 512, by omega⟩ : Fin 512)))) * z (ix2 d (⟨j.val - 512, by omega⟩ : Fin 512))
        + ∑ k, w (ix2 d k) * Ideal.exp2 (s (ix2 k (⟨j.val - 512, by omega⟩ : Fin 512)) - max (x (ix2 0 (⟨j.val - 512, by omega⟩ : Fin 512))) (y (ix2 0 (⟨j.val - 512, by omega⟩ : Fin 512)))) := by
  pointwise [k1_pay27, k1_pay25]
  all_goals rfl

theorem pay21_at (Q : FVec Ideal S256x1024 .bf16) (K : Vec Ideal S512x256 .bf16) (j : Fin 512) :
    k1_pay21 Q io0 io1 K (ix2 0 j) = k1_pay19 Q io0 io1 K (ix2 0 (⟨512 + j.val, by omega⟩ : Fin 1024)) := by
  unfold k1_pay21
  generalize k1_pay19 Q io0 io1 K = M
  pointwise

theorem pay22_at (Q : FVec Ideal S256x1024 .bf16) (K : Vec Ideal S512x256 .bf16) (W : Vec Ideal S144x512 .bf16) (d : Fin 144) (j : Fin 512) :
    k1_pay22 Q io0 io1 K W (ix2 d j) = k1_pay20 Q io0 io1 K W (ix2 d (⟨512 + j.val, by omega⟩ : Fin 1024)) := by
  unfold k1_pay22
  generalize k1_pay20 Q io0 io1 K W = M
  pointwise

end Cert.FoxIdeal.Attn
-- ==== Proof.FoxAttnState.lean ====
module

public import proofs.«01_k».proof.Proof.FoxAttnCol

@[expose] public section

set_option maxRecDepth 16384

noncomputable section

/-! What one query column has gathered after its diagonal tiles and after each earlier tile. -/

namespace Cert.FoxIdeal.Attn

open Cert.FoxIdeal Cert.FoxIdeal.Gen Cert.FoxMath Cert.RealMath
open Idealize.ShloMosaic Idealize.ShloMosaic.TcCoe

theorem pay9_at (Q : FVec Ideal S256x1024 .bf16) (b : Ideal .f32) (k0 k1 : Vec Ideal S512x256 .bf16) (w0 w1 : Vec Ideal S144x512 .bf16) (d : Fin 144) (j : Fin 1024) :
    k1_pay9 Q io0 io1 b k0 w0 k1 w1 (ix2 d j) =
      (∑ x, w0 (ix2 d x) * Ideal.exp2 ((if x.val ≤ j.val then ∑ c, k0 (ix2 x c) * Q (ix2 c j) else ⊥) - b))
      + if 512 ≤ j.val then ∑ x, w1 (ix2 d x) * Ideal.exp2 ((if 512 + x.val ≤ j.val then ∑ c, k1 (ix2 x c) * Q (ix2 c j) else ⊥) - b) else 0 := by
  pointwise [k1_pay9]
  rw [ofBits_bot]
  by_cases h : j.val < 512
  · rw [dif_pos h, if_neg (by omega), add_zero]
    refine Finset.sum_congr rfl fun x _ => ?_
    rw [io1_at, show io0 (ix2 (⟨x.val, _⟩ : Fin 1024) 0) = _ from io0_at _]
    simp (disch := omega) only [hlo_ix]
    rfl
  · rw [dif_neg h, if_pos (show 512 ≤ j.val by omega)]
    have ej : (⟨512 + (j.val - 512), by omega⟩ : Fin 1024) = j := Fin.ext (by show 512 + (j.val - 512) = j.val; omega)
    refine congrArg₂ (· + ·) (Finset.sum_congr rfl fun x _ => ?_) (Finset.sum_congr rfl fun x _ => ?_)
    · show w0 (ix2 d x) * Ideal.exp2 (Scalar.select (IntOp.cmpi .sle (io0 (ix2 (⟨x.val, by omega⟩ : Fin 1024) 0)) (io1 (ix2 0 (⟨512 + (j.val - 512), by omega⟩ : Fin 1024))))
        (∑ c, k0 (ix2 x c) * Q (ix2 c (⟨512 + (j.val - 512), by omega⟩ : Fin 1024))) ⊥ - b) = _
      rw [ej, io1_at, io0_at]
      simp (disch := omega) only [hlo_ix]
    · show w1 (ix2 d x) * Ideal.exp2 (Scalar.select (IntOp.cmpi .sle (io0 (ix2 (⟨x.val, by omega⟩ : Fin 1024) 0)) (io1 (ix2 0 (⟨j.val - 512, by omega⟩ : Fin 1024))))
        (∑ c, k1 (ix2 x c) * Q (ix2 c (⟨512 + (j.val - 512), by omega⟩ : Fin 1024))) ⊥ - b) = _
      rw [ej, io1_at, io0_at]
      simp (disch := omega) only [hlo_ix]
      have e : (x.val ≤ j.val - 512) = (512 + x.val ≤ j.val) := propext (by omega)
      simp only [e]

/-- A row of the value scratch, over all numbers. -/
def vrow (x12 : Vec Ideal S144x4096 .bf16) (d : Fin 144) (s : ℕ) : EReal := if h : s < 4096 then x12 (ix2 d ⟨s, h⟩) else 1

theorem vrow_at (x12 : Vec Ideal S144x4096 .bf16) (d : Fin 144) (s : ℕ) (h : s < 4096) : x12 (ix2 d ⟨s, h⟩) = vrow x12 d s := by
  unfold vrow; rw [dif_pos h]

/-- The keys of a query's own tile that it attends to. -/
def dg (q : Fin 4) (j : Fin 1024) : Finset ℕ := Finset.Ico (1024 * q.val) (1024 * q.val + j.val + 1)

/-- Those keys, and the keys of the first `n` tiles. -/
def seen (q : Fin 4) (j : Fin 1024) (n : ℕ) : Finset ℕ := dg q j ∪ Finset.range (1024 * n)

theorem seen_zero (q : Fin 4) (j : Fin 1024) : seen q j 0 = dg q j := by simp [seen]

theorem seen_last (q : Fin 4) (j : Fin 1024) : seen q j q.val = Finset.range (1024 * q.val + j.val + 1) := by
  ext s; simp only [seen, dg, Finset.mem_union, Finset.mem_Ico, Finset.mem_range]; omega

theorem seen_succ (q : Fin 4) (j : Fin 1024) (n : ℕ) : seen q j n ∪ tile (1024 * n) 1024 (fun _ => True) = seen q j (n + 1) := by
  ext s; simp only [seen, dg, tile, Finset.mem_union, Finset.mem_Ico, Finset.mem_range, Finset.mem_filter, and_true]; omega

theorem seen_disj (q : Fin 4) (j : Fin 1024) (n : ℕ) (h : n < q.val) : Disjoint (seen q j n) (tile (1024 * n) 1024 (fun _ => True)) := by
  rw [Finset.disjoint_left]; intro s
  simp only [seen, dg, tile, Finset.mem_union, Finset.mem_Ico, Finset.mem_range, Finset.mem_filter, and_true]; omega

/-- The two halves of the diagonal. -/
theorem dg_left (q : Fin 4) (j : Fin 1024) (h : j.val < 512) : tile (1024 * q.val) 512 (fun s => s ≤ 1024 * q.val + j.val) = dg q j := by
  ext s; simp only [dg, tile, Finset.mem_Ico, Finset.mem_filter]; omega

theorem dg_both (q : Fin 4) (j : Fin 1024) (h : 512 ≤ j.val) :
    tile (1024 * q.val) 512 (fun s => s ≤ 1024 * q.val + j.val) ∪ tile (1024 * q.val + 512) 512 (fun s => s ≤ 1024 * q.val + j.val) = dg q j := by
  ext s; simp only [dg, tile, Finset.mem_union, Finset.mem_Ico, Finset.mem_filter]; omega

theorem dg_disj (q : Fin 4) (j : Fin 1024) :
    Disjoint (tile (1024 * q.val) 512 (fun s => s ≤ 1024 * q.val + j.val)) (tile (1024 * q.val + 512) 512 (fun s => s ≤ 1024 * q.val + j.val)) := by
  rw [Finset.disjoint_left]; intro s
  simp only [tile, Finset.mem_Ico, Finset.mem_filter]; omega

section
variable (x11 : Vec Ideal S4096x256 .bf16) (x12 : Vec Ideal S144x4096 .bf16) (Q : FVec Ideal S256x1024 .bf16) (q : Fin 4) (j : Fin 1024) (S : ℕ → ℝ)
  (hS : ∀ s : Fin 4096, ∑ a, x11 (ix2 s a) * Q (ix2 a j) = ((S s.val : ℝ) : EReal))
include hS

/-- The score of a key of an earlier tile. -/
theorem full_score (k : Fin 4) (x : Fin 1024) : ∑ c, kt x11 k (ix2 x c) * Q (ix2 c j) = msk S (fun _ => True) (1024 * k.val + x.val) := by
  rw [msk, if_pos trivial]
  refine Eq.trans ?_ (hS ⟨1024 * k.val + x.val, by omega⟩)
  exact Finset.sum_congr rfl fun c _ => by rw [kt_at]

theorem full_val (k : Fin 4) (d : Fin 144) (x : Fin 1024) : vt x12 k (ix2 d x) = vrow x12 d (1024 * k.val + x.val) := by
  rw [vt_at, vrow_at x12]

theorem half_score (e : Fin 2) (x : Fin 512) : ∑ c, kd x11 q e (ix2 x c) * Q (ix2 c j) = ((S (1024 * q.val + 512 * e.val + x.val) : ℝ) : EReal) := by
  refine Eq.trans ?_ (hS ⟨1024 * q.val + 512 * e.val + x.val, by omega⟩)
  exact Finset.sum_congr rfl fun c _ => by rw [kd_at]

theorem half_val (e : Fin 2) (d : Fin 144) (x : Fin 512) : vd x12 q e (ix2 d x) = vrow x12 d (1024 * q.val + 512 * e.val + x.val) := by
  rw [vd_at, vrow_at x12]

theorem left_score (x : Fin 512) : (if x.val ≤ j.val then ∑ c, kd x11 q 0 (ix2 x c) * Q (ix2 c j) else ⊥) = msk S (fun s => s ≤ 1024 * q.val + j.val) (1024 * q.val + x.val) := by
  rw [half_score x11 Q q j S hS, msk]
  exact if_congr (by omega) rfl rfl

theorem right_score (x : Fin 512) : (if 512 + x.val ≤ j.val then ∑ c, kd x11 q 1 (ix2 x c) * Q (ix2 c j) else ⊥) = msk S (fun s => s ≤ 1024 * q.val + j.val) (1024 * q.val + 512 + x.val) := by
  rw [half_score x11 Q q j S hS, msk]
  exact if_congr (by omega) rfl rfl

/-- With a fixed shift, the diagonal tiles hold the sum over the query's own tile. -/
theorem diagS_at (μ : ℝ) (d : Fin 144) : diagS q Q (μ : EReal) x11 x12 (ix2 d j) = acc S (vrow x12 d) (dg q j) μ := by
  unfold diagS
  refine (pay9_at Q (μ : EReal) _ _ _ _ d j).trans ?_
  have e1 : ∑ x, vd x12 q 0 (ix2 d x) * Ideal.exp2 ((if x.val ≤ j.val then ∑ c, kd x11 q 0 (ix2 x c) * Q (ix2 c j) else ⊥) - (μ : EReal))
      = acc S (vrow x12 d) (tile (1024 * q.val) 512 (fun s => s ≤ 1024 * q.val + j.val)) μ := by
    rw [← tile_sum]
    exact Finset.sum_congr rfl fun x _ => by rw [left_score x11 Q q j S hS, half_val x11 x12 Q q j S hS]; rfl
  have e2 : ∑ x, vd x12 q 1 (ix2 d x) * Ideal.exp2 ((if 512 + x.val ≤ j.val then ∑ c, kd x11 q 1 (ix2 x c) * Q (ix2 c j) else ⊥) - (μ : EReal))
      = acc S (vrow x12 d) (tile (1024 * q.val + 512) 512 (fun s => s ≤ 1024 * q.val + j.val)) μ := by
    rw [← tile_sum]
    exact Finset.sum_congr rfl fun x _ => by rw [right_score x11 Q q j S hS, half_val x11 x12 Q q j S hS]; rfl
  rw [e1]
  by_cases h : 512 ≤ j.val
  · rw [if_pos h, e2, ← acc_union _ _ (dg_disj q j), dg_both q j h]
  · rw [if_neg h, add_zero, dg_left q j (by omega)]

/-- … and each earlier tile adds its keys. -/
theorem accS_at (μ : ℝ) (n : ℕ) (hn : n ≤ q.val) (d : Fin 144) : accS q Q (μ : EReal) x11 x12 n (ix2 d j) = acc S (vrow x12 d) (seen q j n) μ := by
  induction n with
  | zero => rw [seen_zero]; exact diagS_at x11 x12 Q q j S hS μ d
  | succ n ih =>
    have h4 : n < 4 := by have := q.isLt; omega
    rw [accS_succ q Q _ x11 x12 n h4]
    refine (pay10_at Q (μ : EReal) _ _ _ d j).trans ?_
    rw [ih (by omega), ← seen_succ, ← acc_step S (vrow x12 d) (seen q j n) μ (1024 * n) 1024 _ (seen_disj q j n (by omega))]
    congr 1
    exact Finset.sum_congr rfl fun x _ => by rw [full_score x11 Q j S hS, full_val x11 x12 Q j S hS]

/-- The first half of the diagonal with a running maximum. -/
theorem left_state : State S (vrow x12) (tile (1024 * q.val) 512 (fun s => s ≤ 1024 * q.val + j.val)) (k1_pay19 Q io0 io1 (kd x11 q 0) (ix2 0 j))
    (fun d => k1_pay20 Q io0 io1 (kd x11 q 0) (vd x12 q 0) (ix2 d j)) := by
  have e18 : ∀ x, k1_pay18 Q io0 io1 (kd x11 q 0) (ix2 x j) = msk S (fun s => s ≤ 1024 * q.val + j.val) (1024 * q.val + x.val) := fun x =>
    (pay18_at Q _ x j).trans (left_score x11 Q q j S hS x)
  have h0 : State S (vrow x12) ∅ ⊥ (fun _ => 0) := Or.inl ⟨rfl, rfl, fun _ => rfl⟩
  have h := h0.step (1024 * q.val) 512 (fun s => s ≤ 1024 * q.val + j.val) (Finset.disjoint_empty_left _) (Or.inr ⟨0, by simp⟩)
    (k1_pay19 Q io0 io1 (kd x11 q 0) (ix2 0 j)) ((pay19_at Q _ j).trans (by simp only [e18]))
  rw [Finset.empty_union] at h
  refine (congrArg (State S (vrow x12) _ _) (funext fun d => ?_)).mpr h
  refine (pay20_at Q _ _ d j).trans ?_
  congr 1
  exact Finset.sum_congr rfl fun x _ => by rw [e18, half_val x11 x12 Q q j S hS]; rfl

/-- Both halves. -/
theorem diagM_state : State S (vrow x12) (dg q j) ((diagM q Q x11 x12).1 (ix2 0 j)) (fun d => (diagM q Q x11 x12).2 (ix2 d j)) := by
  have h1 := left_state x11 x12 Q q j S hS
  by_cases h : j.val < 512
  · rw [dg_left q j h] at h1
    have em : (diagM q Q x11 x12).1 (ix2 0 j) = k1_pay19 Q io0 io1 (kd x11 q 0) (ix2 0 j) := (pay26_at _ _ _ j).trans (dif_pos h)
    have ea : (fun d => (diagM q Q x11 x12).2 (ix2 d j)) = fun d => k1_pay20 Q io0 io1 (kd x11 q 0) (vd x12 q 0) (ix2 d j) :=
      funext fun d => (pay27_at _ _ _ _ _ _ d j).trans (dif_pos h)
    rw [em, ea]; exact h1
  · have ej : (⟨512 + (j.val - 512), by omega⟩ : Fin 1024) = j := Fin.ext (by show 512 + (j.val - 512) = j.val; omega)
    have e23 : ∀ x : Fin 512, k1_pay23 Q io0 io1 (kd x11 q 1) (ix2 x (⟨j.val - 512, by omega⟩ : Fin 512)) = msk S (fun s => s ≤ 1024 * q.val + j.val) (1024 * q.val + 512 + x.val) := fun x => by
      refine (pay23_at Q _ x _).trans (Eq.trans ?_ (right_score x11 Q q j S hS x))
      simp only [ej]
      exact if_congr (by omega) rfl rfl
    have e21 : k1_pay21 Q io0 io1 (kd x11 q 0) (ix2 0 (⟨j.val - 512, by omega⟩ : Fin 512)) = k1_pay19 Q io0 io1 (kd x11 q 0) (ix2 0 j) :=
      (pay21_at Q _ _).trans (congrArg (fun i => k1_pay19 Q io0 io1 (kd x11 q 0) (ix2 0 i)) ej)
    have e22 : ∀ d, k1_pay22 Q io0 io1 (kd x11 q 0) (vd x12 q 0) (ix2 d (⟨j.val - 512, by omega⟩ : Fin 512)) = k1_pay20 Q io0 io1 (kd x11 q 0) (vd x12 q 0) (ix2 d j) := fun d =>
      (pay22_at Q _ _ d _).trans (congrArg (fun i => k1_pay20 Q io0 io1 (kd x11 q 0) (vd x12 q 0) (ix2 d i)) ej)
    have em : (diagM q Q x11 x12).1 (ix2 0 j) = max (k1_pay19 Q io0 io1 (kd x11 q 0) (ix2 0 j)) (Finset.fold max ⊥ (fun x : Fin 512 => msk S (fun s => s ≤ 1024 * q.val + j.val) (1024 * q.val + 512 + x.val)) Finset.univ) := by
      refine (pay26_at _ _ _ j).trans ((dif_neg h).trans ?_)
      rw [e21, pay24_at]; simp only [e23]
    have h2 := h1.step (1024 * q.val + 512) 512 (fun s => s ≤ 1024 * q.val + j.val) (dg_disj q j)
      (Or.inl ⟨1024 * q.val, by simp only [tile, Finset.mem_Ico, Finset.mem_filter]; omega⟩) _ em
    rw [dg_both q j (by omega)] at h2
    refine (congrArg (State S (vrow x12) _ _) (funext fun d => ?_)).mpr h2
    refine (pay27_at _ _ _ _ _ _ d j).trans ((dif_neg h).trans ?_)
    rw [e21, e22, em, pay24_at]
    simp only [e23]
    refine congrArg₂ (· + ·) rfl (Finset.sum_congr rfl fun x _ => ?_)
    rw [half_val x11 x12 Q q j S hS]; rfl

/-- … and each earlier tile adds its keys. -/
theorem accM_state (n : ℕ) (hn : n ≤ q.val) : State S (vrow x12) (seen q j n) ((accM q Q x11 x12 n).1 (ix2 0 j)) (fun d => (accM q Q x11 x12 n).2 (ix2 d j)) := by
  induction n with
  | zero => rw [seen_zero]; exact diagM_state x11 x12 Q q j S hS
  | succ n ih =>
    have h4 : n < 4 := by have := q.isLt; omega
    rw [accM_succ q Q x11 x12 n h4]
    have em := pay29_at Q (accM q Q x11 x12 n).1 (kt x11 ⟨n, h4⟩) j
    simp only [full_score x11 Q j S hS] at em
    have h := (ih (by omega)).step (1024 * n) 1024 (fun _ => True) (seen_disj q j n (by omega)) (Or.inr ⟨0, trivial⟩) _ em
    rw [seen_succ] at h
    refine (congrArg (State S (vrow x12) _ _) (funext fun d => ?_)).mpr h
    refine (pay30_at Q _ _ _ _ d j).trans ?_
    congr 1
    exact Finset.sum_congr rfl fun x _ => by rw [full_score x11 Q j S hS, full_val x11 x12 Q j S hS]

/-- Either way, dividing by the row of ones leaves the weighted mean over the keys up to the query. -/
theorem col_mean (σ : ℕ → ℝ) (hσ : S = fun s => (Real.log 2)⁻¹ * σ s) (h1 : ∀ s, vrow x12 128 s = 1) (d : Fin 144) (P : Prop) [Decidable P] (μ : ℝ) :
    Ideal.div ((if P then accS q Q (μ : EReal) x11 x12 q.val else (accM q Q x11 x12 q.val).2) (ix2 d j))
      ((if P then accS q Q (μ : EReal) x11 x12 q.val else (accM q Q x11 x12 q.val).2) (ix2 128 j))
      = mean σ (vrow x12 d) (Finset.range (1024 * q.val + j.val + 1)) := by
  have hne : (Finset.range (1024 * q.val + j.val + 1)).Nonempty := ⟨0, by simp⟩
  by_cases hP : P
  · rw [if_pos hP, accS_at x11 x12 Q q j S hS μ _ le_rfl, accS_at x11 x12 Q q j S hS μ _ le_rfl, seen_last, hσ]
    exact acc_div σ _ _ h1 _ hne μ
  · rw [if_neg hP]
    rcases accM_state x11 x12 Q q j S hS q.val le_rfl with ⟨h0, -⟩ | ⟨M, -, h⟩
    · rw [seen_last] at h0; exact absurd h0 hne.ne_empty
    · rw [show (accM q Q x11 x12 q.val).2 (ix2 d j) = _ from h d, show (accM q Q x11 x12 q.val).2 (ix2 128 j) = _ from h 128, seen_last, hσ]
      exact acc_div σ _ _ h1 _ hne M
end

end Cert.FoxIdeal.Attn
-- ==== Proof.FoxGateValue.lean ====
module

public import proofs.«01_k».proof.Proof.FoxGateObl
public import proofs.«01_k».proof.Proof.FoxMath
public import Idealize.ShloMosaic.Lib.Pointwise
public import Idealize.ShloMosaic.Lib.Pipeline.ValueKit

@[expose] public section

set_option maxRecDepth 16384

noncomputable section

/-! The gate's values: prefix sums, and the features made of them. -/

namespace Cert.FoxIdeal.Gate

open Cert.FoxIdeal Cert.FoxIdeal.Gen Cert.FoxMath Cert.RealMath
open Idealize.ShloMosaic Idealize.ShloMosaic.TcCoe

theorem sitofp_bool (p : Prop) [Decidable p] :
    FloatOps.sitofp (F := Ideal) .f32 (BitVec.setWidth 32 (BitVec.ofBool (decide p))) = if p then 1 else 0 := by
  by_cases h : p
  · rw [decide_eq_true h, if_pos h]
    show ((((1#32 : BitVec 32)).toInt : ℝ) : EReal) = 1
    norm_num
  · rw [decide_eq_false h, if_neg h]
    show ((((0#32 : BitVec 32)).toInt : ℝ) : EReal) = 0
    norm_num

theorem tri_at (r q : Fin 512) : (k0_pay1 : FVec Ideal S512x512 .bf16) (ix2 r q) = if q.val ≤ r.val then 1 else 0 := by
  pointwise [k0_pay1]
  simp (disch := omega) only [hlo_ix]
  exact sitofp_bool _

theorem absf_eq (x : EReal) : FloatOps.absf (F := Ideal) (φ := .f32) x = max x (-x) := rfl

/-- One trip's sums: the carried sum, and the rows up to one's own. -/
theorem pay5_at (cr : FVec Ideal S1x128 .f32) (x : Vec Ideal S1x512x128 .f32) (b : Vec Ideal S1x128 .f32) (r : Fin 512) (l : Fin 128) (z : ℕ → ℝ) (C : ℝ)
    (hx : ∀ q : Fin 512, x (ix3 0 q l) + b (ix2 0 l) = ((z q.val : ℝ) : EReal)) (hc : cr (ix2 0 l) = (C : EReal)) :
    k0_pay5 k0_pay1 cr x b (ix2 r l) = ((∑ q ∈ Finset.range (r.val + 1), ls (z q) + C : ℝ) : EReal) := by
  pointwise [k0_pay5]
  simp only [hx, hc, absf_eq, ls_kernel, tri_at]
  simp only [← EReal.coe_sub, sub_self, EReal.coe_zero, sub_zero, mul_zero, Finset.sum_const_zero, add_zero]
  have e : ∀ q : Fin 512, (if q.val ≤ r.val then (1 : EReal) else 0) * ((ls (z q.val) : ℝ) : EReal) = (((fun q : ℕ => if q ≤ r.val then ls (z q) else 0) q.val : ℝ) : EReal) := fun q => by
    by_cases h : q.val ≤ r.val
    · simp only [if_pos h, one_mul]
    · simp only [if_neg h, zero_mul, EReal.coe_zero]
  rw [Finset.sum_congr rfl fun q _ => e q, ← coe_sum, ← EReal.coe_add, ← Finset.sum_range (fun q : ℕ => if q ≤ r.val then ls (z q) else 0), ← Finset.sum_filter]
  refine congrArg _ (congrArg (· + C) (Finset.sum_congr (Finset.ext fun s => ?_) fun _ _ => rfl))
  have := r.isLt
  rw [Finset.mem_filter, Finset.mem_range, Finset.mem_range]; omega

theorem feat_at (col : FVec Ideal S512x1 .f32) (r : Fin 512) (l : Fin 128) (x : ℝ) (h : col (ix2 r 0) = (x : EReal)) :
    featOf col (ix4 0 0 r l) = if l.val < 3 then 1 else if l.val = 3 then ((-x : ℝ) : EReal) else 0 := by
  pointwise [featOf, k0_pay13, lanes]
  rw [h]
  simp (disch := omega) only [hlo_ix]
  simp only [← EReal.coe_sub, sub_self, EReal.coe_zero, zero_sub, neg_zero, ite_self, EReal.coe_neg]

theorem off1 : ∀ k : Fin k0_t1_loop.trips, k0_off1 k = ![0, 512 * k.val, 0] := by decide

theorem rowsv_at (x0 : Vec Ideal S1x4096x128 .f32) (k : Fin k0_t1_loop.trips) (q : Fin 512) (l : Fin 128) (h : 512 * k.val + q.val < 4096) :
    rowsv x0 k (ix3 0 q l) = x0 (ix3 0 ⟨512 * k.val + q.val, h⟩ l) := by
  unfold rowsv VecWindow.window
  refine congrArg x0 (funext fun a => Fin.ext ?_)
  show k0_off1 k a + 1 * (ix3 0 q l a).val = _
  rw [off1]
  fin_cases a <;> simp

variable (x0 : Vec Ideal S1x4096x128 .f32) (x1 : Vec Ideal S1x128 .f32) (l : Fin 128) (G : ℕ → ℝ)
  (hG : ∀ t : Fin 4096, x0 (ix3 0 t l) + x1 (ix2 0 l) = ((G t.val : ℝ) : EReal))

include hG in
theorem blk_of_carry (k : Fin k0_t1_loop.trips) (hk : carry x0 x1 k (ix2 0 l) = ((∑ t ∈ Finset.range (512 * k.val), ls (G t) : ℝ) : EReal)) (r : Fin 512) :
    blkC x0 x1 k (ix2 r l) = ((∑ t ∈ Finset.range (512 * k.val + r.val + 1), ls (G t) : ℝ) : EReal) := by
  have k8 : k.val < 8 := lt_of_lt_of_eq k.isLt trips_eq
  unfold blkC
  rw [pay5_at _ _ _ r l (fun q => G (512 * k.val + q)) _ (fun q => by rw [rowsv_at _ _ _ _ (by omega)]; exact hG _) hk]
  rw [Nat.add_assoc, Finset.sum_range_add _ (512 * k.val) (r.val + 1), add_comm]

include hG in
theorem carry_at (k : ℕ) (hk : k ≤ 8) : carry x0 x1 k (ix2 0 l) = ((∑ t ∈ Finset.range (512 * k), ls (G t) : ℝ) : EReal) := by
  induction k with
  | zero =>
    show k0_pay2 (F := Ideal) (ix2 0 l) = _
    pointwise [k0_pay2]
    simp
  | succ k ih =>
    have h : k < k0_t1_loop.trips := by rw [trips_eq]; omega
    rw [carry_succ x0 x1 k h]
    have e := blk_of_carry x0 x1 l G hG ⟨k, h⟩ (ih (by omega)) 511
    unfold blkC at e
    pointwise [k0_pay4]
    refine Eq.trans ?_ (e.trans ?_)
    · rfl
    · rfl

include hG in
theorem blkC_at (k : Fin k0_t1_loop.trips) (r : Fin 512) :
    blkC x0 x1 k (ix2 r l) = ((∑ t ∈ Finset.range (512 * k.val + r.val + 1), ls (G t) : ℝ) : EReal) :=
  blk_of_carry x0 x1 l G hG k (carry_at x0 x1 l G hG k.val (lt_of_lt_of_eq k.isLt trips_eq).le) r

include hG in
/-- The first result: the prefix sums. -/
theorem gateC_at (t : Fin 4096) : gateC x0 x1 (ix3 0 t l) = ((∑ s ∈ Finset.range (t.val + 1), ls (G s) : ℝ) : EReal) := by
  show blkC x0 x1 (trip t) (ix2 (sub t) l) = _
  rw [blkC_at x0 x1 l G hG]
  refine congrArg _ (congrArg (fun n => ∑ s ∈ Finset.range (n + 1), ls (G s)) ?_)
  show 512 * (t.val / 512) + t.val % 512 = t.val
  omega

theorem log2e_eq : (Named.named κ "log2e" 0x3FB8AA3B#32 : Ideal .f32) = (((Real.log 2)⁻¹ : ℝ) : EReal) := rfl

/-- The second result: the features of a head. -/
theorem gateK_at (h : Fin 8) (t : Fin 4096) (j : Fin 128) (hG : ∀ t : Fin 4096, x0 (ix3 0 t (Fin.castLE (by decide) h)) + x1 (ix2 0 (Fin.castLE (by decide) h)) = ((G t.val : ℝ) : EReal)) :
    gateK x0 x1 (ix4 0 h t j) = if j.val < 3 then 1 else if j.val = 3 then ((-((Real.log 2)⁻¹ * ∑ s ∈ Finset.range (t.val + 1), ls (G s)) : ℝ) : EReal) else 0 := by
  show featOf (col h (scaled (blkC x0 x1 (trip t)))) (ix4 0 0 (sub t) j) = _
  refine feat_at _ _ _ _ ?_
  have e := gateC_at x0 x1 _ G hG t
  show blkC x0 x1 (trip t) (ix2 (sub t) (Fin.castLE _ h)) * (Named.named κ "log2e" 0x3FB8AA3B#32 : Ideal .f32) = _
  rw [show blkC x0 x1 (trip t) (ix2 (sub t) (Fin.castLE _ h)) = _ from e, log2e_eq, ← EReal.coe_mul, mul_comm]

end Cert.FoxIdeal.Gate
-- ==== Proof.FoxSpec.lean ====
module

public import proofs.«01_k».proof.Proof.FoxMath

@[expose] public section

noncomputable section

/-! ## Attention with forgetting in plain terms -/

namespace Cert.FoxSpec

open Idealize.ShloMosaic Cert.FoxMath Cert.RealMath

/-- An array of extended reals of a shape. -/
abbrev Arr (s : Shape) : Type := s.Idx → EReal

/-- A row scaled by the inverse root of its mean square, and by a gain. -/
def nrm (x g : Fin 128 → EReal) (e : Fin 128) : EReal :=
  x e * Ideal.rsqrt (Ideal.div (∑ i, x i * x i) (Ideal.ofBits .f32 0x43000000#32) + Ideal.ofBits .f32 0x358637BD#32) * g e

/-- A normalized row is real when the gains are, whatever the row holds. -/
theorem nrm_real (x g : Fin 128 → EReal) (e : Fin 128) (hg : ∃ r : ℝ, g e = (r : EReal)) : nrm x g e = (((nrm x g e).toReal : ℝ) : EReal) := by
  obtain ⟨ε, hε, eε⟩ := ofBits_eps
  obtain ⟨r, hr⟩ := row_finite x (c := 128) (ε := ε) (by norm_num) hε e
  obtain ⟨s, hs⟩ := hg
  have h : nrm x g e = ((r * s : ℝ) : EReal) := by
    rw [nrm, ofBits_128, eε, hr, hs, EReal.coe_mul]
  rw [h, EReal.toReal_coe]

/-- Head `k` of the 24 of the projection's first part (8 of queries, 8 of keys, 8 of values) at a token. -/
def hd (p : Arr ⟨3, ![2, 4096, 7168]⟩) (b : Fin 2) (k : Fin 24) (t : ℕ) (e : Fin 128) : EReal :=
  if h : t < 4096 then p (ix3 b ⟨t, h⟩ (⟨128 * k.val + e.val, by omega⟩ : Fin 7168)) else 1

theorem hd_at (p : Arr ⟨3, ![2, 4096, 7168]⟩) (b : Fin 2) (k : Fin 24) (t : Fin 4096) (e : Fin 128) :
    hd p b k t.val e = p (ix3 b t (⟨128 * k.val + e.val, by omega⟩ : Fin 7168)) := dif_pos t.isLt

def qh (h : Fin 8) : Fin 24 := ⟨h.val, by omega⟩
def kh (h : Fin 8) : Fin 24 := ⟨8 + h.val, by omega⟩
def vh (h : Fin 8) : Fin 24 := ⟨16 + h.val, by omega⟩

/-- The gate of a head at a token, its bias added. -/
def gz (g : Arr ⟨3, ![2, 4096, 128]⟩) (f : Arr ⟨1, ![8]⟩) (b : Fin 2) (h : Fin 8) (t : ℕ) : ℝ :=
  if ht : t < 4096 then (g (ix3 b ⟨t, ht⟩ (⟨h.val, by omega⟩ : Fin 128)) + f (ix1 h)).toReal else 0

theorem gz_at (g : Arr ⟨3, ![2, 4096, 128]⟩) (f : Arr ⟨1, ![8]⟩) (b : Fin 2) (h : Fin 8) (t : Fin 4096)
    (hg : ∃ r : ℝ, g (ix3 b t (⟨h.val, by omega⟩ : Fin 128)) = (r : EReal)) (hf : ∃ r : ℝ, f (ix1 h) = (r : EReal)) :
    g (ix3 b t (⟨h.val, by omega⟩ : Fin 128)) + f (ix1 h) = ((gz g f b h t.val : ℝ) : EReal) := by
  obtain ⟨r, hr⟩ := hg
  obtain ⟨s, hs⟩ := hf
  rw [gz, dif_pos t.isLt, Fin.eta, hr, hs, ← EReal.coe_add, EReal.toReal_coe]

/-- The logarithm of what is kept from the start up to a token: the prefix sum of the log of the logistic function of the gates. -/
def lsum (g : Arr ⟨3, ![2, 4096, 128]⟩) (f : Arr ⟨1, ![8]⟩) (b : Fin 2) (h : Fin 8) (t : ℕ) : ℝ := ∑ u ∈ Finset.range (t + 1), ls (gz g f b h u)

/-- The score of a query token against a key token. -/
def score (p : Arr ⟨3, ![2, 4096, 7168]⟩) (g : Arr ⟨3, ![2, 4096, 128]⟩) (f : Arr ⟨1, ![8]⟩) (qg kg : Fin 128 → EReal) (b : Fin 2) (h : Fin 8) (t s : ℕ) : ℝ :=
  (∑ e, (nrm (hd p b (qh h) t) qg e).toReal * (nrm (hd p b (kh h) s) kg e).toReal) * (Real.sqrt 128)⁻¹ + lsum g f b h t - lsum g f b h s

/-- The result at a token: the mean of the values up to it, weighted with the exponentials of the scores. -/
def out (p : Arr ⟨3, ![2, 4096, 7168]⟩) (g : Arr ⟨3, ![2, 4096, 128]⟩) (f : Arr ⟨1, ![8]⟩) (qg kg : Fin 128 → EReal) (b : Fin 2) (h : Fin 8) (t : ℕ) (e : Fin 128) : EReal :=
  mean (score p g f qg kg b h t) (fun s => hd p b (vh h) s e) (Finset.range (t + 1))

end Cert.FoxSpec
-- ==== Proof.FoxAttnFill.lean ====
module

public import proofs.«01_k».proof.Proof.FoxAttnTail
public import proofs.«01_k».proof.Proof.FoxGateValue
public import proofs.«01_k».proof.Proof.FoxSpec
public import Idealize.ShloMosaic.Lib.Pointwise

@[expose] public section

set_option maxRecDepth 16384

noncomputable section

/-! The scratch and the query columns at an index. -/

namespace Cert.FoxIdeal.Attn

open Cert.FoxIdeal Cert.FoxIdeal.Gen Cert.FoxMath Cert.RealMath Cert.FoxSpec
open Idealize.ShloMosaic Idealize.ShloMosaic.TcCoe

theorem eye_at (r q : Fin 128) : (k1_pay44 : FVec Ideal S128x128 .bf16) (ix2 r q) = if r.val = q.val then 1 else 0 := by
  pointwise [k1_pay44]
  simp (disch := omega) only [hlo_ix]
  exact Gate.sitofp_bool _

theorem eye_sum (r : Fin 128) (f : Fin 128 → EReal) : ∑ x : Fin 128, (if r.val = x.val then (1 : EReal) else 0) * f x = f r := by
  rw [Finset.sum_eq_single r (fun x _ hx => by rw [if_neg (fun h => hx (Fin.ext h.symm)), zero_mul]) (fun h => absurd (Finset.mem_univ r) h), if_pos rfl, one_mul]

theorem scale2_eq : (Named.named κ "scale2" 0x3E0293EE#32 : Ideal .f32) = (((Real.sqrt 128)⁻¹ * (Real.log 2)⁻¹ : ℝ) : EReal) := rfl

theorem pay6_at (x : Vec Ideal S1x4096x128 .f32) (g : Vec Ideal S1x128 .f32) (s : Fin 4096) (e : Fin 128) :
    k1_pay6 x g (ix2 s e) = nrm (fun e => x (ix3 0 s e)) (fun e => g (ix2 0 e)) e := by
  pointwise [k1_pay6]
  all_goals rfl

theorem pay7_at (x : Vec Ideal S1x1x4096x128 .bf16) (s : Fin 4096) (e : Fin 128) : k1_pay7 x (ix2 s e) = x (ix4 0 0 s e) := by
  pointwise [k1_pay7]

theorem pay8_at (x : Vec Ideal S1x4096x128 .f32) (e : Fin 128) (s : Fin 4096) : k1_pay8 k1_pay44 x (ix2 e s) = x (ix3 0 s e) := by
  have h : ∀ v : FVec Ideal S128x128 .bf16, k1_pay8 v x (ix2 e s) = ∑ a, v (ix2 e a) * x (ix3 0 s a) := fun v => by
    pointwise [k1_pay8]
  rw [h]; simp only [eye_at]; exact eye_sum e _

theorem pay45_at (s : Fin 4096) : (k1_pay45 (F := Ideal) (iota .tc S16x4096 32 [0] iota_S16x4096_d0_w32) 0#32) (ix2 0 s) = 1 := by
  pointwise [k1_pay45]
  exact (Gate.sitofp_bool True).trans (if_pos trivial)

theorem pay46_at (x : Vec Ideal S1x1024x128 .f32) (g : Vec Ideal S1x128 .f32) (e : Fin 128) (j : Fin 1024) :
    k1_pay46 x g (ix2 e j) = nrm (fun e => x (ix3 0 j e)) (fun e => g (ix2 0 e)) e * (((Real.sqrt 128)⁻¹ * (Real.log 2)⁻¹ : ℝ) : EReal) := by
  have h : k1_pay46 x g (ix2 e j) = ∑ a : Fin 128, (if e.val = a.val then (1 : EReal) else 0) * (nrm (fun e => x (ix3 0 j e)) (fun e => g (ix2 0 e)) a * (((Real.sqrt 128)⁻¹ * (Real.log 2)⁻¹ : ℝ) : EReal)) := by
    pointwise [k1_pay46]
    refine Finset.sum_congr rfl fun a _ => ?_
    rw [eye_at]; rfl
  rw [h]; exact eye_sum e _

theorem pay48_at (x : Vec Ideal S1x1x1024 .f32) (j : Fin 1024) : k1_pay48 x (ix2 0 j) = x (ix3 0 0 j) * (((Real.log 2)⁻¹ : ℝ) : EReal) := by
  rw [← Gate.log2e_eq]
  pointwise [k1_pay48, k1_pay47]

theorem pay49_at (x : Vec Ideal S1x1x1024 .f32) (j : Fin 1024) : k1_pay49 x (ix2 0 j) = x (ix3 0 0 j) * (((Real.log 2)⁻¹ : ℝ) : EReal) - x (ix3 0 0 j) * (((Real.log 2)⁻¹ : ℝ) : EReal) := by
  rw [← Gate.log2e_eq]
  pointwise [k1_pay49, k1_pay48, k1_pay47]

theorem pay50_lo (x : FVec Ideal S128x1024 .bf16) (g : FVec Ideal S1x1024 .bf16) (h : FVec Ideal S1x1024 .f32) (a : Fin 256) (j : Fin 1024) (ha : a.val < 128) :
    k1_pay50 x g h (ix2 a j) = x (ix2 ⟨a.val, ha⟩ j) := by
  pointwise [k1_pay50]
  rw [dif_pos ha]

theorem pay50_hi (x : FVec Ideal S128x1024 .bf16) (g : FVec Ideal S1x1024 .bf16) (h : FVec Ideal S1x1024 .f32) (a : Fin 256) (j : Fin 1024) (ha : ¬ a.val < 128) :
    k1_pay50 x g h (ix2 a j) = if a.val - 128 = 0 then g (ix2 0 j) else if a.val - 128 = 1 then h (ix2 0 j) else if a.val - 128 = 2 then h (ix2 0 j) - h (ix2 0 j) else if a.val - 128 < 6 then 1 else 0 := by
  pointwise [k1_pay50]
  rw [dif_neg ha]
  by_cases h16 : a.val - 128 < 16
  · first | rw [dif_pos h16] | rw [if_pos h16]
    simp (disch := omega) only [hlo_ix]
  · first | rw [dif_neg h16] | rw [if_neg h16]
    rw [if_neg (show ¬ a.val - 128 = 0 by omega), if_neg (show ¬ a.val - 128 = 1 by omega), if_neg (show ¬ a.val - 128 = 2 by omega), if_neg (show ¬ a.val - 128 < 6 by omega)]

theorem pay12_at (a : FVec Ideal S144x1024 .f32) (d : Fin 128) (j : Fin 1024) : k1_pay12 a (ix2 d j) = Ideal.div (a (ix2 (⟨d.val, by omega⟩ : Fin 144) j)) (a (ix2 128 j)) := by
  pointwise [k1_pay12]
  all_goals rfl

theorem pB_at (o : FVec Ideal S128x1024 .bf16) (k : Fin 8) (r e : Fin 128) : pB k1_pay44 o k (ix3 0 r e) = o (ix2 e (⟨128 * k.val + r.val, by omega⟩ : Fin 1024)) := by
  have h : ∀ v : FVec Ideal S128x128 .bf16, pB v o k (ix3 0 r e) = ∑ a : Fin 128, v (ix2 r a) * o (ix2 e (⟨128 * k.val + a.val, by omega⟩ : Fin 1024)) := fun v => by
    pointwise [pB]
    all_goals rfl
  rw [h]; simp only [eye_at]; exact eye_sum r (fun a => o (ix2 e (⟨128 * k.val + a.val, by omega⟩ : Fin 1024)))

theorem out10_at (o : FVec Ideal S128x1024 .bf16) (r : Fin 1024) (e : Fin 128) : out10 k1_pay44 o (ix3 0 r e) = o (ix2 e r) := by
  refine (pB_at o ⟨r.val / 128, by omega⟩ ⟨r.val % 128, by omega⟩ e).trans ?_
  exact congrArg (fun i => o (ix2 e i)) (Fin.ext (Nat.div_add_mod r.val 128))

/-- The largest of finitely many reals. -/
theorem fold_real {ι : Type*} (f : ι → EReal) (A : Finset ι) (hA : A.Nonempty) (h : ∀ i, ∃ r : ℝ, f i = (r : EReal)) : ∃ r : ℝ, Finset.fold max ⊥ f A = (r : EReal) := by
  have hi : Finset.fold max ⊥ f A < ⊤ := (Finset.fold_max_lt _).mpr ⟨bot_lt_top, fun i _ => by obtain ⟨r, e⟩ := h i; rw [e]; exact EReal.coe_lt_top r⟩
  have lo : ⊥ < Finset.fold max ⊥ f A := by
    obtain ⟨i, hi⟩ := hA
    obtain ⟨r, e⟩ := h i
    exact (Finset.lt_fold_max _).mpr (Or.inr ⟨i, hi, by rw [e]; exact EReal.bot_lt_coe r⟩)
  exact ⟨_, (EReal.coe_toReal hi.ne lo.ne').symm⟩

theorem abs_real (x : EReal) (h : ∃ r : ℝ, x = (r : EReal)) : ∃ r : ℝ, FloatOps.absf (F := Ideal) (φ := .f32) x = (r : EReal) := by
  obtain ⟨r, rfl⟩ := h
  rw [Gate.absf_eq]
  rcases le_total ((r : ℝ) : EReal) (-(r : EReal)) with hh | hh
  · exact ⟨-r, by rw [max_eq_right hh, EReal.coe_neg]⟩
  · exact ⟨r, max_eq_left hh⟩

theorem pay52_real (x : Vec Ideal S1x128 .f32) (h : ∀ e, ∃ r : ℝ, x (ix2 0 e) = (r : EReal)) : ∃ r : ℝ, k1_pay52 x (ix1 0) = (r : EReal) := by
  pointwise [k1_pay52]
  rw [ofBits_bot]
  exact fold_real _ _ ⟨default, Finset.mem_univ _⟩ fun i => abs_real _ (h _)

theorem pay51_real (x : Vec Ideal S1x128 .f32) (h : ∀ e, ∃ r : ℝ, x (ix2 0 e) = (r : EReal)) : ∃ r : ℝ, k1_pay51 x = (r : EReal) := by
  pointwise [k1_pay51]
  rw [ofBits_bot, ofBits_128]
  obtain ⟨r, e⟩ := fold_real (fun i : Fin 1 × Fin 128 => FloatOps.absf (F := Ideal) (φ := .f32) (x (ix2 0 i.2))) Finset.univ ⟨default, Finset.mem_univ _⟩ fun i => abs_real _ (h _)
  exact ⟨128 * r, (congrArg (((128 : ℝ) : EReal) * ·) e).trans (EReal.coe_mul _ _).symm⟩

/-- The bound on the logits is real. -/
theorem bound_real (x y : Vec Ideal S1x128 .f32) (hx : ∀ e, ∃ r : ℝ, x (ix2 0 e) = (r : EReal)) (hy : ∀ e, ∃ r : ℝ, y (ix2 0 e) = (r : EReal)) :
    ∃ μ : ℝ, k1_pay1 (k1_pay51 x) (k1_pay52 y) = (μ : EReal) := by
  obtain ⟨a, ha⟩ := pay51_real x hx
  obtain ⟨b, hb⟩ := pay52_real y hy
  have h : ∀ (u : Ideal .f32) (v : FVec Ideal S1 .f32), k1_pay1 u v = u * v (ix1 0) * (((Real.sqrt 128)⁻¹ * (Real.log 2)⁻¹ : ℝ) : EReal) := fun u v => by
    rw [← scale2_eq]
    pointwise [k1_pay1]
  rw [h, ha, hb, ← EReal.coe_mul, ← EReal.coe_mul]
  exact ⟨_, rfl⟩

end Cert.FoxIdeal.Attn
-- ==== Proof.FoxAttnValue.lean ====
module

public import proofs.«01_k».proof.Proof.FoxAttnState
public import proofs.«01_k».proof.Proof.FoxAttnFill

@[expose] public section

set_option maxRecDepth 16384

noncomputable section

/-! What one step of the grid stores. -/

namespace Cert.FoxIdeal.Attn

open Cert.FoxIdeal Cert.FoxIdeal.Gen Cert.FoxMath Cert.RealMath Cert.FoxSpec
open Idealize.ShloMosaic Idealize.ShloMosaic.TcCoe

theorem cw_at (i : grid1.Coords) (x7 : Vec Ideal S1x1x4096 .f32) (r : Fin 1024) : cw i x7 (ix3 0 0 r) = x7 (ix3 0 0 (⟨1024 * (qi i).val + r.val, by have := (qi i).isLt; omega⟩ : Fin 4096)) := by
  unfold cw VecWindow.window
  refine congrArg x7 (funext fun a => Fin.ext ?_)
  show (![0, 0, 1024 * (qi i).val] : Fin 3 → ℕ) a + 1 * (ix3 0 0 r a).val = _
  fin_cases a <;> simp

/-- A block of a head over all numbers. -/
def blk (x : Vec Ideal S1x4096x128 .f32) (s : ℕ) (e : Fin 128) : EReal := if h : s < 4096 then x (ix3 0 ⟨s, h⟩ e) else 1

theorem blk_at (x : Vec Ideal S1x4096x128 .f32) (s : Fin 4096) (e : Fin 128) : x (ix3 0 s e) = blk x s.val e := by
  unfold blk; rw [dif_pos s.isLt]

theorem vrow_VT (x5 : Vec Ideal S1x4096x128 .f32) (d : Fin 128) : vrow (VT x5) (⟨d.val, by omega⟩ : Fin 144) = fun s => blk x5 s d := by
  funext s
  unfold vrow blk
  by_cases h : s < 4096
  · rw [dif_pos h, dif_pos h]
    exact (dif_pos d.isLt).trans (pay8_at x5 d ⟨s, h⟩)
  · rw [dif_neg h, dif_neg h]

theorem vrow_one (x5 : Vec Ideal S1x4096x128 .f32) (s : ℕ) : vrow (VT x5) 128 s = 1 := by
  unfold vrow
  by_cases h : s < 4096
  · rw [dif_pos h]
    exact (dif_neg (show ¬ (128 : ℕ) < 128 by omega)).trans (pay45_at ⟨s, h⟩)
  · rw [dif_neg h]

section
variable (i : grid1.Coords) (x3 : Vec Ideal S1x1024x128 .f32) (x4 x5 : Vec Ideal S1x4096x128 .f32) (x6 : Vec Ideal S1x1x4096x128 .bf16) (x7 : Vec Ideal S1x1x4096 .f32)
  (x8 x9 : Vec Ideal S1x128 .f32) (C : ℕ → ℝ) (h8 : ∀ e, ∃ r : ℝ, x8 (ix2 0 e) = (r : EReal)) (h9 : ∀ e, ∃ r : ℝ, x9 (ix2 0 e) = (r : EReal))
  (hC : ∀ t : Fin 4096, x7 (ix3 0 0 t) = ((C t.val : ℝ) : EReal))
  (hF : ∀ (s : Fin 4096) (l : Fin 128), x6 (ix4 0 0 s l) = if l.val < 3 then 1 else if l.val = 3 then ((-((Real.log 2)⁻¹ * C s.val) : ℝ) : EReal) else 0)

/-- A query's score of a key. -/
def sc (r : Fin 1024) (s : ℕ) : ℝ :=
  (∑ e, (nrm (fun e => x3 (ix3 0 r e)) (fun e => x8 (ix2 0 e)) e).toReal * (nrm (blk x4 s) (fun e => x9 (ix2 0 e)) e).toReal) * (Real.sqrt 128)⁻¹ + C (1024 * (qi i).val + r.val) - C s

include h8 h9 hC hF in
theorem score_at (r : Fin 1024) (s : Fin 4096) :
    ∑ a, KA x4 x6 x9 (ix2 s a) * qcol i x3 x7 x8 (ix2 a r) = (((fun s => (Real.log 2)⁻¹ * sc i x3 x4 x8 x9 C r s) s.val : ℝ) : EReal) := by
  refine (score_sum (fun a => KA x4 x6 x9 (ix2 s a)) (fun a => qcol i x3 x7 x8 (ix2 a r))
    (fun e => (nrm (blk x4 s.val) (fun e => x9 (ix2 0 e)) e).toReal)
    (fun e => (nrm (fun e => x3 (ix3 0 r e)) (fun e => x8 (ix2 0 e)) e).toReal * ((Real.sqrt 128)⁻¹ * (Real.log 2)⁻¹))
    ((Real.log 2)⁻¹ * C s.val) (C (1024 * (qi i).val + r.val) * (Real.log 2)⁻¹) (fun e => ?_) (fun e => ?_) (fun l => ?_) (fun l => ?_)).trans ?_
  · refine (dif_pos e.isLt).trans ((pay6_at x4 x9 s e).trans ?_)
    refine (nrm_real _ _ _ (h9 e)).trans ?_
    refine congrArg (fun f => (((nrm f (fun e => x9 (ix2 0 e)) e).toReal : ℝ) : EReal)) (funext fun e => blk_at x4 s e)
  · refine (pay50_lo _ _ _ (Fin.castAdd 128 e) r e.isLt).trans ((pay46_at x3 x8 e r).trans ?_)
    rw [nrm_real _ _ _ (h8 e), EReal.coe_mul]
    rfl
  · have hl : ¬ (Fin.natAdd 128 l).val < 128 := by simp
    refine (dif_neg hl).trans ((pay7_at x6 s _).trans ?_)
    have el : ∀ p, (⟨(Fin.natAdd 128 l).val - 128, p⟩ : Fin 128) = l := fun p => Fin.ext (by simp)
    exact (congrArg (fun l => x6 (ix4 0 0 s l)) (el _)).trans (hF s l)
  · have hl : ¬ (Fin.natAdd 128 l).val < 128 := by simp
    have el : (Fin.natAdd 128 l).val - 128 = l.val := by simp
    refine (pay50_hi _ _ _ (Fin.natAdd 128 l) r hl).trans ?_
    rw [el, pay48_at, pay49_at, cw_at, hC, ← EReal.coe_mul, ← EReal.coe_sub, sub_self, EReal.coe_zero, sub_zero]
    by_cases h0 : l.val = 0
    · rw [if_pos h0, if_pos h0]
    · rw [if_neg h0, if_neg h0]
      by_cases h1 : l.val = 1
      · rw [if_pos h1, if_pos (by omega)]
      · rw [if_neg h1]
        by_cases h2 : l.val = 2
        · rw [if_pos h2, if_pos (by omega)]
        · rw [if_neg h2, if_neg (show ¬ l.val < 3 by omega)]
  · refine congrArg _ ?_
    show _ = (Real.log 2)⁻¹ * sc i x3 x4 x8 x9 C r s.val
    unfold sc
    rw [mul_sub, mul_add, Finset.sum_mul, Finset.mul_sum]
    refine congrArg₂ (· - ·) (congrArg₂ (· + ·) (Finset.sum_congr rfl fun e _ => by ring) (mul_comm _ _)) rfl

include h8 h9 hC hF in
theorem attnO_at (r : Fin 1024) (d : Fin 128) :
    attnO i x3 x7 x8 x9 (KA x4 x6 x9) (VT x5) (ix3 0 r d) = mean (sc i x3 x4 x8 x9 C r) (fun s => blk x5 s d) (Finset.range (1024 * (qi i).val + r.val + 1)) := by
  obtain ⟨μ, hμ⟩ := bound_real x8 x9 h8 h9
  refine (out10_at _ r d).trans ((pay12_at _ d r).trans ?_)
  rw [← vrow_VT]
  have key : ∀ b : Ideal .f32, b = (μ : EReal) → Ideal.div ((if small (k1_pay51 x8) (k1_pay52 x9) then accS (qi i) (qcol i x3 x7 x8) b (KA x4 x6 x9) (VT x5) (i 2).val
        else (accM (qi i) (qcol i x3 x7 x8) (KA x4 x6 x9) (VT x5) (i 2).val).2) (ix2 (⟨d.val, by omega⟩ : Fin 144) r))
      ((if small (k1_pay51 x8) (k1_pay52 x9) then accS (qi i) (qcol i x3 x7 x8) b (KA x4 x6 x9) (VT x5) (i 2).val
        else (accM (qi i) (qcol i x3 x7 x8) (KA x4 x6 x9) (VT x5) (i 2).val).2) (ix2 128 r))
      = mean (sc i x3 x4 x8 x9 C r) (vrow (VT x5) (⟨d.val, by omega⟩ : Fin 144)) (Finset.range (1024 * (qi i).val + r.val + 1)) := by
    intro b hb
    rw [hb]
    exact col_mean (KA x4 x6 x9) (VT x5) (qcol i x3 x7 x8) (qi i) r _ (score_at i x3 x4 x6 x7 x8 x9 C h8 h9 hC hF r) _ rfl (vrow_one x5) _ _ μ
  exact key _ hμ
end

end Cert.FoxIdeal.Attn
-- ==== Proof.FoxValue.lean ====
module

public import proofs.«01_k».proof.Proof.FoxAttnValue
public import proofs.«01_k».proof.Proof.FoxRun
public import Idealize.ShloMosaic.Lib.Pointwise
public import Idealize.ShloMosaic.Lib.Pipeline.ValueKit
public import Idealize.ShloMosaic.Lib.Pipeline.ReadBack

@[expose] public section

set_option maxRecDepth 16384

noncomputable section

/-! The result of the whole program. -/

namespace Cert.FoxIdeal.Run

open Cert.FoxIdeal Cert.FoxIdeal.Gen Cert.FoxMath Cert.RealMath Cert.FoxSpec
open Idealize.ShloMosaic Idealize.ShloMosaic.TcCoe Idealize.SL.Sem
open Idealize.ShloMosaic.Pipeline (Dat)

variable (m : (ℓ : Loc nD τ sig) → Buf (Elt Ideal) ℓ)

abbrev ap (c : Dev nD) : Arr ⟨3, ![2, 4096, 7168]⟩ := m ((c : Thread nD τ).loc main_arg0)
abbrev ag (c : Dev nD) : Arr ⟨3, ![2, 4096, 128]⟩ := m ((c : Thread nD τ).loc main_arg1)
abbrev af (c : Dev nD) : Arr ⟨1, ![8]⟩ := m ((c : Thread nD τ).loc main_arg2)
abbrev aq (c : Dev nD) : Arr ⟨1, ![128]⟩ := m ((c : Thread nD τ).loc main_arg3)
abbrev ak (c : Dev nD) : Arr ⟨1, ![128]⟩ := m ((c : Thread nD τ).loc main_arg4)

theorem hd_out (p : Arr ⟨3, ![2, 4096, 7168]⟩) (b : Fin 2) (k : Fin 24) (t : ℕ) (e : Fin 128) (h : ¬ t < 4096) : hd p b k t e = 1 := dif_neg h

/-! ### The gate call -/

theorem idxs0 : ∀ t : Fin cfg0.N, win0_0.index t = ![t.val, 0, 0] ∧ win0_1.index t = ![0, 0] ∧ win0_2.index t = ![t.val, 0, 0] ∧ win0_3.index t = ![t.val, 0, 0, 0] :=
  (by decide +kernel : ∀ t : Fin grid0.N, _)

def bt0 (t : Fin cfg0.N) : Fin 2 := ⟨t.val, lt_of_lt_of_eq t.isLt (show cfg0.N = 2 from N_0)⟩
def tb0 (b : Fin 2) : Fin cfg0.N := ⟨b.val, lt_of_lt_of_eq b.isLt (show 2 = cfg0.N from N_0.symm)⟩

theorem emb00 (t : Fin cfg0.N) (s : Fin 4096) (l : Fin 128) : ((cfg0.win 0).blk t).view.emb (ix3 0 s l) = ix3 (bt0 t) s l := by
  have i0 := (idxs0 t).1
  refine funext fun q => ?_
  revert q
  refine Fin.forall_fin_succ.mpr ⟨?_, Fin.forall_fin_succ.mpr ⟨?_, Fin.forall_fin_succ.mpr ⟨?_, fun q => q.elim0⟩⟩⟩ <;> refine Fin.ext ?_ <;> blk_simp [i0, bt0] <;> simp

theorem emb01 (t : Fin cfg0.N) (l : Fin 128) : ((cfg0.win 1).blk t).view.emb (ix2 0 l) = ix2 0 l := by
  have i0 := (idxs0 t).2.1
  refine funext fun q => ?_
  revert q
  refine Fin.forall_fin_succ.mpr ⟨?_, Fin.forall_fin_succ.mpr ⟨?_, fun q => q.elim0⟩⟩ <;> refine Fin.ext ?_ <;> blk_simp [i0] <;> simp

theorem V2_arg1 (c : Dev nD) : W2 m c main_arg1 = ag m c :=
  (V2_of m c main_arg1 (by decide)).trans (V1_of m c main_arg1 (by decide))

open StableHlo in
theorem V2_bias (c : Dev nD) : W2 m c main_v1 = pad S1x128 ![0, 0] ![0, 120] ![0, 0] (shapeCast S1x8 (af m c) shapeCasts_S8_S1x8) (sitofp (F := Ideal) .f32 (constantI S_ 32 0#32)) pads_S1x8_S1x128_000_01200 h_S_ := by
  unfold W2 V2 V1
  simp only [hostOps0, hostOps0_1, TRef.binary, TRef.unary, TRef.toBuf, TRef.ofBuf, cast_eq]
  after_results <;> rfl

theorem gblk0 (c : Dev nD) (t : Fin cfg0.N) (s : Fin 4096) (l : Fin 128) : Gate.iblk (W2 m) c 0 t (ix3 0 s l) = ag m c (ix3 (bt0 t) s l) := by
  show W2 m c (Pipeline.arrRef spec0 0) (((cfg0.win 0).blk t).view.emb (ix3 0 s l)) = _
  rw [show W2 m c (Pipeline.arrRef spec0 0) = _ from V2_arg1 m c]
  rw [emb00]

theorem gblk1 (c : Dev nD) (t : Fin cfg0.N) (h : Fin 8) : Gate.iblk (W2 m) c 1 t (ix2 0 (⟨h.val, by omega⟩ : Fin 128)) = af m c (ix1 h) := by
  show W2 m c (Pipeline.arrRef spec0 1) (((cfg0.win 1).blk t).view.emb (ix2 0 (⟨h.val, by omega⟩ : Fin 128))) = _
  rw [show W2 m c (Pipeline.arrRef spec0 1) = _ from V2_bias m c]
  rw [emb01]
  pointwise

theorem final2_of (V : (c : Dev nD) → (b : Ref sig .tc) → Buf (Elt Ideal) ((c : Thread nD τ).loc b)) (c : Dev nD) (G : Fin 2 → Fin 4096 → Fin 128 → EReal)
    (h : ∀ t r d, (Gate.D V c).after 2 t (ix3 0 r d) = G (bt0 t) r d) :
    (Gate.D V c).arrAt 2 cfg0.N = fun i : S2x4096x128.Idx => G (i 0) (i 1) (i 2) := by
  refine (Gate.D V c).arrAt_eq_of_covers 2 _ (by decide +kernel) fun t hf y => ?_
  have i0 : win0_2.index t = ![t.val, 0, 0] := (idxs0 t).2.2.1
  blk_simp
  idx_vars y
  obtain rfl : y0 = 0 := Subsingleton.elim _ _
  refine (h t y1 y2).trans ?_
  have e : ∀ a a' b b' d d', a = a' → b = b' → d = d' → G a b d = G a' b' d' := fun _ _ _ _ _ _ h h' h'' => h ▸ h' ▸ h'' ▸ rfl
  refine e _ _ _ _ _ _ (Fin.ext ?_) (Fin.ext ?_) (Fin.ext ?_) <;> blk_simp [i0, bt0] <;> simp

theorem final3_of (V : (c : Dev nD) → (b : Ref sig .tc) → Buf (Elt Ideal) ((c : Thread nD τ).loc b)) (c : Dev nD) (G : Fin 2 → Fin 8 → Fin 4096 → Fin 128 → EReal)
    (h : ∀ t k r d, (Gate.D V c).after 3 t (ix4 0 k r d) = G (bt0 t) k r d) :
    (Gate.D V c).arrAt 3 cfg0.N = fun i : S2x8x4096x128.Idx => G (i 0) (i 1) (i 2) (i 3) := by
  refine (Gate.D V c).arrAt_eq_of_covers 3 _ (by decide +kernel) fun t hf y => ?_
  have i0 : win0_3.index t = ![t.val, 0, 0, 0] := (idxs0 t).2.2.2
  blk_simp
  idx_vars y
  obtain rfl : y0 = 0 := Subsingleton.elim _ _
  refine (h t y1 y2 y3).trans ?_
  have e : ∀ a a' k k' b b' d d', a = a' → k = k' → b = b' → d = d' → G a k b d = G a' k' b' d' := fun _ _ _ _ _ _ _ _ h h' h'' h3 => h ▸ h' ▸ h'' ▸ h3 ▸ rfl
  refine e _ _ _ _ _ _ _ _ (Fin.ext ?_) (Fin.ext ?_) (Fin.ext ?_) (Fin.ext ?_) <;> blk_simp [i0, bt0] <;> simp

variable (hg : ∀ c i, ∃ r : ℝ, ag m c i = (r : EReal)) (hf : ∀ c i, ∃ r : ℝ, af m c i = (r : EReal))
  (hq : ∀ c i, ∃ r : ℝ, aq m c i = (r : EReal)) (hk : ∀ c i, ∃ r : ℝ, ak m c i = (r : EReal))

include hg hf in
theorem gates (c : Dev nD) (b : Fin 2) (h : Fin 8) (t : Fin 4096) :
    @HAdd.hAdd EReal EReal EReal _ (Gate.iblk (W2 m) c 0 (tb0 b) (ix3 0 t (⟨h.val, by omega⟩ : Fin 128))) (Gate.iblk (W2 m) c 1 (tb0 b) (ix2 0 (⟨h.val, by omega⟩ : Fin 128))) = ((gz (ag m c) (af m c) b h t.val : ℝ) : EReal) := by
  rw [gblk0, gblk1]
  exact gz_at (ag m c) (af m c) b h t (hg c _) (hf c _)

include hg hf in
theorem arr2_at (c : Dev nD) (b : Fin 2) (h : Fin 8) (t : Fin 4096) :
    (Gate.D (W2 m) c).arrAt 2 cfg0.N (ix3 b t (⟨h.val, by omega⟩ : Fin 128)) = ((lsum (ag m c) (af m c) b h t.val : ℝ) : EReal) := by
  rw [final2_of (W2 m) c (fun b s l => Gate.gateC (Gate.iblk (W2 m) c 0 (tb0 b)) (Gate.iblk (W2 m) c 1 (tb0 b)) (ix3 0 s l)) (fun t r d => by rw [Gate.after0_2]; rfl)]
  exact Gate.gateC_at _ _ _ (gz (ag m c) (af m c) b h) (gates m hg hf c b h) t

include hg hf in
theorem arr3_at (c : Dev nD) (b : Fin 2) (h : Fin 8) (t : Fin 4096) (l : Fin 128) :
    (Gate.D (W2 m) c).arrAt 3 cfg0.N (ix4 b h t l) = if l.val < 3 then 1 else if l.val = 3 then ((-((Real.log 2)⁻¹ * lsum (ag m c) (af m c) b h t.val) : ℝ) : EReal) else 0 := by
  rw [final3_of (W2 m) c (fun b k s l => Gate.gateK (Gate.iblk (W2 m) c 0 (tb0 b)) (Gate.iblk (W2 m) c 1 (tb0 b)) (ix4 0 k s l)) (fun t k r d => by rw [Gate.after0_3]; rfl)]
  exact Gate.gateK_at _ _ (gz (ag m c) (af m c) b h) h t l (gates m hg hf c b h)

/-! ### The attention call -/

theorem idxs1 : ∀ t : Fin cfg1.N, win1_0.index t = ![t.val / 32, t.val % 4, t.val / 4 % 8] ∧ win1_1.index t = ![t.val / 32, 0, 8 + t.val / 4 % 8] ∧ win1_2.index t = ![t.val / 32, 0, 16 + t.val / 4 % 8]
    ∧ win1_3.index t = ![t.val / 32, t.val / 4 % 8, 0, 0] ∧ win1_4.index t = ![t.val / 32 * 8 + t.val / 4 % 8, 0, 0] ∧ win1_5.index t = ![0, 0] ∧ win1_6.index t = ![0, 0] ∧ win1_7.index t = ![t.val / 32, t.val % 4, t.val / 4 % 8] :=
  (by decide +kernel : ∀ t : Fin grid1.N, _)

theorem coords2 : ∀ t : Fin cfg1.N, (grid1.coords t 2).val = t.val % 4 := (by decide +kernel : ∀ t : Fin grid1.N, _)

theorem lt64 (t : Fin cfg1.N) : t.val < 64 := lt_of_lt_of_eq t.isLt (show cfg1.N = 64 from N_1)
def bt (t : Fin cfg1.N) : Fin 2 := ⟨t.val / 32, by have := lt64 t; omega⟩
def ht (t : Fin cfg1.N) : Fin 8 := ⟨t.val / 4 % 8, by omega⟩
def rw1 (t : Fin cfg1.N) (r : Fin 1024) : Fin 4096 := ⟨1024 * (t.val % 4) + r.val, by omega⟩

theorem bt_base (t : Fin cfg1.N) : bt (Attn.base t) = bt t := Fin.ext (by show t.val / 4 * 4 / 32 = t.val / 32; omega)
theorem ht_base (t : Fin cfg1.N) : ht (Attn.base t) = ht t := Fin.ext (by show t.val / 4 * 4 / 4 % 8 = t.val / 4 % 8; omega)

theorem emb10 (t : Fin cfg1.N) (r : Fin 1024) (e : Fin 128) : ((cfg1.win 0).blk t).view.emb (ix3 0 r e) = ix3 (bt t) (rw1 t r) (⟨128 * (qh (ht t)).val + e.val, by omega⟩ : Fin 7168) := by
  have i0 := (idxs1 t).1
  refine funext fun q => ?_
  revert q
  refine Fin.forall_fin_succ.mpr ⟨?_, Fin.forall_fin_succ.mpr ⟨?_, Fin.forall_fin_succ.mpr ⟨?_, fun q => q.elim0⟩⟩⟩ <;> refine Fin.ext ?_ <;> blk_simp [i0, bt, ht, rw1, qh] <;> simp [mul_comm]

theorem emb11 (t : Fin cfg1.N) (s : Fin 4096) (e : Fin 128) : ((cfg1.win 1).blk t).view.emb (ix3 0 s e) = ix3 (bt t) s (⟨128 * (kh (ht t)).val + e.val, by omega⟩ : Fin 7168) := by
  have i0 := (idxs1 t).2.1
  refine funext fun q => ?_
  revert q
  refine Fin.forall_fin_succ.mpr ⟨?_, Fin.forall_fin_succ.mpr ⟨?_, Fin.forall_fin_succ.mpr ⟨?_, fun q => q.elim0⟩⟩⟩ <;> refine Fin.ext ?_ <;> blk_simp [i0, bt, ht, kh] <;> simp [mul_comm]

theorem emb12 (t : Fin cfg1.N) (s : Fin 4096) (e : Fin 128) : ((cfg1.win 2).blk t).view.emb (ix3 0 s e) = ix3 (bt t) s (⟨128 * (vh (ht t)).val + e.val, by omega⟩ : Fin 7168) := by
  have i0 := (idxs1 t).2.2.1
  refine funext fun q => ?_
  revert q
  refine Fin.forall_fin_succ.mpr ⟨?_, Fin.forall_fin_succ.mpr ⟨?_, Fin.forall_fin_succ.mpr ⟨?_, fun q => q.elim0⟩⟩⟩ <;> refine Fin.ext ?_ <;> blk_simp [i0, bt, ht, vh] <;> simp [mul_comm]

theorem emb13 (t : Fin cfg1.N) (s : Fin 4096) (l : Fin 128) : ((cfg1.win 3).blk t).view.emb (ix4 0 0 s l) = ix4 (bt t) (ht t) s l := by
  have i0 := (idxs1 t).2.2.2.1
  refine funext fun q => ?_
  revert q
  refine Fin.forall_fin_succ.mpr ⟨?_, Fin.forall_fin_succ.mpr ⟨?_, Fin.forall_fin_succ.mpr ⟨?_, Fin.forall_fin_succ.mpr ⟨?_, fun q => q.elim0⟩⟩⟩⟩ <;> refine Fin.ext ?_ <;> blk_simp [i0, bt, ht] <;> simp

theorem emb14 (t : Fin cfg1.N) (s : Fin 4096) : ((cfg1.win 4).blk t).view.emb (ix3 0 0 s) = ix3 (⟨(bt t).val * 8 + (ht t).val, by omega⟩ : Fin 16) 0 s := by
  have i0 := (idxs1 t).2.2.2.2.1
  refine funext fun q => ?_
  revert q
  refine Fin.forall_fin_succ.mpr ⟨?_, Fin.forall_fin_succ.mpr ⟨?_, Fin.forall_fin_succ.mpr ⟨?_, fun q => q.elim0⟩⟩⟩ <;> refine Fin.ext ?_ <;> blk_simp [i0, bt, ht] <;> simp

theorem emb15 (t : Fin cfg1.N) (l : Fin 128) : ((cfg1.win 5).blk t).view.emb (ix2 0 l) = ix2 0 l := by
  have i0 := (idxs1 t).2.2.2.2.2.1
  refine funext fun q => ?_
  revert q
  refine Fin.forall_fin_succ.mpr ⟨?_, Fin.forall_fin_succ.mpr ⟨?_, fun q => q.elim0⟩⟩ <;> refine Fin.ext ?_ <;> blk_simp [i0] <;> simp

theorem emb16 (t : Fin cfg1.N) (l : Fin 128) : ((cfg1.win 6).blk t).view.emb (ix2 0 l) = ix2 0 l := by
  have i0 := (idxs1 t).2.2.2.2.2.2.1
  refine funext fun q => ?_
  revert q
  refine Fin.forall_fin_succ.mpr ⟨?_, Fin.forall_fin_succ.mpr ⟨?_, fun q => q.elim0⟩⟩ <;> refine Fin.ext ?_ <;> blk_simp [i0] <;> simp

theorem A3_arg (c : Dev nD) (b : Ref sig .tc) (h1 : b ∉ ([main_v2_0, main_v2_1] : List (Ref sig .tc))) (h2 : b ∉ hostOps0_1_W) (h3 : b ∉ hostOps0_W) : A3 m c b = m ((c : Thread nD τ).loc b) := by
  rw [← V3_eq]
  exact (V3_of m (outs m) c b h1).trans ((V2_of m c b h2).trans (V1_of m c b h3))

theorem A3_v20 (c : Dev nD) : A3 m c main_v2_0 = (Gate.D (W2 m) c).arrAt 2 cfg0.N := by
  unfold A3; rw [Function.update_of_ne (by decide), Function.update_self]
theorem A3_v21 (c : Dev nD) : A3 m c main_v2_1 = (Gate.D (W2 m) c).arrAt 3 cfg0.N := by
  unfold A3; rw [Function.update_self]

open StableHlo in
theorem A4_p (c : Dev nD) : A4 m c main_arg0 = ap m c := by
  refine Eq.trans ?_ (A3_arg m c main_arg0 (by decide) (by decide) (by decide))
  unfold A4
  generalize A3 m c = A
  simp only [hostOps1]
  after_results <;> rfl

open StableHlo in
theorem A4_f (c : Dev nD) : A4 m c main_v2_1 = (Gate.D (W2 m) c).arrAt 3 cfg0.N := by
  refine Eq.trans ?_ (A3_v21 m c)
  unfold A4
  generalize A3 m c = A
  simp only [hostOps1]
  after_results <;> rfl

open StableHlo in
theorem A4_c (c : Dev nD) : A4 m c main_v5 = shapeCast S16x1x4096 (transpose S2x8x4096 [0, 2, 1] (extractStridedSlice S2x4096x8 ![0, 0, 0] ((Gate.D (W2 m) c).arrAt 2 cfg0.N) slices_S2x4096x128_S2x4096x8_0_0_0) transposes_S2x4096x8_S2x8x4096_0_2_1) shapeCasts_S2x8x4096_S16x1x4096 := by
  rw [← A3_v20]
  unfold A4
  generalize A3 m c = A
  simp only [hostOps1]
  after_results <;> rfl

open StableHlo in
theorem A4_q (c : Dev nD) : A4 m c main_v6 = shapeCast S1x128 (aq m c) shapeCasts_S128_S1x128 := by
  rw [show aq m c = _ from (A3_arg m c main_arg3 (by decide) (by decide) (by decide)).symm]
  unfold A4
  generalize A3 m c = A
  simp only [hostOps1]
  after_results <;> rfl

open StableHlo in
theorem A4_k (c : Dev nD) : A4 m c main_v7 = shapeCast S1x128 (ak m c) shapeCasts_S128_S1x128 := by
  rw [show ak m c = _ from (A3_arg m c main_arg4 (by decide) (by decide) (by decide)).symm]
  unfold A4
  generalize A3 m c = A
  simp only [hostOps1]
  after_results <;> rfl

theorem ablk0 (c : Dev nD) (t : Fin cfg1.N) (r : Fin 1024) (e : Fin 128) : Attn.iblk (A4 m) c 0 t (ix3 0 r e) = hd (ap m c) (bt t) (qh (ht t)) (rw1 t r).val e := by
  rw [hd_at]
  show A4 m c (Pipeline.arrRef spec1 0) (((cfg1.win 0).blk t).view.emb (ix3 0 r e)) = _
  rw [show A4 m c (Pipeline.arrRef spec1 0) = _ from A4_p m c]
  rw [emb10]

theorem ablk1 (c : Dev nD) (t : Fin cfg1.N) (s : Fin 4096) (e : Fin 128) : Attn.iblk (A4 m) c 1 t (ix3 0 s e) = hd (ap m c) (bt t) (kh (ht t)) s.val e := by
  rw [hd_at]
  show A4 m c (Pipeline.arrRef spec1 1) (((cfg1.win 1).blk t).view.emb (ix3 0 s e)) = _
  rw [show A4 m c (Pipeline.arrRef spec1 1) = _ from A4_p m c]
  rw [emb11]

theorem ablk2 (c : Dev nD) (t : Fin cfg1.N) (s : Fin 4096) (e : Fin 128) : Attn.iblk (A4 m) c 2 t (ix3 0 s e) = hd (ap m c) (bt t) (vh (ht t)) s.val e := by
  rw [hd_at]
  show A4 m c (Pipeline.arrRef spec1 2) (((cfg1.win 2).blk t).view.emb (ix3 0 s e)) = _
  rw [show A4 m c (Pipeline.arrRef spec1 2) = _ from A4_p m c]
  rw [emb12]

include hg hf in
theorem ablk3 (c : Dev nD) (t : Fin cfg1.N) (s : Fin 4096) (l : Fin 128) : Attn.iblk (A4 m) c 3 t (ix4 0 0 s l) = if l.val < 3 then 1 else if l.val = 3 then ((-((Real.log 2)⁻¹ * lsum (ag m c) (af m c) (bt t) (ht t) s.val) : ℝ) : EReal) else 0 := by
  show A4 m c (Pipeline.arrRef spec1 3) (((cfg1.win 3).blk t).view.emb (ix4 0 0 s l)) = _
  rw [show A4 m c (Pipeline.arrRef spec1 3) = _ from A4_f m c]
  rw [emb13]
  exact arr3_at m hg hf c (bt t) (ht t) s l

include hg hf in
theorem ablk4 (c : Dev nD) (t : Fin cfg1.N) (s : Fin 4096) : Attn.iblk (A4 m) c 4 t (ix3 0 0 s) = ((lsum (ag m c) (af m c) (bt t) (ht t) s.val : ℝ) : EReal) := by
  show A4 m c (Pipeline.arrRef spec1 4) (((cfg1.win 4).blk t).view.emb (ix3 0 0 s)) = _
  rw [show A4 m c (Pipeline.arrRef spec1 4) = _ from A4_c m c]
  rw [emb14, ← arr2_at m hg hf c (bt t) (ht t) s]
  generalize (Gate.D (W2 m) c).arrAt 2 cfg0.N = X
  pointwise

theorem ablk5 (c : Dev nD) (t : Fin cfg1.N) (e : Fin 128) : Attn.iblk (A4 m) c 5 t (ix2 0 e) = aq m c (ix1 e) := by
  show A4 m c (Pipeline.arrRef spec1 5) (((cfg1.win 5).blk t).view.emb (ix2 0 e)) = _
  rw [show A4 m c (Pipeline.arrRef spec1 5) = _ from A4_q m c]
  rw [emb15]
  pointwise

theorem ablk6 (c : Dev nD) (t : Fin cfg1.N) (e : Fin 128) : Attn.iblk (A4 m) c 6 t (ix2 0 e) = ak m c (ix1 e) := by
  show A4 m c (Pipeline.arrRef spec1 6) (((cfg1.win 6).blk t).view.emb (ix2 0 e)) = _
  rw [show A4 m c (Pipeline.arrRef spec1 6) = _ from A4_k m c]
  rw [emb16]
  pointwise

include hg hf hq hk in
/-- What a step stores. -/
theorem step_at (c : Dev nD) (t : Fin cfg1.N) (r : Fin 1024) (d : Fin 128) :
    (Attn.D (A4 m) c).after 7 t (ix3 0 r d) = out (ap m c) (ag m c) (af m c) (fun e => aq m c (ix1 e)) (fun e => ak m c (ix1 e)) (bt t) (ht t) (rw1 t r).val d := by
  rw [Attn.after1_7]
  unfold Attn.kaAt Attn.vtAt
  have e8 : (fun e => Attn.iblk (A4 m) c 5 t (ix2 0 e)) = fun e => aq m c (ix1 e) := funext fun e => ablk5 m c t e
  have e9 : (fun e => Attn.iblk (A4 m) c 6 t (ix2 0 e)) = fun e => ak m c (ix1 e) := funext fun e => ablk6 m c t e
  have e69 : Attn.iblk (A4 m) c 6 (Attn.base t) = Attn.iblk (A4 m) c 6 t := by
    funext y; idx_vars y; obtain rfl : y0 = 0 := Subsingleton.elim _ _
    exact (ablk6 m c _ y1).trans (ablk6 m c t y1).symm
  rw [e69]
  refine (Attn.attnO_at (grid1.coords t) _ _ _ _ _ _ _ (lsum (ag m c) (af m c) (bt t) (ht t)) (fun e => by rw [ablk5]; exact hq c _) (fun e => by rw [ablk6]; exact hk c _)
    (fun s => ablk4 m hg hf c t s) (fun s l => by rw [ablk3 m hg hf, bt_base, ht_base]) r d).trans ?_
  have er : 1024 * (Attn.qi (grid1.coords t)).val + r.val = (rw1 t r).val := congrArg (1024 * · + r.val) (coords2 t)
  have e4 : Attn.blk (Attn.iblk (A4 m) c 1 (Attn.base t)) = hd (ap m c) (bt t) (kh (ht t)) := by
    funext s e
    by_cases hs : s < 4096
    · refine (dif_pos hs).trans ((ablk1 m c (Attn.base t) ⟨s, hs⟩ e).trans ?_)
      rw [bt_base, ht_base]
    · exact (dif_neg hs).trans (hd_out _ _ _ _ _ hs).symm
  have e5 : (fun s => Attn.blk (Attn.iblk (A4 m) c 2 (Attn.base t)) s d) = fun s => hd (ap m c) (bt t) (vh (ht t)) s d := by
    funext s
    by_cases hs : s < 4096
    · refine (dif_pos hs).trans ((ablk2 m c (Attn.base t) ⟨s, hs⟩ d).trans ?_)
      rw [bt_base, ht_base]
    · exact (dif_neg hs).trans (hd_out _ _ _ _ _ hs).symm
  have e3 : (fun e => Attn.iblk (A4 m) c 0 t (ix3 0 r e)) = hd (ap m c) (bt t) (qh (ht t)) (rw1 t r).val := funext fun e => ablk0 m c t r e
  unfold out
  rw [e5, er]
  refine congrArg (fun σ => mean σ _ _) (funext fun s => ?_)
  unfold Attn.sc score
  rw [e3, e4, e8, e9, er]

theorem final7_of (c : Dev nD) (G : Fin 2 → Fin 4096 → Fin 1024 → EReal)
    (h : ∀ t r d, (Attn.D (A4 m) c).after 7 t (ix3 0 r d) = G (bt t) (rw1 t r) (⟨128 * (ht t).val + d.val, by omega⟩ : Fin 1024)) :
    (Attn.D (A4 m) c).arrAt 7 cfg1.N = fun i : S2x4096x1024.Idx => G (i 0) (i 1) (i 2) := by
  refine (Attn.D (A4 m) c).arrAt_eq_of_covers 7 _ (by decide +kernel) fun t hf y => ?_
  have i0 : win1_7.index t = ![t.val / 32, t.val % 4, t.val / 4 % 8] := (idxs1 t).2.2.2.2.2.2.2
  blk_simp
  idx_vars y
  obtain rfl : y0 = 0 := Subsingleton.elim _ _
  refine (h t y1 y2).trans ?_
  have e : ∀ a a' b b' d d', a = a' → b = b' → d = d' → G a b d = G a' b' d' := fun _ _ _ _ _ _ h h' h'' => h ▸ h' ▸ h'' ▸ rfl
  refine e _ _ _ _ _ _ (Fin.ext ?_) (Fin.ext ?_) (Fin.ext ?_) <;> blk_simp [i0, bt, ht, rw1] <;> simp [mul_comm]

include hg hf hq hk in
theorem final_eq (c : Dev nD) : final m c = fun i : S2x4096x1024.Idx =>
    (fun (b : Fin 2) (s : Fin 4096) (k : Fin 1024) => out (ap m c) (ag m c) (af m c) (fun e => aq m c (ix1 e)) (fun e => ak m c (ix1 e)) b (⟨k.val / 128, by omega⟩ : Fin 8) s.val (⟨k.val % 128, by omega⟩ : Fin 128)) (i 0) (i 1) (i 2) := by
  refine final7_of m c (fun (b : Fin 2) (s : Fin 4096) (k : Fin 1024) => out (ap m c) (ag m c) (af m c) (fun e => aq m c (ix1 e)) (fun e => ak m c (ix1 e)) b (⟨k.val / 128, by omega⟩ : Fin 8) s.val (⟨k.val % 128, by omega⟩ : Fin 128)) fun t r d => ?_
  rw [step_at m hg hf hq hk]
  have e1 : (⟨(128 * (ht t).val + d.val) / 128, by omega⟩ : Fin 8) = ht t := Fin.ext (by show (128 * (ht t).val + d.val) / 128 = (ht t).val; omega)
  have e2 : (⟨(128 * (ht t).val + d.val) % 128, by omega⟩ : Fin 128) = d := Fin.ext (by show (128 * (ht t).val + d.val) % 128 = d.val; omega)
  show _ = out _ _ _ _ _ (bt t) (⟨(128 * (ht t).val + d.val) / 128, _⟩ : Fin 8) (rw1 t r).val (⟨(128 * (ht t).val + d.val) % 128, _⟩ : Fin 128)
  rw [e1, e2]

end Cert.FoxIdeal.Run
-- ==== Proof.FoxCumsum.lean ====
module

public import proofs.«01_k».proof.Proof.FoxSpec
public import proofs.«01_k».proof.Proof.Gen.FoxReferenceIdeal.Run
public import proofs.«01_k».proof.Proof.Gen.FoxReferenceIdeal.Read
public import Idealize.ShloMosaic.Lib.Pointwise

/-!
The reference's running sum: a window of 4096 entries, padded by 4095 zeros in front, so that the entry at
token `t` is the sum of the entries up to `t`.
-/

@[expose] public section

set_option maxRecDepth 16384

noncomputable section

namespace Cert.FoxReferenceIdeal.Value

open Cert.FoxReferenceIdeal Cert.FoxReferenceIdeal.Gen Cert.RealMath Cert.FoxSpec
open Idealize.ShloMosaic Idealize.ShloMosaic.TcCoe

/-- Adding the terms of a list in turn is adding the sum of the list. -/
theorem foldl_sum {ι : Type} (g : ι → EReal) (l : List ι) (r : EReal) :
    l.foldl (fun r n => r + g n) r = r + (l.map g).sum := by
  induction l generalizing r with
  | nil => simp
  | cons a l ih => rw [List.foldl_cons, ih, List.map_cons, List.sum_cons, add_assoc]

/-- The window's terms that lie inside the array are those up to token `t`. -/
theorem window_sum (f : ℕ → ℝ) (t : Fin 4096) :
    (∑ c : Fin 4096, (if 4095 ≤ t.val + c.val then f (t.val + c.val - 4095) else 0)) = ∑ u ∈ Finset.range (t.val + 1), f u := by
  have ht := t.isLt
  rw [← Finset.sum_range (fun c => if 4095 ≤ t.val + c then f (t.val + c - 4095) else 0), ← Finset.sum_filter]
  refine Finset.sum_nbij' (fun c => t.val + c - 4095) (fun u => u + 4095 - t.val) ?_ ?_ ?_ ?_ ?_
  · intro c hc; simp only [Finset.mem_filter, Finset.mem_range] at hc ⊢; omega
  · intro c hc; simp only [Finset.mem_filter, Finset.mem_range] at hc ⊢; omega
  · intro c hc; simp only [Finset.mem_filter, Finset.mem_range] at hc ⊢; omega
  · intro c hc; simp only [Finset.mem_filter, Finset.mem_range] at hc ⊢; omega
  · intro c hc; rfl

/-- The window sum at one row and token. -/
theorem cumsum_at (x : S2x8x4096.Idx → EReal) (v : S_.Idx → EReal)
    (hw : S2x8x4096.ReduceWindows ![1, 1, 4096] ![1, 1, 1] ![0, 0, 4095] ![0, 0, 0] S2x8x4096)
    (hu : 0 < S_.numel)
    (hv : v (Shape.Idx.first hu) = 0) (f : ℕ → ℝ) (b : Fin 2) (h : Fin 8)
    (hx : ∀ t : Fin 4096, x (ix3 b h t) = ((f t.val : ℝ) : EReal)) (t : Fin 4096) :
    Host.reduceWindow (s := S2x8x4096) (t := S2x8x4096) (u := S_) (fun a b : EReal => a + b) ![1, 1, 4096] ![1, 1, 1] ![0, 0, 4095] ![0, 0, 0] x v hw hu (ix3 b h t)
      = ((∑ u ∈ Finset.range (t.val + 1), f u : ℝ) : EReal) := by
  unfold Host.reduceWindow
  simp only [hv]
  rw [foldl_sum, zero_add, ← Fin.sum_univ_def]
  refine Eq.trans (Equiv.sum_comp (Shape.rowMajor ⟨3, ![1, 1, 4096]⟩).symm (fun i : (⟨3, ![1, 1, 4096]⟩ : Shape).Idx =>
    if hin : ∀ a : Fin 3, (![0, 0, 4095] : Fin 3 → ℕ) a ≤ (ix3 b h t (a.cast hw.1.symm)).val * (![1, 1, 1] : Fin 3 → ℕ) a + (i a).val ∧
        (ix3 b h t (a.cast hw.1.symm)).val * (![1, 1, 1] : Fin 3 → ℕ) a + (i a).val - (![0, 0, 4095] : Fin 3 → ℕ) a < S2x8x4096.size a
      then x (fun a => ⟨_, (hin a).2⟩) else 0)) ?_
  rw [sum_idx3]
  simp only [Finset.univ_unique, Finset.sum_singleton]
  rw [← window_sum, coe_sum]
  refine Finset.sum_congr rfl fun c _ => ?_
  have hc := c.isLt
  have ht := t.isLt
  by_cases hin : 4095 ≤ t.val + c.val
  · rw [if_pos hin, dif_pos (by
      intro a
      fin_cases a
      · exact ⟨Nat.zero_le _, by show b.val * 1 + 0 - 0 < 2; omega⟩
      · exact ⟨Nat.zero_le _, by show h.val * 1 + 0 - 0 < 8; omega⟩
      · exact ⟨by show 4095 ≤ t.val * 1 + c.val; omega, by show t.val * 1 + c.val - 4095 < 4096; omega⟩),
      ← hx ⟨t.val + c.val - 4095, by omega⟩]
    refine congrArg x (funext fun a => Fin.ext ?_)
    fin_cases a
    · show b.val * 1 + 0 - 0 = b.val; omega
    · show h.val * 1 + 0 - 0 = h.val; omega
    · show t.val * 1 + c.val - 4095 = t.val + c.val - 4095; omega
  · rw [if_neg hin, dif_neg (by
      intro hall
      have h2 : 4095 ≤ t.val * 1 + c.val := (hall 2).1
      omega)]
    rfl

/-- The reference's form of it. -/
theorem cumsum_host (x : S2x8x4096.Idx → EReal)
    (hw : S2x8x4096.ReduceWindows ![1, 1, 4096] ![1, 1, 1] ![0, 0, 4095] ![0, 0, 0] S2x8x4096)
    (f : ℕ → ℝ) (b : Fin 2) (h : Fin 8)
    (hx : ∀ t : Fin 4096, x (ix3 b h t) = ((f t.val : ℝ) : EReal)) (t : Fin 4096) :
    Ideal.hostReduceWindowAdd (s := S2x8x4096) (t := S2x8x4096) ![1, 1, 4096] ![1, 1, 1] ![0, 0, 4095] ![0, 0, 0] hw x 0 (ix3 b h t)
      = ((∑ u ∈ Finset.range (t.val + 1), f u : ℝ) : EReal) := by
  unfold Ideal.hostReduceWindowAdd
  exact cumsum_at x (fun _ => 0) hw (by decide) rfl f b h hx t

end Cert.FoxReferenceIdeal.Value
-- ==== Proof.FoxRefScore.lean ====
module

public import proofs.«01_k».proof.Proof.FoxSpec
public import proofs.«01_k».proof.Proof.Gen.FoxReferenceIdeal.Run
public import proofs.«01_k».proof.Proof.Gen.FoxReferenceIdeal.Read
public import proofs.«01_k».proof.Proof.FoxCumsum
public import Idealize.ShloMosaic.Lib.Pointwise
public import Idealize.ShloMosaic.Lib.Pipeline.ValueKit

@[expose] public section

set_option maxRecDepth 16384

noncomputable section

/-! The reference's scores. -/

namespace Cert.FoxReferenceIdeal.Value

open Cert.FoxReferenceIdeal Cert.FoxReferenceIdeal.Gen Cert.FoxReferenceIdeal.Read Cert.FoxMath Cert.RealMath Cert.FoxSpec
open Idealize.ShloMosaic Idealize.ShloMosaic.TcCoe

variable (x0 : (⟨S2x4096x7168, .f32⟩ : BufTy).Contents (Elt Ideal)) (x1 : (⟨S2x4096x128, .f32⟩ : BufTy).Contents (Elt Ideal)) (x2 : (⟨S8, .f32⟩ : BufTy).Contents (Elt Ideal)) (x3 x4 : (⟨S128, .f32⟩ : BufTy).Contents (Elt Ideal))

/-- The query of a head, normed. -/
theorem q_at (b : Fin 2) (h : Fin 8) (t : Fin 4096) (e : Fin 128) : val_main_v15 x0 x3 (ix4 b h t e) = nrm (hd x0 b (qh h) t.val) (fun e => x3 (ix1 e)) e := by
  have hx : ∀ e : Fin 128, val_main_v2 x0 (ix4 b h t e) = hd x0 b (qh h) t.val e := fun e => by
    rw [hd_at]
    pointwise [val_main_v2, val_main_v1, val_main_v0]
    exact congrArg (fun k => x0 (ix3 b t k)) (Fin.ext (by show h.val * 128 + e.val = 128 * (h.val) + e.val; omega))
  pointwise [val_main_v15, val_main_v12, val_main_v11, val_main_v10, val_main_v9, val_main_v8, val_main_v7, val_main_v6, val_main_v5, val_main_v4, val_main_v3, val_main_v13, val_main_v14, val_main_cst, val_main_cst_0, val_main_cst_1]
  simp only [hx]
  rfl

/-- The key of a head, normed. -/
theorem k_at (b : Fin 2) (h : Fin 8) (t : Fin 4096) (e : Fin 128) : val_main_v31 x0 x4 (ix4 b h t e) = nrm (hd x0 b (kh h) t.val) (fun e => x4 (ix1 e)) e := by
  have hx : ∀ e : Fin 128, val_main_v18 x0 (ix4 b h t e) = hd x0 b (kh h) t.val e := fun e => by
    rw [hd_at]
    pointwise [val_main_v18, val_main_v17, val_main_v16]
    exact congrArg (fun k => x0 (ix3 b t k)) (Fin.ext (by show 1024 + (h.val * 128 + e.val) = 128 * (8 + h.val) + e.val; omega))
  pointwise [val_main_v31, val_main_v28, val_main_v27, val_main_v26, val_main_v25, val_main_v24, val_main_v23, val_main_v22, val_main_v21, val_main_v20, val_main_v19, val_main_v29, val_main_v30, val_main_cst_2, val_main_cst_3, val_main_cst_4]
  simp only [hx]
  rfl

/-- The value of a head. -/
theorem v_at (b : Fin 2) (h : Fin 8) (t : Fin 4096) (e : Fin 128) : val_main_v34 x0 (ix4 b h t e) = hd x0 b (vh h) t.val e := by
  rw [hd_at]
  pointwise [val_main_v32, val_main_v33, val_main_v34]
  exact congrArg (fun k => x0 (ix3 b t k)) (Fin.ext (by show 2048 + (h.val * 128 + e.val) = 128 * (16 + h.val) + e.val; omega))

/-- The log of the forget gate. -/
theorem l_at (hg : ∀ i, ∃ r : ℝ, x1 i = r) (hf : ∀ i, ∃ r : ℝ, x2 i = r) (b : Fin 2) (h : Fin 8) (t : Fin 4096) :
    val_main_v40 x1 x2 (ix3 b h t) = ((ls (gz x1 x2 b h t.val) : ℝ) : EReal) := by
  have hz : ∀ t : Fin 4096, val_main_v38 x1 x2 (ix3 b t h) = ((gz x1 x2 b h t.val : ℝ) : EReal) := fun t => by
    rw [← gz_at x1 x2 b h t (hg _) (hf _)]
    pointwise [val_main_v38, val_main_v37, val_main_v36, val_main_v35]
  pointwise [val_main_v40, val_main_v39, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [if_neg (not_not.mpr rfl), hz]
  have := ls_reference (gz x1 x2 b h t.val)
  simp only [sub_zero] at this
  exact this

/-- The running sum of the log gates. -/
theorem c_at (hg : ∀ i, ∃ r : ℝ, x1 i = r) (hf : ∀ i, ∃ r : ℝ, x2 i = r) (b : Fin 2) (h : Fin 8) (t : Fin 4096) :
    val_main_v41 x1 x2 (ix3 b h t) = ((lsum x1 x2 b h t.val : ℝ) : EReal) := by
  unfold lsum
  have hv : (val_main_call1_call0_v0 (F := Ideal)) (Shape.Idx.first h_S_) = (0 : EReal) := by
    pointwise [val_main_call1_call0_v0, val_main_call1_call0_cst]
  have hl := fun t => l_at x1 x2 hg hf b h t
  unfold val_main_v41
  generalize val_main_v40 x1 x2 = X at hl ⊢
  generalize (val_main_call1_call0_v0 (F := Ideal)) = v at hv ⊢
  unfold Host.reduceWindowAdd
  rw [Ideal.hostReduceWindowAdd_def, hv]
  exact cumsum_host X reduceWindows_S2x8x4096_S2x8x4096_w1s1p0_0_w1s1p0_0_w4096s1p4095_0 (fun u => ls (gz x1 x2 b h u)) b h hl t

/-- The scale. -/
theorem rsqrt_128 : Ideal.rsqrt (Ideal.ofBits .f32 0x43000000#32) = (((Real.sqrt 128)⁻¹ : ℝ) : EReal) := by
  rw [ofBits_128]
  show (if (128 : ℝ) < 0 then (⊥ : EReal) else if (128 : ℝ) = 0 then ⊤ else (((Real.sqrt 128)⁻¹ : ℝ) : EReal)) = _
  rw [if_neg (by norm_num), if_neg (by norm_num)]

/-- A score before the mask. -/
theorem score_at (hg : ∀ i, ∃ r : ℝ, x1 i = r) (hf : ∀ i, ∃ r : ℝ, x2 i = r) (hq : ∀ i, ∃ r : ℝ, x3 i = r) (hk : ∀ i, ∃ r : ℝ, x4 i = r)
    (b : Fin 2) (h : Fin 8) (t s : Fin 4096) :
    val_main_v51 x0 x1 x2 x3 x4 (ix4 b h t s)
      = ((score x0 x1 x2 (fun e => x3 (ix1 e)) (fun e => x4 (ix1 e)) b h t.val s.val : ℝ) : EReal) := by
  have hd42 : val_main_v42 x0 x3 x4 (ix4 b h t s)
      = ((∑ e : Fin 128, (nrm (hd x0 b (qh h) t.val) (fun e => x3 (ix1 e)) e).toReal * (nrm (hd x0 b (kh h) s.val) (fun e => x4 (ix1 e)) e).toReal : ℝ) : EReal) := by
    rw [coe_sum]
    pointwise [val_main_v42_apply]
    refine Finset.sum_congr rfl fun e _ => ?_
    have el : lidx_main_v42 (ix4 b h t s) e = ix4 b h t e := by funext a; fin_cases a <;> rfl
    have er : ridx_main_v42 (ix4 b h t s) e = ix4 b h s e := by funext a; fin_cases a <;> rfl
    rw [el, er, q_at, k_at, EReal.coe_mul]
    exact congrArg₂ (fun a b : EReal => a * b) (nrm_real _ _ _ (hq _)) (nrm_real _ _ _ (hk _))
  pointwise [val_main_v43, val_main_v51, val_main_v50, val_main_v49, val_main_v48, val_main_v47, val_main_v46, val_main_v45, val_main_v44, val_main_cst_5]
  rw [hd42, c_at x1 x2 hg hf, c_at x1 x2 hg hf, rsqrt_128]
  unfold score
  rw [EReal.coe_sub, EReal.coe_add, EReal.coe_mul]

end Cert.FoxReferenceIdeal.Value
-- ==== Proof.FoxRefValue.lean ====
module

public import proofs.«01_k».proof.Proof.FoxSpec
public import proofs.«01_k».proof.Proof.Gen.FoxReferenceIdeal.Run
public import proofs.«01_k».proof.Proof.Gen.FoxReferenceIdeal.Read
public import proofs.«01_k».proof.Proof.FoxRefScore
public import Idealize.ShloMosaic.Lib.Pointwise
public import Idealize.ShloMosaic.Lib.WordCmp
public import Idealize.ShloMosaic.Lib.Pipeline.ValueKit

@[expose] public section

set_option maxRecDepth 16384

noncomputable section

/-! The reference's result. -/

namespace Cert.FoxReferenceIdeal.Value

open Cert.FoxReferenceIdeal Cert.FoxReferenceIdeal.Gen Cert.FoxReferenceIdeal.Read Cert.FoxMath Cert.RealMath Cert.FoxSpec
open Idealize.ShloMosaic Idealize.ShloMosaic.TcCoe

variable (x0 : (⟨S2x4096x7168, .f32⟩ : BufTy).Contents (Elt Ideal)) (x1 : (⟨S2x4096x128, .f32⟩ : BufTy).Contents (Elt Ideal)) (x2 : (⟨S8, .f32⟩ : BufTy).Contents (Elt Ideal)) (x3 x4 : (⟨S128, .f32⟩ : BufTy).Contents (Elt Ideal))

/-- A masked score. -/
theorem mask_at (hg : ∀ i, ∃ r : ℝ, x1 i = r) (hf : ∀ i, ∃ r : ℝ, x2 i = r) (hq : ∀ i, ∃ r : ℝ, x3 i = r) (hk : ∀ i, ∃ r : ℝ, x4 i = r)
    (b : Fin 2) (h : Fin 8) (t s : Fin 4096) :
    val_main_v58 x0 x1 x2 x3 x4 (ix4 b h t s)
      = if s.val ≤ t.val then ((score x0 x1 x2 (fun e => x3 (ix1 e)) (fun e => x4 (ix1 e)) b h t.val s.val : ℝ) : EReal) else ⊥ := by
  rw [← score_at x0 x1 x2 x3 x4 hg hf hq hk b h t s]
  pointwise [val_main_v58, val_main_v57, val_main_v56, val_main_v55, val_main_v54, val_main_v53, val_main_v52, val_main_call2_v0, val_main_call2_v1, val_main_call2_v2, val_main_cst_6]
  have hc : IntOp.cmpi .sge (BitVec.ofNat 32 t.val) (BitVec.ofNat 32 s.val) = BitVec.ofBool (decide (s.val ≤ t.val)) := by
    simp (disch := omega) only [hlo_ix]
  rw [hc]
  by_cases hs : s.val ≤ t.val
  · rw [if_pos hs, decide_eq_true hs]; rfl
  · rw [if_neg hs, decide_eq_false hs]; exact ofBits_bot

/-- The maximum of a row of an array. -/
theorem row_max (X : S2x8x4096x4096.Idx → EReal) (c : S_.Idx → EReal) (b : Fin 2) (h : Fin 8) (t : Fin 4096) :
    Host.reduce (FloatOps.maximumf (F := Ideal) (φ := .f32)) X c reducesTo_S2x8x4096x4096_S2x8x4096_d3 h_S_ (ix3 b h t)
      = Finset.fold max (c (Shape.Idx.first h_S_)) (fun s : Fin 4096 => X (ix4 b h t s)) Finset.univ := by
  simp only [pointwise]

/-- A row's maximum. -/
theorem max_at (b : Fin 2) (h : Fin 8) (t : Fin 4096) :
    val_main_v61 x0 x1 x2 x3 x4 (ix3 b h t) = Finset.fold max ⊥ (fun s : Fin 4096 => val_main_v58 x0 x1 x2 x3 x4 (ix4 b h t s)) Finset.univ := by
  have e := row_max (val_main_v58 x0 x1 x2 x3 x4) (val_main_cst_7 (F := Ideal)) b h t
  have e1 : val_main_cst_7 (F := Ideal) (Shape.Idx.first h_S_) = ⊥ := ofBits_bot
  have e2 : val_main_v60 (F := Ideal) (ix3 b h t) = ⊥ := by
    rw [val_main_v60_apply]; exact ofBits_bot
  rw [e1] at e
  rw [val_main_v61_apply, e2]
  refine (bot_sup_eq (a := (val_main_v59 x0 x1 x2 x3 x4 (ix3 b h t) : EReal))).trans ?_
  unfold val_main_v59
  exact e

/-- A row of the result of a head. -/
theorem head_at (hg : ∀ i, ∃ r : ℝ, x1 i = r) (hf : ∀ i, ∃ r : ℝ, x2 i = r) (hq : ∀ i, ∃ r : ℝ, x3 i = r) (hk : ∀ i, ∃ r : ℝ, x4 i = r)
    (b : Fin 2) (h : Fin 8) (t : Fin 4096) (e : Fin 128) :
    val_main_v70 x0 x1 x2 x3 x4 (ix4 b h t e) = out x0 x1 x2 (fun e => x3 (ix1 e)) (fun e => x4 (ix1 e)) b h t.val e := by
  unfold out
  rw [← softmax_mean (fun s => score x0 x1 x2 (fun e => x3 (ix1 e)) (fun e => x4 (ix1 e)) b h t.val s)
    (fun s => val_main_v34 x0 (ix4 b h s e)) t (fun s => hd x0 b (vh h) s e) (fun s => (v_at x0 b h s e).symm)
    (fun s => val_main_v58 x0 x1 x2 x3 x4 (ix4 b h t s)) (fun s => mask_at x0 x1 x2 x3 x4 hg hf hq hk b h t s)
    (val_main_v61 x0 x1 x2 x3 x4 (ix3 b h t)) (max_at x0 x1 x2 x3 x4 b h t)]
  have e65 : ∀ s : Fin 4096, val_main_v65 x0 x1 x2 x3 x4 (ix4 b h t s)
      = Ideal.exp (val_main_v58 x0 x1 x2 x3 x4 (ix4 b h t s) - val_main_v61 x0 x1 x2 x3 x4 (ix3 b h t)) := fun s => by
    pointwise [val_main_v65, val_main_v64, val_main_v63, val_main_v62]
  have e66 : val_main_v66 x0 x1 x2 x3 x4 (ix3 b h t)
      = ∑ u, Ideal.exp (val_main_v58 x0 x1 x2 x3 x4 (ix4 b h t u) - val_main_v61 x0 x1 x2 x3 x4 (ix3 b h t)) := by
    rw [val_main_v66_apply]
    have e0 : (val_main_cst_9 (F := Ideal)) (Shape.Idx.first h_S_) = (0 : EReal) := by pointwise [val_main_cst_9]
    rw [e0]
    refine (zero_add _).trans (Finset.sum_congr rfl fun u _ => ?_)
    have ei : idx_main_v66 (ix3 b h t) u = ix4 b h t u := by funext a; fin_cases a <;> rfl
    rw [ei, e65]
  rw [val_main_v70_apply]
  refine Finset.sum_congr rfl fun s _ => ?_
  have el : lidx_main_v70 (ix4 b h t e) s = ix4 b h t s := by funext a; fin_cases a <;> rfl
  have er : ridx_main_v70 (ix4 b h t e) s = ix4 b h s e := by funext a; fin_cases a <;> rfl
  have e69 : val_main_v69 x0 x1 x2 x3 x4 (ix4 b h t s)
      = Ideal.div (val_main_v65 x0 x1 x2 x3 x4 (ix4 b h t s)) (val_main_v66 x0 x1 x2 x3 x4 (ix3 b h t)) := by
    pointwise [val_main_v69, val_main_v68, val_main_v67]
  rw [el, er, e69, e65, e66]

/-- The result. -/
theorem ref_at (hg : ∀ i, ∃ r : ℝ, x1 i = r) (hf : ∀ i, ∃ r : ℝ, x2 i = r) (hq : ∀ i, ∃ r : ℝ, x3 i = r) (hk : ∀ i, ∃ r : ℝ, x4 i = r)
    (b : Fin 2) (t : Fin 4096) (c : Fin 1024) :
    val_main_v73 x0 x1 x2 x3 x4 (ix3 b t c) = out x0 x1 x2 (fun e => x3 (ix1 e)) (fun e => x4 (ix1 e)) b (⟨c.val / 128, by omega⟩ : Fin 8) t.val (⟨c.val % 128, by omega⟩ : Fin 128) := by
  rw [← head_at x0 x1 x2 x3 x4 hg hf hq hk]
  pointwise [val_main_v73, val_main_v72, val_main_v71]

end Cert.FoxReferenceIdeal.Value
-- ==== Proof.FoxClaim.lean ====
module

public import proofs.«01_k».proof.Defs
public import proofs.«01_k».proof.Proof.MemClaim
public import proofs.«01_k».proof.Proof.FoxValue
public import proofs.«01_k».proof.Proof.FoxRefValue
public import proofs.«01_k».proof.Proof.Gen.Fox
public import proofs.«01_k».proof.Proof.Gen.FoxReferenceIdeal
public import proofs.«01_k».proof.Proof.Gen.FoxReferenceIdeal.Run
public import Idealize.ShloMosaic.Lib.ReduceAll
public import Idealize.ShloMosaic.Lib.Affine

@[expose] public section

noncomputable section

/-! The forgetting attention's claims. -/

namespace Cert.FoxClaims

open Idealize.ShloMosaic Idealize.ShloMosaic.TcCoe Idealize.SL.Sem

theorem pre_facts : Cert.Pre_fox_gains_finite.Facts := by
  constructor <;> decide

attribute [local instance] pre_facts

theorem frame_pi : Cert.quiescent_FoxIdeal := fun m ρ _ =>
  (θ_run Cert.FoxIdeal.defs _ _).mono (fun r h => ⟨fun c => (h.1 c).2, h.2⟩) (Cert.FoxIdeal.Run.run_main (F := Ideal) m ρ)
theorem frame_pi' : Cert.quiescent_FoxIdeal_pre_fox_gains_finite := fun m ρ _ => frame_pi m ρ trivial

theorem frame_ri : Cert.quiescent_FoxReferenceIdeal := fun m ρ _ =>
  (θ_run Cert.FoxReferenceIdeal.defs _ _).mono (fun r h => ⟨fun c => (h c).2, Idealize.ShloMosaic.sem_eq_zero_of_no_sems (by decide) r.2⟩)
    (Cert.FoxReferenceIdeal.Value.run (F := Ideal) m ρ)
theorem frame_ri' : Cert.quiescent_FoxReferenceIdeal_pre_fox_gains_finite := fun m ρ _ => frame_ri m ρ trivial

theorem named : Cert.preserves_Fox_FoxIdeal :=
  ⟨IdealRules.named_const.statement Cert.FoxIdeal.κ "log2e" .f32 0x3FB8AA3B#32 _ rfl,
    IdealRules.named_const.statement Cert.FoxIdeal.κ "scale2" .f32 0x3E0293EE#32 _ rfl⟩

/-- The precondition: the gate's arguments and both gains are real. -/
theorem gains (m : (ℓ : Loc Cert.FoxIdeal.nD Cert.FoxIdeal.τ Cert.FoxIdeal.sig) → Buf (Elt Ideal) ℓ)
    (h : Cert.Pre_FoxIdeal_fox_gains_finite m) (c : Dev Cert.FoxIdeal.nD) :
    (∀ i, ∃ r : ℝ, Cert.FoxIdeal.Run.ag m c i = r) ∧ (∀ i, ∃ r : ℝ, Cert.FoxIdeal.Run.af m c i = r)
      ∧ (∀ i, ∃ r : ℝ, Cert.FoxIdeal.Run.aq m c i = r) ∧ ∀ i, ∃ r : ℝ, Cert.FoxIdeal.Run.ak m c i = r := by
  have hc := congrFun (h c) (fun a => a.elim0)
  dsimp only [Cert.Pre_fox_gains_finite.fn, Cert.Pre_fox_gains_finite.fn_part1] at hc
  obtain ⟨h123, h4⟩ := IntOp.andi_eq_one.1 hc
  obtain ⟨h12, h3⟩ := IntOp.andi_eq_one.1 h123
  obtain ⟨h1, h2⟩ := IntOp.andi_eq_one.1 h12
  haveI : Subsingleton (Shape.Idx Cert.Pre_fox_gains_finite.S_) := ⟨fun a b => funext fun i => i.elim0⟩
  refine ⟨fun i => ?_, fun i => ?_, fun i => ?_, fun i => ?_⟩
  · idx_vars i
    refine Cert.MemClaims.of_abs _ ?_
    have h5 := Host.reduce_andi_all _ _ _ _ _ h1 (ix3 i0 i1 i2)
    pointwise at h5
    exact h5
  · idx_vars i
    refine Cert.MemClaims.of_abs _ ?_
    have h5 := Host.reduce_andi_all _ _ _ _ _ h2 (ix1 i0)
    pointwise at h5
    exact h5
  · idx_vars i
    refine Cert.MemClaims.of_abs _ ?_
    have h5 := Host.reduce_andi_all _ _ _ _ _ h3 (ix1 i0)
    pointwise at h5
    exact h5
  · idx_vars i
    refine Cert.MemClaims.of_abs _ ?_
    have h5 := Host.reduce_andi_all _ _ _ _ _ h4 (ix1 i0)
    pointwise at h5
    exact h5

/-- The kernel's result is the reference's. -/
theorem value : Cert.algebraic_FoxIdeal_FoxReferenceIdeal_pre_fox_gains_finite := fun m ρ m' ρ' hp hag =>
  ⟨fun c => Cert.FoxIdeal.Run.final (F := Ideal) m c,
    (θ_run Cert.FoxIdeal.defs _ _).mono (fun r h => h.1) (Cert.FoxIdeal.Run.run_main (F := Ideal) m ρ),
    (θ_run Cert.FoxReferenceIdeal.defs _ _).mono (fun r h c => ⟨(h c).1.trans (by
        rw [Cert.FoxReferenceIdeal.Read.val_main_v73_eq, (hag c).1, (hag c).2.1, (hag c).2.2.1, (hag c).2.2.2.1, (hag c).2.2.2.2]
        refine Eq.trans ?_ (Cert.FoxIdeal.Run.final_eq m (fun c => (gains m hp c).1) (fun c => (gains m hp c).2.1) (fun c => (gains m hp c).2.2.1)
          (fun c => (gains m hp c).2.2.2) c).symm
        funext i
        idx_vars i
        exact Cert.FoxReferenceIdeal.Value.ref_at _ _ _ _ _ (gains m hp c).1 (gains m hp c).2.1 (gains m hp c).2.2.1 (gains m hp c).2.2.2 _ _ _), (h c).2⟩)
      (Cert.FoxReferenceIdeal.Value.run (F := Ideal) m' ρ')⟩

end Cert.FoxClaims

end
-- ==== Proof.ProjSpec.lean ====
module

public import Idealize.ShloMosaic.Lib.Pointwise

@[expose] public section

noncomputable section

/-! ## The projections around the mixers in plain terms -/

namespace Cert.ProjSpec

open Idealize.ShloMosaic

/-- An array of extended reals of a shape. -/
abbrev Arr (s : Shape) : Type := s.Idx → EReal

/-- Token `i` of both sequences, its coordinate `d`. -/
def tok {n : ℕ} (x : Arr ⟨3, ![2, 4096, n]⟩) (i : Fin 8192) (d : Fin n) : EReal :=
  x (ix3 (⟨i.val / 4096, by omega⟩ : Fin 2) (⟨i.val % 4096, by omega⟩ : Fin 4096) d)

/-- A row scaled by the inverse root of its mean square, and by a gain. -/
def rn (x g : Fin 2048 → EReal) (d : Fin 2048) : EReal :=
  x d * Ideal.rsqrt (Ideal.div (∑ e, x e * x e) (Ideal.ofBits .f32 0x45000000#32) + Ideal.ofBits .f32 0x358637BD#32) * g d

/-- The normalized token `i` against column `w` of a weight. -/
def proj (x : Arr ⟨3, ![2, 4096, 2048]⟩) (g w : Fin 2048 → EReal) (i : Fin 8192) : EReal := ∑ d, rn (tok x i) g d * w d

/-- Column `j` of the wide result of the even layers' projection, among the weight's columns: those of the eight gates are skipped. -/
def evenCol (j : Fin 7168) : Fin 7176 := if h : j.val < 3072 then ⟨j.val, by omega⟩ else ⟨j.val + 8, by omega⟩

/-- The wide result of the even layers' projection. -/
def evenMain (x : Arr ⟨3, ![2, 4096, 2048]⟩) (g : Arr ⟨2, ![4, 2048]⟩) (w : Arr ⟨3, ![2, 2048, 7176]⟩) (i : Fin 8192) (j : Fin 7168) : EReal :=
  proj x (fun d => g (ix2 (2 : Fin 4) d)) (fun d => w (ix3 (1 : Fin 2) d (evenCol j))) i

/-- Its gates, eight of them on the first lanes. -/
def evenGate (x : Arr ⟨3, ![2, 4096, 2048]⟩) (g : Arr ⟨2, ![4, 2048]⟩) (w : Arr ⟨3, ![2, 2048, 7176]⟩) (i : Fin 8192) (j : Fin 128) : EReal :=
  if h : j.val < 8 then proj x (fun d => g (ix2 (2 : Fin 4) d)) (fun d => w (ix3 (1 : Fin 2) d ⟨3072 + j.val, by omega⟩)) i else 0

/-- The wide result of the odd layers' projection. -/
def oddMain (x : Arr ⟨3, ![2, 4096, 2048]⟩) (g : Arr ⟨2, ![4, 2048]⟩) (w : Arr ⟨3, ![2, 2048, 5168]⟩) (i : Fin 8192) (j : Fin 5120) : EReal :=
  proj x (fun d => g (ix2 (3 : Fin 4) d)) (fun d => w (ix3 (1 : Fin 2) d ⟨j.val, by omega⟩)) i

/-- Its gates, twelve for each group of heads, on the first lanes of the group's 128. -/
def oddGate (x : Arr ⟨3, ![2, 4096, 2048]⟩) (g : Arr ⟨2, ![4, 2048]⟩) (w : Arr ⟨3, ![2, 2048, 5168]⟩) (i : Fin 8192) (j : Fin 512) : EReal :=
  if h : j.val % 128 < 12 then
    proj x (fun d => g (ix2 (3 : Fin 4) d)) (fun d => w (ix3 (1 : Fin 2) d ⟨5120 + (j.val / 128 * 12 + j.val % 128), by omega⟩)) i
  else 0

/-- The even layers' projection back: the token, and the two mixers' results against their halves of the weight. -/
def evenOut (a b : Arr ⟨3, ![2, 4096, 1024]⟩) (w : Arr ⟨3, ![2, 2048, 2048]⟩) (x : Arr ⟨3, ![2, 4096, 2048]⟩) (i : Fin 8192) (d : Fin 2048) : EReal :=
  tok x i d + (∑ k : Fin 1024, tok a i k * w (ix3 (1 : Fin 2) (⟨k.val, by omega⟩ : Fin 2048) d)) + ∑ k : Fin 1024, tok b i k * w (ix3 (1 : Fin 2) (⟨1024 + k.val, by omega⟩ : Fin 2048) d)

/-- The odd layers' projection back: the token, and the attention's result against the weight. -/
def oddOut (a : Arr ⟨3, ![2, 4096, 2048]⟩) (w : Arr ⟨3, ![2, 2048, 2048]⟩) (x : Arr ⟨3, ![2, 4096, 2048]⟩) (i : Fin 8192) (d : Fin 2048) : EReal :=
  tok x i d + ∑ k : Fin 2048, tok a i k * w (ix3 (1 : Fin 2) k d)

/-- A memory token normalized, against column `j` of the key and value weight. -/
def memKv (x : Arr ⟨3, ![2, 256, 2048]⟩) (g : Arr ⟨2, ![4, 2048]⟩) (w : Arr ⟨3, ![4, 2048, 1024]⟩) (i : Fin 512) (j : Fin 1024) : EReal :=
  ∑ d, rn (fun d => x (ix3 (⟨i.val / 256, by omega⟩ : Fin 2) (⟨i.val % 256, by omega⟩ : Fin 256) d)) (fun d => g (ix2 (3 : Fin 4) d)) d * w (ix3 (3 : Fin 4) d j)

end Cert.ProjSpec
end
-- ==== Proof.EvenInBody.lean ====
module

public import proofs.«01_k».proof.Proof.Gen.EvenInIdeal.Frame
public import proofs.«01_k».proof.Proof.Gen.EvenInIdeal.Skeleton
public import Idealize.ShloMosaic.Lib.Claim
public import Idealize.ShloMosaic.Lib.Pipeline.Value
public import Idealize.ShloMosaic.Lib.Pipeline.ValueKit.Acc

@[expose] public section

set_option maxRecDepth 16384

noncomputable section

/-! The projection with a second, narrow result: the body at each grid point, the run, and what each window holds.
The row block is normalized at the first point of its run of 7 points into the scratch, and the narrow product is
stored there; the later points of the run only read the scratch, and leave the narrow result's buffer alone. -/

namespace Cert.EvenInIdeal.Body

open Cert.EvenInIdeal Cert.EvenInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch's condition at a grid point. -/
abbrev first (i : grid0.Coords) : Prop := (Scalar.cmpi .ne (Scalar.extui (Scalar.cmpi .eq (BitVec.ofNat 32 (i 1).val) 0#32)) 0#32) = 1#1

/-- It holds at the first point of each run. -/
theorem first_iff : ∀ t : Fin cfg0.N, first (grid0.coords t) ↔ t.val % 7 = 0 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [first, e0, e1]
    word_cmp
   : ∀ t : Fin grid0.N, first (grid0.coords t) ↔ t.val % 7 = 0)

/-- The scratch. -/
abbrev scr : Memref sig .tc .vmem S1024x2048 .bf16 := Memref.whole cc0_scratch0

theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

set_option maxHeartbeats 1000000 in
/-- The body at the first point of a run: what it stores into the two results and the scratch. -/
noncomputable def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : first i)
    (x0 : Vec F S1024x2048 .f32) (x1 : Vec F S1x2048 .f32) (x2 : Vec F S1x2048x1024 .bf16) (x3 : Vec F S1x2048x128 .bf16) :
    Σ' (L4 : List (View.Piece (Elt F) S1024x1024 .f32)) (L5 : List (View.Piece (Elt F) S1024x128 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0_rms_matmul i arg2 harg2 arg3 harg3 arg4 harg4 arg5 harg5 arg6 harg6 arg7 harg7 arg8 harg8) K } := by
  refine ⟨?_, ?_, ?_, fun E K => ?run⟩
  case run =>
    simp only [cc0_rms_matmul_eq_skeleton]; unfold cc0_rms_matmul_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

set_option maxHeartbeats 1000000 in
/-- The body at a later point: the scratch read, the narrow result's buffer left alone. -/
noncomputable def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : ¬first i)
    (x0 : Vec F S1024x2048 .f32) (x1 : Vec F S1x2048 .f32) (x2 : Vec F S1x2048x1024 .bf16) (x3 : Vec F S1x2048x128 .bf16) (x5 : Vec F S1024x128 .f32) (xs : Vec F S1024x2048 .bf16) :
    { L4 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare x5 ∗ owns (c : Thread nD τ) arg8 fullShare xs) -∗ K ⟨⟩))
          ⊢ wp frame (wpE (defs₀ (F := F)) Variants.none c none) E (cc0_rms_matmul i arg2 harg2 arg3 harg3 arg4 harg4 arg5 harg5 arg6 harg6 arg7 harg7 arg8 harg8) K } := by
  refine ⟨?_, fun E K => ?run⟩
  case run =>
    simp only [cc0_rms_matmul_eq_skeleton]; unfold cc0_rms_matmul_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS0

theorem coverA4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x2048x1024 .bf16) (x3 : Vec F S1x2048x128 .bf16) (y : S1024x1024.Idx) :
    ∃ pc ∈ (runA c i arg2 harg2 arg3 harg3 arg4 harg4 arg5 harg5 arg6 harg6 arg7 harg7 arg8 harg8 hc0 x0 x1 x2 x3).1, y ∈ pc.1.set :=
  View.cover_of_tiledL (runA c i arg2 harg2 arg3 harg3 arg4 harg4 arg5 harg5 arg6 harg6 arg7 harg7 arg8 harg8 hc0 x0 x1 x2 x3).1 S1024x1024.size (by sl_kernel_rfl) y

theorem coverA5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x2048x1024 .bf16) (x3 : Vec F S1x2048x128 .bf16) (y : S1024x128.Idx) :
    ∃ pc ∈ (runA c i arg2 harg2 arg3 harg3 arg4 harg4 arg5 harg5 arg6 harg6 arg7 harg7 arg8 harg8 hc0 x0 x1 x2 x3).2.1, y ∈ pc.1.set :=
  View.cover_of_tiledL (runA c i arg2 harg2 arg3 harg3 arg4 harg4 arg5 harg5 arg6 harg6 arg7 harg7 arg8 harg8 hc0 x0 x1 x2 x3).2.1 S1024x128.size (by sl_kernel_rfl) y

theorem coverAS (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x2048x1024 .bf16) (x3 : Vec F S1x2048x128 .bf16) (y : S1024x2048.Idx) :
    ∃ pc ∈ (runA c i arg2 harg2 arg3 harg3 arg4 harg4 arg5 harg5 arg6 harg6 arg7 harg7 arg8 harg8 hc0 x0 x1 x2 x3).2.2.1, y ∈ pc.1.set :=
  View.cover_of_tiledL (runA c i arg2 harg2 arg3 harg3 arg4 harg4 arg5 harg5 arg6 harg6 arg7 harg7 arg8 harg8 hc0 x0 x1 x2 x3).2.2.1 S1024x2048.size (by sl_kernel_rfl) y

theorem coverB4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : ¬first i) (x0 : Vec F S1024x2048 .f32) (x1 : Vec F S1x2048 .f32) (x2 : Vec F S1x2048x1024 .bf16) (x3 : Vec F S1x2048x128 .bf16) (x5 : Vec F S1024x128 .f32) (xs : Vec F S1024x2048 .bf16) (y : S1024x1024.Idx) :
    ∃ pc ∈ (runB c i arg2 harg2 arg3 harg3 arg4 harg4 arg5 harg5 arg6 harg6 arg7 harg7 arg8 harg8 hc0 x0 x1 x2 x3 x5 xs).1, y ∈ pc.1.set :=
  View.cover_of_tiledL (runB c i arg2 harg2 arg3 harg3 arg4 harg4 arg5 harg5 arg6 harg6 arg7 harg7 arg8 harg8 hc0 x0 x1 x2 x3 x5 xs).1 S1024x1024.size (by sl_kernel_rfl) y

abbrev VO4 : View sig .tc .vmem S1024x1024 .f32 := (Memref.whole cc0_stg4_0 : Memref sig .tc .vmem S1024x1024 .f32).view

abbrev VO5 : View sig .tc .vmem S1024x128 .f32 := (Memref.whole cc0_stg5_0 : Memref sig .tc .vmem S1024x128 .f32).view

abbrev VOS : View sig .tc .vmem S1024x2048 .bf16 := (Memref.whole cc0_scratch0 : Memref sig .tc .vmem S1024x2048 .bf16).view

theorem readA4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x2048x1024 .bf16) (x3 : Vec F S1x2048x128 .bf16) (f) :
    arg6.view.read (Elt F) (arg6.view.writes (Elt F) f (runA c i arg2 harg2 arg3 harg3 arg4 harg4 arg5 harg5 arg6 harg6 arg7 harg7 arg8 harg8 hc0 x0 x1 x2 x3).1) = k0_pay3 (k0_pay1 x0 x1) x2 := by
  rw [View.read_writes_of_cover arg6.view f VO4 VO4.junk _ (coverA4 c i arg2 harg2 arg3 harg3 arg4 harg4 arg5 harg5 arg6 harg6 arg7 harg7 arg8 harg8 hc0 x0 x1 x2 x3)]
  frame_out

theorem readA5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x2048x1024 .bf16) (x3 : Vec F S1x2048x128 .bf16) (f) :
    arg7.view.read (Elt F) (arg7.view.writes (Elt F) f (runA c i arg2 harg2 arg3 harg3 arg4 harg4 arg5 harg5 arg6 harg6 arg7 harg7 arg8 harg8 hc0 x0 x1 x2 x3).2.1) = k0_pay2 (k0_pay1 x0 x1) x3 := by
  rw [View.read_writes_of_cover arg7.view f VO5 VO5.junk _ (coverA5 c i arg2 harg2 arg3 harg3 arg4 harg4 arg5 harg5 arg6 harg6 arg7 harg7 arg8 harg8 hc0 x0 x1 x2 x3)]
  frame_out

theorem readAS (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x2048x1024 .bf16) (x3 : Vec F S1x2048x128 .bf16) (f) :
    arg8.view.read (Elt F) (arg8.view.writes (Elt F) f (runA c i arg2 harg2 arg3 harg3 arg4 harg4 arg5 harg5 arg6 harg6 arg7 harg7 arg8 harg8 hc0 x0 x1 x2 x3).2.2.1) = k0_pay1 x0 x1 := by
  rw [View.read_writes_of_cover arg8.view f VOS VOS.junk _ (coverAS c i arg2 harg2 arg3 harg3 arg4 harg4 arg5 harg5 arg6 harg6 arg7 harg7 arg8 harg8 hc0 x0 x1 x2 x3)]
  frame_out

theorem readB4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x2048 .bf16) (harg8 : arg8.IsWhole) (hc0 : ¬first i) (x0 : Vec F S1024x2048 .f32) (x1 : Vec F S1x2048 .f32) (x2 : Vec F S1x2048x1024 .bf16) (x3 : Vec F S1x2048x128 .bf16) (x5 : Vec F S1024x128 .f32) (xs : Vec F S1024x2048 .bf16) (f) :
    arg6.view.read (Elt F) (arg6.view.writes (Elt F) f (runB c i arg2 harg2 arg3 harg3 arg4 harg4 arg5 harg5 arg6 harg6 arg7 harg7 arg8 harg8 hc0 x0 x1 x2 x3 x5 xs).1) = k0_pay3 xs x2 := by
  rw [View.read_writes_of_cover arg6.view f VO4 VO4.junk _ (coverB4 c i arg2 harg2 arg3 harg3 arg4 harg4 arg5 harg5 arg6 harg6 arg7 harg7 arg8 harg8 hc0 x0 x1 x2 x3 x5 xs)]
  frame_out

/-! ## What the buffers hold -/

/-- The first point of `t`'s run. -/
def base (t : Fin cfg0.N) : Fin cfg0.N := ⟨t.val / 7 * 7, Nat.lt_of_le_of_lt (Nat.div_mul_le_self _ _) t.isLt⟩

theorem base_of (t : Fin cfg0.N) (h : t.val % 7 = 0) : base t = t := Fin.ext (by show t.val / 7 * 7 = t.val; omega)

theorem base_pred (t : Fin cfg0.N) (h : ¬t.val % 7 = 0) (h' : t.val - 1 < cfg0.N) : base ⟨t.val - 1, h'⟩ = base t :=
  Fin.ext (by show (t.val - 1) / 7 * 7 = t.val / 7 * 7; omega)

/-- The normalized rows of `t`'s block. -/
def rows (c : Dev nD) (t : Fin cfg0.N) : Vec F S1024x2048 .bf16 := k0_pay1 (iblk m c 0 (base t)) (iblk m c 1 (base t))

/-- The narrow product of `t`'s block. -/
def narrow (c : Dev nD) (t : Fin cfg0.N) : Vec F S1024x128 .f32 := k0_pay2 (rows m c t) (iblk m c 3 (base t))

/-- Before a point: the scratch at the rows of the point before. -/
def PhiS (c : Dev nD) : (n : ℕ) → n ≤ cfg0.N → sProp 𝕄
  | 0, _ => Pipeline.ΦA spec0 c
  | n + 1, hn => iprop(iprop(owns (c : Thread nD τ) scr fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (rows m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scr fullShare (rows m c ⟨n - 1, by omega⟩)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (rows m c t) (iblk m c 2 t)
    | ⟨5, _⟩ => narrow m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (rows m c t) (iblk m c 2 t) := by dsimp only [dats]
theorem after0_5 (c : Dev nD) (t : Fin cfg0.N) : (dats m 0 c).after 5 t = narrow m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem idle_first (t : Fin cfg0.N) (h : t.val % 7 = 0) : cfg0.idle 5 (cfg0.grid.coords t) = false := by
  show (!(_ == _)) = false
  rw [Bool.not_eq_false', beq_iff_eq]
  exact (first_iff t).mpr h

theorem idle_later (t : Fin cfg0.N) (h : ¬t.val % 7 = 0) : cfg0.idle 5 (cfg0.grid.coords t) = true := by
  show (!(_ == _)) = true
  rw [Bool.not_eq_true', beq_eq_false_iff_ne]
  exact fun h' => h ((first_iff t).mp h')

/-- At a later point of a run the narrow result's buffer holds what the point before left. -/
theorem before0_5 (c : Dev nD) (t : Fin cfg0.N) (h0 : ¬t.val % 7 = 0) (d) :
    (dats m 0 c).before 5 t d = narrow m c t := by
  have hN : t.val < 56 := lt_of_lt_of_eq t.isLt (show cfg0.N = 56 from N_0)
  clear hN
  obtain ⟨n, hn⟩ := t
  induction n with
  | zero => exact absurd (Nat.zero_mod _) h0
  | succ k ih =>
    have hk : k < cfg0.N := Nat.lt_of_succ_lt hn
    have hN : k + 1 < 56 := lt_of_lt_of_eq hn (show cfg0.N = 56 from N_0)
    have e : narrow m c ⟨k, hk⟩ = narrow m c ⟨k + 1, hn⟩ := by
      have := base_pred ⟨k + 1, hn⟩ h0 hk
      unfold narrow rows; rw [show (⟨k, hk⟩ : Fin cfg0.N) = ⟨k + 1 - 1, hk⟩ from rfl, this]
    rw [Dat.before_of_pos _ 5 _ (Nat.succ_ne_zero k) rfl, if_neg fun h => by
      have := (flush0_5 _).mp h; dsimp only at this h0; omega]
    show (dats m 0 c).left 5 ⟨k, hk⟩ d = _
    unfold Dat.left
    by_cases hk0 : k % 7 = 0
    · rw [idle_first ⟨k, hk⟩ hk0]
      exact (after0_5 m c ⟨k, hk⟩).trans e
    · rw [idle_later ⟨k, hk⟩ hk0]
      exact (ih hk hk0).trans e

/-- What the body must leave in the narrow result's buffer. -/
theorem leaves5 (c : Dev nD) (t : Fin cfg0.N) :
    owns (c : Thread nD τ) (st0_5 t) fullShare (narrow m c t) ⊢ ((dats m 0 c).leavesExact 5 t : sProp 𝕄) := by
  by_cases h0 : t.val % 7 = 0
  · unfold Dat.leavesExact
    rw [idle_first t h0]
    exact .rfl
  · unfold Dat.leavesExact
    rw [idle_later t h0]
    cases hf : (cfg0.win 5).flush t
    · dsimp only
      iintro H
      iexists default
      rw [before0_5 m c t h0]
      iexact H
    · exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 56 := lt_of_lt_of_eq t.isLt (show cfg0.N = 56 from N_0)
  by_cases h0 : t.val % 7 = 0
  · have en : narrow m c t = k0_pay2 (k0_pay1 (iblk m c 0 t) (iblk m c 1 t)) (iblk m c 3 t) := by unfold narrow rows; rw [base_of t h0]
    rw [show rows m c ⟨t.val, t.isLt⟩ = k0_pay1 (iblk m c 0 t) (iblk m c 1 t) from by unfold rows; rw [base_of t h0]]
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ ((first_iff t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact readAS c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact readA4 c _ _ _ _ _ _ _ _ _ _ _ _ _ _ _ _ _ _ _ _ _
      iapply (leaves5 m c t); rw [en]
      unfold owns; iexists _; isplitr
      swap; · iexact H5
      ipureintro; exact readA5 c _ _ _ _ _ _ _ _ _ _ _ _ _ _ _ _ _ _ _ _ _
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ ((first_iff t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact readAS c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact readA4 c _ _ _ _ _ _ _ _ _ _ _ _ _ _ _ _ _ _ _ _ _
      iapply (leaves5 m c t); rw [en]
      unfold owns; iexists _; isplitr
      swap; · iexact H5
      ipureintro; exact readA5 c _ _ _ _ _ _ _ _ _ _ _ _ _ _ _ _ _ _ _ _ _
  · have hz : t.val ≠ 0 := by omega
    have er : rows m c ⟨t.val - 1, Nat.lt_of_le_of_lt (Nat.sub_le _ _) t.isLt⟩ = rows m c t := by unfold rows; rw [base_pred t h0]
    · rw [PhiS_castSucc m c t, PhiS_pos m c _ _ hz, er]
      simp only [before0_5 m c t h0]
      iintro ⟨⟨HS0, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ (fun h => h0 ((first_iff t).mp h)) (iblk m c 0 t) (iblk m c 1 t) (iblk m c 2 t) (iblk m c 3 t) _ _).2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact readB4 c _ _ _ _ _ _ _ _ _ _ _ _ _ _ _ _ _ _ _ _ _ _ _
      iapply (leaves5 m c t); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 56 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array of the pipeline at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged, the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.EvenInIdeal.Body

end
-- ==== Proof.EvenInValue.lean ====
module

public import proofs.«01_k».proof.Defs
public import proofs.«01_k».proof.Proof.ProjSpec
public import proofs.«01_k».proof.Proof.EvenInBody
public import proofs.«01_k».proof.Proof.Gen.EvenInReferenceIdeal.Run
public import proofs.«01_k».proof.Proof.Gen.EvenInReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.EvenInIdeal.Value

open Cert.ProjSpec Cert.EvenInIdeal Cert.EvenInIdeal.Gen Cert.EvenInIdeal.Body Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idxs : ∀ t : Fin cfg0.N, win0_0.index t = ![t.val / 7, 0] ∧ win0_1.index t = ![0, 0] ∧ win0_2.index t = ![1, 0, t.val % 7] ∧ win0_3.index t = ![1, 0, 0] :=
  (by decide +kernel : ∀ t : Fin grid0.N, _)

theorem idx4 : ∀ t : Fin cfg0.N, win0_4.index t = ![t.val / 7, t.val % 7] :=
  (by decide +kernel : ∀ t : Fin grid0.N, _)

theorem idx5 : ∀ t : Fin cfg0.N, win0_5.index t = ![t.val / 7, 0] :=
  (by decide +kernel : ∀ t : Fin grid0.N, _)

abbrev ax (c : Dev nD) : Arr ⟨3, ![2, 4096, 2048]⟩ := m ((c : Thread nD τ).loc main_arg0)
abbrev ag (c : Dev nD) : Arr ⟨2, ![4, 2048]⟩ := m ((c : Thread nD τ).loc main_arg1)
abbrev aw (c : Dev nD) : Arr ⟨3, ![2, 2048, 7176]⟩ := m ((c : Thread nD τ).loc main_arg2)

/-- The row of the array that a point's row `r` is. -/
def row (t : Fin cfg0.N) (r : Fin 1024) : Fin 8192 :=
  ⟨1024 * (t.val / 7) + r.val, by have := lt_of_lt_of_eq t.isLt (show cfg0.N = 56 from N_0); omega⟩

/-- The column of the array that a point's column `k` is. -/
def col (t : Fin cfg0.N) (k : Fin 1024) : Fin 7168 := ⟨1024 * (t.val % 7) + k.val, by omega⟩

theorem row_base (t : Fin cfg0.N) (r : Fin 1024) : row (base t) r = row t r :=
  Fin.ext (by show 1024 * (t.val / 7 * 7 / 7) + r.val = 1024 * (t.val / 7) + r.val; omega)

theorem emb0 (t : Fin cfg0.N) (r : Fin 1024) (d : Fin 2048) : ((cfg0.win 0).blk t).view.emb (ix2 r d) = ix2 (row t r) d := by
  have i0 := (idxs t).1
  refine funext fun q => ?_
  revert q
  refine Fin.forall_fin_succ.mpr ⟨?_, Fin.forall_fin_succ.mpr ⟨?_, fun q => q.elim0⟩⟩ <;> refine Fin.ext ?_ <;> blk_simp [i0, row, col] <;> simp [mul_comm]

theorem emb1 (t : Fin cfg0.N) (d : Fin 2048) : ((cfg0.win 1).blk t).view.emb (ix2 0 d) = ix2 0 d := by
  have i0 := (idxs t).2.1
  refine funext fun q => ?_
  revert q
  refine Fin.forall_fin_succ.mpr ⟨?_, Fin.forall_fin_succ.mpr ⟨?_, fun q => q.elim0⟩⟩ <;> refine Fin.ext ?_ <;> blk_simp [i0, row, col] <;> simp [mul_comm]

theorem emb2 (t : Fin cfg0.N) (d : Fin 2048) (k : Fin 1024) : ((cfg0.win 2).blk t).view.emb (ix3 0 d k) = ix3 1 d (col t k) := by
  have i0 := (idxs t).2.2.1
  refine funext fun q => ?_
  revert q
  refine Fin.forall_fin_succ.mpr ⟨?_, Fin.forall_fin_succ.mpr ⟨?_, Fin.forall_fin_succ.mpr ⟨?_, fun q => q.elim0⟩⟩⟩ <;> refine Fin.ext ?_ <;> blk_simp [i0, row, col] <;> simp [mul_comm]

theorem emb3 (t : Fin cfg0.N) (d : Fin 2048) (k : Fin 128) : ((cfg0.win 3).blk t).view.emb (ix3 0 d k) = ix3 1 d k := by
  have i0 := (idxs t).2.2.2
  refine funext fun q => ?_
  revert q
  refine Fin.forall_fin_succ.mpr ⟨?_, Fin.forall_fin_succ.mpr ⟨?_, Fin.forall_fin_succ.mpr ⟨?_, fun q => q.elim0⟩⟩⟩ <;> refine Fin.ext ?_ <;> blk_simp [i0, row, col] <;> simp [mul_comm]

open StableHlo in
theorem V_x (c : Dev nD) : V m c main_v0 = shapeCast S8192x2048 (ax m c) shapeCasts_S2x4096x2048_S8192x2048 := by
  unfold V
  simp only [hostOps0, hostOps0_1, hostOps0_2, List.flatten_cons, List.flatten_nil, List.append_nil, List.cons_append, List.nil_append, TRef.binary, TRef.unary, TRef.toBuf, TRef.ofBuf, cast_eq]
  after_results <;> rfl

open StableHlo in
theorem V_g (c : Dev nD) : V m c main_v10 = shapeCast S1x2048 (shapeCast S2048 (extractStridedSlice S1x2048 ![2, 0] (ag m c) slices_S4x2048_S1x2048_2_0) shapeCasts_S1x2048_S2048) shapeCasts_S2048_S1x2048 := by
  unfold V
  simp only [hostOps0, hostOps0_1, hostOps0_2, List.flatten_cons, List.flatten_nil, List.append_nil, List.cons_append, List.nil_append, TRef.binary, TRef.unary, TRef.toBuf, TRef.ofBuf, cast_eq]
  after_results <;> rfl

open StableHlo in
theorem V_w (c : Dev nD) : V m c main_v4 = truncf (F := Ideal) .bf16 (concatenate S2x2048x7168 2 [⟨S2x2048x3072, extractStridedSlice S2x2048x3072 ![0, 0, 0] (aw m c) slices_S2x2048x7176_S2x2048x3072_0_0_0⟩, ⟨S2x2048x4096, extractStridedSlice S2x2048x4096 ![0, 0, 3080] (aw m c) slices_S2x2048x7176_S2x2048x4096_0_0_3080⟩] concatenates_S2x2048x3072_S2x2048x4096_S2x2048x7168_d2) bitsLt_bf16_f32 := by
  unfold V
  simp only [hostOps0, hostOps0_1, hostOps0_2, List.flatten_cons, List.flatten_nil, List.append_nil, List.cons_append, List.nil_append, TRef.binary, TRef.unary, TRef.toBuf, TRef.ofBuf, cast_eq]
  after_results <;> rfl

open StableHlo in
theorem V_s (c : Dev nD) : V m c main_v9 = truncf (F := Ideal) .bf16 (pad S2x2048x128 ![0, 0, 0] ![0, 0, 120] ![0, 0, 0] (extractStridedSlice S2x2048x8 ![0, 0, 3072] (aw m c) slices_S2x2048x7176_S2x2048x8_0_0_3072) (sitofp (F := Ideal) .f32 (constantI S_ 32 0#32)) pads_S2x2048x8_S2x2048x128_000_000_01200 h_S_) bitsLt_bf16_f32 := by
  unfold V
  simp only [hostOps0, hostOps0_1, hostOps0_2, List.flatten_cons, List.flatten_nil, List.append_nil, List.cons_append, List.nil_append, TRef.binary, TRef.unary, TRef.toBuf, TRef.ofBuf, cast_eq]
  after_results <;> rfl

theorem blk0 (c : Dev nD) (t : Fin cfg0.N) (r : Fin 1024) (d : Fin 2048) : iblk m c 0 t (ix2 r d) = tok (ax m c) (row t r) d := by
  unfold tok
  show V m c (Pipeline.arrRef spec0 0) (((cfg0.win 0).blk t).view.emb (ix2 r d)) = _
  rw [show V m c (Pipeline.arrRef spec0 0) = _ from V_x m c]
  rw [emb0]
  pointwise

theorem blk1 (c : Dev nD) (t : Fin cfg0.N) (d : Fin 2048) : iblk m c 1 t (ix2 0 d) = ag m c (ix2 2 d) := by
  show V m c (Pipeline.arrRef spec0 1) (((cfg0.win 1).blk t).view.emb (ix2 0 d)) = _
  rw [show V m c (Pipeline.arrRef spec0 1) = _ from V_g m c]
  rw [emb1]
  pointwise

theorem blk2 (c : Dev nD) (t : Fin cfg0.N) (d : Fin 2048) (k : Fin 1024) : iblk m c 2 t (ix3 0 d k) = aw m c (ix3 1 d (evenCol (col t k))) := by
  show V m c (Pipeline.arrRef spec0 2) (((cfg0.win 2).blk t).view.emb (ix3 0 d k)) = _
  rw [show V m c (Pipeline.arrRef spec0 2) = _ from V_w m c]
  rw [emb2]
  pointwise
  unfold evenCol
  by_cases h : (col t k).val < 3072
  · rw [dif_pos h, dif_pos h]
  · rw [dif_neg h, dif_neg h]
    refine congrArg (fun q => aw m c (ix3 1 d q)) (Fin.ext ?_)
    show 3080 + ((col t k).val - 3072) = (col t k).val + 8
    omega

theorem sitofp_zero : (FloatOps.sitofp FTy.f32 0#32 : Ideal .f32) = 0 := by
  show (((0#32 : BitVec 32).toInt : ℝ) : EReal) = 0
  simp

theorem blk3 (c : Dev nD) (t : Fin cfg0.N) (d : Fin 2048) (k : Fin 128) :
    iblk m c 3 t (ix3 0 d k) = if h : k.val < 8 then aw m c (ix3 1 d (⟨3072 + k.val, by omega⟩ : Fin 7176)) else 0 := by
  show V m c (Pipeline.arrRef spec0 3) (((cfg0.win 3).blk t).view.emb (ix3 0 d k)) = _
  rw [show V m c (Pipeline.arrRef spec0 3) = _ from V_s m c]
  rw [emb3]
  pointwise
  by_cases h : k.val < 8
  · rw [dif_pos h, dif_pos h]
  · rw [dif_neg h, dif_neg h]
    exact sitofp_zero

/-- The normalized rows of a point. -/
theorem rows_eq (c : Dev nD) (t : Fin cfg0.N) (r : Fin 1024) (d : Fin 2048) :
    rows m c t (ix2 r d) = rn (tok (ax m c) (row t r)) (fun d => ag m c (ix2 (2 : Fin 4) d)) d := by
  unfold rows
  pointwise [k0_pay1]
  simp only [blk0, blk1, row_base, rn]

/-- What a point leaves in the wide result's block. -/
theorem main_eq (c : Dev nD) (t : Fin cfg0.N) (r k : Fin 1024) :
    (dats m 0 c).after 4 t (ix2 r k) = evenMain (ax m c) (ag m c) (aw m c) (row t r) (col t k) := by
  rw [after0_4]
  generalize hR : rows m c t = R
  pointwise [k0_pay3]
  subst hR
  simp only [rows_eq, blk2, evenMain, proj]

/-- What a point leaves in the narrow result's block. -/
theorem gate_eq (c : Dev nD) (t : Fin cfg0.N) (r : Fin 1024) (k : Fin 128) :
    (dats m 0 c).after 5 t (ix2 r k) = evenGate (ax m c) (ag m c) (aw m c) (row t r) k := by
  rw [after0_5]
  unfold narrow
  generalize hR : rows m c t = R
  pointwise [k0_pay2]
  subst hR
  simp only [rows_eq, blk3, evenGate]
  split
  · rfl
  · simp only [mul_zero, Finset.sum_const_zero]

theorem final4_of (c : Dev nD) (G : Fin 8192 → Fin 7168 → EReal) (h : ∀ t r d, (dats m 0 c).after 4 t (ix2 r d) = G (row t r) (col t d)) :
    (dats m 0 c).arrAt 4 cfg0.N = fun i : S8192x7168.Idx => G (i 0) (i 1) := by
  refine (dats m 0 c).arrAt_eq_of_covers 4 _ (by decide +kernel) fun t hf y => ?_
  have i0 : win0_4.index t = ![t.val / 7, t.val % 7] := idx4 t
  blk_simp
  idx_vars y
  refine (h t y0 y1).trans ?_
  have e : ∀ a a' b b', a = a' → b = b' → G a b = G a' b' := fun _ _ _ _ h h' => h ▸ h' ▸ rfl
  refine e _ _ _ _ (Fin.ext ?_) (Fin.ext ?_) <;> blk_simp [i0, row, col] <;> simp [mul_comm]

theorem final5_of (c : Dev nD) (G : Fin 8192 → Fin 128 → EReal) (h : ∀ t r d, (dats m 0 c).after 5 t (ix2 r d) = G (row t r) (d)) :
    (dats m 0 c).arrAt 5 cfg0.N = fun i : S8192x128.Idx => G (i 0) (i 1) := by
  refine (dats m 0 c).arrAt_eq_of_covers 5 _ (by decide +kernel) fun t hf y => ?_
  have i0 : win0_5.index t = ![t.val / 7, 0] := idx5 t
  blk_simp
  idx_vars y
  refine (h t y0 y1).trans ?_
  have e : ∀ a a' b b', a = a' → b = b' → G a b = G a' b' := fun _ _ _ _ h h' => h ▸ h' ▸ rfl
  refine e _ _ _ _ (Fin.ext ?_) (Fin.ext ?_) <;> blk_simp [i0, row] <;> simp [mul_comm]

/-- The run: the results in plain terms, the arguments unchanged. -/
theorem run_out : θ_run defs (onTc (τ := τ) (main (F := Ideal))) ⟨m, fun _ => 0, ρ⟩ fun r => ∀ c : Dev nD,
      r.2.mem ((c : Thread nD τ).loc main_v11_0) = (fun i : S8192x7168.Idx => evenMain (ax m c) (ag m c) (aw m c) (i 0) (i 1))
      ∧ r.2.mem ((c : Thread nD τ).loc main_v11_1) = (fun i : S8192x128.Idx => evenGate (ax m c) (ag m c) (aw m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 4).trans (final4_of m c (evenMain (ax m c) (ag m c) (aw m c)) (main_eq m c)),
      ((h c).1 5).trans (final5_of m c (evenGate (ax m c) (ag m c) (aw m c)) (gate_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.EvenInIdeal.Value

namespace Cert.EvenInReferenceIdeal.Value

open Cert.ProjSpec Cert.EvenInReferenceIdeal Cert.EvenInReferenceIdeal.Gen Cert.EvenInReferenceIdeal.Read Idealize.ShloMosaic

/-- The product of the normalized tokens and the weight. -/
theorem prod_eq (x0 : Arr S2x4096x2048) (x1 : Arr S4x2048) (x2 : Arr S2x2048x7176) (i : Fin 8192) (j : Fin 7176) :
    val_main_v17 (F := Ideal) x0 x1 x2 (ix3 (⟨i.val / 4096, by omega⟩ : Fin 2) (⟨i.val % 4096, by omega⟩ : Fin 4096) j)
      = proj x0 (fun d => x1 (ix2 (2 : Fin 4) d)) (fun d => x2 (ix3 (1 : Fin 2) d j)) i := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem products_eq (x0 : Arr S2x4096x2048) (x1 : Arr S4x2048) (x2 : Arr S2x2048x7176) (i : S8192x7168.Idx) : val_main_v23 (F := Ideal) x0 x1 x2 i = evenMain x0 x1 x2 (i 0) (i 1) := by
  idx_vars i
  generalize hp : val_main_v17 (F := Ideal) x0 x1 x2 = p
  have hq := prod_eq x0 x1 x2
  rw [hp] at hq
  unfold val_main_v23 val_main_v20 val_main_v19 val_main_v18
  rw [hp]
  pointwise
  unfold evenMain evenCol
  by_cases h : i1.val < 3072
  · simp only [dif_pos h, hq]
  · simp only [dif_neg h, hq]
    have e : (⟨3080 + (i1.val - 3072), by omega⟩ : Fin 7176) = ⟨i1.val + 8, by omega⟩ := Fin.ext (by show 3080 + (i1.val - 3072) = i1.val + 8; omega)
    rw [e]

theorem gates_eq (x0 : Arr S2x4096x2048) (x1 : Arr S4x2048) (x2 : Arr S2x2048x7176) (i : S8192x128.Idx) : val_main_v24 (F := Ideal) x0 x1 x2 i = evenGate x0 x1 x2 (i 0) (i 1) := by
  idx_vars i
  generalize hp : val_main_v17 (F := Ideal) x0 x1 x2 = p
  have hq := prod_eq x0 x1 x2
  rw [hp] at hq
  unfold val_main_v24 val_main_v22 val_main_v21 val_main_call0_v0 val_main_c
  rw [hp]
  pointwise
  unfold evenGate
  by_cases h : i1.val < 8
  · simp only [dif_pos h, hq]
    exact dif_pos ⟨by omega, by omega, h⟩
  · simp only [dif_neg h, hq]
    refine (dif_neg (fun a => h a.2.2)).trans ?_
    exact Cert.EvenInIdeal.Value.sitofp_zero

end Cert.EvenInReferenceIdeal.Value
end
-- ==== Proof.EvenOutValue.lean ====
module

public import proofs.«01_k».proof.Defs
public import proofs.«01_k».proof.Proof.ProjSpec
public import proofs.«01_k».proof.Proof.Gen.EvenOutIdeal.Value
public import proofs.«01_k».proof.Proof.Gen.EvenOutReferenceIdeal.Run
public import proofs.«01_k».proof.Proof.Gen.EvenOutReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.EvenOutIdeal.Value

open Cert.ProjSpec Cert.EvenOutIdeal Cert.EvenOutIdeal.Gen Idealize.ShloMosaic Idealize.ShloMosaic.TcCoe Idealize.SL.Sem

variable (m : (ℓ : Loc nD τ sig) → Buf (Elt Ideal) ℓ) (ρ : Dev nD → PrngReg)

theorem idxs : ∀ t : Fin cfg0.N, win0_0.index t = ![t.val, 0] ∧ win0_1.index t = ![t.val, 0]
    ∧ win0_2.index t = ![1, 0, 0] ∧ win0_3.index t = ![1, 1, 0] ∧ win0_4.index t = ![t.val, 0] :=
  (by decide +kernel : ∀ t : Fin grid0.N, _)

theorem idx5 : ∀ t : Fin cfg0.N, win0_5.index t = ![t.val, 0] :=
  (by decide +kernel : ∀ t : Fin grid0.N, _)

abbrev aa (c : Dev nD) : Arr ⟨3, ![2, 4096, 1024]⟩ := m ((c : Thread nD τ).loc main_arg0)
abbrev ab (c : Dev nD) : Arr ⟨3, ![2, 4096, 1024]⟩ := m ((c : Thread nD τ).loc main_arg1)
abbrev aw (c : Dev nD) : Arr ⟨3, ![2, 2048, 2048]⟩ := m ((c : Thread nD τ).loc main_arg2)
abbrev ax (c : Dev nD) : Arr ⟨3, ![2, 4096, 2048]⟩ := m ((c : Thread nD τ).loc main_arg3)

/-- The row of the array that a point's row `r` is. -/
def row (t : Fin cfg0.N) (r : Fin 512) : Fin 8192 :=
  ⟨512 * t.val + r.val, by have := lt_of_lt_of_eq t.isLt (show cfg0.N = 16 from N_0); omega⟩

theorem blk0 (c : Dev nD) (t : Fin cfg0.N) (r : Fin 512) (d : Fin 1024) : iblk m c 0 t (ix2 r d) = tok (aa m c) (row t r) d := by
  unfold tok row
  blk_ext! [iblk, V, (idxs t).1]

theorem blk1 (c : Dev nD) (t : Fin cfg0.N) (r : Fin 512) (d : Fin 1024) : iblk m c 1 t (ix2 r d) = tok (ab m c) (row t r) d := by
  unfold tok row
  blk_ext! [iblk, V, (idxs t).2.1]

theorem blk2 (c : Dev nD) (t : Fin cfg0.N) (k : Fin 1024) (d : Fin 2048) :
    iblk m c 2 t (ix3 0 k d) = aw m c (ix3 1 (⟨k.val, by omega⟩ : Fin 2048) d) := by
  blk_ext! [iblk, V, (idxs t).2.2.1]

theorem blk3 (c : Dev nD) (t : Fin cfg0.N) (k : Fin 1024) (d : Fin 2048) :
    iblk m c 3 t (ix3 0 k d) = aw m c (ix3 1 (⟨1024 + k.val, by omega⟩ : Fin 2048) d) := by
  blk_ext! [iblk, V, (idxs t).2.2.2.1]

theorem blk4 (c : Dev nD) (t : Fin cfg0.N) (r : Fin 512) (d : Fin 2048) : iblk m c 4 t (ix2 r d) = tok (ax m c) (row t r) d := by
  unfold tok row
  blk_ext! [iblk, V, (idxs t).2.2.2.2]

/-- What a point leaves. -/
theorem out_eq (c : Dev nD) (t : Fin cfg0.N) (r : Fin 512) (d : Fin 2048) :
    (dats m 0 c).after 5 t (ix2 r d) = evenOut (aa m c) (ab m c) (aw m c) (ax m c) (row t r) d := by
  rw [after0_5]
  frame_out
  pointwise [k0_pay1]
  simp only [blk0, blk1, blk2, blk3, blk4, evenOut]

theorem final5_of (c : Dev nD) (G : Fin 8192 → Fin 2048 → EReal) (h : ∀ t r d, (dats m 0 c).after 5 t (ix2 r d) = G (row t r) (d)) :
    (dats m 0 c).arrAt 5 cfg0.N = fun i : S8192x2048.Idx => G (i 0) (i 1) := by
  refine (dats m 0 c).arrAt_eq_of_covers 5 _ (by decide +kernel) fun t hf y => ?_
  have i0 : win0_5.index t = ![t.val, 0] := idx5 t
  blk_simp
  idx_vars y
  refine (h t y0 y1).trans ?_
  have e : ∀ a a' b b', a = a' → b = b' → G a b = G a' b' := fun _ _ _ _ h h' => h ▸ h' ▸ rfl
  refine e _ _ _ _ (Fin.ext ?_) (Fin.ext ?_) <;> blk_simp [i0, row] <;> simp [mul_comm]

/-- The run: the result in plain terms, the arguments unchanged. -/
theorem run_out : θ_run defs (onTc (τ := τ) (main (F := Ideal))) ⟨m, fun _ => 0, ρ⟩ fun r => ∀ c : Dev nD,
      r.2.mem ((c : Thread nD τ).loc main_v4) = (fun i : S8192x2048.Idx => evenOut (aa m c) (ab m c) (aw m c) (ax m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final5_of m c (evenOut (aa m c) (ab m c) (aw m c) (ax m c)) (out_eq m c)), (h c).2⟩) (run_blocks m ρ)

end Cert.EvenOutIdeal.Value

namespace Cert.EvenOutReferenceIdeal.Value

open Cert.ProjSpec Cert.EvenOutReferenceIdeal Cert.EvenOutReferenceIdeal.Gen Cert.EvenOutReferenceIdeal.Read Idealize.ShloMosaic

theorem val_eq (x0 x1 : Arr S2x4096x1024) (x2 : Arr S2x2048x2048) (x3 : Arr S2x4096x2048) (i : S8192x2048.Idx) :
    val_main_v7 (F := Ideal) x0 x1 x2 x3 i = evenOut x0 x1 x2 x3 (i 0) (i 1) := by
  idx_vars i
  pointwise [val_main_v7, val_main_v6, val_main_v5, val_main_v4, val_main_v3]
  unfold evenOut tok
  rw [add_assoc]
  congr 1
  refine (Fin.sum_univ_add (a := 1024) (b := 1024) _).trans (congrArg₂ (· + ·) (Finset.sum_congr rfl fun k _ => ?_) (Finset.sum_congr rfl fun k _ => ?_))
  · congr 1
    have hk : (Fin.castAdd 1024 k).val < 1024 := k.isLt
    pointwise [val_main_v2, val_main_v1, val_main_v0]
    rw [dif_pos hk]
    rfl
  · congr 1
    have hk : ¬(Fin.natAdd 1024 k).val < 1024 := by show ¬(1024 + k.val < 1024); omega
    pointwise [val_main_v2, val_main_v1, val_main_v0]
    rw [dif_neg hk]
    have : (⟨(Fin.natAdd 1024 k).val - 1024, by show 1024 + k.val - 1024 < 1024; omega⟩ : Fin 1024) = k := Fin.ext (by show 1024 + k.val - 1024 = k.val; omega)
    exact congrArg (fun q => x1 (ix3 _ _ q)) this

end Cert.EvenOutReferenceIdeal.Value
end
-- ==== Proof.OddInBody.lean ====
module

public import proofs.«01_k».proof.Proof.Gen.OddInIdeal.Frame
public import proofs.«01_k».proof.Proof.Gen.OddInIdeal.Skeleton
public import Idealize.ShloMosaic.Lib.Claim
public import Idealize.ShloMosaic.Lib.Pipeline.Value
public import Idealize.ShloMosaic.Lib.Pipeline.ValueKit.Acc

@[expose] public section

set_option maxRecDepth 16384

noncomputable section

/-! The projection with a second, narrow result: the body at each grid point, the run, and what each window holds.
The row block is normalized at the first point of its run of 5 points into the scratch, and the narrow product is
stored there; the later points of the run only read the scratch, and leave the narrow result's buffer alone. -/

namespace Cert.OddInIdeal.Body

open Cert.OddInIdeal Cert.OddInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch's condition at a grid point. -/
abbrev first (i : grid0.Coords) : Prop := (Scalar.cmpi .ne (Scalar.extui (Scalar.cmpi .eq (BitVec.ofNat 32 (i 1).val) 0#32)) 0#32) = 1#1

/-- It holds at the first point of each run. -/
theorem first_iff : ∀ t : Fin cfg0.N, first (grid0.coords t) ↔ t.val % 5 = 0 :=
  (fun t => by
    have ht : t.val < 40 := Nat.lt_of_lt_of_eq t.isLt N_0
    have e0 : (grid0.coords t 0).val = t.val / 5 % 8 := Pipeline.Grid.coords_val t 0 (by decide) rfl
    have e1 : (grid0.coords t 1).val = t.val / 1 % 5 := Pipeline.Grid.coords_val t 1 (by decide) rfl
    simp only [first, e0, e1]
    word_cmp
   : ∀ t : Fin grid0.N, first (grid0.coords t) ↔ t.val % 5 = 0)

/-- The scratch. -/
abbrev scr : Memref sig .tc .vmem S1024x2048 .bf16 := Memref.whole cc0_scratch0

theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

set_option maxHeartbeats 1000000 in
/-- The body at the first point of a run: what it stores into the two results and the scratch. -/
noncomputable def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : first i)
    (x0 : Vec F S1024x2048 .f32) (x1 : Vec F S1x2048 .f32) (x2 : Vec F S1x1024x2048 .bf16) (x3 : Vec F S1x2048x512 .bf16) :
    Σ' (L4 : List (View.Piece (Elt F) S1024x1024 .f32)) (L5 : List (View.Piece (Elt F) S1024x512 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0_rms_matmul i arg2 harg2 arg3 harg3 arg4 harg4 arg5 harg5 arg6 harg6 arg7 harg7 arg8 harg8) K } := by
  refine ⟨?_, ?_, ?_, fun E K => ?run⟩
  case run =>
    simp only [cc0_rms_matmul_eq_skeleton]; unfold cc0_rms_matmul_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

set_option maxHeartbeats 1000000 in
/-- The body at a later point: the scratch read, the narrow result's buffer left alone. -/
noncomputable def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : ¬first i)
    (x0 : Vec F S1024x2048 .f32) (x1 : Vec F S1x2048 .f32) (x2 : Vec F S1x1024x2048 .bf16) (x3 : Vec F S1x2048x512 .bf16) (x5 : Vec F S1024x512 .f32) (xs : Vec F S1024x2048 .bf16) :
    { L4 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare x5 ∗ owns (c : Thread nD τ) arg8 fullShare xs) -∗ K ⟨⟩))
          ⊢ wp frame (wpE (defs₀ (F := F)) Variants.none c none) E (cc0_rms_matmul i arg2 harg2 arg3 harg3 arg4 harg4 arg5 harg5 arg6 harg6 arg7 harg7 arg8 harg8) K } := by
  refine ⟨?_, fun E K => ?run⟩
  case run =>
    simp only [cc0_rms_matmul_eq_skeleton]; unfold cc0_rms_matmul_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS0

theorem coverA4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x1024x2048 .bf16) (x3 : Vec F S1x2048x512 .bf16) (y : S1024x1024.Idx) :
    ∃ pc ∈ (runA c i arg2 harg2 arg3 harg3 arg4 harg4 arg5 harg5 arg6 harg6 arg7 harg7 arg8 harg8 hc0 x0 x1 x2 x3).1, y ∈ pc.1.set :=
  View.cover_of_tiledL (runA c i arg2 harg2 arg3 harg3 arg4 harg4 arg5 harg5 arg6 harg6 arg7 harg7 arg8 harg8 hc0 x0 x1 x2 x3).1 S1024x1024.size (by sl_kernel_rfl) y

theorem coverA5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x1024x2048 .bf16) (x3 : Vec F S1x2048x512 .bf16) (y : S1024x512.Idx) :
    ∃ pc ∈ (runA c i arg2 harg2 arg3 harg3 arg4 harg4 arg5 harg5 arg6 harg6 arg7 harg7 arg8 harg8 hc0 x0 x1 x2 x3).2.1, y ∈ pc.1.set :=
  View.cover_of_tiledL (runA c i arg2 harg2 arg3 harg3 arg4 harg4 arg5 harg5 arg6 harg6 arg7 harg7 arg8 harg8 hc0 x0 x1 x2 x3).2.1 S1024x512.size (by sl_kernel_rfl) y

theorem coverAS (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x1024x2048 .bf16) (x3 : Vec F S1x2048x512 .bf16) (y : S1024x2048.Idx) :
    ∃ pc ∈ (runA c i arg2 harg2 arg3 harg3 arg4 harg4 arg5 harg5 arg6 harg6 arg7 harg7 arg8 harg8 hc0 x0 x1 x2 x3).2.2.1, y ∈ pc.1.set :=
  View.cover_of_tiledL (runA c i arg2 harg2 arg3 harg3 arg4 harg4 arg5 harg5 arg6 harg6 arg7 harg7 arg8 harg8 hc0 x0 x1 x2 x3).2.2.1 S1024x2048.size (by sl_kernel_rfl) y

theorem coverB4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : ¬first i) (x0 : Vec F S1024x2048 .f32) (x1 : Vec F S1x2048 .f32) (x2 : Vec F S1x1024x2048 .bf16) (x3 : Vec F S1x2048x512 .bf16) (x5 : Vec F S1024x512 .f32) (xs : Vec F S1024x2048 .bf16) (y : S1024x1024.Idx) :
    ∃ pc ∈ (runB c i arg2 harg2 arg3 harg3 arg4 harg4 arg5 harg5 arg6 harg6 arg7 harg7 arg8 harg8 hc0 x0 x1 x2 x3 x5 xs).1, y ∈ pc.1.set :=
  View.cover_of_tiledL (runB c i arg2 harg2 arg3 harg3 arg4 harg4 arg5 harg5 arg6 harg6 arg7 harg7 arg8 harg8 hc0 x0 x1 x2 x3 x5 xs).1 S1024x1024.size (by sl_kernel_rfl) y

abbrev VO4 : View sig .tc .vmem S1024x1024 .f32 := (Memref.whole cc0_stg4_0 : Memref sig .tc .vmem S1024x1024 .f32).view

abbrev VO5 : View sig .tc .vmem S1024x512 .f32 := (Memref.whole cc0_stg5_0 : Memref sig .tc .vmem S1024x512 .f32).view

abbrev VOS : View sig .tc .vmem S1024x2048 .bf16 := (Memref.whole cc0_scratch0 : Memref sig .tc .vmem S1024x2048 .bf16).view

theorem readA4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x1024x2048 .bf16) (x3 : Vec F S1x2048x512 .bf16) (f) :
    arg6.view.read (Elt F) (arg6.view.writes (Elt F) f (runA c i arg2 harg2 arg3 harg3 arg4 harg4 arg5 harg5 arg6 harg6 arg7 harg7 arg8 harg8 hc0 x0 x1 x2 x3).1) = k0_pay3 (k0_pay1 x0 x1) x2 := by
  rw [View.read_writes_of_cover arg6.view f VO4 VO4.junk _ (coverA4 c i arg2 harg2 arg3 harg3 arg4 harg4 arg5 harg5 arg6 harg6 arg7 harg7 arg8 harg8 hc0 x0 x1 x2 x3)]
  frame_out

theorem readA5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x1024x2048 .bf16) (x3 : Vec F S1x2048x512 .bf16) (f) :
    arg7.view.read (Elt F) (arg7.view.writes (Elt F) f (runA c i arg2 harg2 arg3 harg3 arg4 harg4 arg5 harg5 arg6 harg6 arg7 harg7 arg8 harg8 hc0 x0 x1 x2 x3).2.1) = k0_pay2 (k0_pay1 x0 x1) x3 := by
  rw [View.read_writes_of_cover arg7.view f VO5 VO5.junk _ (coverA5 c i arg2 harg2 arg3 harg3 arg4 harg4 arg5 harg5 arg6 harg6 arg7 harg7 arg8 harg8 hc0 x0 x1 x2 x3)]
  frame_out

theorem readAS (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : first i) (x0 : Vec F S1024x2048 .f32) (x1 : Vec F S1x2048 .f32) (x2 : Vec F S1x1024x2048 .bf16) (x3 : Vec F S1x2048x512 .bf16) (f) :
    arg8.view.read (Elt F) (arg8.view.writes (Elt F) f (runA c i arg2 harg2 arg3 harg3 arg4 harg4 arg5 harg5 arg6 harg6 arg7 harg7 arg8 harg8 hc0 x0 x1 x2 x3).2.2.1) = k0_pay1 x0 x1 := by
  rw [View.read_writes_of_cover arg8.view f VOS VOS.junk _ (coverAS c i arg2 harg2 arg3 harg3 arg4 harg4 arg5 harg5 arg6 harg6 arg7 harg7 arg8 harg8 hc0 x0 x1 x2 x3)]
  frame_out

theorem readB4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x2048x512 .bf16) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x2048 .bf16) (harg8 : arg8.IsWhole) (hc0 : ¬first i) (x0 : Vec F S1024x2048 .f32) (x1 : Vec F S1x2048 .f32) (x2 : Vec F S1x1024x2048 .bf16) (x3 : Vec F S1x2048x512 .bf16) (x5 : Vec F S1024x512 .f32) (xs : Vec F S1024x2048 .bf16) (f) :
    arg6.view.read (Elt F) (arg6.view.writes (Elt F) f (runB c i arg2 harg2 arg3 harg3 arg4 harg4 arg5 harg5 arg6 harg6 arg7 harg7 arg8 harg8 hc0 x0 x1 x2 x3 x5 xs).1) = k0_pay3 xs x2 := by
  rw [View.read_writes_of_cover arg6.view f VO4 VO4.junk _ (coverB4 c i arg2 harg2 arg3 harg3 arg4 harg4 arg5 harg5 arg6 harg6 arg7 harg7 arg8 harg8 hc0 x0 x1 x2 x3 x5 xs)]
  frame_out

/-! ## What the buffers hold -/

/-- The first point of `t`'s run. -/
def base (t : Fin cfg0.N) : Fin cfg0.N := ⟨t.val / 5 * 5, Nat.lt_of_le_of_lt (Nat.div_mul_le_self _ _) t.isLt⟩

theorem base_of (t : Fin cfg0.N) (h : t.val % 5 = 0) : base t = t := Fin.ext (by show t.val / 5 * 5 = t.val; omega)

theorem base_pred (t : Fin cfg0.N) (h : ¬t.val % 5 = 0) (h' : t.val - 1 < cfg0.N) : base ⟨t.val - 1, h'⟩ = base t :=
  Fin.ext (by show (t.val - 1) / 5 * 5 = t.val / 5 * 5; omega)

/-- The normalized rows of `t`'s block. -/
def rows (c : Dev nD) (t : Fin cfg0.N) : Vec F S1024x2048 .bf16 := k0_pay1 (iblk m c 0 (base t)) (iblk m c 1 (base t))

/-- The narrow product of `t`'s block. -/
def narrow (c : Dev nD) (t : Fin cfg0.N) : Vec F S1024x512 .f32 := k0_pay2 (rows m c t) (iblk m c 3 (base t))

/-- Before a point: the scratch at the rows of the point before. -/
def PhiS (c : Dev nD) : (n : ℕ) → n ≤ cfg0.N → sProp 𝕄
  | 0, _ => Pipeline.ΦA spec0 c
  | n + 1, hn => iprop(iprop(owns (c : Thread nD τ) scr fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (rows m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scr fullShare (rows m c ⟨n - 1, by omega⟩)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (rows m c t) (iblk m c 2 t)
    | ⟨5, _⟩ => narrow m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (rows m c t) (iblk m c 2 t) := by dsimp only [dats]
theorem after0_5 (c : Dev nD) (t : Fin cfg0.N) : (dats m 0 c).after 5 t = narrow m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem idle_first (t : Fin cfg0.N) (h : t.val % 5 = 0) : cfg0.idle 5 (cfg0.grid.coords t) = false := by
  show (!(_ == _)) = false
  rw [Bool.not_eq_false', beq_iff_eq]
  exact (first_iff t).mpr h

theorem idle_later (t : Fin cfg0.N) (h : ¬t.val % 5 = 0) : cfg0.idle 5 (cfg0.grid.coords t) = true := by
  show (!(_ == _)) = true
  rw [Bool.not_eq_true', beq_eq_false_iff_ne]
  exact fun h' => h ((first_iff t).mp h')

/-- At a later point of a run the narrow result's buffer holds what the point before left. -/
theorem before0_5 (c : Dev nD) (t : Fin cfg0.N) (h0 : ¬t.val % 5 = 0) (d) :
    (dats m 0 c).before 5 t d = narrow m c t := by
  have hN : t.val < 40 := lt_of_lt_of_eq t.isLt (show cfg0.N = 40 from N_0)
  clear hN
  obtain ⟨n, hn⟩ := t
  induction n with
  | zero => exact absurd (Nat.zero_mod _) h0
  | succ k ih =>
    have hk : k < cfg0.N := Nat.lt_of_succ_lt hn
    have hN : k + 1 < 40 := lt_of_lt_of_eq hn (show cfg0.N = 40 from N_0)
    have e : narrow m c ⟨k, hk⟩ = narrow m c ⟨k + 1, hn⟩ := by
      have := base_pred ⟨k + 1, hn⟩ h0 hk
      unfold narrow rows; rw [show (⟨k, hk⟩ : Fin cfg0.N) = ⟨k + 1 - 1, hk⟩ from rfl, this]
    rw [Dat.before_of_pos _ 5 _ (Nat.succ_ne_zero k) rfl, if_neg fun h => by
      have := (flush0_5 _).mp h; dsimp only at this h0; omega]
    show (dats m 0 c).left 5 ⟨k, hk⟩ d = _
    unfold Dat.left
    by_cases hk0 : k % 5 = 0
    · rw [idle_first ⟨k, hk⟩ hk0]
      exact (after0_5 m c ⟨k, hk⟩).trans e
    · rw [idle_later ⟨k, hk⟩ hk0]
      exact (ih hk hk0).trans e

/-- What the body must leave in the narrow result's buffer. -/
theorem leaves5 (c : Dev nD) (t : Fin cfg0.N) :
    owns (c : Thread nD τ) (st0_5 t) fullShare (narrow m c t) ⊢ ((dats m 0 c).leavesExact 5 t : sProp 𝕄) := by
  by_cases h0 : t.val % 5 = 0
  · unfold Dat.leavesExact
    rw [idle_first t h0]
    exact .rfl
  · unfold Dat.leavesExact
    rw [idle_later t h0]
    cases hf : (cfg0.win 5).flush t
    · dsimp only
      iintro H
      iexists default
      rw [before0_5 m c t h0]
      iexact H
    · exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 40 := lt_of_lt_of_eq t.isLt (show cfg0.N = 40 from N_0)
  by_cases h0 : t.val % 5 = 0
  · have en : narrow m c t = k0_pay2 (k0_pay1 (iblk m c 0 t) (iblk m c 1 t)) (iblk m c 3 t) := by unfold narrow rows; rw [base_of t h0]
    rw [show rows m c ⟨t.val, t.isLt⟩ = k0_pay1 (iblk m c 0 t) (iblk m c 1 t) from by unfold rows; rw [base_of t h0]]
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ ((first_iff t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact readAS c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact readA4 c _ _ _ _ _ _ _ _ _ _ _ _ _ _ _ _ _ _ _ _ _
      iapply (leaves5 m c t); rw [en]
      unfold owns; iexists _; isplitr
      swap; · iexact H5
      ipureintro; exact readA5 c _ _ _ _ _ _ _ _ _ _ _ _ _ _ _ _ _ _ _ _ _
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ ((first_iff t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact readAS c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact readA4 c _ _ _ _ _ _ _ _ _ _ _ _ _ _ _ _ _ _ _ _ _
      iapply (leaves5 m c t); rw [en]
      unfold owns; iexists _; isplitr
      swap; · iexact H5
      ipureintro; exact readA5 c _ _ _ _ _ _ _ _ _ _ _ _ _ _ _ _ _ _ _ _ _
  · have hz : t.val ≠ 0 := by omega
    have er : rows m c ⟨t.val - 1, Nat.lt_of_le_of_lt (Nat.sub_le _ _) t.isLt⟩ = rows m c t := by unfold rows; rw [base_pred t h0]
    · rw [PhiS_castSucc m c t, PhiS_pos m c _ _ hz, er]
      simp only [before0_5 m c t h0]
      iintro ⟨⟨HS0, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ (fun h => h0 ((first_iff t).mp h)) (iblk m c 0 t) (iblk m c 1 t) (iblk m c 2 t) (iblk m c 3 t) _ _).2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact readB4 c _ _ _ _ _ _ _ _ _ _ _ _ _ _ _ _ _ _ _ _ _ _ _
      iapply (leaves5 m c t); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 40 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array of the pipeline at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged, the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.OddInIdeal.Body

end
-- ==== Proof.OddInValue.lean ====
module

public import proofs.«01_k».proof.Defs
public import proofs.«01_k».proof.Proof.ProjSpec
public import proofs.«01_k».proof.Proof.OddInBody
public import proofs.«01_k».proof.Proof.Gen.OddInReferenceIdeal.Run
public import proofs.«01_k».proof.Proof.Gen.OddInReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OddInIdeal.Value

open Cert.ProjSpec Cert.OddInIdeal Cert.OddInIdeal.Gen Cert.OddInIdeal.Body Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idxs : ∀ t : Fin cfg0.N, win0_0.index t = ![t.val / 5, 0] ∧ win0_1.index t = ![0, 0] ∧ win0_2.index t = ![1, t.val % 5, 0] ∧ win0_3.index t = ![1, 0, 0] :=
  (by decide +kernel : ∀ t : Fin grid0.N, _)

theorem idx4 : ∀ t : Fin cfg0.N, win0_4.index t = ![t.val / 5, t.val % 5] :=
  (by decide +kernel : ∀ t : Fin grid0.N, _)

theorem idx5 : ∀ t : Fin cfg0.N, win0_5.index t = ![t.val / 5, 0] :=
  (by decide +kernel : ∀ t : Fin grid0.N, _)

abbrev ax (c : Dev nD) : Arr ⟨3, ![2, 4096, 2048]⟩ := m ((c : Thread nD τ).loc main_arg0)
abbrev ag (c : Dev nD) : Arr ⟨2, ![4, 2048]⟩ := m ((c : Thread nD τ).loc main_arg1)
abbrev aw (c : Dev nD) : Arr ⟨3, ![2, 2048, 5168]⟩ := m ((c : Thread nD τ).loc main_arg2)

/-- The row of the array that a point's row `r` is. -/
def row (t : Fin cfg0.N) (r : Fin 1024) : Fin 8192 :=
  ⟨1024 * (t.val / 5) + r.val, by have := lt_of_lt_of_eq t.isLt (show cfg0.N = 40 from N_0); omega⟩

/-- The column of the array that a point's column `k` is. -/
def col (t : Fin cfg0.N) (k : Fin 1024) : Fin 5120 := ⟨1024 * (t.val % 5) + k.val, by omega⟩

theorem row_base (t : Fin cfg0.N) (r : Fin 1024) : row (base t) r = row t r :=
  Fin.ext (by show 1024 * (t.val / 5 * 5 / 5) + r.val = 1024 * (t.val / 5) + r.val; omega)

theorem emb0 (t : Fin cfg0.N) (r : Fin 1024) (d : Fin 2048) : ((cfg0.win 0).blk t).view.emb (ix2 r d) = ix2 (row t r) d := by
  have i0 := (idxs t).1
  refine funext fun q => ?_
  revert q
  refine Fin.forall_fin_succ.mpr ⟨?_, Fin.forall_fin_succ.mpr ⟨?_, fun q => q.elim0⟩⟩ <;> refine Fin.ext ?_ <;> blk_simp [i0, row, col] <;> simp [mul_comm]

theorem emb1 (t : Fin cfg0.N) (d : Fin 2048) : ((cfg0.win 1).blk t).view.emb (ix2 0 d) = ix2 0 d := by
  have i0 := (idxs t).2.1
  refine funext fun q => ?_
  revert q
  refine Fin.forall_fin_succ.mpr ⟨?_, Fin.forall_fin_succ.mpr ⟨?_, fun q => q.elim0⟩⟩ <;> refine Fin.ext ?_ <;> blk_simp [i0, row, col] <;> simp [mul_comm]

theorem emb2 (t : Fin cfg0.N) (d : Fin 2048) (k : Fin 1024) : ((cfg0.win 2).blk t).view.emb (ix3 0 k d) = ix3 1 (col t k) d := by
  have i0 := (idxs t).2.2.1
  refine funext fun q => ?_
  revert q
  refine Fin.forall_fin_succ.mpr ⟨?_, Fin.forall_fin_succ.mpr ⟨?_, Fin.forall_fin_succ.mpr ⟨?_, fun q => q.elim0⟩⟩⟩ <;> refine Fin.ext ?_ <;> blk_simp [i0, row, col] <;> simp [mul_comm]

theorem emb3 (t : Fin cfg0.N) (d : Fin 2048) (k : Fin 512) : ((cfg0.win 3).blk t).view.emb (ix3 0 d k) = ix3 1 d k := by
  have i0 := (idxs t).2.2.2
  refine funext fun q => ?_
  revert q
  refine Fin.forall_fin_succ.mpr ⟨?_, Fin.forall_fin_succ.mpr ⟨?_, Fin.forall_fin_succ.mpr ⟨?_, fun q => q.elim0⟩⟩⟩ <;> refine Fin.ext ?_ <;> blk_simp [i0, row, col] <;> simp [mul_comm]

open StableHlo in
theorem V_x (c : Dev nD) : V m c main_v0 = shapeCast S8192x2048 (ax m c) shapeCasts_S2x4096x2048_S8192x2048 := by
  unfold V
  simp only [hostOps0, hostOps0_1, hostOps0_2, List.flatten_cons, List.flatten_nil, List.append_nil, List.cons_append, List.nil_append, TRef.binary, TRef.unary, TRef.toBuf, TRef.ofBuf, cast_eq]
  after_results <;> rfl

open StableHlo in
theorem V_g (c : Dev nD) : V m c main_v11 = shapeCast S1x2048 (shapeCast S2048 (extractStridedSlice S1x2048 ![3, 0] (ag m c) slices_S4x2048_S1x2048_3_0) shapeCasts_S1x2048_S2048) shapeCasts_S2048_S1x2048 := by
  unfold V
  simp only [hostOps0, hostOps0_1, hostOps0_2, List.flatten_cons, List.flatten_nil, List.append_nil, List.cons_append, List.nil_append, TRef.binary, TRef.unary, TRef.toBuf, TRef.ofBuf, cast_eq]
  after_results <;> rfl

open StableHlo in
theorem V_w (c : Dev nD) : V m c main_v7 = truncf (F := Ideal) .bf16 (transpose S2x5120x2048 [0, 2, 1] (extractStridedSlice S2x2048x5120 ![0, 0, 0] (aw m c) slices_S2x2048x5168_S2x2048x5120_0_0_0) transposes_S2x2048x5120_S2x5120x2048_0_2_1) bitsLt_bf16_f32 := by
  unfold V
  simp only [hostOps0, hostOps0_1, hostOps0_2, List.flatten_cons, List.flatten_nil, List.append_nil, List.cons_append, List.nil_append, TRef.binary, TRef.unary, TRef.toBuf, TRef.ofBuf, cast_eq]
  after_results <;> rfl

open StableHlo in
theorem V_s (c : Dev nD) : V m c main_v10 = truncf (F := Ideal) .bf16 (shapeCast S2x2048x512 (pad S2x2048x4x128 ![0, 0, 0, 0] ![0, 0, 0, 116] ![0, 0, 0, 0] (shapeCast S2x2048x4x12 (extractStridedSlice S2x2048x48 ![0, 0, 5120] (aw m c) slices_S2x2048x5168_S2x2048x48_0_0_5120) shapeCasts_S2x2048x48_S2x2048x4x12) (sitofp (F := Ideal) .f32 (constantI S_ 32 0#32)) pads_S2x2048x4x12_S2x2048x4x128_000_000_000_01160 h_S_) shapeCasts_S2x2048x4x128_S2x2048x512) bitsLt_bf16_f32 := by
  unfold V
  simp only [hostOps0, hostOps0_1, hostOps0_2, List.flatten_cons, List.flatten_nil, List.append_nil, List.cons_append, List.nil_append, TRef.binary, TRef.unary, TRef.toBuf, TRef.ofBuf, cast_eq]
  after_results <;> rfl

theorem blk0 (c : Dev nD) (t : Fin cfg0.N) (r : Fin 1024) (d : Fin 2048) : iblk m c 0 t (ix2 r d) = tok (ax m c) (row t r) d := by
  unfold tok
  show V m c (Pipeline.arrRef spec0 0) (((cfg0.win 0).blk t).view.emb (ix2 r d)) = _
  rw [show V m c (Pipeline.arrRef spec0 0) = _ from V_x m c]
  rw [emb0]
  pointwise

theorem blk1 (c : Dev nD) (t : Fin cfg0.N) (d : Fin 2048) : iblk m c 1 t (ix2 0 d) = ag m c (ix2 3 d) := by
  show V m c (Pipeline.arrRef spec0 1) (((cfg0.win 1).blk t).view.emb (ix2 0 d)) = _
  rw [show V m c (Pipeline.arrRef spec0 1) = _ from V_g m c]
  rw [emb1]
  pointwise

theorem blk2 (c : Dev nD) (t : Fin cfg0.N) (d : Fin 2048) (k : Fin 1024) : iblk m c 2 t (ix3 0 k d) = aw m c (ix3 1 d (⟨(col t k).val, by omega⟩ : Fin 5168)) := by
  show V m c (Pipeline.arrRef spec0 2) (((cfg0.win 2).blk t).view.emb (ix3 0 k d)) = _
  rw [show V m c (Pipeline.arrRef spec0 2) = _ from V_w m c]
  rw [emb2]
  pointwise

theorem sitofp_zero : (FloatOps.sitofp FTy.f32 0#32 : Ideal .f32) = 0 := by
  show (((0#32 : BitVec 32).toInt : ℝ) : EReal) = 0
  simp

theorem blk3 (c : Dev nD) (t : Fin cfg0.N) (d : Fin 2048) (k : Fin 512) :
    iblk m c 3 t (ix3 0 d k) = if h : k.val % 128 < 12 then aw m c (ix3 1 d (⟨5120 + (k.val / 128 * 12 + k.val % 128), by omega⟩ : Fin 5168)) else 0 := by
  show V m c (Pipeline.arrRef spec0 3) (((cfg0.win 3).blk t).view.emb (ix3 0 d k)) = _
  rw [show V m c (Pipeline.arrRef spec0 3) = _ from V_s m c]
  rw [emb3]
  pointwise
  by_cases h : k.val % 128 < 12
  · rw [dif_pos ⟨by omega, h⟩, dif_pos h]
  · rw [dif_neg fun h' => h h'.2, dif_neg h]
    exact sitofp_zero

/-- The normalized rows of a point. -/
theorem rows_eq (c : Dev nD) (t : Fin cfg0.N) (r : Fin 1024) (d : Fin 2048) :
    rows m c t (ix2 r d) = rn (tok (ax m c) (row t r)) (fun d => ag m c (ix2 (3 : Fin 4) d)) d := by
  unfold rows
  pointwise [k0_pay1]
  simp only [blk0, blk1, row_base, rn]

/-- What a point leaves in the wide result's block. -/
theorem main_eq (c : Dev nD) (t : Fin cfg0.N) (r k : Fin 1024) :
    (dats m 0 c).after 4 t (ix2 r k) = oddMain (ax m c) (ag m c) (aw m c) (row t r) (col t k) := by
  rw [after0_4]
  generalize hR : rows m c t = R
  pointwise [k0_pay3]
  subst hR
  simp only [rows_eq, blk2, oddMain, proj]

/-- What a point leaves in the narrow result's block. -/
theorem gate_eq (c : Dev nD) (t : Fin cfg0.N) (r : Fin 1024) (k : Fin 512) :
    (dats m 0 c).after 5 t (ix2 r k) = oddGate (ax m c) (ag m c) (aw m c) (row t r) k := by
  rw [after0_5]
  unfold narrow
  generalize hR : rows m c t = R
  pointwise [k0_pay2]
  subst hR
  simp only [rows_eq, blk3, oddGate]
  split
  · rfl
  · simp only [mul_zero, Finset.sum_const_zero]

theorem final4_of (c : Dev nD) (G : Fin 8192 → Fin 5120 → EReal) (h : ∀ t r d, (dats m 0 c).after 4 t (ix2 r d) = G (row t r) (col t d)) :
    (dats m 0 c).arrAt 4 cfg0.N = fun i : S8192x5120.Idx => G (i 0) (i 1) := by
  refine (dats m 0 c).arrAt_eq_of_covers 4 _ (by decide +kernel) fun t hf y => ?_
  have i0 : win0_4.index t = ![t.val / 5, t.val % 5] := idx4 t
  blk_simp
  idx_vars y
  refine (h t y0 y1).trans ?_
  have e : ∀ a a' b b', a = a' → b = b' → G a b = G a' b' := fun _ _ _ _ h h' => h ▸ h' ▸ rfl
  refine e _ _ _ _ (Fin.ext ?_) (Fin.ext ?_) <;> blk_simp [i0, row, col] <;> simp [mul_comm]

theorem final5_of (c : Dev nD) (G : Fin 8192 → Fin 512 → EReal) (h : ∀ t r d, (dats m 0 c).after 5 t (ix2 r d) = G (row t r) (d)) :
    (dats m 0 c).arrAt 5 cfg0.N = fun i : S8192x512.Idx => G (i 0) (i 1) := by
  refine (dats m 0 c).arrAt_eq_of_covers 5 _ (by decide +kernel) fun t hf y => ?_
  have i0 : win0_5.index t = ![t.val / 5, 0] := idx5 t
  blk_simp
  idx_vars y
  refine (h t y0 y1).trans ?_
  have e : ∀ a a' b b', a = a' → b = b' → G a b = G a' b' := fun _ _ _ _ h h' => h ▸ h' ▸ rfl
  refine e _ _ _ _ (Fin.ext ?_) (Fin.ext ?_) <;> blk_simp [i0, row] <;> simp [mul_comm]

/-- The run: the results in plain terms, the arguments unchanged. -/
theorem run_out : θ_run defs (onTc (τ := τ) (main (F := Ideal))) ⟨m, fun _ => 0, ρ⟩ fun r => ∀ c : Dev nD,
      r.2.mem ((c : Thread nD τ).loc main_v12_0) = (fun i : S8192x5120.Idx => oddMain (ax m c) (ag m c) (aw m c) (i 0) (i 1))
      ∧ r.2.mem ((c : Thread nD τ).loc main_v12_1) = (fun i : S8192x512.Idx => oddGate (ax m c) (ag m c) (aw m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 4).trans (final4_of m c (oddMain (ax m c) (ag m c) (aw m c)) (main_eq m c)),
      ((h c).1 5).trans (final5_of m c (oddGate (ax m c) (ag m c) (aw m c)) (gate_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.OddInIdeal.Value

namespace Cert.OddInReferenceIdeal.Value

open Cert.ProjSpec Cert.OddInReferenceIdeal Cert.OddInReferenceIdeal.Gen Cert.OddInReferenceIdeal.Read Idealize.ShloMosaic

/-- The product of the normalized tokens and the weight. -/
theorem prod_eq (x0 : Arr S2x4096x2048) (x1 : Arr S4x2048) (x2 : Arr S2x2048x5168) (i : Fin 8192) (j : Fin 5168) :
    val_main_v17 (F := Ideal) x0 x1 x2 (ix3 (⟨i.val / 4096, by omega⟩ : Fin 2) (⟨i.val % 4096, by omega⟩ : Fin 4096) j)
      = proj x0 (fun d => x1 (ix2 (3 : Fin 4) d)) (fun d => x2 (ix3 (1 : Fin 2) d j)) i := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem products_eq (x0 : Arr S2x4096x2048) (x1 : Arr S4x2048) (x2 : Arr S2x2048x5168) (i : S8192x5120.Idx) : val_main_v22 (F := Ideal) x0 x1 x2 i = oddMain x0 x1 x2 (i 0) (i 1) := by
  idx_vars i
  generalize hp : val_main_v17 (F := Ideal) x0 x1 x2 = p
  have hq := prod_eq x0 x1 x2
  rw [hp] at hq
  unfold val_main_v22 val_main_v21
  rw [hp]
  pointwise
  exact hq _ _

theorem gates_eq (x0 : Arr S2x4096x2048) (x1 : Arr S4x2048) (x2 : Arr S2x2048x5168) (i : S8192x512.Idx) : val_main_v23 (F := Ideal) x0 x1 x2 i = oddGate x0 x1 x2 (i 0) (i 1) := by
  idx_vars i
  generalize hp : val_main_v17 (F := Ideal) x0 x1 x2 = p
  have hq := prod_eq x0 x1 x2
  rw [hp] at hq
  unfold val_main_v23 val_main_v20 val_main_v19 val_main_v18 val_main_call0_v0 val_main_c
  rw [hp]
  pointwise
  unfold oddGate
  by_cases h : i1.val % 128 < 12
  · simp only [dif_pos h, hq]
    exact dif_pos ⟨by omega, h⟩
  · simp only [dif_neg h, hq]
    refine (dif_neg (fun a => h a.2)).trans ?_
    exact Cert.OddInIdeal.Value.sitofp_zero

end Cert.OddInReferenceIdeal.Value
end
-- ==== Proof.OddOutValue.lean ====
module

public import proofs.«01_k».proof.Defs
public import proofs.«01_k».proof.Proof.ProjSpec
public import proofs.«01_k».proof.Proof.Gen.OddOutIdeal.Value
public import proofs.«01_k».proof.Proof.Gen.OddOutReferenceIdeal.Run
public import proofs.«01_k».proof.Proof.Gen.OddOutReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OddOutIdeal.Value

open Cert.ProjSpec Cert.OddOutIdeal Cert.OddOutIdeal.Gen Idealize.ShloMosaic Idealize.ShloMosaic.TcCoe Idealize.SL.Sem

variable (m : (ℓ : Loc nD τ sig) → Buf (Elt Ideal) ℓ) (ρ : Dev nD → PrngReg)

theorem idxs : ∀ t : Fin cfg0.N, win0_0.index t = ![t.val, 0] ∧ win0_1.index t = ![1, 0, 0] ∧ win0_2.index t = ![t.val, 0] :=
  (by decide +kernel : ∀ t : Fin grid0.N, _)

theorem idx3 : ∀ t : Fin cfg0.N, win0_3.index t = ![t.val, 0] :=
  (by decide +kernel : ∀ t : Fin grid0.N, _)

abbrev aa (c : Dev nD) : Arr ⟨3, ![2, 4096, 2048]⟩ := m ((c : Thread nD τ).loc main_arg0)
abbrev aw (c : Dev nD) : Arr ⟨3, ![2, 2048, 2048]⟩ := m ((c : Thread nD τ).loc main_arg1)
abbrev ax (c : Dev nD) : Arr ⟨3, ![2, 4096, 2048]⟩ := m ((c : Thread nD τ).loc main_arg2)

/-- The row of the array that a point's row `r` is. -/
def row (t : Fin cfg0.N) (r : Fin 512) : Fin 8192 :=
  ⟨512 * t.val + r.val, by have := lt_of_lt_of_eq t.isLt (show cfg0.N = 16 from N_0); omega⟩

theorem blk0 (c : Dev nD) (t : Fin cfg0.N) (r : Fin 512) (d : Fin 2048) : iblk m c 0 t (ix2 r d) = tok (aa m c) (row t r) d := by
  unfold tok row
  blk_ext! [iblk, V, (idxs t).1]

theorem blk1 (c : Dev nD) (t : Fin cfg0.N) (k d : Fin 2048) : iblk m c 1 t (ix3 0 k d) = aw m c (ix3 1 k d) := by
  blk_ext! [iblk, V, (idxs t).2.1]

theorem blk2 (c : Dev nD) (t : Fin cfg0.N) (r : Fin 512) (d : Fin 2048) : iblk m c 2 t (ix2 r d) = tok (ax m c) (row t r) d := by
  unfold tok row
  blk_ext! [iblk, V, (idxs t).2.2]

/-- What a point leaves. -/
theorem out_eq (c : Dev nD) (t : Fin cfg0.N) (r : Fin 512) (d : Fin 2048) :
    (dats m 0 c).after 3 t (ix2 r d) = oddOut (aa m c) (aw m c) (ax m c) (row t r) d := by
  rw [after0_3]
  frame_out
  pointwise [k0_pay1]
  simp only [blk0, blk1, blk2, oddOut]

theorem final3_of (c : Dev nD) (G : Fin 8192 → Fin 2048 → EReal) (h : ∀ t r d, (dats m 0 c).after 3 t (ix2 r d) = G (row t r) (d)) :
    (dats m 0 c).arrAt 3 cfg0.N = fun i : S8192x2048.Idx => G (i 0) (i 1) := by
  refine (dats m 0 c).arrAt_eq_of_covers 3 _ (by decide +kernel) fun t hf y => ?_
  have i0 : win0_3.index t = ![t.val, 0] := idx3 t
  blk_simp
  idx_vars y
  refine (h t y0 y1).trans ?_
  have e : ∀ a a' b b', a = a' → b = b' → G a b = G a' b' := fun _ _ _ _ h h' => h ▸ h' ▸ rfl
  refine e _ _ _ _ (Fin.ext ?_) (Fin.ext ?_) <;> blk_simp [i0, row] <;> simp [mul_comm]

/-- The run: the result in plain terms, the arguments unchanged. -/
theorem run_out : θ_run defs (onTc (τ := τ) (main (F := Ideal))) ⟨m, fun _ => 0, ρ⟩ fun r => ∀ c : Dev nD,
      r.2.mem ((c : Thread nD τ).loc main_v3) = (fun i : S8192x2048.Idx => oddOut (aa m c) (aw m c) (ax m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3_of m c (oddOut (aa m c) (aw m c) (ax m c)) (out_eq m c)), (h c).2⟩) (run_blocks m ρ)

end Cert.OddOutIdeal.Value

namespace Cert.OddOutReferenceIdeal.Value

open Cert.ProjSpec Cert.OddOutReferenceIdeal Cert.OddOutReferenceIdeal.Gen Cert.OddOutReferenceIdeal.Read Idealize.ShloMosaic

theorem val_eq (x0 : Arr S2x4096x2048) (x1 : Arr S2x2048x2048) (x2 : Arr S2x4096x2048) (i : S8192x2048.Idx) :
    val_main_v5 (F := Ideal) x0 x1 x2 i = oddOut x0 x1 x2 (i 0) (i 1) := by
  idx_vars i
  pointwise [val_main_v5, val_main_v4, val_main_v3, val_main_v2, val_main_v1, val_main_v0]
  rfl

end Cert.OddOutReferenceIdeal.Value
end
-- ==== Proof.MemKvValue.lean ====
module

public import proofs.«01_k».proof.Defs
public import proofs.«01_k».proof.Proof.ProjSpec
public import proofs.«01_k».proof.Proof.Gen.MemKvIdeal.Value
public import proofs.«01_k».proof.Proof.Gen.MemKvReferenceIdeal.Run
public import proofs.«01_k».proof.Proof.Gen.MemKvReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemKvIdeal.Value

open Cert.ProjSpec Cert.MemKvIdeal Cert.MemKvIdeal.Gen Idealize.ShloMosaic Idealize.ShloMosaic.TcCoe Idealize.SL.Sem

variable (m : (ℓ : Loc nD τ sig) → Buf (Elt Ideal) ℓ) (ρ : Dev nD → PrngReg)

theorem idxs : ∀ t : Fin cfg0.N, win0_0.index t = ![t.val, 0] ∧ win0_1.index t = ![0, 0] ∧ win0_2.index t = ![3, 0, 0] :=
  (by decide +kernel : ∀ t : Fin grid0.N, _)

theorem idx3 : ∀ t : Fin cfg0.N, win0_3.index t = ![t.val, 0] :=
  (by decide +kernel : ∀ t : Fin grid0.N, _)

abbrev ax (c : Dev nD) : Arr ⟨3, ![2, 256, 2048]⟩ := m ((c : Thread nD τ).loc main_arg0)
abbrev ag (c : Dev nD) : Arr ⟨2, ![4, 2048]⟩ := m ((c : Thread nD τ).loc main_arg1)
abbrev aw (c : Dev nD) : Arr ⟨3, ![4, 2048, 1024]⟩ := m ((c : Thread nD τ).loc main_arg2)

/-- The row of the array that a point's row `r` is. -/
def row (t : Fin cfg0.N) (r : Fin 256) : Fin 512 :=
  ⟨256 * t.val + r.val, by have := lt_of_lt_of_eq t.isLt (show cfg0.N = 2 from N_0); omega⟩

theorem blk0 (c : Dev nD) (t : Fin cfg0.N) (r : Fin 256) (d : Fin 2048) :
    iblk m c 0 t (ix2 r d) = ax m c (ix3 (⟨(row t r).val / 256, by omega⟩ : Fin 2) (⟨(row t r).val % 256, by omega⟩ : Fin 256) d) := by
  unfold row
  blk_ext! [iblk, V, (idxs t).1]

theorem blk1 (c : Dev nD) (t : Fin cfg0.N) (d : Fin 2048) : iblk m c 1 t (ix2 0 d) = ag m c (ix2 3 d) := by
  blk_ext! [iblk, V, (idxs t).2.1]

theorem blk2 (c : Dev nD) (t : Fin cfg0.N) (k : Fin 2048) (d : Fin 1024) : iblk m c 2 t (ix3 0 k d) = aw m c (ix3 3 k d) := by
  blk_ext! [iblk, V, (idxs t).2.2]

/-- What a point leaves. -/
theorem out_eq (c : Dev nD) (t : Fin cfg0.N) (r : Fin 256) (d : Fin 1024) :
    (dats m 0 c).after 3 t (ix2 r d) = memKv (ax m c) (ag m c) (aw m c) (row t r) d := by
  rw [after0_3]
  unfold outsAt0
  frame_out
  pointwise [k0_pay2, k0_pay1]
  simp only [blk0, blk1, blk2, memKv, rn]

theorem final3_of (c : Dev nD) (G : Fin 512 → Fin 1024 → EReal) (h : ∀ t r d, (dats m 0 c).after 3 t (ix2 r d) = G (row t r) (d)) :
    (dats m 0 c).arrAt 3 cfg0.N = fun i : S512x1024.Idx => G (i 0) (i 1) := by
  refine (dats m 0 c).arrAt_eq_of_covers 3 _ (by decide +kernel) fun t hf y => ?_
  have i0 : win0_3.index t = ![t.val, 0] := idx3 t
  blk_simp
  idx_vars y
  refine (h t y0 y1).trans ?_
  have e : ∀ a a' b b', a = a' → b = b' → G a b = G a' b' := fun _ _ _ _ h h' => h ▸ h' ▸ rfl
  refine e _ _ _ _ (Fin.ext ?_) (Fin.ext ?_) <;> blk_simp [i0, row] <;> simp [mul_comm]

/-- The run: the result in plain terms, the arguments unchanged. -/
theorem run_out : θ_run defs (onTc (τ := τ) (main (F := Ideal))) ⟨m, fun _ => 0, ρ⟩ fun r => ∀ c : Dev nD,
      r.2.mem ((c : Thread nD τ).loc main_v5) = (fun i : S512x1024.Idx => memKv (ax m c) (ag m c) (aw m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3_of m c (memKv (ax m c) (ag m c) (aw m c)) (out_eq m c)), (h c).2⟩) (run_blocks m ρ)

end Cert.MemKvIdeal.Value

namespace Cert.MemKvReferenceIdeal.Value

open Cert.ProjSpec Cert.MemKvReferenceIdeal Cert.MemKvReferenceIdeal.Gen Cert.MemKvReferenceIdeal.Read Idealize.ShloMosaic

theorem val_eq (x0 : Arr S2x256x2048) (x1 : Arr S4x2048) (x2 : Arr S4x2048x1024) (i : S512x1024.Idx) :
    val_main_v18 (F := Ideal) x0 x1 x2 i = memKv x0 x1 x2 (i 0) (i 1) := by
  idx_vars i
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.MemKvReferenceIdeal.Value
end
-- ==== Proof.ProjClaim.lean ====
module

public import proofs.«01_k».proof.Defs
public import proofs.«01_k».proof.Proof.EvenInValue
public import proofs.«01_k».proof.Proof.Gen.EvenIn
public import proofs.«01_k».proof.Proof.EvenInBody
public import proofs.«01_k».proof.Proof.EvenInRun
public import proofs.«01_k».proof.Proof.Gen.EvenInReferenceIdeal
public import proofs.«01_k».proof.Proof.Gen.EvenInReferenceIdeal.Run
public import proofs.«01_k».proof.Proof.EvenOutValue
public import proofs.«01_k».proof.Proof.Gen.EvenOut
public import proofs.«01_k».proof.Proof.Gen.EvenOut.Frame
public import proofs.«01_k».proof.Proof.Gen.EvenOutReferenceIdeal
public import proofs.«01_k».proof.Proof.Gen.EvenOutReferenceIdeal.Run
public import proofs.«01_k».proof.Proof.OddInValue
public import proofs.«01_k».proof.Proof.Gen.OddIn
public import proofs.«01_k».proof.Proof.OddInBody
public import proofs.«01_k».proof.Proof.OddInRun
public import proofs.«01_k».proof.Proof.Gen.OddInReferenceIdeal
public import proofs.«01_k».proof.Proof.Gen.OddInReferenceIdeal.Run
public import proofs.«01_k».proof.Proof.OddOutValue
public import proofs.«01_k».proof.Proof.Gen.OddOut
public import proofs.«01_k».proof.Proof.Gen.OddOut.Frame
public import proofs.«01_k».proof.Proof.Gen.OddOutReferenceIdeal
public import proofs.«01_k».proof.Proof.Gen.OddOutReferenceIdeal.Run
public import proofs.«01_k».proof.Proof.MemKvValue
public import proofs.«01_k».proof.Proof.Gen.MemKv
public import proofs.«01_k».proof.Proof.Gen.MemKv.Frame
public import proofs.«01_k».proof.Proof.Gen.MemKvReferenceIdeal
public import proofs.«01_k».proof.Proof.Gen.MemKvReferenceIdeal.Run

@[expose] public section

noncomputable section

/-! The claims about the projections around the mixers and of the memory. -/

namespace Cert.EvenInClaims

open Idealize.ShloMosaic Idealize.ShloMosaic.TcCoe Idealize.SL.Sem Cert.ProjSpec

theorem frame_p : Cert.quiescent_EvenIn := fun m ρ _ => Cert.EvenIn.Body.frame (F := Bits) m ρ
theorem frame_pi : Cert.quiescent_EvenInIdeal := fun m ρ _ => Cert.EvenInIdeal.Body.frame (F := Ideal) m ρ
theorem frame_ri : Cert.quiescent_EvenInReferenceIdeal := fun m ρ _ =>
  (θ_run Cert.EvenInReferenceIdeal.defs _ _).mono (fun r h => ⟨fun c => (h c).2.2, Idealize.ShloMosaic.sem_eq_zero_of_no_sems (by decide) r.2⟩)
    (Cert.EvenInReferenceIdeal.Value.run (F := Ideal) m ρ)

/-- The kernel's results are the reference's. -/
theorem value : Cert.algebraic_EvenInIdeal_EvenInReferenceIdeal := fun m ρ m' ρ' _ hag =>
  ⟨fun c => (fun i : Cert.EvenInIdeal.S8192x7168.Idx => evenMain (Cert.EvenInIdeal.Value.ax m c) (Cert.EvenInIdeal.Value.ag m c) (Cert.EvenInIdeal.Value.aw m c) (i 0) (i 1)),
    fun c => (fun i : Cert.EvenInIdeal.S8192x128.Idx => evenGate (Cert.EvenInIdeal.Value.ax m c) (Cert.EvenInIdeal.Value.ag m c) (Cert.EvenInIdeal.Value.aw m c) (i 0) (i 1)),
    Cert.EvenInIdeal.Value.run_out m ρ,
    (θ_run Cert.EvenInReferenceIdeal.defs _ _).mono (fun r h c => ⟨(h c).1.trans (by
        rw [Cert.EvenInReferenceIdeal.Read.val_main_v23_eq, (hag c).1, (hag c).2.1, (hag c).2.2]
        funext i
        exact Cert.EvenInReferenceIdeal.Value.products_eq _ _ _ i), (h c).2.1.trans (by
        rw [Cert.EvenInReferenceIdeal.Read.val_main_v24_eq, (hag c).1, (hag c).2.1, (hag c).2.2]
        funext i
        exact Cert.EvenInReferenceIdeal.Value.gates_eq _ _ _ i), (h c).2.2⟩)
      (Cert.EvenInReferenceIdeal.Value.run (F := Ideal) m' ρ')⟩

end Cert.EvenInClaims

namespace Cert.EvenOutClaims

open Idealize.ShloMosaic Idealize.ShloMosaic.TcCoe Idealize.SL.Sem Cert.ProjSpec

theorem frame_p : Cert.quiescent_EvenOut := fun m ρ _ => Cert.EvenOut.Gen.frame m ρ
theorem frame_pi : Cert.quiescent_EvenOutIdeal := fun m ρ _ => Cert.EvenOutIdeal.Gen.frame m ρ
theorem frame_ri : Cert.quiescent_EvenOutReferenceIdeal := fun m ρ _ =>
  (θ_run Cert.EvenOutReferenceIdeal.defs _ _).mono (fun r h => ⟨fun c => (h c).2, Idealize.ShloMosaic.sem_eq_zero_of_no_sems (by decide) r.2⟩)
    (Cert.EvenOutReferenceIdeal.Value.run (F := Ideal) m ρ)

/-- The kernel's results are the reference's. -/
theorem value : Cert.algebraic_EvenOutIdeal_EvenOutReferenceIdeal := fun m ρ m' ρ' _ hag =>
  ⟨fun c => (fun i : Cert.EvenOutIdeal.S8192x2048.Idx => evenOut (Cert.EvenOutIdeal.Value.aa m c) (Cert.EvenOutIdeal.Value.ab m c) (Cert.EvenOutIdeal.Value.aw m c) (Cert.EvenOutIdeal.Value.ax m c) (i 0) (i 1)),
    Cert.EvenOutIdeal.Value.run_out m ρ,
    (θ_run Cert.EvenOutReferenceIdeal.defs _ _).mono (fun r h c => ⟨(h c).1.trans (by
        rw [Cert.EvenOutReferenceIdeal.Read.val_main_v7_eq, (hag c).1, (hag c).2.1, (hag c).2.2.1, (hag c).2.2.2]
        funext i
        exact Cert.EvenOutReferenceIdeal.Value.val_eq _ _ _ _ i), (h c).2⟩)
      (Cert.EvenOutReferenceIdeal.Value.run (F := Ideal) m' ρ')⟩

end Cert.EvenOutClaims

namespace Cert.OddInClaims

open Idealize.ShloMosaic Idealize.ShloMosaic.TcCoe Idealize.SL.Sem Cert.ProjSpec

theorem frame_p : Cert.quiescent_OddIn := fun m ρ _ => Cert.OddIn.Body.frame (F := Bits) m ρ
theorem frame_pi : Cert.quiescent_OddInIdeal := fun m ρ _ => Cert.OddInIdeal.Body.frame (F := Ideal) m ρ
theorem frame_ri : Cert.quiescent_OddInReferenceIdeal := fun m ρ _ =>
  (θ_run Cert.OddInReferenceIdeal.defs _ _).mono (fun r h => ⟨fun c => (h c).2.2, Idealize.ShloMosaic.sem_eq_zero_of_no_sems (by decide) r.2⟩)
    (Cert.OddInReferenceIdeal.Value.run (F := Ideal) m ρ)

/-- The kernel's results are the reference's. -/
theorem value : Cert.algebraic_OddInIdeal_OddInReferenceIdeal := fun m ρ m' ρ' _ hag =>
  ⟨fun c => (fun i : Cert.OddInIdeal.S8192x5120.Idx => oddMain (Cert.OddInIdeal.Value.ax m c) (Cert.OddInIdeal.Value.ag m c) (Cert.OddInIdeal.Value.aw m c) (i 0) (i 1)),
    fun c => (fun i : Cert.OddInIdeal.S8192x512.Idx => oddGate (Cert.OddInIdeal.Value.ax m c) (Cert.OddInIdeal.Value.ag m c) (Cert.OddInIdeal.Value.aw m c) (i 0) (i 1)),
    Cert.OddInIdeal.Value.run_out m ρ,
    (θ_run Cert.OddInReferenceIdeal.defs _ _).mono (fun r h c => ⟨(h c).1.trans (by
        rw [Cert.OddInReferenceIdeal.Read.val_main_v22_eq, (hag c).1, (hag c).2.1, (hag c).2.2]
        funext i
        exact Cert.OddInReferenceIdeal.Value.products_eq _ _ _ i), (h c).2.1.trans (by
        rw [Cert.OddInReferenceIdeal.Read.val_main_v23_eq, (hag c).1, (hag c).2.1, (hag c).2.2]
        funext i
        exact Cert.OddInReferenceIdeal.Value.gates_eq _ _ _ i), (h c).2.2⟩)
      (Cert.OddInReferenceIdeal.Value.run (F := Ideal) m' ρ')⟩

end Cert.OddInClaims

namespace Cert.OddOutClaims

open Idealize.ShloMosaic Idealize.ShloMosaic.TcCoe Idealize.SL.Sem Cert.ProjSpec

theorem frame_p : Cert.quiescent_OddOut := fun m ρ _ => Cert.OddOut.Gen.frame m ρ
theorem frame_pi : Cert.quiescent_OddOutIdeal := fun m ρ _ => Cert.OddOutIdeal.Gen.frame m ρ
theorem frame_ri : Cert.quiescent_OddOutReferenceIdeal := fun m ρ _ =>
  (θ_run Cert.OddOutReferenceIdeal.defs _ _).mono (fun r h => ⟨fun c => (h c).2, Idealize.ShloMosaic.sem_eq_zero_of_no_sems (by decide) r.2⟩)
    (Cert.OddOutReferenceIdeal.Value.run (F := Ideal) m ρ)

/-- The kernel's results are the reference's. -/
theorem value : Cert.algebraic_OddOutIdeal_OddOutReferenceIdeal := fun m ρ m' ρ' _ hag =>
  ⟨fun c => (fun i : Cert.OddOutIdeal.S8192x2048.Idx => oddOut (Cert.OddOutIdeal.Value.aa m c) (Cert.OddOutIdeal.Value.aw m c) (Cert.OddOutIdeal.Value.ax m c) (i 0) (i 1)),
    Cert.OddOutIdeal.Value.run_out m ρ,
    (θ_run Cert.OddOutReferenceIdeal.defs _ _).mono (fun r h c => ⟨(h c).1.trans (by
        rw [Cert.OddOutReferenceIdeal.Read.val_main_v5_eq, (hag c).1, (hag c).2.1, (hag c).2.2]
        funext i
        exact Cert.OddOutReferenceIdeal.Value.val_eq _ _ _ i), (h c).2⟩)
      (Cert.OddOutReferenceIdeal.Value.run (F := Ideal) m' ρ')⟩

end Cert.OddOutClaims

namespace Cert.MemKvClaims

open Idealize.ShloMosaic Idealize.ShloMosaic.TcCoe Idealize.SL.Sem Cert.ProjSpec

theorem frame_p : Cert.quiescent_MemKv := fun m ρ _ => Cert.MemKv.Gen.frame m ρ
theorem frame_pi : Cert.quiescent_MemKvIdeal := fun m ρ _ => Cert.MemKvIdeal.Gen.frame m ρ
theorem frame_ri : Cert.quiescent_MemKvReferenceIdeal := fun m ρ _ =>
  (θ_run Cert.MemKvReferenceIdeal.defs _ _).mono (fun r h => ⟨fun c => (h c).2, Idealize.ShloMosaic.sem_eq_zero_of_no_sems (by decide) r.2⟩)
    (Cert.MemKvReferenceIdeal.Value.run (F := Ideal) m ρ)

/-- The kernel's results are the reference's. -/
theorem value : Cert.algebraic_MemKvIdeal_MemKvReferenceIdeal := fun m ρ m' ρ' _ hag =>
  ⟨fun c => (fun i : Cert.MemKvIdeal.S512x1024.Idx => memKv (Cert.MemKvIdeal.Value.ax m c) (Cert.MemKvIdeal.Value.ag m c) (Cert.MemKvIdeal.Value.aw m c) (i 0) (i 1)),
    Cert.MemKvIdeal.Value.run_out m ρ,
    (θ_run Cert.MemKvReferenceIdeal.defs _ _).mono (fun r h c => ⟨(h c).1.trans (by
        rw [Cert.MemKvReferenceIdeal.Read.val_main_v18_eq, (hag c).1, (hag c).2.1, (hag c).2.2]
        funext i
        exact Cert.MemKvReferenceIdeal.Value.val_eq _ _ _ i), (h c).2⟩)
      (Cert.MemKvReferenceIdeal.Value.run (F := Ideal) m' ρ')⟩

end Cert.MemKvClaims

end
-- ==== Proof.lean ====
module

public import proofs.«01_k».proof.Defs
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.MemIdeal.Value
public import proofs.«01_k».proof.Proof.Gen.FfnIdeal.Value
public import proofs.«01_k».proof.Proof.Gen.MemReferenceIdeal.Run
public import proofs.«01_k».proof.Proof.Gen.MemReferenceIdeal.Read
public import proofs.«01_k».proof.Proof.Gen.FfnReferenceIdeal.Run
public import proofs.«01_k».proof.Proof.Gen.FfnReferenceIdeal.Read
public import proofs.«01_k».proof.Proof.MemClaim
public import proofs.«01_k».proof.Proof.FfnClaim
public import proofs.«01_k».proof.Proof.FoxPlain
public import proofs.«01_k».proof.Proof.FoxClaim
public import proofs.«01_k».proof.Proof.Gen.Fox
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Loops
public import proofs.«01_k».proof.Proof.Gen.FoxReferenceIdeal
public import proofs.«01_k».proof.Proof.Gen.FoxReferenceIdeal.Run
public import proofs.«01_k».proof.Proof.Gen.FoxReferenceIdeal.Read
public import proofs.«01_k».proof.Proof.ProjClaim
public import proofs.«01_k».proof.Proof.Gen.EvenInReferenceIdeal.Run
public import proofs.«01_k».proof.Proof.Gen.EvenInReferenceIdeal.Read
public import proofs.«01_k».proof.Proof.Gen.EvenOutIdeal.Value
public import proofs.«01_k».proof.Proof.Gen.EvenOutReferenceIdeal.Run
public import proofs.«01_k».proof.Proof.Gen.EvenOutReferenceIdeal.Read
public import proofs.«01_k».proof.Proof.Gen.OddInReferenceIdeal.Run
public import proofs.«01_k».proof.Proof.Gen.OddInReferenceIdeal.Read
public import proofs.«01_k».proof.Proof.Gen.OddOutIdeal.Value
public import proofs.«01_k».proof.Proof.Gen.OddOutReferenceIdeal.Run
public import proofs.«01_k».proof.Proof.Gen.OddOutReferenceIdeal.Read
public import proofs.«01_k».proof.Proof.Gen.MemKvIdeal.Value
public import proofs.«01_k».proof.Proof.Gen.MemKvReferenceIdeal.Run
public import proofs.«01_k».proof.Proof.Gen.MemKvReferenceIdeal.Read
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutReferenceIdeal
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutReferenceIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvReferenceIdeal
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInReferenceIdeal
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInReferenceIdeal
public import proofs.«01_k».proof.Proof.Gen.EvenIn.Frame
public import proofs.«01_k».proof.Proof.Gen.EvenInIdeal.Frame
public import proofs.«01_k».proof.Proof.Gen.OddIn.Frame
public import proofs.«01_k».proof.Proof.Gen.OddInIdeal.Frame
public import Idealize.ShloMosaic.Adequacy
public import Idealize.ShloMosaic.Init

@[expose] public section

noncomputable section

namespace Cert.Proof

open Idealize.ShloMosaic Idealize.SL.Sem Cert.Mem

theorem claim : Cert.Claim := ⟨Cert.Mem.Gen.facts, Cert.MemIdeal.Gen.facts, Cert.MemReferenceIdeal.Gen.facts,
  Cert.Ffn.Gen.facts, Cert.FfnIdeal.Gen.facts, Cert.FfnReferenceIdeal.Gen.facts,
  Cert.EvenIn.Gen.facts, Cert.EvenInIdeal.Gen.facts, Cert.EvenInReferenceIdeal.Gen.facts,
  Cert.EvenOut.Gen.facts, Cert.EvenOutIdeal.Gen.facts, Cert.EvenOutReferenceIdeal.Gen.facts,
  Cert.OddIn.Gen.facts, Cert.OddInIdeal.Gen.facts, Cert.OddInReferenceIdeal.Gen.facts,
  Cert.OddOut.Gen.facts, Cert.OddOutIdeal.Gen.facts, Cert.OddOutReferenceIdeal.Gen.facts,
  Cert.MemKv.Gen.facts, Cert.MemKvIdeal.Gen.facts, Cert.MemKvReferenceIdeal.Gen.facts,
  Cert.Fox.Gen.facts, Cert.FoxIdeal.Gen.facts, Cert.FoxReferenceIdeal.Gen.facts, Cert.MemClaims.pre_facts, Cert.FoxClaims.pre_facts,
  Cert.MemClaims.frame_p, Cert.MemClaims.frame_pi, Cert.MemClaims.frame_pi', Cert.MemClaims.frame_ri, Cert.MemClaims.frame_ri',
  Cert.FfnClaims.frame_p, Cert.FfnClaims.frame_pi, Cert.FfnClaims.frame_ri,
  Cert.EvenInClaims.frame_p, Cert.EvenInClaims.frame_pi, Cert.EvenInClaims.frame_ri,
  Cert.EvenOutClaims.frame_p, Cert.EvenOutClaims.frame_pi, Cert.EvenOutClaims.frame_ri,
  Cert.OddInClaims.frame_p, Cert.OddInClaims.frame_pi, Cert.OddInClaims.frame_ri,
  Cert.OddOutClaims.frame_p, Cert.OddOutClaims.frame_pi, Cert.OddOutClaims.frame_ri,
  Cert.MemKvClaims.frame_p, Cert.MemKvClaims.frame_pi, Cert.MemKvClaims.frame_ri,
  Cert.Fox.Plain.frame_p, Cert.FoxClaims.frame_pi, Cert.FoxClaims.frame_pi', Cert.FoxClaims.frame_ri, Cert.FoxClaims.frame_ri',
  trivial, Cert.MemClaims.value, trivial, Cert.FfnClaims.value, trivial, Cert.EvenInClaims.value, trivial, Cert.EvenOutClaims.value, trivial, Cert.OddInClaims.value, trivial, Cert.OddOutClaims.value, trivial, Cert.MemKvClaims.value,
  Cert.FoxClaims.named, Cert.FoxClaims.value⟩

end Cert.Proof

end
